-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v62) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "per_score" .f32 0x3E16C740#32 (((Real.sqrt 96)⁻¹ * (Real.log 2)⁻¹ : ℝ) : EReal)
  ∧ IdealRules.named_const.Statement Cert.Kernel6Ideal.κ "per_channel" .f32 0x3C2AAAAB#32 ((1 / 96 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)) →
    ∃ (v0 : (c : Dev Cert.Kernel6Ideal.nD) → Buf (Elt Ideal) ((c.tc : Thread Cert.Kernel6Ideal.nD Cert.Kernel6Ideal.τ).loc Cert.Kernel6Ideal.main_v57_0)) (v1 : (c : Dev Cert.Kernel6Ideal.nD) → Buf (Elt Ideal) ((c.tc : Thread Cert.Kernel6Ideal.nD Cert.Kernel6Ideal.τ).loc Cert.Kernel6Ideal.main_v57_1)) (v2 : (c : Dev Cert.Kernel6Ideal.nD) → Buf (Elt Ideal) ((c.tc : Thread Cert.Kernel6Ideal.nD Cert.Kernel6Ideal.τ).loc Cert.Kernel6Ideal.main_v57_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v57_0) = v0 c
          ∧ r.2.mem ((c.tc : Thread Cert.Kernel6Ideal.nD Cert.Kernel6Ideal.τ).loc Cert.Kernel6Ideal.main_v57_1) = v1 c
          ∧ r.2.mem ((c.tc : Thread Cert.Kernel6Ideal.nD Cert.Kernel6Ideal.τ).loc Cert.Kernel6Ideal.main_v57_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v137) = v0 c
          ∧ r.2.mem ((c.tc : Thread Cert.Reference6Ideal.nD Cert.Reference6Ideal.τ).loc Cert.Reference6Ideal.main_v176) = v1 c
          ∧ r.2.mem ((c.tc : Thread Cert.Reference6Ideal.nD Cert.Reference6Ideal.τ).loc Cert.Reference6Ideal.main_v179) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14))

def preserves_Kernel7_Kernel7Ideal : Prop :=
  IdealRules.named_const.Statement Cert.Kernel7Ideal.κ "per_channel" .f32 0x3C2AAAAB#32 ((1 / 96 : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S2048x16384 : Shape := ⟨2, ![2048, 16384]⟩
abbrev S16384x2048 : Shape := ⟨2, ![16384, 2048]⟩
abbrev S1024x16384 : Shape := ⟨2, ![1024, 16384]⟩
abbrev S2048x2048 : Shape := ⟨2, ![2048, 2048]⟩
abbrev S1024x2048 : Shape := ⟨2, ![1024, 2048]⟩
abbrev S16384x1024 : Shape := ⟨2, ![16384, 1024]⟩
abbrev S256x512 : Shape := ⟨2, ![256, 512]⟩
abbrev S4096x256 : Shape := ⟨2, ![4096, 256]⟩
abbrev S128x4096 : Shape := ⟨2, ![128, 4096]⟩
abbrev S512x256 : Shape := ⟨2, ![512, 256]⟩
abbrev S128x512 : Shape := ⟨2, ![128, 512]⟩
abbrev S512x128 : Shape := ⟨2, ![512, 128]⟩
abbrev S256x128 : Shape := ⟨2, ![256, 128]⟩
abbrev S512x512 : Shape := ⟨2, ![512, 512]⟩
abbrev S512 : Shape := ⟨1, ![512]⟩
abbrev S1x512 : Shape := ⟨2, ![1, 512]⟩
abbrev S64x256 : Shape := ⟨2, ![64, 256]⟩
abbrev S64x512 : Shape := ⟨2, ![64, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S1024x16384, .bf16⟩
  | .hbm, ⟨3, _⟩ => ⟨S2048x2048, .bf16⟩
  | .hbm, ⟨4, _⟩ => ⟨S1024x2048, .bf16⟩
  | .hbm, ⟨5, _⟩ => ⟨S16384x1024, .bf16⟩
  | .local _ .vmem, ⟨0, _⟩ => ⟨S256x512, .bf16⟩
  | .local _ .vmem, ⟨1, _⟩ => ⟨S256x512, .bf16⟩
  | .local _ .vmem, ⟨2, _⟩ => ⟨S4096x256, .bf16⟩
  | .local _ .vmem, ⟨3, _⟩ => ⟨S4096x256, .bf16⟩
  | .local _ .vmem, ⟨4, _⟩ => ⟨S128x4096, .bf16⟩
  | .local _ .vmem, ⟨5, _⟩ => ⟨S128x4096, .bf16⟩
  | .local _ .vmem, ⟨6, _⟩ => ⟨S512x256, .bf16⟩
  | .local _ .vmem, ⟨7, _⟩ => ⟨S512x256, .bf16⟩
  | .local _ .vmem, ⟨8, _⟩ => ⟨S128x512, .bf16⟩
  | .local _ .vmem, ⟨9, _⟩ => ⟨S128x512, .bf16⟩
  | .local _ .vmem, ⟨10, _⟩ => ⟨S512x128, .bf16⟩
  | .local _ .vmem, ⟨11, _⟩ => ⟨S512x128, .bf16⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2048x16384 : Shape := ⟨2, ![2048, 16384]⟩
abbrev S16384x2048 : Shape := ⟨2, ![16384, 2048]⟩
abbrev S1024x16384 : Shape := ⟨2, ![1024, 16384]⟩
abbrev S2048x2048 : Shape := ⟨2, ![2048, 2048]⟩
abbrev S1024x2048 : Shape := ⟨2, ![1024, 2048]⟩
abbrev S16x128x4x4096 : Shape := ⟨4, ![16, 128, 4, 4096]⟩
abbrev S4x4096x16x128 : Shape := ⟨4, ![4, 4096, 16, 128]⟩
abbrev S16x64x4x4096 : Shape := ⟨4, ![16, 64, 4, 4096]⟩
abbrev S4x512x16x128 : Shape := ⟨4, ![4, 512, 16, 128]⟩
abbrev S16x64x4x512 : Shape := ⟨4, ![16, 64, 4, 512]⟩
abbrev S4x4608x16x128 : Shape := ⟨4, ![4, 4608, 16, 128]⟩
abbrev S16x64x4x4608 : Shape := ⟨4, ![16, 64, 4, 4608]⟩
abbrev S4x16x4096x4608 : Shape := ⟨4, ![4, 16, 4096, 4608]⟩
abbrev S_ : Shape := ⟨0, ![]⟩
abbrev S4x16x4096 : Shape := ⟨3, ![4, 16, 4096]⟩
abbrev S4x16x4096x1 : Shape := ⟨4, ![4, 16, 4096, 1]⟩
abbrev S4x16x4096x64 : Shape := ⟨4, ![4, 16, 4096, 64]⟩
abbrev S4x4096x16x64 : Shape := ⟨4, ![4, 4096, 16, 64]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S1024x16384, .bf16⟩
  | .hbm, ⟨3, _⟩ => ⟨S2048x2048, .bf16⟩
  | .hbm, ⟨4, _⟩ => ⟨S1024x2048, .bf16⟩
  | .hbm, ⟨5, _⟩ => ⟨S16x128x4x4096, .bf16⟩
  | .hbm, ⟨6, _⟩ => ⟨S4x4096x16x128, .bf16⟩
  | .hbm, ⟨7, _⟩ => ⟨S16x64x4x4096, .bf16⟩
  | .hbm, ⟨8, _⟩ => ⟨S4x512x16x128, .bf16⟩
  | .hbm, ⟨9, _⟩ => ⟨S16x64x4x512, .bf16⟩
  | .hbm, ⟨10, _⟩ => ⟨S4x4608x16x128, .bf16⟩
  | .hbm, ⟨11, _⟩ => ⟨S16x64x4x4608, .bf16⟩
  | .hbm, ⟨12, _⟩ => ⟨S4x16x4096x4608, .f32⟩
  | .hbm, ⟨13, _⟩ => ⟨S_, .f32⟩
  | .hbm, ⟨14, _⟩ => ⟨S_, .f32⟩
  | .hbm, ⟨15, _⟩ => ⟨S4x16x4096x4608, .f32⟩
  | .hbm, ⟨16, _⟩ => ⟨S4x16x4096x4608, .f32⟩
  | .hbm, ⟨17, _⟩ => ⟨S_, .f32⟩
  | .hbm, ⟨18, _⟩ => ⟨S4x16x4096, .f32⟩
  | .hbm, ⟨19, _⟩ => ⟨S4x16x4096x1, .f32⟩
  | .hbm, ⟨20, _⟩ => ⟨S4x16x4096x4608, .f32⟩
  | .hbm, ⟨21, _⟩ => ⟨S4x16x4096x4608, .f32⟩
  | .hbm, ⟨22, _⟩ => ⟨S4x16x4096x4608, .f32⟩
  | .hbm, ⟨23, _⟩ => ⟨S_, .f32⟩
  | .hbm, ⟨24, _⟩ => ⟨S4x16x4096, .f32⟩
  | .hbm, ⟨25, _⟩ => ⟨S4x16x4096x1, .f32⟩
  | .hbm, ⟨26, _⟩ => ⟨S4x16x4096x4608, .bf16⟩
  | .hbm, ⟨27, _⟩ => ⟨S4x16x4096x64, .f32⟩
  | .hbm, ⟨28, _⟩ => ⟨S4x16x4096x64, .f32⟩
  | .hbm, ⟨29, _⟩ => ⟨S4x16x4096x64, .f32⟩
  | .hbm, ⟨30, _⟩ => ⟨S4x4096x16x64, .f32⟩
  | .hbm, ⟨31, _⟩ => ⟨S16384x1024, .f32⟩
  | .hbm, ⟨32, _⟩ => ⟨S16384x1024, .bf16⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel2.lean ====
abbrev S16384x1024 : Shape := ⟨2, ![16384, 1024]⟩
abbrev S1x1024x1024 : Shape := ⟨3, ![1, 1024, 1024]⟩
abbrev S8x6144 : Shape := ⟨2, ![8, 6144]⟩
abbrev S1024 : Shape := ⟨1, ![1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .hbm, ⟨3, _⟩ => ⟨S8x6144, .f32⟩
  | .hbm, ⟨4, _⟩ => ⟨S1024, .f32⟩
  | .hbm, ⟨5, _⟩ => ⟨S4x1024x4096, .bf16⟩
  | .hbm, ⟨6, _⟩ => ⟨S4x4096x1024, .bf16⟩
  | .hbm, ⟨7, _⟩ => ⟨S1x1024, .f32⟩
  | .hbm, ⟨8, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x6144, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1024x1024, .f32⟩
  | .local _ .vmem, ⟨10, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v19 : Index := Scalar.indexCast v17
  let c2048 : Index := 2048#32
  ![v19.toNat, 2048]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v30 : Index := Scalar.indexCast v17
  let c4096 : Index := 4096#32
  ![v30.toNat, 4096]
def k0_off3 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v32 : Index := Scalar.indexCast v17
  let c3072 : Index := 3072#32
  ![v32.toNat, 3072]
def k0_off4 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v95 : Index := Scalar.indexCast v17
  let c5120 : Index := 5120#32
  ![v95.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1x1024x1024 : Shape := ⟨3, ![1, 1024, 1024]⟩
abbrev S8x6144 : Shape := ⟨2, ![8, 6144]⟩
abbrev S1024 : Shape := ⟨1, ![1024]⟩
abbrev S4x1024x4096 : Shape := ⟨3, ![4, 1024, 4096]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1x1024x1024, .bf16⟩
  | .hbm, ⟨2, _⟩ => ⟨S16384x1024, .f32⟩
  | .hbm, ⟨3, _⟩ => ⟨S8x6144, .f32⟩
  | .hbm, ⟨4, _⟩ => ⟨S1024, .f32⟩
  | .hbm, ⟨5, _⟩ => ⟨S4x1024x4096, .bf16⟩
  | .hbm, ⟨6, _⟩ => ⟨S4x4096x1024, .bf16⟩
  | .hbm, ⟨7, _⟩ => ⟨S4x4096x1024, .bf16⟩
  | .hbm, ⟨8, _⟩ => ⟨S4x4096x1024, .f32⟩
  | .hbm, ⟨9, _⟩ => ⟨S4x6144, .f32⟩
  | .hbm, ⟨10, _⟩ => ⟨S4x1x6144, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x4096x1024, .f32⟩
  | .hbm, ⟨18, _⟩ => ⟨S1024x1024, .bf16⟩
  | .hbm, ⟨19, _⟩ => ⟨S1024x1024, .f32⟩
  | .hbm, ⟨20, _⟩ => ⟨S4x4096x1024, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S1x1024x4096, .bf16⟩
  | .hbm, ⟨25, _⟩ => ⟨S1024x4096, .bf16⟩
  | .hbm, ⟨26, _⟩ => ⟨S1x4096x1024, .bf16⟩
  | .hbm, ⟨27, _⟩ => ⟨S4096x1024, .bf16⟩
  | .hbm, ⟨28, _⟩ => ⟨S4x6144, .f32⟩
  | .hbm, ⟨29, _⟩ => ⟨S4x1x6144, .f32⟩
  | .hbm, ⟨30, _⟩ => ⟨S4x1x1024, .f32⟩
  | .hbm, ⟨31, _⟩ => ⟨S4x1x1024, .f32⟩
  | .hbm, ⟨32, _⟩ => ⟨S4x1x1024, .f32⟩
  | .hbm, ⟨33, _⟩ => ⟨S4x1x1024, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x1x1024, .f32⟩
  | .hbm, ⟨54, _⟩ => ⟨S4x1x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S1024x4096, .f32⟩
  | .hbm, ⟨60, _⟩ => ⟨S4x4096x4096, .f32⟩
  | .hbm, ⟨61, _⟩ => ⟨S_, .f32⟩
  | .hbm, ⟨62, _⟩ => ⟨S4x4096x4096, .f32⟩
  | .hbm, ⟨63, _⟩ => ⟨S4x4096x4096, .f32⟩
  | .hbm, ⟨64, _⟩ => ⟨S4x4096x4096, .f32⟩
  | .hbm, ⟨65, _⟩ => ⟨S4096x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_call0_cst : Ref sig .tc := ⟨.hbm, 61, rfl⟩
abbrev main_call0_v0 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel3.lean ====
abbrev S16384x1024 : Shape := ⟨2, ![16384, 1024]⟩
abbrev S8x6144 : Shape := ⟨2, ![8, 6144]⟩
abbrev S1024 : Shape := ⟨1, ![1024]⟩
abbrev S4x1024x4096 : Shape := ⟨3, ![4, 1024, 4096]⟩
abbrev S4x4096x1024 : Shape := ⟨3, ![4, 4096, 1024]⟩
abbrev S1x1024 : Shape := ⟨2, ![1, 1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S1024x1 : Shape := ⟨2, ![1024, 1]⟩
abbrev S1x1024x1024 : Shape := ⟨3, ![1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S4x1024x4096, .bf16⟩
  | .hbm, ⟨4, _⟩ => ⟨S4x4096x1024, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x6144, .f32⟩
  | .local _ .vmem, ⟨3, _⟩ => ⟨S1x1024, .f32⟩
  | .local _ .vmem, ⟨4, _⟩ => ⟨S1x1024x4096, .bf16⟩
  | .local _ .vmem, ⟨5, _⟩ => ⟨S1x4096x1024, .bf16⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v21 : Index := Scalar.indexCast v17
  let c4096 : Index := 4096#32
  ![v21.toNat, 4096]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v23 : Index := Scalar.indexCast v17
  let c3072 : Index := 3072#32
  ![v23.toNat, 3072]
def k0_off3 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v86 : Index := Scalar.indexCast v17
  let c5120 : Index := 5120#32
  ![v86.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16384x1024 : Shape := ⟨2, ![16384, 1024]⟩
abbrev S8x6144 : Shape := ⟨2, ![8, 6144]⟩
abbrev S1024 : Shape := ⟨1, ![1024]⟩
abbrev S4x1024x4096 : Shape := ⟨3, ![4, 1024, 4096]⟩
abbrev S4x4096x1024 : Shape := ⟨3, ![4, 4096, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S4x1024x4096, .bf16⟩
  | .hbm, ⟨4, _⟩ => ⟨S4x4096x1024, .bf16⟩
  | .hbm, ⟨5, _⟩ => ⟨S4x4096x1024, .f32⟩
  | .hbm, ⟨6, _⟩ => ⟨S1x1024x4096, .bf16⟩
  | .hbm, ⟨7, _⟩ => ⟨S1024x4096, .bf16⟩
  | .hbm, ⟨8, _⟩ => ⟨S1x4096x1024, .bf16⟩
  | .hbm, ⟨9, _⟩ => ⟨S4096x1024, .bf16⟩
  | .hbm, ⟨10, _⟩ => ⟨S4x6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1024x4096, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_cst : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel4.lean ====
abbrev S16384x1024 : Shape := ⟨2, ![16384, 1024]⟩
abbrev S8x6144 : Shape := ⟨2, ![8, 6144]⟩
abbrev S1024 : Shape := ⟨1, ![1024]⟩
abbrev S2x1024x3072 : Shape := ⟨3, ![2, 1024, 3072]⟩
abbrev S3x1024 : Shape := ⟨2, ![3, 1024]⟩
abbrev S2x1024x1024 : Shape := ⟨3, ![2, 1024, 1024]⟩
abbrev S1x1024 : Shape := ⟨2, ![1, 1024]⟩
abbrev S1024x1024 : Shape := ⟨2, ![1024, 1024]⟩
abbrev S16x1024 : Shape := ⟨2, ![16, 1024]⟩
abbrev S1x1024x3072 : Shape := ⟨3, ![1, 1024, 3072]⟩
abbrev S1x1024x1024 : Shape := ⟨3, ![1, 1024, 1024]⟩
abbrev S1056x1024 : Shape := ⟨2, ![1056, 1024]⟩
abbrev S1056 : Shape := ⟨1, ![1056]⟩
abbrev S1056x1 : Shape := ⟨2, ![1056, 1]⟩
abbrev S8x1 : Shape := ⟨2, ![8, 1]⟩
abbrev S8x1024 : Shape := ⟨2, ![8, 1024]⟩
abbrev S1016x1024 : Shape := ⟨2, ![1016, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S2x1024x3072, .bf16⟩
  | .hbm, ⟨4, _⟩ => ⟨S3x1024, .f32⟩
  | .hbm, ⟨5, _⟩ => ⟨S1024, .f32⟩
  | .hbm, ⟨6, _⟩ => ⟨S2x1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S8x6144, .f32⟩
  | .local _ .vmem, ⟨7, _⟩ => ⟨S1x1024, .f32⟩
  | .local _ .vmem, ⟨8, _⟩ => ⟨S1x1024x3072, .bf16⟩
  | .local _ .vmem, ⟨9, _⟩ => ⟨S3x1024, .f32⟩
  | .local _ .vmem, ⟨10, _⟩ => ⟨S1x1024, .f32⟩
  | .local _ .vmem, ⟨11, _⟩ => ⟨S1x1024x1024, .bf16⟩
  | .local _ .vmem, ⟨12, _⟩ => ⟨S1024x1024, .f32⟩
  | .local _ .vmem, ⟨13, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v24 : Index := Scalar.indexCast v17
  let c1024 : Index := 1024#32
  ![v24.toNat, 1024]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v26 : Index := Scalar.indexCast v17
  let c0_12 : Index := 0#32
  ![v26.toNat, 0]
def k0_off3 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v109 : Index := Scalar.indexCast v17
  let c2048_41 : Index := 2048#32
  ![v109.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S8x6144 : Shape := ⟨2, ![8, 6144]⟩
abbrev S1024 : Shape := ⟨1, ![1024]⟩
abbrev S2x1024x3072 : Shape := ⟨3, ![2, 1024, 3072]⟩
abbrev S3x1024 : Shape := ⟨2, ![3, 1024]⟩
abbrev S2x1024x1024 : Shape := ⟨3, ![2, 1024, 1024]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S4x4096x3072 : Shape := ⟨3, ![4, 4096, 3072]⟩
abbrev S4x4098x1024 : Shape := ⟨3, ![4, 4098, 1024]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S2x1024x3072, .bf16⟩
  | .hbm, ⟨4, _⟩ => ⟨S3x1024, .f32⟩
  | .hbm, ⟨5, _⟩ => ⟨S1024, .f32⟩
  | .hbm, ⟨6, _⟩ => ⟨S2x1024x1024, .bf16⟩
  | .hbm, ⟨7, _⟩ => ⟨S4x4096x1024, .f32⟩
  | .hbm, ⟨8, _⟩ => ⟨S4x6144, .f32⟩
  | .hbm, ⟨9, _⟩ => ⟨S4x1x6144, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S1x1024x3072, .bf16⟩
  | .hbm, ⟨40, _⟩ => ⟨S1024x3072, .bf16⟩
  | .hbm, ⟨41, _⟩ => ⟨S1024x3072, .f32⟩
  | .hbm, ⟨42, _⟩ => ⟨S4x4096x3072, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .i32⟩
  | .hbm, ⟨48, _⟩ => ⟨S_, .f32⟩
  | .hbm, ⟨49, _⟩ => ⟨S4x4098x1024, .f32⟩
  | .hbm, ⟨50, _⟩ => ⟨S4x4096x1024, .f32⟩
  | .hbm, ⟨51, _⟩ => ⟨S1x1024, .f32⟩
  | .hbm, ⟨52, _⟩ => ⟨S1024, .f32⟩
  | .hbm, ⟨53, _⟩ => ⟨S1x1x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S1x1024, .f32⟩
  | .hbm, ⟨58, _⟩ => ⟨S1024, .f32⟩
  | .hbm, ⟨59, _⟩ => ⟨S1x1x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S1x1024, .f32⟩
  | .hbm, ⟨65, _⟩ => ⟨S1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S1x1024x1024, .bf16⟩
  | .hbm, ⟨75, _⟩ => ⟨S1024x1024, .bf16⟩
  | .hbm, ⟨76, _⟩ => ⟨S1024x1024, .f32⟩
  | .hbm, ⟨77, _⟩ => ⟨S4x4096x1024, .f32⟩
  | .hbm, ⟨78, _⟩ => ⟨S4x4096x1024, .f32⟩
  | .hbm, ⟨79, _⟩ => ⟨S4x4096x1024, .f32⟩
  | .hbm, ⟨80, _⟩ => ⟨S4x4096x1024, .f32⟩
  | .hbm, ⟨81, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== Kernel5.lean ====
abbrev S16384x1024 : Shape := ⟨2, ![16384, 1024]⟩
abbrev S8x6144 : Shape := ⟨2, ![8, 6144]⟩
abbrev S1024 : Shape := ⟨1, ![1024]⟩
abbrev S1x1024x3072 : Shape := ⟨3, ![1, 1024, 3072]⟩
abbrev S3x3072 : Shape := ⟨2, ![3, 3072]⟩
abbrev S3072 : Shape := ⟨1, ![3072]⟩
abbrev S1x1024 : Shape := ⟨2, ![1, 1024]⟩
abbrev S1x3072 : Shape := ⟨2, ![1, 3072]⟩
abbrev S1024x1024 : Shape := ⟨2, ![1024, 1024]⟩
abbrev S16x1024 : Shape := ⟨2, ![16, 1024]⟩
abbrev S1056x1024 : Shape := ⟨2, ![1056, 1024]⟩
abbrev S1056 : Shape := ⟨1, ![1056]⟩
abbrev S1056x1 : Shape := ⟨2, ![1056, 1]⟩
abbrev S1x1024x256 : Shape := ⟨3, ![1, 1024, 256]⟩
abbrev S1024x256 : Shape := ⟨2, ![1024, 256]⟩
abbrev S1056x256 : Shape := ⟨2, ![1056, 256]⟩
abbrev S3x256 : Shape := ⟨2, ![3, 256]⟩
abbrev S8x1 : Shape := ⟨2, ![8, 1]⟩
abbrev S8x256 : Shape := ⟨2, ![8, 256]⟩
abbrev S1016x256 : Shape := ⟨2, ![1016, 256]⟩
abbrev S1x256 : Shape := ⟨2, ![1, 256]⟩

abbrev nBuf : Space → Nat
  | .hbm => 10
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1x1024x3072, .bf16⟩
  | .hbm, ⟨4, _⟩ => ⟨S3x3072, .f32⟩
  | .hbm, ⟨5, _⟩ => ⟨S3072, .f32⟩
  | .hbm, ⟨6, _⟩ => ⟨S1x1024, .f32⟩
  | .hbm, ⟨7, _⟩ => ⟨S1x3072, .f32⟩
  | .hbm, ⟨8, _⟩ => ⟨S16384x1024, .bf16⟩
  | .hbm, ⟨9, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S8x6144, .f32⟩
  | .local _ .vmem, ⟨7, _⟩ => ⟨S1x1024, .f32⟩
  | .local _ .vmem, ⟨8, _⟩ => ⟨S1x1024x3072, .bf16⟩
  | .local _ .vmem, ⟨9, _⟩ => ⟨S3x3072, .f32⟩
  | .local _ .vmem, ⟨10, _⟩ => ⟨S1x3072, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v24 : Index := Scalar.indexCast v17
  let c1024 : Index := 1024#32
  ![v24.toNat, 1024]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v26 : Index := Scalar.indexCast v17
  let c0_12 : Index := 0#32
  ![v26.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16384x1024 : Shape := ⟨2, ![16384, 1024]⟩
abbrev S8x6144 : Shape := ⟨2, ![8, 6144]⟩
abbrev S1024 : Shape := ⟨1, ![1024]⟩
abbrev S1x1024x3072 : Shape := ⟨3, ![1, 1024, 3072]⟩
abbrev S3x3072 : Shape := ⟨2, ![3, 3072]⟩
abbrev S3072 : Shape := ⟨1, ![3072]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S4x4096x3072 : Shape := ⟨3, ![4, 4096, 3072]⟩
abbrev S4x4098x3072 : Shape := ⟨3, ![4, 4098, 3072]⟩
abbrev S1x3072 : Shape := ⟨2, ![1, 3072]⟩
abbrev S1x1x3072 : Shape := ⟨3, ![1, 1, 3072]⟩

abbrev nBuf : Space → Nat
  | .hbm => 75
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1x1024x3072, .bf16⟩
  | .hbm, ⟨4, _⟩ => ⟨S3x3072, .f32⟩
  | .hbm, ⟨5, _⟩ => ⟨S3072, .f32⟩
  | .hbm, ⟨6, _⟩ => ⟨S4x4096x1024, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x4096x1024, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x1024, .f32⟩
  | .hbm, ⟨27, _⟩ => ⟨S4x4096x1024, .f32⟩
  | .hbm, ⟨28, _⟩ => ⟨S1x1x1024, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x1x1024, .f32⟩
  | .hbm, ⟨33, _⟩ => ⟨S4x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1024x3072, .bf16⟩
  | .hbm, ⟨39, _⟩ => ⟨S1024x3072, .f32⟩
  | .hbm, ⟨40, _⟩ => ⟨S4x4096x3072, .f32⟩
  | .hbm, ⟨41, _⟩ => ⟨S_, .i32⟩
  | .hbm, ⟨42, _⟩ => ⟨S_, .f32⟩
  | .hbm, ⟨43, _⟩ => ⟨S4x4098x3072, .f32⟩
  | .hbm, ⟨44, _⟩ => ⟨S4x4096x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S4x4096x3072, .f32⟩
  | .hbm, ⟨49, _⟩ => ⟨S4x4096x3072, .f32⟩
  | .hbm, ⟨50, _⟩ => ⟨S4x4096x3072, .f32⟩
  | .hbm, ⟨51, _⟩ => ⟨S1x3072, .f32⟩
  | .hbm, ⟨52, _⟩ => ⟨S3072, .f32⟩
  | .hbm, ⟨53, _⟩ => ⟨S1x1x3072, .f32⟩
  | .hbm, ⟨54, _⟩ => ⟨S4x4096x3072, .f32⟩
  | .hbm, ⟨55, _⟩ => ⟨S4x4096x3072, .f32⟩
  | .hbm, ⟨56, _⟩ => ⟨S4x4096x3072, .f32⟩
  | .hbm, ⟨57, _⟩ => ⟨S4x4096x3072, .f32⟩
  | .hbm, ⟨58, _⟩ => ⟨S1x3072, .f32⟩
  | .hbm, ⟨59, _⟩ => ⟨S3072, .f32⟩
  | .hbm, ⟨60, _⟩ => ⟨S1x1x3072, .f32⟩
  | .hbm, ⟨61, _⟩ => ⟨S4x4096x3072, .f32⟩
  | .hbm, ⟨62, _⟩ => ⟨S4x4096x3072, .f32⟩
  | .hbm, ⟨63, _⟩ => ⟨S4x4096x3072, .f32⟩
  | .hbm, ⟨64, _⟩ => ⟨S1x1x3072, .f32⟩
  | .hbm, ⟨65, _⟩ => ⟨S4x4096x3072, .f32⟩
  | .hbm, ⟨66, _⟩ => ⟨S4x4096x3072, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S16384x1024, .f32⟩
  | .hbm, ⟨71, _⟩ => ⟨S16384x1024, .bf16⟩
  | .hbm, ⟨72, _⟩ => ⟨S4x4096x1024, .f32⟩
  | .hbm, ⟨73, _⟩ => ⟨S16384x1024, .f32⟩
  | .hbm, ⟨74, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_call0_v0 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Kernel6.lean ====
abbrev S16384x1024 : Shape := ⟨2, ![16384, 1024]⟩
abbrev S8x6144 : Shape := ⟨2, ![8, 6144]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S96 : Shape := ⟨1, ![96]⟩
abbrev S1024x288 : Shape := ⟨2, ![1024, 288]⟩
abbrev S256 : Shape := ⟨1, ![256]⟩
abbrev S256x2048 : Shape := ⟨2, ![256, 2048]⟩
abbrev S4096x8 : Shape := ⟨2, ![4096, 8]⟩
abbrev S1024x32 : Shape := ⟨2, ![1024, 32]⟩
abbrev S_ : Shape := ⟨0, ![]⟩
abbrev S1024x128 : Shape := ⟨2, ![1024, 128]⟩
abbrev S1024x256 : Shape := ⟨2, ![1024, 256]⟩
abbrev S1024x768 : Shape := ⟨2, ![1024, 768]⟩
abbrev S384x16x96 : Shape := ⟨3, ![384, 16, 96]⟩
abbrev S384x16x128 : Shape := ⟨3, ![384, 16, 128]⟩
abbrev S384x2048 : Shape := ⟨2, ![384, 2048]⟩
abbrev S256x16x128 : Shape := ⟨3, ![256, 16, 128]⟩
abbrev S256x16x64 : Shape := ⟨3, ![256, 16, 64]⟩
abbrev S256x1024 : Shape := ⟨2, ![256, 1024]⟩
abbrev S256x3072 : Shape := ⟨2, ![256, 3072]⟩
abbrev S128 : Shape := ⟨1, ![128]⟩
abbrev S1x128 : Shape := ⟨2, ![1, 128]⟩
abbrev S768x1024 : Shape := ⟨2, ![768, 1024]⟩
abbrev S2048x384 : Shape := ⟨2, ![2048, 384]⟩
abbrev S3072x256 : Shape := ⟨2, ![3072, 256]⟩
abbrev S120 : Shape := ⟨1, ![120]⟩
abbrev S8 : Shape := ⟨1, ![8]⟩
abbrev S128x1 : Shape := ⟨2, ![128, 1]⟩
abbrev S128x3 : Shape := ⟨2, ![128, 3]⟩
abbrev S4096x64 : Shape := ⟨2, ![4096, 64]⟩
abbrev S4096x32 : Shape := ⟨2, ![4096, 32]⟩
abbrev S4096x128 : Shape := ⟨2, ![4096, 128]⟩
abbrev S128x4096 : Shape := ⟨2, ![128, 4096]⟩
abbrev S1x1024 : Shape := ⟨2, ![1, 1024]⟩
abbrev S384x1 : Shape := ⟨2, ![384, 1]⟩
abbrev S256x1 : Shape := ⟨2, ![256, 1]⟩
abbrev S2048x16384 : Shape := ⟨2, ![2048, 16384]⟩
abbrev S16384x2048 : Shape := ⟨2, ![16384, 2048]⟩
abbrev S1024x16384 : Shape := ⟨2, ![1024, 16384]⟩
abbrev S512x1024 : Shape := ⟨2, ![512, 1024]⟩
abbrev S128x512 : Shape := ⟨2, ![128, 512]⟩
abbrev S2048x512 : Shape := ⟨2, ![2048, 512]⟩
abbrev S512x2048 : Shape := ⟨2, ![512, 2048]⟩
abbrev S1024x512 : Shape := ⟨2, ![1024, 512]⟩
abbrev S512 : Shape := ⟨1, ![512]⟩
abbrev S512x1 : Shape := ⟨2, ![512, 1]⟩
abbrev S768x512 : Shape := ⟨2, ![768, 512]⟩
abbrev S384x512 : Shape := ⟨2, ![384, 512]⟩
abbrev S1x512 : Shape := ⟨2, ![1, 512]⟩
abbrev S256x512 : Shape := ⟨2, ![256, 512]⟩
abbrev S3072x512 : Shape := ⟨2, ![3072, 512]⟩
abbrev S512x128 : Shape := ⟨2, ![512, 128]⟩

abbrev nBuf : Space → Nat
  | .hbm => 96
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S8x6144, .f32⟩
  | .hbm, ⟨2, _⟩ => ⟨S1024, .f32⟩
  | .hbm, ⟨3, _⟩ => ⟨S1024x384, .f32⟩
  | .hbm, ⟨4, _⟩ => ⟨S384, .f32⟩
  | .hbm, ⟨5, _⟩ => ⟨S384x1536, .f32⟩
  | .hbm, ⟨6, _⟩ => ⟨S96, .f32⟩
  | .hbm, ⟨7, _⟩ => ⟨S1024x288, .f32⟩
  | .hbm, ⟨8, _⟩ => ⟨S256, .f32⟩
  | .hbm, ⟨9, _⟩ => ⟨S256x2048, .f32⟩
  | .hbm, ⟨10, _⟩ => ⟨S96, .f32⟩
  | .hbm, ⟨11, _⟩ => ⟨S4096x8, .f32⟩
  | .hbm, ⟨12, _⟩ => ⟨S4096x8, .f32⟩
  | .hbm, ⟨13, _⟩ => ⟨S4096x8, .f32⟩
  | .hbm, ⟨14, _⟩ => ⟨S4096x8, .f32⟩
  | .hbm, ⟨15, _⟩ => ⟨S1024x32, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x256, .f32⟩
  | .hbm, ⟨20, _⟩ => ⟨S1024x768, .f32⟩
  | .hbm, ⟨21, _⟩ => ⟨S1024x768, .bf16⟩
  | .hbm, ⟨22, _⟩ => ⟨S384x16x96, .f32⟩
  | .hbm, ⟨23, _⟩ => ⟨S_, .i32⟩
  | .hbm, ⟨24, _⟩ => ⟨S_, .f32⟩
  | .hbm, ⟨25, _⟩ => ⟨S384x16x128, .f32⟩
  | .hbm, ⟨26, _⟩ => ⟨S384x2048, .f32⟩
  | .hbm, ⟨27, _⟩ => ⟨S384x2048, .bf16⟩
  | .hbm, ⟨28, _⟩ => ⟨S256x16x128, .f32⟩
  | .hbm, ⟨29, _⟩ => ⟨S256x16x64, .f32⟩
  | .hbm, ⟨30, _⟩ => ⟨S256x1024, .f32⟩
  | .hbm, ⟨31, _⟩ => ⟨S256x16x64, .f32⟩
  | .hbm, ⟨32, _⟩ => ⟨S_, .i32⟩
  | .hbm, ⟨33, _⟩ => ⟨S_, .f32⟩
  | .hbm, ⟨34, _⟩ => ⟨S256x16x128, .f32⟩
  | .hbm, ⟨35, _⟩ => ⟨S256x2048, .f32⟩
  | .hbm, ⟨36, _⟩ => ⟨S256x16x64, .f32⟩
  | .hbm, ⟨37, _⟩ => ⟨S256x1024, .f32⟩
  | .hbm, ⟨38, _⟩ => ⟨S256x3072, .f32⟩
  | .hbm, ⟨39, _⟩ => ⟨S256x3072, .bf16⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S768x1024, .bf16⟩
  | .hbm, ⟨49, _⟩ => ⟨S2048x384, .bf16⟩
  | .hbm, ⟨50, _⟩ => ⟨S3072x256, .bf16⟩
  | .hbm, ⟨51, _⟩ => ⟨S128, .f32⟩
  | .hbm, ⟨52, _⟩ => ⟨S120, .f32⟩
  | .hbm, ⟨53, _⟩ => ⟨S8, .f32⟩
  | .hbm, ⟨54, _⟩ => ⟨S128, .f32⟩
  | .hbm, ⟨55, _⟩ => ⟨S8, .f32⟩
  | .hbm, ⟨56, _⟩ => ⟨S120, .f32⟩
  | .hbm, ⟨57, _⟩ => ⟨S128, .f32⟩
  | .hbm, ⟨58, _⟩ => ⟨S128x1, .f32⟩
  | .hbm, ⟨59, _⟩ => ⟨S128x1, .f32⟩
  | .hbm, ⟨60, _⟩ => ⟨S128x1, .f32⟩
  | .hbm, ⟨61, _⟩ => ⟨S128x3, .f32⟩
  | .hbm, ⟨62, _⟩ => ⟨S128, .f32⟩
  | .hbm, ⟨63, _⟩ => ⟨S120, .f32⟩
  | .hbm, ⟨64, _⟩ => ⟨S8, .f32⟩
  | .hbm, ⟨65, _⟩ => ⟨S128, .f32⟩
  | .hbm, ⟨66, _⟩ => ⟨S8, .f32⟩
  | .hbm, ⟨67, _⟩ => ⟨S120, .f32⟩
  | .hbm, ⟨68, _⟩ => ⟨S128, .f32⟩
  | .hbm, ⟨69, _⟩ => ⟨S128x1, .f32⟩
  | .hbm, ⟨70, _⟩ => ⟨S128x1, .f32⟩
  | .hbm, ⟨71, _⟩ => ⟨S128x1, .f32⟩
  | .hbm, ⟨72, _⟩ => ⟨S128x3, .f32⟩
  | .hbm, ⟨73, _⟩ => ⟨S_, .f32⟩
  | .hbm, ⟨74, _⟩ => ⟨S4096x64, .f32⟩
  | .hbm, ⟨75, _⟩ => ⟨S_, .f32⟩
  | .hbm, ⟨76, _⟩ => ⟨S4096x64, .f32⟩
  | .hbm, ⟨77, _⟩ => ⟨S_, .f32⟩
  | .hbm, ⟨78, _⟩ => ⟨S4096x8, .f32⟩
  | .hbm, ⟨79, _⟩ => ⟨S4096x32, .f32⟩
  | .hbm, ⟨80, _⟩ => ⟨S4096x128, .f32⟩
  | .hbm, ⟨81, _⟩ => ⟨S4096x8, .f32⟩
  | .hbm, ⟨82, _⟩ => ⟨S4096x8, .f32⟩
  | .hbm, ⟨83, _⟩ => ⟨S4096x32, .f32⟩
  | .hbm, ⟨84, _⟩ => ⟨S4096x128, .f32⟩
  | .hbm, ⟨85, _⟩ => ⟨S4096x32, .f32⟩
  | .hbm, ⟨86, _⟩ => ⟨S4096x128, .f32⟩
  | .hbm, ⟨87, _⟩ => ⟨S128x4096, .f32⟩
  | .hbm, ⟨88, _⟩ => ⟨S128x4096, .f32⟩
  | .hbm, ⟨89, _⟩ => ⟨S128x4096, .f32⟩
  | .hbm, ⟨90, _⟩ => ⟨S1x1024, .f32⟩
  | .hbm, ⟨91, _⟩ => ⟨S384x1, .f32⟩
  | .hbm, ⟨92, _⟩ => ⟨S256x1, .f32⟩
  | .hbm, ⟨93, _⟩ => ⟨S2048x16384, .bf16⟩
  | .hbm, ⟨94, _⟩ => ⟨S16384x2048, .bf16⟩
  | .hbm, ⟨95, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S768x1024, .bf16⟩
  | .local _ .vmem, ⟨5, _⟩ => ⟨S384x1, .f32⟩
  | .local _ .vmem, ⟨6, _⟩ => ⟨S256x1, .f32⟩
  | .local _ .vmem, ⟨7, _⟩ => ⟨S2048x384, .bf16⟩
  | .local _ .vmem, ⟨8, _⟩ => ⟨S3072x256, .bf16⟩
  | .local _ .vmem, ⟨9, _⟩ => ⟨S128x3, .f32⟩
  | .local _ .vmem, ⟨10, _⟩ => ⟨S128x3, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S2048x512, .bf16⟩
  | .local _ .vmem, ⟨18, _⟩ => ⟨S2048x512, .bf16⟩
  | .local _ .vmem, ⟨19, _⟩ => ⟨S512x2048, .bf16⟩
  | .local _ .vmem, ⟨20, _⟩ => ⟨S512x2048, .bf16⟩
  | .local _ .vmem, ⟨21, _⟩ => ⟨S1024x512, .bf16⟩
  | .local _ .vmem, ⟨22, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_call2_v0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_call3_v0 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_call4_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call5_v0 : Ref sig .tc := ⟨.hbm, 52, rfl⟩
abbrev main_call5_v1 : Ref sig .tc := ⟨.hbm, 53, rfl⟩
abbrev main_v27 : Ref sig .tc := ⟨.hbm, 54, rfl⟩
abbrev main_call6_v0 : Ref sig .tc := ⟨.hbm, 55, rfl⟩
abbrev main_call6_v1 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call7_v0 : Ref sig .tc := ⟨.hbm, 63, rfl⟩
abbrev main_call7_v1 : Ref sig .tc := ⟨.hbm, 64, rfl⟩
abbrev main_v34 : Ref sig .tc := ⟨.hbm, 65, rfl⟩
abbrev main_call8_v0 : Ref sig .tc := ⟨.hbm, 66, rfl⟩
abbrev main_call8_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_cst_5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57_0 : Ref sig .tc := ⟨.hbm, 93, rfl⟩
abbrev main_v57_1 : Ref sig .tc := ⟨.hbm, 94, rfl⟩
abbrev main_v57_2 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c1_i32_9 : BitVec 32 := 1#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_5 : BitVec 32 := 0#32
  let v9 : BitVec 1 := Scalar.cmpi .slt arg0 c0_i32_5
  let v10 : BitVec 32 := Scalar.extui v9
  let v11 : BitVec 32 := Scalar.subi v8 v10
  let c8_i32 : BitVec 32 := 8#32
  let c0_i32_6 : BitVec 32 := 0#32
  let v12 : BitVec 1 := Scalar.cmpi .sgt c8_i32 c0_i32_6
  let v13 : BitVec 32 := Scalar.extui v12
  let c0_i32_7 : BitVec 32 := 0#32
  let v14 : BitVec 1 := Scalar.cmpi .slt c8_i32 c0_i32_7
  let v15 : BitVec 32 := Scalar.extui v14
  let v16 : BitVec 32 := Scalar.subi v13 v15
  let v17 : BitVec 1 := Scalar.cmpi .ne v11 v16
  let v18 : BitVec 32 := Scalar.remsi arg0 c8_i32
  let c0_i32_8 : BitVec 32 := 0#32
  let v19 : BitVec 1 := Scalar.cmpi .ne v18 c0_i32_8
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let v23 : BitVec 32 := Scalar.addi c1_i32_9 v22
  let v27 : Index := Scalar.indexCast v23
  let c1024 : Index := 1024#32
  ![v27.toNat, 1024]
def k0_off2 (i : grid0.Coords) : Fin 2 → Nat :=
  let c1_i32_9 : BitVec 32 := 1#32
  let arg0 : BitVec 32 := BitVec.ofNat 32 (i 0).val
  let c0_i32 : BitVec 32 := 0#32
  let v7 : BitVec 1 := Scalar.cmpi .sgt arg0 c0_i32
  let v8 : BitVec 32 := Scalar.extui v7
  let c0_i32_5 : BitVec 32 := 0#32
  let v9 : BitVec 1 := Scalar.cmpi .slt arg0 c0_i32_5
  let v10 : BitVec 32 := Scalar.extui v9
  let v11 : BitVec 32 := Scalar.subi v8 v10
  let c8_i32 : BitVec 32 := 8#32
  let c0_i32_6 : BitVec 32 := 0#32
  let v12 : BitVec 1 := Scalar.cmpi .sgt c8_i32 c0_i32_6
  let v13 : BitVec 32 := Scalar.extui v12
  let c0_i32_7 : BitVec 32 := 0#32
  let v14 : BitVec 1 := Scalar.cmpi .slt c8_i32 c0_i32_7
  let v15 : BitVec 32 := Scalar.extui v14
  let v16 : BitVec 32 := Scalar.subi v13 v15
  let v17 : BitVec 1 := Scalar.cmpi .ne v11 v16
  let v18 : BitVec 32 := Scalar.remsi arg0 c8_i32
  let c0_i32_8 : BitVec 32 := 0#32
  let v19 : BitVec 1 := Scalar.cmpi .ne v18 c0_i32_8
  let v20 : BitVec 1 := Scalar.andi v17 v19
  let v6 : BitVec 32 := Scalar.divsi arg0 c8_i32
  let c1_i32 : BitVec 32 := 1#32
  let v21 : BitVec 32 := Scalar.subi v6 c1_i32
  let v22 : BitVec 32 := Scalar.select v20 v21 v6
  let v23 : BitVec 32 := Scalar.addi c1_i32_9 v22
  let v29 : Index := Scalar.indexCast v23
  let c0_14 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel6Ideal.lean ====
variable {F : FTy → Type} [FloatOps F] [Named F]
def κ : String → Option EReal := fun
  | "per_channel" => some ((1 / 96 : ℝ) : EReal)
  | "per_score" => some (((Real.sqrt 96)⁻¹ * (Real.log 2)⁻¹ : ℝ) : EReal)
  | _ => none
-- ==== Reference6Ideal.lean ====
abbrev S16384x1024 : Shape := ⟨2, ![16384, 1024]⟩
abbrev S8x6144 : Shape := ⟨2, ![8, 6144]⟩
abbrev S1024 : Shape := ⟨1, ![1024]⟩
abbrev S1024x384 : Shape := ⟨2, ![1024, 384]⟩
abbrev S384 : Shape := ⟨1, ![384]⟩
abbrev S384x1536 : Shape := ⟨2, ![384, 1536]⟩
abbrev S96 : Shape := ⟨1, ![96]⟩
abbrev S1024x288 : Shape := ⟨2, ![1024, 288]⟩
abbrev S256 : Shape := ⟨1, ![256]⟩
abbrev S256x2048 : Shape := ⟨2, ![256, 2048]⟩
abbrev S4096x8 : Shape := ⟨2, ![4096, 8]⟩
abbrev S4x6144 : Shape := ⟨2, ![4, 6144]⟩
abbrev S4x1x6144 : Shape := ⟨3, ![4, 1, 6144]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x384 : Shape := ⟨3, ![4, 4096, 384]⟩
abbrev S1x1x384 : Shape := ⟨3, ![1, 1, 384]⟩
abbrev S4x4096x1536 : Shape := ⟨3, ![4, 4096, 1536]⟩
abbrev S4x4096x16x96 : Shape := ⟨4, ![4, 4096, 16, 96]⟩
abbrev S4x4096x16 : Shape := ⟨3, ![4, 4096, 16]⟩
abbrev S4x4096x16x1 : Shape := ⟨4, ![4, 4096, 16, 1]⟩
abbrev S1x1x1x96 : Shape := ⟨4, ![1, 1, 1, 96]⟩
abbrev S4x4096x288 : Shape := ⟨3, ![4, 4096, 288]⟩
abbrev S4x4096x256 : Shape := ⟨3, ![4, 4096, 256]⟩
abbrev S4x4096x32 : Shape := ⟨3, ![4, 4096, 32]⟩
abbrev S1x1x256 : Shape := ⟨3, ![1, 1, 256]⟩
abbrev S4x4096x2048 : Shape := ⟨3, ![4, 4096, 2048]⟩
abbrev S4x4096x16x128 : Shape := ⟨4, ![4, 4096, 16, 128]⟩
abbrev S4x4096x16x64 : Shape := ⟨4, ![4, 4096, 16, 64]⟩
abbrev S4x4096x1x32 : Shape := ⟨4, ![4, 4096, 1, 32]⟩
abbrev S4x4096x16x32 : Shape := ⟨4, ![4, 4096, 16, 32]⟩
abbrev S4x4096x16x16 : Shape := ⟨4, ![4, 4096, 16, 16]⟩
abbrev S4x4096x16x8 : Shape := ⟨4, ![4, 4096, 16, 8]⟩
abbrev S1x4096x1x8 : Shape := ⟨4, ![1, 4096, 1, 8]⟩
abbrev S16384x2048 : Shape := ⟨2, ![16384, 2048]⟩
abbrev S2048x16384 : Shape := ⟨2, ![2048, 16384]⟩
abbrev S1024x16384 : Shape := ⟨2, ![1024, 16384]⟩

abbrev nBuf : Space → Nat
  | .hbm => 217
  | .vmem => 0
  | .smem => 0
  | _ => 0

abbrev hbmTy0_0 (i : Nat) : BufTy := match i % 128 with
  | 0 => ⟨S16384x1024, .f32⟩
  | 1 => ⟨S8x6144, .f32⟩
  | 2 => ⟨S1024, .f32⟩
  | 3 => ⟨S1024x384, .f32⟩
  | 4 => ⟨S384, .f32⟩
  | 5 => ⟨S384x1536, .f32⟩
  | 6 => ⟨S96, .f32⟩
  | 7 => ⟨S1024x288, .f32⟩
  | 8 => ⟨S256, .f32⟩
  | 9 => ⟨S256x2048, .f32⟩
  | 10 => ⟨S96, .f32⟩
  | 11 => ⟨S4096x8, .f32⟩
  | 12 => ⟨S4096x8, .f32⟩
  | 13 => ⟨S4096x8, .f32⟩
  | 14 => ⟨S4096x8, .f32⟩
  | 15 => ⟨S4x6144, .f32⟩
  | 16 => ⟨S4x1x6144, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x4096x1024, .f32⟩
  | 24 => ⟨S4x4096x1024, .f32⟩
  | 25 => ⟨S_, .f32⟩
  | 26 => ⟨S4x4096, .f32⟩
  | 27 => ⟨S4x4096x1, .f32⟩
  | 28 => ⟨S_, .f32⟩
  | 29 => ⟨S4x4096x1, .f32⟩
  | 30 => ⟨S4x4096x1, .f32⟩
  | 31 => ⟨S_, .f32⟩
  | 32 => ⟨S4x4096x1, .f32⟩
  | 33 => ⟨S4x4096x1, .f32⟩
  | 34 => ⟨S4x4096x1, .f32⟩
  | 35 => ⟨S4x4096x1024, .f32⟩
  | 36 => ⟨S4x4096x1024, .f32⟩
  | 37 => ⟨S1x1x1024, .f32⟩
  | 38 => ⟨S4x4096x1024, .f32⟩
  | 39 => ⟨S4x4096x1024, .f32⟩
  | 40 => ⟨S_, .f32⟩
  | 41 => ⟨S4x1x1024, .f32⟩
  | 42 => ⟨S4x1x1024, .f32⟩
  | 43 => ⟨S4x4096x1024, .f32⟩
  | 44 => ⟨S4x4096x1024, .f32⟩
  | 45 => ⟨S4x4096x1024, .f32⟩
  | 46 => ⟨S4x4096x1024, .f32⟩
  | 47 => ⟨S4x4096x384, .f32⟩
  | 48 => ⟨S4x4096x384, .f32⟩
  | 49 => ⟨S_, .f32⟩
  | 50 => ⟨S4x4096, .f32⟩
  | 51 => ⟨S4x4096x1, .f32⟩
  | 52 => ⟨S_, .f32⟩
  | 53 => ⟨S4x4096x1, .f32⟩
  | 54 => ⟨S4x4096x1, .f32⟩
  | 55 => ⟨S_, .f32⟩
  | 56 => ⟨S4x4096x1, .f32⟩
  | 57 => ⟨S4x4096x1, .f32⟩
  | 58 => ⟨S4x4096x1, .f32⟩
  | 59 => ⟨S4x4096x384, .f32⟩
  | 60 => ⟨S4x4096x384, .f32⟩
  | 61 => ⟨S1x1x384, .f32⟩
  | 62 => ⟨S4x4096x384, .f32⟩
  | 63 => ⟨S4x4096x384, .f32⟩
  | 64 => ⟨S4x4096x1536, .f32⟩
  | 65 => ⟨S4x4096x16x96, .f32⟩
  | 66 => ⟨S4x4096x16x96, .f32⟩
  | 67 => ⟨S_, .f32⟩
  | 68 => ⟨S4x4096x16, .f32⟩
  | 69 => ⟨S4x4096x16x1, .f32⟩
  | 70 => ⟨S_, .f32⟩
  | 71 => ⟨S4x4096x16x1, .f32⟩
  | 72 => ⟨S4x4096x16x1, .f32⟩
  | 73 => ⟨S_, .f32⟩
  | 74 => ⟨S4x4096x16x1, .f32⟩
  | 75 => ⟨S4x4096x16x1, .f32⟩
  | 76 => ⟨S4x4096x16x1, .f32⟩
  | 77 => ⟨S4x4096x16x96, .f32⟩
  | 78 => ⟨S4x4096x16x96, .f32⟩
  | 79 => ⟨S1x1x1x96, .f32⟩
  | 80 => ⟨S4x4096x16x96, .f32⟩
  | 81 => ⟨S4x4096x16x96, .f32⟩
  | 82 => ⟨S4x4096x288, .f32⟩
  | 83 => ⟨S4x4096x256, .f32⟩
  | 84 => ⟨S4x4096x32, .f32⟩
  | 85 => ⟨S4x4096x256, .f32⟩
  | 86 => ⟨S_, .f32⟩
  | 87 => ⟨S4x4096, .f32⟩
  | 88 => ⟨S4x4096x1, .f32⟩
  | 89 => ⟨S_, .f32⟩
  | 90 => ⟨S4x4096x1, .f32⟩
  | 91 => ⟨S4x4096x1, .f32⟩
  | 92 => ⟨S_, .f32⟩
  | 93 => ⟨S4x4096x1, .f32⟩
  | 94 => ⟨S4x4096x1, .f32⟩
  | 95 => ⟨S4x4096x1, .f32⟩
  | 96 => ⟨S4x4096x256, .f32⟩
  | 97 => ⟨S4x4096x256, .f32⟩
  | 98 => ⟨S1x1x256, .f32⟩
  | 99 => ⟨S4x4096x256, .f32⟩
  | 100 => ⟨S4x4096x256, .f32⟩
  | 101 => ⟨S4x4096x2048, .f32⟩
  | 102 => ⟨S4x4096x16x128, .f32⟩
  | 103 => ⟨S4x4096x16x64, .f32⟩
  | 104 => ⟨S4x4096x16x64, .f32⟩
  | 105 => ⟨S4x4096x1x32, .f32⟩
  | 106 => ⟨S4x4096x16x32, .f32⟩
  | 107 => ⟨S4x4096x16x96, .f32⟩
  | 108 => ⟨S4x4096x16x96, .f32⟩
  | 109 => ⟨S_, .f32⟩
  | 110 => ⟨S4x4096x16, .f32⟩
  | 111 => ⟨S4x4096x16x1, .f32⟩
  | 112 => ⟨S_, .f32⟩
  | 113 => ⟨S4x4096x16x1, .f32⟩
  | 114 => ⟨S4x4096x16x1, .f32⟩
  | 115 => ⟨S_, .f32⟩
  | 116 => ⟨S4x4096x16x1, .f32⟩
  | 117 => ⟨S4x4096x16x1, .f32⟩
  | 118 => ⟨S4x4096x16x1, .f32⟩
  | 119 => ⟨S4x4096x16x96, .f32⟩
  | 120 => ⟨S4x4096x16x96, .f32⟩
  | 121 => ⟨S1x1x1x96, .f32⟩
  | 122 => ⟨S4x4096x16x96, .f32⟩
  | 123 => ⟨S4x4096x16x96, .f32⟩
  | 124 => ⟨S4x4096x16x64, .f32⟩
  | 125 => ⟨S4x4096x16x32, .f32⟩
  | 126 => ⟨S4x4096x16x16, .f32⟩
  | 127 => ⟨S4x4096x16x16, .f32⟩
  | _ => ⟨S16384x1024, .f32⟩

abbrev hbmTy0_1 (i : Nat) : BufTy := match i % 128 with
  | 0 => ⟨S4x4096x16x8, .f32⟩
  | 1 => ⟨S4x4096x16x8, .f32⟩
  | 2 => ⟨S1x4096x1x8, .f32⟩
  | 3 => ⟨S1x4096x1x8, .f32⟩
  | 4 => ⟨S4x4096x16x8, .f32⟩
  | 5 => ⟨S4x4096x16x8, .f32⟩
  | 6 => ⟨S4x4096x16x8, .f32⟩
  | 7 => ⟨S4x4096x16x8, .f32⟩
  | 8 => ⟨S4x4096x16x8, .f32⟩
  | 9 => ⟨S4x4096x16x8, .f32⟩
  | 10 => ⟨S4x4096x16x8, .f32⟩
  | 11 => ⟨S4x4096x16x8, .f32⟩
  | 12 => ⟨S4x4096x16x8, .f32⟩
  | 13 => ⟨S4x4096x16x8, .f32⟩
  | 14 => ⟨S4x4096x16x16, .f32⟩
  | 15 => ⟨S4x4096x16x8, .f32⟩
  | 16 => ⟨S4x4096x16x8, .f32⟩
  | 17 => ⟨S1x4096x1x8, .f32⟩
  | 18 => ⟨S1x4096x1x8, .f32⟩
  | 19 => ⟨S4x4096x16x8, .f32⟩
  | 20 => ⟨S4x4096x16x8, .f32⟩
  | 21 => ⟨S4x4096x16x8, .f32⟩
  | 22 => ⟨S4x4096x16x8, .f32⟩
  | 23 => ⟨S4x4096x16x8, .f32⟩
  | 24 => ⟨S4x4096x16x8, .f32⟩
  | 25 => ⟨S4x4096x16x8, .f32⟩
  | 26 => ⟨S4x4096x16x8, .f32⟩
  | 27 => ⟨S4x4096x16x8, .f32⟩
  | 28 => ⟨S4x4096x16x8, .f32⟩
  | 29 => ⟨S4x4096x16x16, .f32⟩
  | 30 => ⟨S4x4096x16x32, .f32⟩
  | 31 => ⟨S4x4096x16x96, .f32⟩
  | 32 => ⟨S_, .f32⟩
  | 33 => ⟨S_, .f32⟩
  | 34 => ⟨S_, .f32⟩
  | 35 => ⟨S_, .f32⟩
  | 36 => ⟨S_, .f32⟩
  | 37 => ⟨S4x4096x16x96, .f32⟩
  | 38 => ⟨S4x4096x16x96, .f32⟩
  | 39 => ⟨S_, .i32⟩
  | 40 => ⟨S_, .f32⟩
  | 41 => ⟨S4x4096x16x128, .f32⟩
  | 42 => ⟨S16384x2048, .f32⟩
  | 43 => ⟨S2048x16384, .f32⟩
  | 44 => ⟨S2048x16384, .bf16⟩
  | 45 => ⟨S4x4096x16x64, .f32⟩
  | 46 => ⟨S4x4096x16x32, .f32⟩
  | 47 => ⟨S4x4096x16x16, .f32⟩
  | 48 => ⟨S4x4096x16x16, .f32⟩
  | 49 => ⟨S4x4096x16x8, .f32⟩
  | 50 => ⟨S4x4096x16x8, .f32⟩
  | 51 => ⟨S1x4096x1x8, .f32⟩
  | 52 => ⟨S1x4096x1x8, .f32⟩
  | 53 => ⟨S4x4096x16x8, .f32⟩
  | 54 => ⟨S4x4096x16x8, .f32⟩
  | 55 => ⟨S4x4096x16x8, .f32⟩
  | 56 => ⟨S4x4096x16x8, .f32⟩
  | 57 => ⟨S4x4096x16x8, .f32⟩
  | 58 => ⟨S4x4096x16x8, .f32⟩
  | 59 => ⟨S4x4096x16x8, .f32⟩
  | 60 => ⟨S4x4096x16x8, .f32⟩
  | 61 => ⟨S4x4096x16x8, .f32⟩
  | 62 => ⟨S4x4096x16x8, .f32⟩
  | 63 => ⟨S4x4096x16x16, .f32⟩
  | 64 => ⟨S4x4096x16x8, .f32⟩
  | 65 => ⟨S4x4096x16x8, .f32⟩
  | 66 => ⟨S1x4096x1x8, .f32⟩
  | 67 => ⟨S1x4096x1x8, .f32⟩
  | 68 => ⟨S4x4096x16x8, .f32⟩
  | 69 => ⟨S4x4096x16x8, .f32⟩
  | 70 => ⟨S4x4096x16x8, .f32⟩
  | 71 => ⟨S4x4096x16x8, .f32⟩
  | 72 => ⟨S4x4096x16x8, .f32⟩
  | 73 => ⟨S4x4096x16x8, .f32⟩
  | 74 => ⟨S4x4096x16x8, .f32⟩
  | 75 => ⟨S4x4096x16x8, .f32⟩
  | 76 => ⟨S4x4096x16x8, .f32⟩
  | 77 => ⟨S4x4096x16x8, .f32⟩
  | 78 => ⟨S4x4096x16x16, .f32⟩
  | 79 => ⟨S4x4096x16x32, .f32⟩
  | 80 => ⟨S4x4096x16x96, .f32⟩
  | 81 => ⟨S_, .i32⟩
  | 82 => ⟨S_, .f32⟩
  | 83 => ⟨S4x4096x16x128, .f32⟩
  | 84 => ⟨S16384x2048, .f32⟩
  | 85 => ⟨S16384x2048, .bf16⟩
  | 86 => ⟨S16384x1024, .f32⟩
  | 87 => ⟨S1024x16384, .f32⟩
  | 88 => ⟨S1024x16384, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_15 : Ref sig .tc := ⟨.hbm, 160, rfl⟩
abbrev main_v129 : Ref sig .tc := ⟨.hbm, 161, rfl⟩
abbrev main_cst_16 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_c : Ref sig .tc := ⟨.hbm, 167, rfl⟩
abbrev main_call0_v0 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_c_17 : Ref sig .tc := ⟨.hbm, 209, rfl⟩
abbrev main_call1_v0 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩

abbrev nD : Nat := 1
abbrev τ : Topo := Topo.v7x

variable {F : FTy → Type} [FloatOps F]
-- ==== Kernel7.lean ====
abbrev S4x512x256 : Shape := ⟨3, ![4, 512, 256]⟩
abbrev S4x512x32 : Shape := ⟨3, ![4, 512, 32]⟩
abbrev S256x2048 : Shape := ⟨2, ![256, 2048]⟩
abbrev S96 : Shape := ⟨1, ![96]⟩
abbrev S256x16x128 : Shape := ⟨3, ![256, 16, 128]⟩
abbrev S256x16x64 : Shape := ⟨3, ![256, 16, 64]⟩
abbrev S256x1024 : Shape := ⟨2, ![256, 1024]⟩
abbrev S_ : Shape := ⟨0, ![]⟩
abbrev S256x3072 : Shape := ⟨2, ![256, 3072]⟩
abbrev S2048x256 : Shape := ⟨2, ![2048, 256]⟩
abbrev S2048x32 : Shape := ⟨2, ![2048, 32]⟩
abbrev S2048x128 : Shape := ⟨2, ![2048, 128]⟩
abbrev S128 : Shape := ⟨1, ![128]⟩
abbrev S1x128 : Shape := ⟨2, ![1, 128]⟩
abbrev S2048x2048 : Shape := ⟨2, ![2048, 2048]⟩
abbrev S1024x2048 : Shape := ⟨2, ![1024, 2048]⟩
abbrev S512x256 : Shape := ⟨2, ![512, 256]⟩
abbrev S512x128 : Shape := ⟨2, ![512, 128]⟩
abbrev S512x2048 : Shape := ⟨2, ![512, 2048]⟩
abbrev S1024x512 : Shape := ⟨2, ![1024, 512]⟩
abbrev S512x3072 : Shape := ⟨2, ![512, 3072]⟩
abbrev S512 : Shape := ⟨1, ![512]⟩
abbrev S512x1 : Shape := ⟨2, ![512, 1]⟩
abbrev S512x1024 : Shape := ⟨2, ![512, 1024]⟩

abbrev nBuf : Space → Nat
  | .hbm => 27
  | .vmem => 10
  | .smem => 0
  | _ => 0

abbrev bufTy : (tb : Table) → Fin (tcTables nBuf tb) → BufTy
  | .hbm, ⟨0, _⟩ => ⟨S4x512x256, .f32⟩
  | .hbm, ⟨1, _⟩ => ⟨S4x512x32, .f32⟩
  | .hbm, ⟨2, _⟩ => ⟨S256x2048, .f32⟩
  | .hbm, ⟨3, _⟩ => ⟨S96, .f32⟩
  | .hbm, ⟨4, _⟩ => ⟨S256x16x128, .f32⟩
  | .hbm, ⟨5, _⟩ => ⟨S256x16x64, .f32⟩
  | .hbm, ⟨6, _⟩ => ⟨S256x1024, .f32⟩
  | .hbm, ⟨7, _⟩ => ⟨S256x16x64, .f32⟩
  | .hbm, ⟨8, _⟩ => ⟨S_, .i32⟩
  | .hbm, ⟨9, _⟩ => ⟨S_, .f32⟩
  | .hbm, ⟨10, _⟩ => ⟨S256x16x128, .f32⟩
  | .hbm, ⟨11, _⟩ => ⟨S256x2048, .f32⟩
  | .hbm, ⟨12, _⟩ => ⟨S256x16x64, .f32⟩
  | .hbm, ⟨13, _⟩ => ⟨S256x1024, .f32⟩
  | .hbm, ⟨14, _⟩ => ⟨S256x3072, .f32⟩
  | .hbm, ⟨15, _⟩ => ⟨S256x3072, .bf16⟩
  | .hbm, ⟨16, _⟩ => ⟨S2048x256, .f32⟩
  | .hbm, ⟨17, _⟩ => ⟨S2048x32, .f32⟩
  | .hbm, ⟨18, _⟩ => ⟨S_, .i32⟩
  | .hbm, ⟨19, _⟩ => ⟨S_, .f32⟩
  | .hbm, ⟨20, _⟩ => ⟨S2048x128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S2048x2048, .bf16⟩
  | .hbm, ⟨26, _⟩ => ⟨S1024x2048, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x3072, .bf16⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_c_1 : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel7Ideal.lean ====
variable {F : FTy → Type} [FloatOps F] [Named F]
def κ : String → Option EReal := fun
  | "per_channel" => some ((1 / 96 : ℝ) : EReal)
  | _ => none
-- ==== Reference7Ideal.lean ====
abbrev S4x512x256 : Shape := ⟨3, ![4, 512, 256]⟩
abbrev S4x512x32 : Shape := ⟨3, ![4, 512, 32]⟩
abbrev S256x2048 : Shape := ⟨2, ![256, 2048]⟩
abbrev S96 : Shape := ⟨1, ![96]⟩
abbrev S4x512x2048 : Shape := ⟨3, ![4, 512, 2048]⟩
abbrev S4x512x16x128 : Shape := ⟨4, ![4, 512, 16, 128]⟩
abbrev S4x512x16x64 : Shape := ⟨4, ![4, 512, 16, 64]⟩
abbrev S4x512x1x32 : Shape := ⟨4, ![4, 512, 1, 32]⟩
abbrev S4x512x16x32 : Shape := ⟨4, ![4, 512, 16, 32]⟩
abbrev S4x512x16x96 : Shape := ⟨4, ![4, 512, 16, 96]⟩
abbrev S_ : Shape := ⟨0, ![]⟩
abbrev S4x512x16 : Shape := ⟨3, ![4, 512, 16]⟩
abbrev S4x512x16x1 : Shape := ⟨4, ![4, 512, 16, 1]⟩
abbrev S1x1x1x96 : Shape := ⟨4, ![1, 1, 1, 96]⟩
abbrev S2048x2048 : Shape := ⟨2, ![2048, 2048]⟩
abbrev S2048x1024 : Shape := ⟨2, ![2048, 1024]⟩
abbrev S1024x2048 : Shape := ⟨2, ![1024, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x32, .f32⟩
  | .hbm, ⟨2, _⟩ => ⟨S256x2048, .f32⟩
  | .hbm, ⟨3, _⟩ => ⟨S96, .f32⟩
  | .hbm, ⟨4, _⟩ => ⟨S4x512x2048, .f32⟩
  | .hbm, ⟨5, _⟩ => ⟨S4x512x16x128, .f32⟩
  | .hbm, ⟨6, _⟩ => ⟨S4x512x16x64, .f32⟩
  | .hbm, ⟨7, _⟩ => ⟨S4x512x16x64, .f32⟩
  | .hbm, ⟨8, _⟩ => ⟨S4x512x1x32, .f32⟩
  | .hbm, ⟨9, _⟩ => ⟨S4x512x16x32, .f32⟩
  | .hbm, ⟨10, _⟩ => ⟨S4x512x16x96, .f32⟩
  | .hbm, ⟨11, _⟩ => ⟨S4x512x16x96, .f32⟩
  | .hbm, ⟨12, _⟩ => ⟨S_, .f32⟩
  | .hbm, ⟨13, _⟩ => ⟨S4x512x16, .f32⟩
  | .hbm, ⟨14, _⟩ => ⟨S4x512x16x1, .f32⟩
  | .hbm, ⟨15, _⟩ => ⟨S_, .f32⟩
  | .hbm, ⟨16, _⟩ => ⟨S4x512x16x1, .f32⟩
  | .hbm, ⟨17, _⟩ => ⟨S4x512x16x1, .f32⟩
  | .hbm, ⟨18, _⟩ => ⟨S_, .f32⟩
  | .hbm, ⟨19, _⟩ => ⟨S4x512x16x1, .f32⟩
  | .hbm, ⟨20, _⟩ => ⟨S4x512x16x1, .f32⟩
  | .hbm, ⟨21, _⟩ => ⟨S4x512x16x1, .f32⟩
  | .hbm, ⟨22, _⟩ => ⟨S4x512x16x96, .f32⟩
  | .hbm, ⟨23, _⟩ => ⟨S4x512x16x96, .f32⟩
  | .hbm, ⟨24, _⟩ => ⟨S1x1x1x96, .f32⟩
  | .hbm, ⟨25, _⟩ => ⟨S4x512x16x96, .f32⟩
  | .hbm, ⟨26, _⟩ => ⟨S4x512x16x96, .f32⟩
  | .hbm, ⟨27, _⟩ => ⟨S_, .i32⟩
  | .hbm, ⟨28, _⟩ => ⟨S_, .f32⟩
  | .hbm, ⟨29, _⟩ => ⟨S4x512x16x128, .f32⟩
  | .hbm, ⟨30, _⟩ => ⟨S2048x2048, .f32⟩
  | .hbm, ⟨31, _⟩ => ⟨S2048x2048, .bf16⟩
  | .hbm, ⟨32, _⟩ => ⟨S2048x1024, .f32⟩
  | .hbm, ⟨33, _⟩ => ⟨S1024x2048, .f32⟩
  | .hbm, ⟨34, _⟩ => ⟨S1024x2048, .bf16⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_call0_v0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel8.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S8x1024 : Shape := ⟨2, ![8, 1024]⟩
abbrev S1 : Shape := ⟨1, ![1]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x6144, .f32⟩
  | .hbm, ⟨13, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x1024 : Shape := ⟨2, ![4, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x4x6144 : Shape := ⟨3, ![8, 4, 6144]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4x6144, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel9.lean ====
abbrev S2048x8192 : Shape := ⟨2, ![2048, 8192]⟩
abbrev S8192x2048 : Shape := ⟨2, ![8192, 2048]⟩
abbrev S1024x8192 : Shape := ⟨2, ![1024, 8192]⟩
abbrev S8192x1024 : Shape := ⟨2, ![8192, 1024]⟩
abbrev S2048x256 : Shape := ⟨2, ![2048, 256]⟩
abbrev S256x2048 : Shape := ⟨2, ![256, 2048]⟩
abbrev S1024x256 : Shape := ⟨2, ![1024, 256]⟩
abbrev S256x1024 : Shape := ⟨2, ![256, 1024]⟩
abbrev S128x256 : Shape := ⟨2, ![128, 256]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S64x256 : Shape := ⟨2, ![64, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S1024x8192, .bf16⟩
  | .hbm, ⟨3, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S256x2048, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference9Ideal.lean ====
abbrev S2048x8192 : Shape := ⟨2, ![2048, 8192]⟩
abbrev S8192x2048 : Shape := ⟨2, ![8192, 2048]⟩
abbrev S1024x8192 : Shape := ⟨2, ![1024, 8192]⟩
abbrev S16x128x32x256 : Shape := ⟨4, ![16, 128, 32, 256]⟩
abbrev S32x256x16x128 : Shape := ⟨4, ![32, 256, 16, 128]⟩
abbrev S16x64x32x256 : Shape := ⟨4, ![16, 64, 32, 256]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x256x64 : Shape := ⟨4, ![32, 16, 256, 64]⟩
abbrev S32x256x16x64 : Shape := ⟨4, ![32, 256, 16, 64]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S1024x8192, .bf16⟩
  | .hbm, ⟨3, _⟩ => ⟨S16x128x32x256, .bf16⟩
  | .hbm, ⟨4, _⟩ => ⟨S32x256x16x128, .bf16⟩
  | .hbm, ⟨5, _⟩ => ⟨S16x64x32x256, .bf16⟩
  | .hbm, ⟨6, _⟩ => ⟨S32x16x256x256, .f32⟩
  | .hbm, ⟨7, _⟩ => ⟨S_, .f32⟩
  | .hbm, ⟨8, _⟩ => ⟨S_, .f32⟩
  | .hbm, ⟨9, _⟩ => ⟨S32x16x256x256, .f32⟩
  | .hbm, ⟨10, _⟩ => ⟨S32x16x256x256, .f32⟩
  | .hbm, ⟨11, _⟩ => ⟨S_, .f32⟩
  | .hbm, ⟨12, _⟩ => ⟨S32x16x256, .f32⟩
  | .hbm, ⟨13, _⟩ => ⟨S32x16x256x1, .f32⟩
  | .hbm, ⟨14, _⟩ => ⟨S32x16x256x256, .f32⟩
  | .hbm, ⟨15, _⟩ => ⟨S32x16x256x256, .f32⟩
  | .hbm, ⟨16, _⟩ => ⟨S32x16x256x256, .f32⟩
  | .hbm, ⟨17, _⟩ => ⟨S_, .f32⟩
  | .hbm, ⟨18, _⟩ => ⟨S32x16x256, .f32⟩
  | .hbm, ⟨19, _⟩ => ⟨S32x16x256x1, .f32⟩
  | .hbm, ⟨20, _⟩ => ⟨S32x16x256x256, .bf16⟩
  | .hbm, ⟨21, _⟩ => ⟨S32x16x256x64, .f32⟩
  | .hbm, ⟨22, _⟩ => ⟨S32x16x256x64, .f32⟩
  | .hbm, ⟨23, _⟩ => ⟨S32x16x256x64, .f32⟩
  | .hbm, ⟨24, _⟩ => ⟨S32x256x16x64, .f32⟩
  | .hbm, ⟨25, _⟩ => ⟨S8192x1024, .f32⟩
  | .hbm, ⟨26, _⟩ => ⟨S8192x1024, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.At.lean ====
/- A matrix read at two natural numbers (zero outside): the form in which the whole arrays of this development are stated,
   so that where a block or a reshape reads them is arithmetic on numbers. -/
module

public import Idealize.ShloMosaic.Lib.ValueIdx

@[expose] public section

noncomputable section

namespace Cert.At

open Idealize.ShloMosaic

/-- The matrix `X` at row `a` and column `b`. -/
def at2 {A B : ℕ} (X : (⟨2, ![A, B]⟩ : Shape).Idx → EReal) (a b : ℕ) : EReal :=
  if h : a < A ∧ b < B then X (ValueIdx.ix2 ⟨a, h.1⟩ ⟨b, h.2⟩) else 0

/-- Any read of a matrix is `at2` at the index's two numbers. -/
theorem at2_of {A B : ℕ} (X : (⟨2, ![A, B]⟩ : Shape).Idx → EReal) (i : (⟨2, ![A, B]⟩ : Shape).Idx) (a b : ℕ)
    (ha : (i 0).val = a) (hb : (i 1).val = b) : X i = at2 X a b := by
  subst ha; subst hb
  unfold at2
  rw [dif_pos ⟨(i 0).isLt, (i 1).isLt⟩]
  exact congrArg X (funext fun c => match c with | ⟨0, _⟩ => rfl | ⟨1, _⟩ => rfl)

theorem at2_congr {A B : ℕ} (X : (⟨2, ![A, B]⟩ : Shape).Idx → EReal) {a a' b b' : ℕ} (ha : a = a') (hb : b = b') :
    at2 X a b = at2 X a' b' := by rw [ha, hb]

/-- The vector `X` at place `a`. -/
def at1 {A : ℕ} (X : (⟨1, ![A]⟩ : Shape).Idx → EReal) (a : ℕ) : EReal :=
  if h : a < A then X (ValueIdx.ix1 ⟨a, h⟩) else 0

/-- Any read of a vector is `at1` at the index's number. -/
theorem at1_of {A : ℕ} (X : (⟨1, ![A]⟩ : Shape).Idx → EReal) (i : (⟨1, ![A]⟩ : Shape).Idx) (a : ℕ) (ha : (i 0).val = a) :
    X i = at1 X a := by
  subst ha
  unfold at1
  rw [dif_pos (show (i 0).val < A from (i 0).isLt)]
  exact congrArg X (funext fun c => match c with | ⟨0, _⟩ => rfl)

/-- The stack of matrices `X` at matrix `l`, row `a` and column `b`. -/
def at3 {L A B : ℕ} (X : (⟨3, ![L, A, B]⟩ : Shape).Idx → EReal) (l a b : ℕ) : EReal :=
  if h : l < L ∧ a < A ∧ b < B then X (ValueIdx.ix3 ⟨l, h.1⟩ ⟨a, h.2.1⟩ ⟨b, h.2.2⟩) else 0

/-- Any read of a stack of matrices is `at3` at the index's three numbers. -/
theorem at3_of {L A B : ℕ} (X : (⟨3, ![L, A, B]⟩ : Shape).Idx → EReal) (i : (⟨3, ![L, A, B]⟩ : Shape).Idx) (l a b : ℕ)
    (hl : (i 0).val = l) (ha : (i 1).val = a) (hb : (i 2).val = b) : X i = at3 X l a b := by
  subst hl; subst ha; subst hb
  unfold at3
  rw [dif_pos ⟨(i 0).isLt, (i 1).isLt, (i 2).isLt⟩]
  exact congrArg X (funext fun c => match c with | ⟨0, _⟩ => rfl | ⟨1, _⟩ => rfl | ⟨2, _⟩ => rfl)

end Cert.At

end
-- ==== Proof.AttnMath.lean ====
/- Softmax attention of one query over the extended reals, and the two spellings of it: keys taken chunk by chunk, and
   the natural exponent of scores times ln 2 in place of the power of two. -/
module

public import Idealize.ShloMosaic.PureOps.Ideal.Laws
public import Mathlib.Data.EReal.Inv

@[expose] public section

noncomputable section

namespace Cert.Attn

open Idealize.ShloMosaic
open scoped BigOperators

/-- A left fold of a family along `0 … n`. -/
def chain {α : Type} (op : α → α → α) (f : ℕ → α) : ℕ → α
  | 0 => f 0
  | n + 1 => op (chain op f n) (f (n + 1))

/-- The greatest of a finite family. -/
def peak {n : ℕ} (S : Fin n → EReal) : EReal := Finset.univ.fold max ⊥ S

/-- Attention of one query at one component: `S` its scores in base two, `v` the component over the keys. -/
def attn {n : ℕ} (S v : Fin n → EReal) : EReal :=
  Ideal.div (∑ k, v k * Ideal.exp2 (S k - peak S)) (∑ k, Ideal.exp2 (S k - peak S))

/-- Sixteen chunks of 256 keys and then 512 cached ones, as one family. -/
def join {α : Type} (a : ℕ → Fin 256 → α) (c : Fin 512 → α) (k : Fin 4608) : α :=
  if h : k.val < 4096 then a (k.val / 256) ⟨k.val % 256, Nat.mod_lt _ (by decide)⟩
  else c ⟨k.val - 4096, by have := k.isLt; omega⟩

theorem join_left {α : Type} (a : ℕ → Fin 256 → α) (c : Fin 512 → α) (k : Fin 4608) (h : k.val < 4096) :
    join a c k = a (k.val / 256) ⟨k.val % 256, Nat.mod_lt _ (by decide)⟩ := dif_pos h

theorem join_right {α : Type} (a : ℕ → Fin 256 → α) (c : Fin 512 → α) (k : Fin 4608) (h : ¬ k.val < 4096) :
    join a c k = c ⟨k.val - 4096, by have := k.isLt; omega⟩ := dif_neg h

theorem join_map {α β : Type} (f : α → β) (a : ℕ → Fin 256 → α) (c : Fin 512 → α) (k : Fin 4608) :
    f (join a c k) = join (fun n j => f (a n j)) (fun j => f (c j)) k := by
  by_cases h : k.val < 4096
  · rw [join_left _ _ _ h, join_left _ _ _ h]
  · rw [join_right _ _ _ h, join_right _ _ _ h]

theorem join_map₂ {α β γ : Type} (f : α → β → γ) (a : ℕ → Fin 256 → α) (c : Fin 512 → α) (a' : ℕ → Fin 256 → β)
    (c' : Fin 512 → β) (k : Fin 4608) :
    f (join a c k) (join a' c' k) = join (fun n j => f (a n j) (a' n j)) (fun j => f (c j) (c' j)) k := by
  by_cases h : k.val < 4096
  · rw [join_left _ _ _ h, join_left _ _ _ h, join_left _ _ _ h]
  · rw [join_right _ _ _ h, join_right _ _ _ h, join_right _ _ _ h]

theorem chain_add {M : Type} [AddCommMonoid M] (f : ℕ → M) (n : ℕ) : chain (· + ·) f n = ∑ i ∈ Finset.range (n + 1), f i := by
  induction n with
  | zero => simp [chain]
  | succ n ih => rw [Finset.sum_range_succ, ← ih]; rfl

theorem chain_max_le (f : ℕ → EReal) (n : ℕ) (c : EReal) : chain max f n ≤ c ↔ ∀ i ≤ n, f i ≤ c := by
  induction n with
  | zero => simp [chain]
  | succ n ih =>
    rw [chain, max_le_iff, ih]
    constructor
    · rintro ⟨h, h'⟩ i hi
      rcases Nat.lt_or_eq_of_le hi with hi | rfl
      · exact h i (by omega)
      · exact h'
    · exact fun h => ⟨fun i hi => h i (by omega), h _ le_rfl⟩

theorem peak_le {n : ℕ} (S : Fin n → EReal) (c : EReal) : peak S ≤ c ↔ ∀ k, S k ≤ c := by
  simp [peak, Finset.fold_max_le]

/-- The sum over all the keys, chunk by chunk. -/
theorem sum_join {M : Type} [AddCommMonoid M] (a : ℕ → Fin 256 → M) (c : Fin 512 → M) :
    ∑ k, join a c k = chain (· + ·) (fun n => ∑ j, a n j) 15 + ∑ j, c j := by
  rw [show (∑ k, join a c k) = _ from Fin.sum_univ_add (a := 4096) (b := 512) (join a c)]
  refine congrArg₂ (· + ·) ?_ (Finset.sum_congr rfl fun j _ => ?_)
  · rw [chain_add, Finset.sum_range,
      show (∑ i : Fin 4096, join a c (Fin.castAdd 512 i)) = _ from
        (Equiv.sum_comp (finProdFinEquiv (m := 16) (n := 256)) (fun i => join a c (Fin.castAdd 512 i))).symm,
      Fintype.sum_prod_type]
    refine Finset.sum_congr rfl fun n _ => Finset.sum_congr rfl fun j _ => ?_
    have hn := n.isLt
    have hj := j.isLt
    have hv : (Fin.castAdd 512 (finProdFinEquiv (m := 16) (n := 256) (n, j))).val = j.val + 256 * n.val := rfl
    rw [join_left _ _ _ (by rw [hv]; omega)]
    have h1 : (Fin.castAdd 512 (finProdFinEquiv (m := 16) (n := 256) (n, j))).val / 256 = n.val := by rw [hv]; omega
    have h2 : (Fin.castAdd 512 (finProdFinEquiv (m := 16) (n := 256) (n, j))).val % 256 = j.val := by rw [hv]; omega
    rw [h1]
    exact congrArg _ (Fin.ext h2)
  · have hv : (Fin.natAdd 4096 j).val = 4096 + j.val := rfl
    rw [join_right _ _ _ (by rw [hv]; omega)]
    exact congrArg _ (Fin.ext (by show (Fin.natAdd 4096 j).val - 4096 = _; rw [hv]; omega))

/-- The greatest over all the keys, chunk by chunk. -/
theorem peak_join (a : ℕ → Fin 256 → EReal) (c : Fin 512 → EReal) :
    peak (join a c) = max (chain max (fun n => peak (a n)) 15) (peak c) := by
  refine eq_of_forall_ge_iff fun e => ?_
  rw [max_le_iff, chain_max_le, peak_le, peak_le]
  simp only [peak_le]
  constructor
  · intro h
    constructor
    · intro i hi j
      have hj := j.isLt
      have hk : 256 * i + j.val < 4608 := by omega
      have := h ⟨256 * i + j.val, hk⟩
      rw [join_left _ _ _ (by show 256 * i + j.val < 4096; omega)] at this
      have h1 : (256 * i + j.val) / 256 = i := by omega
      have h2 : (256 * i + j.val) % 256 = j.val := by omega
      simp only [h1, h2] at this
      exact this
    · intro j
      have hj := j.isLt
      have := h ⟨4096 + j.val, by omega⟩
      rw [join_right _ _ _ (by show ¬ 4096 + j.val < 4096; omega)] at this
      have h2 : 4096 + j.val - 4096 = j.val := by omega
      simp only [h2] at this
      exact this
  · rintro ⟨h, h'⟩ k
    have hk := k.isLt
    by_cases hl : k.val < 4096
    · rw [join_left _ _ _ hl]; exact h _ (by omega) _
    · rw [join_right _ _ _ hl]; exact h' _

/-! ## The natural exponent of scores times ln 2 -/

theorem ln2_pos : (0 : EReal) < ((Real.log 2 : ℝ) : EReal) := by
  exact_mod_cast Real.log_pos (by norm_num)

theorem mul_ln2_sub (x y : EReal) :
    x * ((Real.log 2 : ℝ) : EReal) - y * ((Real.log 2 : ℝ) : EReal) = (x - y) * ((Real.log 2 : ℝ) : EReal) := by
  have hp : (0 : ℝ) < Real.log 2 := Real.log_pos (by norm_num)
  induction x <;> induction y <;>
    simp only [EReal.top_mul_coe_of_pos hp, EReal.bot_mul_coe_of_pos hp, sub_eq_add_neg, EReal.neg_bot, EReal.neg_top,
      EReal.bot_add, EReal.add_bot, EReal.top_add_top, ← EReal.coe_mul, ← EReal.coe_neg, ← EReal.coe_add,
      EReal.top_add_coe, EReal.coe_add_top]
  ring_nf

theorem exp_mul_ln2 (x : EReal) : Ideal.exp (x * ((Real.log 2 : ℝ) : EReal)) = Ideal.exp2 x := by
  have hp : (0 : ℝ) < Real.log 2 := Real.log_pos (by norm_num)
  induction x with
  | bot => rw [EReal.bot_mul_coe_of_pos hp]; rfl
  | top => rw [EReal.top_mul_coe_of_pos hp]; rfl
  | coe r =>
    rw [← EReal.coe_mul]
    show ((Real.exp (r * Real.log 2) : ℝ) : EReal) = ((Real.rpow 2 r : ℝ) : EReal)
    rw [show Real.rpow 2 r = (2 : ℝ) ^ r from rfl, Real.rpow_def_of_pos (by norm_num), mul_comm]

theorem peak_mul_ln2 {n : ℕ} (S : Fin n → EReal) :
    peak (fun k => S k * ((Real.log 2 : ℝ) : EReal)) = peak S * ((Real.log 2 : ℝ) : EReal) := by
  refine eq_of_forall_ge_iff fun c => ?_
  rw [peak_le, ← EReal.le_div_iff_mul_le ln2_pos (EReal.coe_ne_top _), peak_le]
  simp only [EReal.le_div_iff_mul_le ln2_pos (EReal.coe_ne_top _)]

/-- The weight of a key, from scores times ln 2 by the natural exponent. -/
theorem weight_eq {n : ℕ} (S : Fin n → EReal) (k : Fin n) :
    Ideal.exp (S k * ((Real.log 2 : ℝ) : EReal) - peak (fun k => S k * ((Real.log 2 : ℝ) : EReal)))
      = Ideal.exp2 (S k - peak S) := by
  rw [peak_mul_ln2, mul_ln2_sub, exp_mul_ln2]

end Cert.Attn

end
-- ==== Proof.AttnBody.lean ====
/- The attention kernel's body in its own words: one head's scores, their maximum over the key chunks, the weights
   `2^(score - maximum)`, the weights' sum and the weighted sum of the values, each a fold over the key chunks; and the
   generated block of the output window, which is the two heads' quotients side by side. -/
module

public import proofs.«01_k».proof.Proof.Gen.KernelIdeal.Frame
public import proofs.«01_k».proof.Proof.AttnMath

@[expose] public section

noncomputable section

namespace Cert.Attn

open Cert.KernelIdeal Cert.KernelIdeal.Gen Idealize.ShloMosaic Idealize.SL.Sem

variable {F : FTy → Type} [FloatOps F]

/-- One chunk's scores: keys by queries. -/
def score (k : Vec F S256x128 .bf16) (q : Vec F S128x512 .bf16) : FVec F S256x512 .f32 :=
  matmul dot_S256x128_S128x512_S256x512_1_0_0_1_n_n none k q (constant S256x512 .f32 0x00000000#32)

/-- The cached context's scores. -/
def scoreC (k : Vec F S512x128 .bf16) (q : Vec F S128x512 .bf16) : FVec F S512x512 .f32 :=
  matmul dot_S512x128_S128x512_S512x512_1_0_0_1_n_n none k q (constant S512x512 .f32 0x00000000#32)

/-- The largest score of a chunk, query by query. -/
def top (s : FVec F S256x512 .f32) : FVec F S1x512 .f32 :=
  shapeCast S1x512 (multiReduction .maximumf [0] S512 s 0xFF800000#32 reduces_S256x512_S512 (.inl rfl) rfl) shapeCasts_S512_S1x512

def topC (s : FVec F S512x512 .f32) : FVec F S1x512 .f32 :=
  shapeCast S1x512 (multiReduction .maximumf [0] S512 s 0xFF800000#32 reduces_S512x512_S512 (.inl rfl) rfl) shapeCasts_S512_S1x512

/-- The chunk's weights below a maximum. -/
def wt (s : FVec F S256x512 .f32) (mx : FVec F S1x512 .f32) : FVec F S256x512 .f32 :=
  exp2 (subf s (broadcastTo S256x512 mx broadcasts_S1x512_S256x512))

def wtC (s : FVec F S512x512 .f32) (mx : FVec F S1x512 .f32) : FVec F S512x512 .f32 :=
  exp2 (subf s (broadcastTo S512x512 mx broadcasts_S1x512_S512x512))

/-- The sum of a chunk's weights. -/
def tot (p : FVec F S256x512 .f32) : FVec F S1x512 .f32 :=
  shapeCast S1x512 (multiReduction .add [0] S512 p 0x00000000#32 reduces_S256x512_S512 (.inl rfl) rfl) shapeCasts_S512_S1x512

def totC (p : FVec F S512x512 .f32) : FVec F S1x512 .f32 :=
  shapeCast S1x512 (multiReduction .add [0] S512 p 0x00000000#32 reduces_S512x512_S512 (.inl rfl) rfl) shapeCasts_S512_S1x512

/-- A chunk's values weighed. -/
def val (v : Vec F S64x256 .bf16) (p : FVec F S256x512 .f32) : FVec F S64x512 .f32 :=
  matmul dot_S64x256_S256x512_S64x512_1_0_0_1_n_n none v (truncf .bf16 p bitsLt_bf16_f32) (constant S64x512 .f32 0x00000000#32)

def valC (v : Vec F S64x512 .bf16) (p : FVec F S512x512 .f32) : FVec F S64x512 .f32 :=
  matmul dot_S64x512_S512x512_S64x512_1_0_0_1_n_n none v (truncf .bf16 p bitsLt_bf16_f32) (constant S64x512 .f32 0x00000000#32)

section Head

variable (q : Vec F S128x512 .bf16) (ks : ℕ → Vec F S256x128 .bf16) (kc : Vec F S512x128 .bf16)
  (vs : ℕ → Vec F S64x256 .bf16) (vc : Vec F S64x512 .bf16)

/-- The largest score over all the keys. -/
def mx : FVec F S1x512 .f32 :=
  maximumf (chain maximumf (fun n => top (score (ks n) q)) 15) (topC (scoreC kc q))

/-- The sum of the weights. -/
def den (M : FVec F S1x512 .f32) : FVec F S1x512 .f32 :=
  addf (chain addf (fun n => tot (wt (score (ks n) q) M)) 15) (totC (wtC (scoreC kc q) M))

/-- The values weighed and summed. -/
def num (M : FVec F S1x512 .f32) : FVec F S64x512 .f32 :=
  addf (chain addf (fun n => val (vs n) (wt (score (ks n) q) M)) 15) (valC vc (wtC (scoreC kc q) M))

/-- One head's result, the head's components by queries. -/
def head : FVec F S64x512 .f32 :=
  divf (num q ks kc vs vc (mx q ks kc)) (broadcastTo S64x512 (den q ks kc (mx q ks kc)) broadcasts_S1x512_S64x512)

end Head

theorem inbK (h : Fin 2) (n : ℕ) : ∀ a : Fin 2, (![256 * (n % 16), 128 * h.val] : Fin 2 → ℕ) a + S256x128.size a ≤ S4096x256.size a := by
  have := h.isLt
  have := Nat.mod_lt n (by decide : 0 < 16)
  intro a; fin_cases a
  · show 256 * (n % 16) + 256 ≤ 4096; omega
  · show 128 * h.val + 128 ≤ 256; omega

theorem inbV (h : Fin 2) (n : ℕ) : ∀ a : Fin 2, (![64 * h.val, 256 * (n % 16)] : Fin 2 → ℕ) a + S64x256.size a ≤ S128x4096.size a := by
  have := h.isLt
  have := Nat.mod_lt n (by decide : 0 < 16)
  intro a; fin_cases a
  · show 64 * h.val + 64 ≤ 128; omega
  · show 256 * (n % 16) + 256 ≤ 4096; omega

theorem inbQ (h : Fin 2) : ∀ a : Fin 2, (![128 * h.val, 0] : Fin 2 → ℕ) a + S128x512.size a ≤ S256x512.size a := by
  have := h.isLt
  intro a; fin_cases a
  · show 128 * h.val + 128 ≤ 256; omega
  · show 0 + 512 ≤ 512; omega

theorem inbKC (h : Fin 2) : ∀ a : Fin 2, (![0, 128 * h.val] : Fin 2 → ℕ) a + S512x128.size a ≤ S512x256.size a := by
  have := h.isLt
  intro a; fin_cases a
  · show 0 + 512 ≤ 512; omega
  · show 128 * h.val + 128 ≤ 256; omega

theorem inbVC (h : Fin 2) : ∀ a : Fin 2, (![64 * h.val, 0] : Fin 2 → ℕ) a + S64x512.size a ≤ S128x512.size a := by
  have := h.isLt
  intro a; fin_cases a
  · show 64 * h.val + 64 ≤ 128; omega
  · show 0 + 512 ≤ 512; omega

section Blocks

variable (x0 : Vec F S256x512 .bf16) (x1 : Vec F S4096x256 .bf16) (x2 : Vec F S128x4096 .bf16) (x3 : Vec F S512x256 .bf16)
  (x4 : Vec F S128x512 .bf16)

/-- Head `h` of the blocks: its queries, keys, values and cached keys and values read from the windows. -/
def headOf (h : Fin 2) : FVec F S64x512 .f32 :=
  head (View.ld x0 (Rect.unit (s := S256x512) ![128 * h.val, 0] S128x512.size (inbQ h)))
    (fun n => View.ld x1 (Rect.unit (s := S4096x256) ![256 * (n % 16), 128 * h.val] S256x128.size (inbK h n)))
    (View.ld x3 (Rect.unit (s := S512x256) ![0, 128 * h.val] S512x128.size (inbKC h)))
    (fun n => View.ld x2 (Rect.unit (s := S128x4096) ![64 * h.val, 256 * (n % 16)] S64x256.size (inbV h n)))
    (View.ld x4 (Rect.unit (s := S128x512) ![64 * h.val, 0] S64x512.size (inbVC h)))

/-- What the body stores: the two heads' components side by side, queries by components. -/
def body : FVec F S512x128 .bf16 :=
  truncf .bf16 (transpose S512x128 [1, 0] (concatenate S128x512 0
    [⟨S64x512, headOf x0 x1 x2 x3 x4 0⟩, ⟨S64x512, headOf x0 x1 x2 x3 x4 1⟩] concatenates_S64x512_S64x512_S128x512_d0)
    transposes_S128x512_p1_0_S512x128) bitsLt_bf16_f32

set_option maxHeartbeats 4000000 in
theorem out_eq : out0_5 x0 x1 x2 x3 x4 = View.canon [⟨r0_70, body x0 x1 x2 x3 x4⟩] := by
  rfl

end Blocks

end Cert.Attn

end
-- ==== Proof.Ops.lean ====
/- Operations of a kernel's body read at an index over the extended reals: a product onto zero, a row's sum laid out as a
   column, a column spread over a matrix. -/
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pipeline.ValueKit

@[expose] public section

noncomputable section

namespace Cert.Ops

open Idealize.SL.Sem Idealize.ShloMosaic.ValueIdx
open Idealize.ShloMosaic hiding ix0 ix1 ix2 ix3 ix4 ix5
open scoped BigOperators

/-- A product onto a zero accumulator, at an index. -/
theorem mm_apply {M K N : ℕ} {φ₁ φ₂ : FTy} (lhs : FVec Ideal ⟨2, ![M, K]⟩ φ₁) (rhs : FVec Ideal ⟨2, ![K, N]⟩ φ₂) (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_plain_apply, constant_apply, Ideal.ofBits_zero_f32, zero_add]

/-- A row's sum, laid out as one column. -/
theorem rowsum_apply {M N : ℕ} (s : FVec Ideal ⟨2, ![M, N]⟩ .f32) (h : Shape.Reduces ⟨2, ![M, N]⟩ [1] ⟨1, ![M]⟩)
    (h₁ : (⟨1, ![M]⟩ : Shape).ShapeCasts ⟨2, ![M, 1]⟩) (hφ : FKind.Formats .f32) (hacc : (0x00000000#32 : BitVec 32) = FKind.add.neutral .f32 hφ)
    (i : Fin M) :
    shapeCast ⟨2, ![M, 1]⟩ (multiReduction .add [1] ⟨1, ![M]⟩ s 0x00000000#32 h hφ hacc) h₁ (ix2 i (0 : Fin 1))
      = ∑ j : Fin N, s (ix2 i j) := by
  rw [shapeCast_a_a1_apply, Ideal.multiReduction_add_single]
  refine Finset.sum_congr rfl fun j _ => congrArg s ?_
  funext a
  match a with
  | ⟨0, _⟩ => rfl
  | ⟨1, _⟩ => rfl

/-- A column spread over a matrix reads, in row `i`, the column at `i`. -/
theorem spread_apply {a b : ℕ} {α : Type} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h _ _ fun c => match c with
    | ⟨0, _⟩ => by
      have := i.isLt
      show i.val = if a = 1 then 0 else i.val
      split <;> omega
    | ⟨1, _⟩ => rfl

/-- A shape cast to the same shape reads the operand. -/
theorem cast_self_apply {s : Shape} {α : Type} (x : s.Idx → α) (h : s.ShapeCasts s) (i : s.Idx) : shapeCast s x h i = x i :=
  shapeCast_apply x h i i rfl

/-- A modulation row loaded at row `r` from column `o`. -/
theorem modRow_apply (x : (⟨2, ![8, 6144]⟩ : Shape).Idx → EReal) (md : ℕ → ℕ → EReal) (hx : ∀ i, x i = md (i 0).val (i 1).val)
    (off : Fin 2 → ℕ) (inb : ∀ a, off a + (![1, 1024] : Fin 2 → ℕ) a ≤ (⟨2, ![8, 6144]⟩ : Shape).size a) (r o : ℕ) (h0 : off 0 = r) (h1 : off 1 = o) (k : Fin 1024) :
    View.ld (Val := Elt Ideal) (e' := .f32) x (Rect.unit (s := ⟨2, ![8, 6144]⟩) off ![1, 1024] inb) (ix2 (0 : Fin 1) k) = md r (o + k.val) :=
  (hx _).trans (congrArg₂ md (by show off 0 + 1 * 0 = _; omega) (by show off 1 + 1 * k.val = _; omega))

/-- A whole row of 1024 loaded and cast to its own shape. -/
theorem wholeRow_apply (x : (⟨2, ![1, 1024]⟩ : Shape).Idx → EReal) (g : ℕ → EReal) (hx : ∀ k : Fin 1024, x (ix2 (0 : Fin 1) k) = g k)
    (inb : ∀ a, (![0, 0] : Fin 2 → ℕ) a + (![1, 1024] : Fin 2 → ℕ) a ≤ (⟨2, ![1, 1024]⟩ : Shape).size a)
    (h : (⟨2, ![1, 1024]⟩ : Shape).ShapeCasts ⟨2, ![1, 1024]⟩) (k : Fin 1024) :
    shapeCast ⟨2, ![1, 1024]⟩ (View.ld (Val := Elt Ideal) (e' := .f32) x (Rect.unit (s := ⟨2, ![1, 1024]⟩) ![0, 0] ![1, 1024] inb)) h (ix2 (0 : Fin 1) k) = g k := by
  refine (cast_self_apply _ _ _).trans (Eq.trans (congrArg x (funext fun a => Fin.ext ?_)) (hx k))
  match a with
  | ⟨0, _⟩ => rfl
  | ⟨1, _⟩ => show 0 + 1 * k.val = k.val; omega

end Cert.Ops

end
-- ==== Proof.AttnHead.lean ====
/- One head of the attention kernel's body read at an index, over the extended reals: it is the softmax attention of the
   query over the keys of the sixteen chunks and of the cached context. -/
module

public import proofs.«01_k».proof.Proof.AttnBody
public import proofs.«01_k».proof.Proof.Ops
public import Idealize.ShloMosaic.Lib.MatmulPlain
public import Idealize.ShloMosaic.Lib.ValueIdx
public import Idealize.ShloMosaic.Lib.ValueLayout
public import Idealize.ShloMosaic.Lib.Pipeline.Value
public import Idealize.ShloMosaic.Lib.Pipeline.ValueKit

@[expose] public section

noncomputable section

namespace Cert.Attn

open Cert.Ops Cert.KernelIdeal Cert.KernelIdeal.Gen Idealize.SL.Sem Idealize.ShloMosaic.ValueIdx
open Idealize.ShloMosaic hiding ix0 ix1 ix2 ix3 ix4 ix5
open scoped BigOperators

theorem negInf_f32 : Ideal.ofBits .f32 0xFF800000#32 = ⊥ := by simp [Ideal.ofBits, Ideal.ieee]

/-- A column's greatest, laid out as one row. -/
theorem colmax_apply {M N : ℕ} (s : FVec Ideal ⟨2, ![M, N]⟩ .f32) (h : Shape.Reduces ⟨2, ![M, N]⟩ [0] ⟨1, ![N]⟩)
    (h₁ : (⟨1, ![N]⟩ : Shape).ShapeCasts ⟨2, ![1, N]⟩) (hφ : FKind.Formats .f32) (hacc : (0xFF800000#32 : BitVec 32) = FKind.maximumf.neutral .f32 hφ)
    (i : Fin N) :
    shapeCast ⟨2, ![1, N]⟩ (multiReduction .maximumf [0] ⟨1, ![N]⟩ s 0xFF800000#32 h hφ hacc) h₁ (ix2 (0 : Fin 1) i)
      = peak fun j : Fin M => s (ix2 j i) := by
  rw [shapeCast_a_1a_apply, Ideal.multiReduction_maximumf_single]
  show Finset.univ.fold max (Ideal.ofBits .f32 0xFF800000#32) _ = Finset.univ.fold max ⊥ _
  rw [negInf_f32]
  refine congrArg (Finset.univ.fold max ⊥ ·) (funext fun j => congrArg s ?_)
  funext a
  match a with
  | ⟨0, _⟩ => rfl
  | ⟨1, _⟩ => rfl

/-- A column's sum, laid out as one row. -/
theorem colsum_apply {M N : ℕ} (s : FVec Ideal ⟨2, ![M, N]⟩ .f32) (h : Shape.Reduces ⟨2, ![M, N]⟩ [0] ⟨1, ![N]⟩)
    (h₁ : (⟨1, ![N]⟩ : Shape).ShapeCasts ⟨2, ![1, N]⟩) (hφ : FKind.Formats .f32) (hacc : (0x00000000#32 : BitVec 32) = FKind.add.neutral .f32 hφ)
    (i : Fin N) :
    shapeCast ⟨2, ![1, N]⟩ (multiReduction .add [0] ⟨1, ![N]⟩ s 0x00000000#32 h hφ hacc) h₁ (ix2 (0 : Fin 1) i)
      = ∑ j : Fin M, s (ix2 j i) := by
  rw [shapeCast_a_1a_apply, Ideal.multiReduction_add_single]
  refine Finset.sum_congr rfl fun j _ => congrArg s ?_
  funext a
  match a with
  | ⟨0, _⟩ => rfl
  | ⟨1, _⟩ => rfl

/-- A weight below the column's maximum. -/
theorem weight_apply {M N : ℕ} (s : FVec Ideal ⟨2, ![M, N]⟩ .f32) (mx : FVec Ideal ⟨2, ![1, N]⟩ .f32)
    (h : (⟨2, ![1, N]⟩ : Shape).Broadcasts ⟨2, ![M, N]⟩) (j : Fin M) (i : Fin N) :
    exp2 (subf s (broadcastTo ⟨2, ![M, N]⟩ mx h)) (ix2 j i) = Ideal.exp2 (s (ix2 j i) - mx (ix2 (0 : Fin 1) i)) := by
  show Ideal.exp2 (s (ix2 j i) - broadcastTo ⟨2, ![M, N]⟩ mx h (ix2 j i)) = _
  rw [broadcastTo_1b_ab_apply]

theorem chain_apply {s : Shape} {α : Type} (op : α → α → α) (f : ℕ → s.Idx → α) (i : s.Idx) (n : ℕ) :
    chain (fun a b j => op (a j) (b j)) f n i = chain op (fun n => f n i) n := by
  induction n with
  | zero => rfl
  | succ n ih => simp only [chain, ih]

section Head

variable (q : Vec Ideal S128x512 .bf16) (ks : ℕ → Vec Ideal S256x128 .bf16) (kc : Vec Ideal S512x128 .bf16)
  (vs : ℕ → Vec Ideal S64x256 .bf16) (vc : Vec Ideal S64x512 .bf16)

/-- The query's scores over all the keys. -/
def scores (i : Fin 512) : Fin 4608 → EReal :=
  join (fun n j => ∑ c : Fin 128, ks n (ix2 j c) * q (ix2 c i)) (fun j => ∑ c : Fin 128, kc (ix2 j c) * q (ix2 c i))

/-- One component of the values over all the keys. -/
def values (d : Fin 64) : Fin 4608 → EReal := join (fun n j => vs n (ix2 d j)) (fun j => vc (ix2 d j))

theorem score_apply (k : Vec Ideal S256x128 .bf16) (j : Fin 256) (i : Fin 512) :
    score k q (ix2 j i) = ∑ c : Fin 128, k (ix2 j c) * q (ix2 c i) := mm_apply k q j i

theorem scoreC_apply (j : Fin 512) (i : Fin 512) :
    scoreC kc q (ix2 j i) = ∑ c : Fin 128, kc (ix2 j c) * q (ix2 c i) := mm_apply kc q j i

theorem mx_apply (i : Fin 512) : mx q ks kc (ix2 (0 : Fin 1) i) = peak (scores q ks kc i) := by
  rw [scores, peak_join]
  show max (chain (fun a b j => max (a j) (b j)) (fun n => top (score (ks n) q)) 15 _) (topC (scoreC kc q) _) = _
  rw [chain_apply]
  refine congrArg₂ max (congrArg (chain max · 15) (funext fun n => ?_)) ?_
  · exact (colmax_apply _ _ _ _ _ i).trans (congrArg peak (funext fun j => score_apply q (ks n) j i))
  · exact (colmax_apply _ _ _ _ _ i).trans (congrArg peak (funext fun j => scoreC_apply q kc j i))

theorem wt_apply (M : FVec Ideal S1x512 .f32) (k : Vec Ideal S256x128 .bf16) (j : Fin 256) (i : Fin 512) :
    wt (score k q) M (ix2 j i) = Ideal.exp2 ((∑ c : Fin 128, k (ix2 j c) * q (ix2 c i)) - M (ix2 (0 : Fin 1) i)) :=
  (weight_apply _ _ _ j i).trans (by rw [score_apply])

theorem wtC_apply (M : FVec Ideal S1x512 .f32) (j : Fin 512) (i : Fin 512) :
    wtC (scoreC kc q) M (ix2 j i) = Ideal.exp2 ((∑ c : Fin 128, kc (ix2 j c) * q (ix2 c i)) - M (ix2 (0 : Fin 1) i)) :=
  (weight_apply _ _ _ j i).trans (by rw [scoreC_apply])

theorem den_apply (M : FVec Ideal S1x512 .f32) (i : Fin 512) :
    den q ks kc M (ix2 (0 : Fin 1) i) = ∑ k, Ideal.exp2 (scores q ks kc i k - M (ix2 (0 : Fin 1) i)) := by
  simp only [scores, join_map (fun x => Ideal.exp2 (x - M (ix2 (0 : Fin 1) i)))]
  rw [sum_join]
  show chain (fun a b j => a j + b j) (fun n => tot (wt (score (ks n) q) M)) 15 _ + totC (wtC (scoreC kc q) M) _ = _
  rw [chain_apply]
  refine congrArg₂ (· + ·) (congrArg (chain (· + ·) · 15) (funext fun n => ?_)) ?_
  · exact (colsum_apply _ _ _ _ _ i).trans (Finset.sum_congr rfl fun j _ => wt_apply q M (ks n) j i)
  · exact (colsum_apply _ _ _ _ _ i).trans (Finset.sum_congr rfl fun j _ => wtC_apply q kc M j i)

theorem num_apply (M : FVec Ideal S1x512 .f32) (d : Fin 64) (i : Fin 512) :
    num q ks kc vs vc M (ix2 d i)
      = ∑ k, values vs vc d k * Ideal.exp2 (scores q ks kc i k - M (ix2 (0 : Fin 1) i)) := by
  simp only [scores, values, join_map₂ (fun x y => x * Ideal.exp2 (y - M (ix2 (0 : Fin 1) i)))]
  rw [sum_join]
  show chain (fun a b j => a j + b j) (fun n => val (vs n) (wt (score (ks n) q) M)) 15 _ + valC vc (wtC (scoreC kc q) M) _ = _
  rw [chain_apply]
  refine congrArg₂ (· + ·) (congrArg (chain (· + ·) · 15) (funext fun n => ?_)) ?_
  · refine (mm_apply (vs n) _ d i).trans (Finset.sum_congr rfl fun j _ => ?_)
    rw [ValueIdx.truncf_apply, wt_apply]
  · refine (mm_apply vc _ d i).trans (Finset.sum_congr rfl fun j _ => ?_)
    rw [ValueIdx.truncf_apply, wtC_apply]

/-- One head at a component and a query is the softmax attention of the query. -/
theorem head_apply (d : Fin 64) (i : Fin 512) :
    head q ks kc vs vc (ix2 d i) = attn (scores q ks kc i) (values vs vc d) := by
  show Ideal.div (num q ks kc vs vc (mx q ks kc) (ix2 d i))
    (broadcastTo S64x512 (den q ks kc (mx q ks kc)) broadcasts_S1x512_S64x512 (ix2 d i)) = _
  rw [show broadcastTo S64x512 (den q ks kc (mx q ks kc)) broadcasts_S1x512_S64x512 (ix2 d i) = _ from
    broadcastTo_1b_ab_apply _ _ d i, num_apply, den_apply, mx_apply]
  rfl

end Head

end Cert.Attn

end
-- ==== Proof.AttnArray.lean ====
/- The whole array the attention kernel leaves: every point writes its block of one function of the five arguments, and the
   points' blocks cover the result. -/
module

public import proofs.«01_k».proof.Proof.At
public import proofs.«01_k».proof.Proof.AttnHead
public import proofs.«01_k».proof.Proof.Gen.KernelIdeal.Value

@[expose] public section

noncomputable section

namespace Cert.Attn

open Cert.At Cert.KernelIdeal Cert.KernelIdeal.Gen Cert.KernelIdeal.Value Idealize.SL.Sem Idealize.ShloMosaic.ValueIdx
open Idealize.ShloMosaic hiding ix0 ix1 ix2 ix3 ix4 ix5
open Idealize.ShloMosaic.TcCoe
open scoped BigOperators

section Whole

variable (Q : Vec Ideal S2048x16384 .bf16) (K : Vec Ideal S16384x2048 .bf16) (V : Vec Ideal S1024x16384 .bf16)
  (KC : Vec Ideal S2048x2048 .bf16) (VC : Vec Ideal S1024x2048 .bf16)

/-- Channel `c` of the key of head `h` at place `k` of batch `b`: the new tokens' keys, then the cached ones. -/
def keyAt (b h k c : ℕ) : EReal :=
  if k < 4096 then at2 K (b * 4096 + k) (h * 128 + c) else at2 KC (b * 512 + (k - 4096)) (h * 128 + c)

/-- Component `d` of the value of head `h` at place `k` of batch `b`. -/
def valAt (b h d k : ℕ) : EReal :=
  if k < 4096 then at2 V (h * 64 + d) (b * 4096 + k) else at2 VC (h * 64 + d) (b * 512 + (k - 4096))

/-- The score of query row `r` against key `k`, for head `h`. -/
def scoreAt (r h : ℕ) (k : Fin 4608) : EReal :=
  ∑ c : Fin 128, keyAt K KC (r / 4096) h k c * at2 Q (h * 128 + c) r

/-- The attention's whole result: row `r` is a query, column `col` is component `col % 64` of head `col / 64`. -/
def G (i : S16384x1024.Idx) : EReal :=
  attn (scoreAt Q K KC (i 0).val ((i 1).val / 64))
    (fun k => valAt V VC ((i 0).val / 4096) ((i 1).val / 64) ((i 1).val % 64) k.val)

end Whole

/-! ## The body's block at an index -/

theorem body_apply (x0 : Vec Ideal S256x512 .bf16) (x1 : Vec Ideal S4096x256 .bf16) (x2 : Vec Ideal S128x4096 .bf16)
    (x3 : Vec Ideal S512x256 .bf16) (x4 : Vec Ideal S128x512 .bf16) (h : Fin 2) (i : Fin 512) (d : Fin 64) (e : Fin 128)
    (he : e.val = h.val * 64 + d.val) :
    body x0 x1 x2 x3 x4 (ix2 i e) = headOf x0 x1 x2 x3 x4 h (ix2 d i) := by
  unfold body
  rw [ValueIdx.truncf_apply]
  refine (transpose_ix2_apply _ _ i e).trans ?_
  match h, he with
  | ⟨0, _⟩, he =>
    refine concatenate_pair_apply_left (t := S128x512) (s₁ := S64x512) (s₂ := S64x512) (0 : Fin 2) _ _ _ (ix2 e i) rfl (ix2 d i) (fun b => ?_)
    match b with
    | ⟨0, _⟩ => have he : e.val = 0 * 64 + d.val := he; show d.val = e.val; omega
    | ⟨1, _⟩ => rfl
  | ⟨1, _⟩, he =>
    refine concatenate_pair_apply_right (t := S128x512) (s₁ := S64x512) (s₂ := S64x512) (0 : Fin 2) _ _ _ (ix2 e i) rfl rfl (ix2 d i) (fun b hb => ?_) ?_
    · match b with
      | ⟨0, _⟩ => exact absurd rfl hb
      | ⟨1, _⟩ => rfl
    · have he : e.val = 1 * 64 + d.val := he
      show d.val + 64 = e.val; omega

/-! ## Where each window's block lies -/

variable (m : (ℓ : Loc nD τ sig) → Buf (Elt Ideal) ℓ) (ρ : Dev nD → PrngReg)

theorem idx0 : ∀ t : Fin cfg0.N, win0_0.index t (0 : Fin 2) = t.val / 8 % 8 ∧ win0_0.index t (1 : Fin 2) = t.val / 64 * 8 + t.val % 8 :=
  (by decide +kernel : ∀ t : Fin grid0.N, _)
theorem idx1 : ∀ t : Fin cfg0.N, win0_1.index t (0 : Fin 2) = t.val / 64 ∧ win0_1.index t (1 : Fin 2) = t.val / 8 % 8 :=
  (by decide +kernel : ∀ t : Fin grid0.N, _)
theorem idx2 : ∀ t : Fin cfg0.N, win0_2.index t (0 : Fin 2) = t.val / 8 % 8 ∧ win0_2.index t (1 : Fin 2) = t.val / 64 :=
  (by decide +kernel : ∀ t : Fin grid0.N, _)
theorem idx3 : ∀ t : Fin cfg0.N, win0_3.index t (0 : Fin 2) = t.val / 64 ∧ win0_3.index t (1 : Fin 2) = t.val / 8 % 8 :=
  (by decide +kernel : ∀ t : Fin grid0.N, _)
theorem idx4 : ∀ t : Fin cfg0.N, win0_4.index t (0 : Fin 2) = t.val / 8 % 8 ∧ win0_4.index t (1 : Fin 2) = t.val / 64 :=
  (by decide +kernel : ∀ t : Fin grid0.N, _)
theorem idx5 : ∀ t : Fin cfg0.N, win0_5.index t (0 : Fin 2) = t.val / 64 * 8 + t.val % 8 ∧ win0_5.index t (1 : Fin 2) = t.val / 8 % 8 :=
  (by decide +kernel : ∀ t : Fin grid0.N, _)

theorem blk0 (c : Dev nD) (t : Fin cfg0.N) (x : S256x512.Idx) : (iblk m c 0 t : S256x512.Idx → EReal) x
    = at2 (m ((c : Thread nD τ).loc main_arg0) : Vec Ideal S2048x16384 .bf16) (t.val / 8 % 8 * 256 + (x 0).val) ((t.val / 64 * 8 + t.val % 8) * 512 + (x 1).val) := by
  obtain ⟨e0, e1⟩ := idx0 t
  refine at2_of (m ((c : Thread nD τ).loc main_arg0) : Vec Ideal S2048x16384 .bf16) (((cfg0.win 0).blk t).view.emb x) _ _ ?_ ?_
  · show win0_0.index t (0 : Fin 2) * 256 + 1 * (x 0).val = _; rw [e0]; omega
  · show win0_0.index t (1 : Fin 2) * 512 + 1 * (x 1).val = _; rw [e1]; omega

theorem blk1 (c : Dev nD) (t : Fin cfg0.N) (x : S4096x256.Idx) : (iblk m c 1 t : S4096x256.Idx → EReal) x
    = at2 (m ((c : Thread nD τ).loc main_arg1) : Vec Ideal S16384x2048 .bf16) (t.val / 64 * 4096 + (x 0).val) (t.val / 8 % 8 * 256 + (x 1).val) := by
  obtain ⟨e0, e1⟩ := idx1 t
  refine at2_of (m ((c : Thread nD τ).loc main_arg1) : Vec Ideal S16384x2048 .bf16) (((cfg0.win 1).blk t).view.emb x) _ _ ?_ ?_
  · show win0_1.index t (0 : Fin 2) * 4096 + 1 * (x 0).val = _; rw [e0]; omega
  · show win0_1.index t (1 : Fin 2) * 256 + 1 * (x 1).val = _; rw [e1]; omega

theorem blk2 (c : Dev nD) (t : Fin cfg0.N) (x : S128x4096.Idx) : (iblk m c 2 t : S128x4096.Idx → EReal) x
    = at2 (m ((c : Thread nD τ).loc main_arg2) : Vec Ideal S1024x16384 .bf16) (t.val / 8 % 8 * 128 + (x 0).val) (t.val / 64 * 4096 + (x 1).val) := by
  obtain ⟨e0, e1⟩ := idx2 t
  refine at2_of (m ((c : Thread nD τ).loc main_arg2) : Vec Ideal S1024x16384 .bf16) (((cfg0.win 2).blk t).view.emb x) _ _ ?_ ?_
  · show win0_2.index t (0 : Fin 2) * 128 + 1 * (x 0).val = _; rw [e0]; omega
  · show win0_2.index t (1 : Fin 2) * 4096 + 1 * (x 1).val = _; rw [e1]; omega

theorem blk3 (c : Dev nD) (t : Fin cfg0.N) (x : S512x256.Idx) : (iblk m c 3 t : S512x256.Idx → EReal) x
    = at2 (m ((c : Thread nD τ).loc main_arg3) : Vec Ideal S2048x2048 .bf16) (t.val / 64 * 512 + (x 0).val) (t.val / 8 % 8 * 256 + (x 1).val) := by
  obtain ⟨e0, e1⟩ := idx3 t
  refine at2_of (m ((c : Thread nD τ).loc main_arg3) : Vec Ideal S2048x2048 .bf16) (((cfg0.win 3).blk t).view.emb x) _ _ ?_ ?_
  · show win0_3.index t (0 : Fin 2) * 512 + 1 * (x 0).val = _; rw [e0]; omega
  · show win0_3.index t (1 : Fin 2) * 256 + 1 * (x 1).val = _; rw [e1]; omega

theorem blk4 (c : Dev nD) (t : Fin cfg0.N) (x : S128x512.Idx) : (iblk m c 4 t : S128x512.Idx → EReal) x
    = at2 (m ((c : Thread nD τ).loc main_arg4) : Vec Ideal S1024x2048 .bf16) (t.val / 8 % 8 * 128 + (x 0).val) (t.val / 64 * 512 + (x 1).val) := by
  obtain ⟨e0, e1⟩ := idx4 t
  refine at2_of (m ((c : Thread nD τ).loc main_arg4) : Vec Ideal S1024x2048 .bf16) (((cfg0.win 4).blk t).view.emb x) _ _ ?_ ?_
  · show win0_4.index t (0 : Fin 2) * 128 + 1 * (x 0).val = _; rw [e0]; omega
  · show win0_4.index t (1 : Fin 2) * 512 + 1 * (x 1).val = _; rw [e1]; omega

theorem emb5_val (t : Fin cfg0.N) (y : S512x128.Idx) :
    (((cfg0.win 5).blk t).view.emb y (0 : Fin 2)).val = (t.val / 64 * 8 + t.val % 8) * 512 + (y 0).val
      ∧ (((cfg0.win 5).blk t).view.emb y (1 : Fin 2)).val = t.val / 8 % 8 * 128 + (y 1).val := by
  obtain ⟨e0, e1⟩ := idx5 t
  constructor
  · show win0_5.index t (0 : Fin 2) * 512 + 1 * (y 0).val = _; rw [e0]; omega
  · show win0_5.index t (1 : Fin 2) * 128 + 1 * (y 1).val = _; rw [e1]; omega

/-! ## One point's block is its block of `G` -/

/-- `G` of the argument arrays as launched. -/
abbrev whole (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

theorem head_eq (c : Dev nD) (t : Fin cfg0.N) (h : Fin 2) (i : Fin 512) (d : Fin 64) (r hd : ℕ)
    (hr : r = (t.val / 64 * 8 + t.val % 8) * 512 + i.val) (hhd : hd = t.val / 8 % 8 * 2 + h.val) :
    headOf (iblk m c 0 t : Vec Ideal S256x512 .bf16) (iblk m c 1 t : Vec Ideal S4096x256 .bf16) (iblk m c 2 t : Vec Ideal S128x4096 .bf16) (iblk m c 3 t : Vec Ideal S512x256 .bf16) (iblk m c 4 t : Vec Ideal S128x512 .bf16) h (ix2 d i)
      = attn (scoreAt (m ((c : Thread nD τ).loc main_arg0)) (m ((c : Thread nD τ).loc main_arg1)) (m ((c : Thread nD τ).loc main_arg3)) r hd)
          (fun k => valAt (m ((c : Thread nD τ).loc main_arg2)) (m ((c : Thread nD τ).loc main_arg4)) (r / 4096) hd d.val k.val) := by
  have ht : t.val < 256 := t.isLt
  have hi := i.isLt
  have hrb : r / 4096 = t.val / 64 := by omega
  unfold headOf
  rw [head_apply]
  refine congrArg₂ attn (funext fun k => ?_) (funext fun k => ?_)
  · have hk := k.isLt
    unfold scores scoreAt keyAt
    rw [hrb]
    by_cases hlt : k.val < 4096
    · rw [join_left _ _ _ hlt]
      refine Finset.sum_congr rfl fun x _ => ?_
      rw [if_pos hlt]
      refine congrArg₂ (· * ·) ((blk1 m c t _).trans (at2_congr _ ?_ ?_)) ((blk0 m c t _).trans (at2_congr _ ?_ ?_))
      · show t.val / 64 * 4096 + (256 * (k.val / 256 % 16) + 1 * (k.val % 256)) = _; omega
      · show t.val / 8 % 8 * 256 + (128 * h.val + 1 * x.val) = _; omega
      · show t.val / 8 % 8 * 256 + (128 * h.val + 1 * x.val) = _; omega
      · show (t.val / 64 * 8 + t.val % 8) * 512 + (0 + 1 * i.val) = _; omega
    · rw [join_right _ _ _ hlt]
      refine Finset.sum_congr rfl fun x _ => ?_
      rw [if_neg hlt]
      refine congrArg₂ (· * ·) ((blk3 m c t _).trans (at2_congr _ ?_ ?_)) ((blk0 m c t _).trans (at2_congr _ ?_ ?_))
      · show t.val / 64 * 512 + (0 + 1 * (k.val - 4096)) = _; omega
      · show t.val / 8 % 8 * 256 + (128 * h.val + 1 * x.val) = _; omega
      · show t.val / 8 % 8 * 256 + (128 * h.val + 1 * x.val) = _; omega
      · show (t.val / 64 * 8 + t.val % 8) * 512 + (0 + 1 * i.val) = _; omega
  · have hk := k.isLt
    unfold values valAt
    rw [hrb]
    by_cases hlt : k.val < 4096
    · rw [join_left _ _ _ hlt, if_pos hlt]
      refine (blk2 m c t _).trans (at2_congr _ ?_ ?_)
      · show t.val / 8 % 8 * 128 + (64 * h.val + 1 * d.val) = _; omega
      · show t.val / 64 * 4096 + (256 * (k.val / 256 % 16) + 1 * (k.val % 256)) = _; omega
    · rw [join_right _ _ _ hlt, if_neg hlt]
      refine (blk4 m c t _).trans (at2_congr _ ?_ ?_)
      · show t.val / 8 % 8 * 128 + (64 * h.val + 1 * d.val) = _; omega
      · show t.val / 64 * 512 + (0 + 1 * (k.val - 4096)) = _; omega

theorem hz : (![0, 0] : Fin 2 → ℕ) = fun _ => 0 := funext fun a => by fin_cases a <;> rfl

theorem flushed_eq (c : Dev nD) (t : Fin cfg0.N) :
    (dats m 0 c).flushed 5 t = ((cfg0.win 5).blk t).view.read (Elt Ideal) (whole m c) := by
  rw [flushed5, out_eq]
  have hc : ∀ (p : FVec Ideal S512x128 .bf16), View.canon [(⟨r0_70, p⟩ : View.Piece (Elt Ideal) S512x128 .bf16)] = p :=
    fun p => by
      show View.canon [(⟨Rect.unit ![0, 0] S512x128.size inb_S512x128_S512x128_0_0, p⟩ : View.Piece (Elt Ideal) S512x128 .bf16)] = p
      rw [View.canon_unit_zero hz]
  rw [hc]
  funext y
  show body (iblk m c 0 t) (iblk m c 1 t) (iblk m c 2 t) (iblk m c 3 t) (iblk m c 4 t) y = whole m c (((cfg0.win 5).blk t).view.emb y)
  obtain ⟨i, e, rfl⟩ : ∃ (i : Fin 512) (e : Fin 128), y = ix2 i e := ⟨y 0, y 1, funext fun a => by fin_cases a <;> rfl⟩
  obtain ⟨e0, e1⟩ := emb5_val t (ix2 i e)
  have e0 : (((cfg0.win 5).blk t).view.emb (ix2 i e) (0 : Fin 2)).val = (t.val / 64 * 8 + t.val % 8) * 512 + i.val := e0
  have e1 : (((cfg0.win 5).blk t).view.emb (ix2 i e) (1 : Fin 2)).val = t.val / 8 % 8 * 128 + e.val := e1
  have he := e.isLt
  refine (body_apply _ _ _ _ _ ⟨e.val / 64, by omega⟩ i ⟨e.val % 64, by omega⟩ e (by show e.val = e.val / 64 * 64 + e.val % 64; omega)).trans ?_
  refine (head_eq m c t _ i _ _ _ rfl rfl).trans ?_
  unfold whole G
  rw [e0, e1]
  have a1 : (t.val / 8 % 8 * 128 + e.val) / 64 = t.val / 8 % 8 * 2 + e.val / 64 := by omega
  have a2 : (t.val / 8 % 8 * 128 + e.val) % 64 = e.val % 64 := by omega
  rw [a1, a2]

theorem covered (j : S16384x1024.Idx) : ∃ t : Fin cfg0.N, (cfg0.win 5).flush t = true ∧ j ∈ ((cfg0.win 5).blk t).view.set := by
  have h0 : (j 0).val < 16384 := (j 0).isLt
  have h1 : (j 1).val < 1024 := (j 1).isLt
  obtain ⟨t, ht⟩ : ∃ t : Fin cfg0.N, t.val = (j 0).val / 4096 * 64 + (j 1).val / 128 * 8 + (j 0).val / 512 % 8 :=
    ⟨⟨(j 0).val / 4096 * 64 + (j 1).val / 128 * 8 + (j 0).val / 512 % 8, by show _ < 256; omega⟩, rfl⟩
  refine ⟨t, flush0_5 _, ?_⟩
  obtain ⟨y, hy⟩ : ∃ y : S512x128.Idx, (y 0).val = (j 0).val % 512 ∧ (y 1).val = (j 1).val % 128 :=
    ⟨ix2 (⟨(j 0).val % 512, by omega⟩ : Fin 512) (⟨(j 1).val % 128, by omega⟩ : Fin 128), rfl, rfl⟩
  obtain ⟨e0, e1⟩ := emb5_val t y
  have key : j = ((cfg0.win 5).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 5).blk t).view.emb_mem_set y

/-- The result array after the run. -/
theorem final (c : Dev nD) : (dats m 0 c).arrAt 5 cfg0.N = whole m c :=
  (dats m 0 c).arrAt_eq_of_cover 5 (whole m c) (fun t _ => flushed_eq m c t) covered

/-- The kernel's run: the result is the attention of the arguments, which are left as launched. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Attn

end
-- ==== Proof.AttnRef.lean ====
/- The reference read at an index: it is the same function of the five arguments as the kernel's whole array. -/
module

public import proofs.«01_k».proof.Proof.AttnArray
public import proofs.«01_k».proof.Proof.Gen.ReferenceIdeal.Read

@[expose] public section

noncomputable section

namespace Cert.AttnRef

open Cert.At Cert.Attn Cert.ReferenceIdeal Cert.ReferenceIdeal.Gen Cert.ReferenceIdeal.Read Idealize.SL.Sem Idealize.ShloMosaic.ValueIdx
open Idealize.ShloMosaic hiding ix0 ix1 ix2 ix3 ix4 ix5
open Idealize.ShloMosaic.TcCoe
open scoped BigOperators

variable (x0 : Vec Ideal S2048x16384 .bf16) (x1 : Vec Ideal S16384x2048 .bf16) (x2 : Vec Ideal S1024x16384 .bf16)
  (x3 : Vec Ideal S2048x2048 .bf16) (x4 : Vec Ideal S1024x2048 .bf16)

theorem q_apply (i : S16x128x4x4096.Idx) : val_main_v0 (F := Ideal) x0 i
    = at2 x0 ((i 0).val * 128 + (i 1).val) ((i 2).val * 4096 + (i 3).val) := by
  rw [val_main_v0_apply]
  have h1 : (i 1).val < 128 := (i 1).isLt
  have h2 : (i 2).val < 4 := (i 2).isLt
  have h3 : (i 3).val < 4096 := (i 3).isLt
  refine at2_of x0 _ _ _ ?_ ?_
  · show ((((i 0).val * 128 + (i 1).val) * 4 + (i 2).val) * 4096 + (i 3).val) / 16384 = _; omega
  · show ((((i 0).val * 128 + (i 1).val) * 4 + (i 2).val) * 4096 + (i 3).val) % 16384 = _; omega

/-- The keys, new tokens first and then cached ones. -/
theorem keys_apply (i : S4x4608x16x128.Idx) : val_main_v5 (F := Ideal) x1 x3 i
    = keyAt x1 x3 (i 0).val (i 2).val (i 1).val (i 3).val := by
  have h0 : (i 0).val < 4 := (i 0).isLt
  have h1 : (i 1).val < 4608 := (i 1).isLt
  have h2 : (i 2).val < 16 := (i 2).isLt
  have h3 : (i 3).val < 128 := (i 3).isLt
  unfold val_main_v5 keyAt
  by_cases hlt : (i 1).val < 4096
  · rw [if_pos hlt]
    refine (concatenate_pair_apply_left (t := S4x4608x16x128) (s₁ := S4x4096x16x128) (s₂ := S4x512x16x128) (1 : Fin 4) _ _ _ i rfl
      (fun a => match a with | ⟨0, _⟩ => i 0 | ⟨1, _⟩ => ⟨(i 1).val, hlt⟩ | ⟨2, _⟩ => i 2 | ⟨3, _⟩ => i 3)
      (fun a => match a with | ⟨0, _⟩ => rfl | ⟨1, _⟩ => rfl | ⟨2, _⟩ => rfl | ⟨3, _⟩ => rfl)).trans ?_
    rw [val_main_v1_apply]
    refine at2_of x1 _ _ _ ?_ ?_
    · show ((((i 0).val * 4096 + (i 1).val) * 16 + (i 2).val) * 128 + (i 3).val) / 2048 = _; omega
    · show ((((i 0).val * 4096 + (i 1).val) * 16 + (i 2).val) * 128 + (i 3).val) % 2048 = _; omega
  · rw [if_neg hlt]
    refine (concatenate_pair_apply_right (t := S4x4608x16x128) (s₁ := S4x4096x16x128) (s₂ := S4x512x16x128) (1 : Fin 4) _ _ _ i rfl rfl
      (fun a => match a with | ⟨0, _⟩ => i 0 | ⟨1, _⟩ => ⟨(i 1).val - 4096, by show _ < 512; omega⟩ | ⟨2, _⟩ => i 2 | ⟨3, _⟩ => i 3)
      (fun a h => match a, h with | ⟨0, _⟩, _ => rfl | ⟨1, _⟩, h => absurd rfl h | ⟨2, _⟩, _ => rfl | ⟨3, _⟩, _ => rfl)
      (by show (i 1).val - 4096 + 4096 = (i 1).val; omega)).trans ?_
    rw [val_main_v3_apply]
    refine at2_of x3 _ _ _ ?_ ?_
    · show ((((i 0).val * 512 + ((i 1).val - 4096)) * 16 + (i 2).val) * 128 + (i 3).val) / 2048 = _; omega
    · show ((((i 0).val * 512 + ((i 1).val - 4096)) * 16 + (i 2).val) * 128 + (i 3).val) % 2048 = _; omega

/-- The values, in the same order. -/
theorem vals_apply (i : S16x64x4x4608.Idx) : val_main_v6 (F := Ideal) x2 x4 i
    = valAt x2 x4 (i 2).val (i 0).val (i 1).val (i 3).val := by
  have h0 : (i 0).val < 16 := (i 0).isLt
  have h1 : (i 1).val < 64 := (i 1).isLt
  have h2 : (i 2).val < 4 := (i 2).isLt
  have h3 : (i 3).val < 4608 := (i 3).isLt
  unfold val_main_v6 valAt
  by_cases hlt : (i 3).val < 4096
  · rw [if_pos hlt]
    refine (concatenate_pair_apply_left (t := S16x64x4x4608) (s₁ := S16x64x4x4096) (s₂ := S16x64x4x512) (3 : Fin 4) _ _ _ i rfl
      (fun a => match a with | ⟨0, _⟩ => i 0 | ⟨1, _⟩ => i 1 | ⟨2, _⟩ => i 2 | ⟨3, _⟩ => ⟨(i 3).val, hlt⟩)
      (fun a => match a with | ⟨0, _⟩ => rfl | ⟨1, _⟩ => rfl | ⟨2, _⟩ => rfl | ⟨3, _⟩ => rfl)).trans ?_
    rw [val_main_v2_apply]
    refine at2_of x2 _ _ _ ?_ ?_
    · show ((((i 0).val * 64 + (i 1).val) * 4 + (i 2).val) * 4096 + (i 3).val) / 16384 = _; omega
    · show ((((i 0).val * 64 + (i 1).val) * 4 + (i 2).val) * 4096 + (i 3).val) % 16384 = _; omega
  · rw [if_neg hlt]
    refine (concatenate_pair_apply_right (t := S16x64x4x4608) (s₁ := S16x64x4x4096) (s₂ := S16x64x4x512) (3 : Fin 4) _ _ _ i rfl rfl
      (fun a => match a with | ⟨0, _⟩ => i 0 | ⟨1, _⟩ => i 1 | ⟨2, _⟩ => i 2 | ⟨3, _⟩ => ⟨(i 3).val - 4096, by show _ < 512; omega⟩)
      (fun a h => match a, h with | ⟨0, _⟩, _ => rfl | ⟨1, _⟩, _ => rfl | ⟨2, _⟩, _ => rfl | ⟨3, _⟩, h => absurd rfl h)
      (by show (i 3).val - 4096 + 4096 = (i 3).val; omega)).trans ?_
    rw [val_main_v4_apply]
    refine at2_of x4 _ _ _ ?_ ?_
    · show ((((i 0).val * 64 + (i 1).val) * 4 + (i 2).val) * 512 + ((i 3).val - 4096)) / 2048 = _; omega
    · show ((((i 0).val * 64 + (i 1).val) * 4 + (i 2).val) * 512 + ((i 3).val - 4096)) % 2048 = _; omega

theorem ofBits_two : Ideal.ofBits .f32 0x40000000#32 = ((2 : ℝ) : EReal) := by
  simp [Ideal.ofBits, Ideal.ieee]
  rw [← EReal.coe_mul]; norm_num

theorem ln2_apply (i : S_.Idx) : val_main_v8 (F := Ideal) i = ((Real.log 2 : ℝ) : EReal) := by
  rw [val_main_v8_apply, val_main_cst_apply]
  show Ideal.log (Ideal.ofBits .f32 0x40000000#32) = _
  rw [ofBits_two]
  show (if (2 : ℝ) ≤ 0 then (⊥ : EReal) else ((Real.log 2 : ℝ) : EReal)) = _
  rw [if_neg (by norm_num)]

theorem score_apply (i : S4x16x4096x4608.Idx) :
    val_main_v10 (F := Ideal) x0 x1 x3 i
      = scoreAt x0 x1 x3 ((i 0).val * 4096 + (i 2).val) (i 1).val (i 3) * ((Real.log 2 : ℝ) : EReal) := by
  have h0 : (i 0).val < 4 := (i 0).isLt
  have h2 : (i 2).val < 4096 := (i 2).isLt
  rw [val_main_v10_apply, val_main_v9_apply, ln2_apply, val_main_v7_apply]
  refine congrArg (· * _) (Finset.sum_congr rfl fun k _ => ?_)
  rw [q_apply, keys_apply, mul_comm]
  have e : ((i 0).val * 4096 + (i 2).val) / 4096 = (i 0).val := by omega
  rw [e]

/-- The scores of one query of one head, times the natural logarithm of two. -/
abbrev scaled (b h q : ℕ) (k : Fin 4608) : EReal := scoreAt x0 x1 x3 (b * 4096 + q) h k * ((Real.log 2 : ℝ) : EReal)

theorem top_apply (j : S4x16x4096.Idx) :
    val_main_v11 (F := Ideal) x0 x1 x3 j = peak (scaled x0 x1 x3 (j 0).val (j 1).val (j 2).val) := by
  have hred : Shape.Reduces S4x16x4096x4608 [3] S4x16x4096 := by decide
  unfold val_main_v11
  refine (Host.reduce_eq_fold_single (FloatOps.maximumf (F := Ideal) (φ := .f32)) _ _ _ hred _ j).trans ?_
  have e : (val_main_cst_0 (F := Ideal)) (Shape.Idx.first h_S_) = (⊥ : EReal) := negInf_f32
  rw [e]
  show Finset.univ.fold max ⊥ _ = Finset.univ.fold max ⊥ _
  refine congrArg (Finset.univ.fold max ⊥) (funext fun k => ?_)
  exact score_apply x0 x1 x3 (hred.lift j k)

/-- A query's weight on a key. -/
theorem weight_apply (i : S4x16x4096x4608.Idx) :
    val_main_v15 (F := Ideal) x0 x1 x3 i
      = Ideal.exp2 (scoreAt x0 x1 x3 ((i 0).val * 4096 + (i 2).val) (i 1).val (i 3)
          - peak (scoreAt x0 x1 x3 ((i 0).val * 4096 + (i 2).val) (i 1).val)) := by
  rw [val_main_v15_apply, val_main_v14_apply, val_main_v13_apply, val_main_v12_apply, top_apply, score_apply]
  exact weight_eq (scoreAt x0 x1 x3 ((i 0).val * 4096 + (i 2).val) (i 1).val) (i 3)

/-- The reference's result is the whole array that the kernel leaves. -/
theorem ref_eq : val_main_v24 (F := Ideal) x0 x1 x2 x3 x4 = G x0 x1 x2 x3 x4 := by
  funext i
  have h0 : (i 0).val < 16384 := (i 0).isLt
  have h1 : (i 1).val < 1024 := (i 1).isLt
  rw [val_main_v24_apply, val_main_v23_apply, val_main_v22_apply, val_main_v21_apply, val_main_v20_apply, val_main_v17_apply,
    val_main_v16_apply, val_main_v19_apply]
  have e : (val_main_cst_1 (F := Ideal)) (Shape.Idx.first h_S_) = (0 : EReal) := Ideal.ofBits_zero_f32
  rw [e, zero_add]
  simp only [val_main_v18_apply, weight_apply, vals_apply]
  have er : ((i 0).val * 1024 + (i 1).val) / 4194304 * 4096 + ((i 0).val * 1024 + (i 1).val) / 1024 % 4096 = (i 0).val := by omega
  have eb : ((i 0).val * 1024 + (i 1).val) / 4194304 = (i 0).val / 4096 := by omega
  have eh : ((i 0).val * 1024 + (i 1).val) / 64 % 16 = (i 1).val / 64 := by omega
  have ed : ((i 0).val * 1024 + (i 1).val) % 64 = (i 1).val % 64 := by omega
  unfold G attn
  show Ideal.div (∑ k : Fin 4608, Ideal.exp2 (scoreAt x0 x1 x3 (((i 0).val * 1024 + (i 1).val) / 4194304 * 4096 + ((i 0).val * 1024 + (i 1).val) / 1024 % 4096) (((i 0).val * 1024 + (i 1).val) / 64 % 16) k
      - peak (scoreAt x0 x1 x3 (((i 0).val * 1024 + (i 1).val) / 4194304 * 4096 + ((i 0).val * 1024 + (i 1).val) / 1024 % 4096) (((i 0).val * 1024 + (i 1).val) / 64 % 16)))
        * valAt x2 x4 (((i 0).val * 1024 + (i 1).val) / 4194304) (((i 0).val * 1024 + (i 1).val) / 64 % 16) (((i 0).val * 1024 + (i 1).val) % 64) k.val)
    (∑ k : Fin 4608, Ideal.exp2 (scoreAt x0 x1 x3 (((i 0).val * 1024 + (i 1).val) / 4194304 * 4096 + ((i 0).val * 1024 + (i 1).val) / 1024 % 4096) (((i 0).val * 1024 + (i 1).val) / 64 % 16) k
      - peak (scoreAt x0 x1 x3 (((i 0).val * 1024 + (i 1).val) / 4194304 * 4096 + ((i 0).val * 1024 + (i 1).val) / 1024 % 4096) (((i 0).val * 1024 + (i 1).val) / 64 % 16)))) = _
  rw [er, eb, eh, ed]
  exact congrArg (Ideal.div · _) (Finset.sum_congr rfl fun k _ => mul_comm _ _)

end Cert.AttnRef

end
-- ==== Proof.Norm.lean ====
/- The modulated root-mean-square normalisation of one row over the extended reals, and the kernels' spelling of it on a
   block of rows. -/
module

public import proofs.«01_k».proof.Proof.Ops

@[expose] public section

noncomputable section

namespace Cert.Norm

open Cert.Ops Idealize.SL.Sem Idealize.ShloMosaic.ValueIdx
open Idealize.ShloMosaic hiding ix0 ix1 ix2 ix3 ix4 ix5
open scoped BigOperators

/-- One over the root of a row's mean square, kept away from zero. -/
def inv (x : ℕ → EReal) : EReal :=
  Ideal.rsqrt (Ideal.div (∑ j : Fin 1024, x j * x j) (Ideal.ofBits .f32 0x44800000#32) + Ideal.ofBits .f32 0x358637BD#32)

/-- The row `x` normalised, weighted by `g`, scaled by one plus `sc` and shifted by `sh`. -/
def normed (x g sc sh : ℕ → EReal) (k : ℕ) : EReal :=
  x k * inv x * (g k * (Ideal.ofBits .f32 0x3F800000#32 + sc k)) + sh k

theorem inv_congr {x x' : ℕ → EReal} (h : ∀ k : Fin 1024, x k = x' k) : inv x = inv x' := by
  unfold inv
  exact congrArg (fun s => Ideal.rsqrt (Ideal.div s _ + _)) (Finset.sum_congr rfl fun j _ => by rw [h j])

section Block

variable {M : ℕ} (hr : Shape.Reduces ⟨2, ![M, 1024]⟩ [1] ⟨1, ![M]⟩) (hc : (⟨1, ![M]⟩ : Shape).ShapeCasts ⟨2, ![M, 1]⟩)
  (hb : (⟨2, ![M, 1]⟩ : Shape).Broadcasts ⟨2, ![M, 1024]⟩) (hb' : (⟨2, ![1, 1024]⟩ : Shape).Broadcasts ⟨2, ![M, 1024]⟩)
  (x : FVec Ideal ⟨2, ![M, 1024]⟩ .f32) (g sc sh : FVec Ideal ⟨2, ![1, 1024]⟩ .f32)

/-- The factor of every row of a block. -/
def invV : FVec Ideal ⟨2, ![M, 1]⟩ .f32 :=
  rsqrt (addf (divf (shapeCast ⟨2, ![M, 1]⟩ (multiReduction .add [1] ⟨1, ![M]⟩ (mulf x x) 0x00000000#32 hr (.inl rfl) rfl) hc)
    (broadcast ⟨2, ![M, 1]⟩ (Scalar.ofBits .f32 0x44800000#32))) (broadcast ⟨2, ![M, 1]⟩ (Scalar.ofBits .f32 0x358637BD#32)))

/-- A block of rows normalised and modulated. -/
def normV : FVec Ideal ⟨2, ![M, 1024]⟩ .bf16 :=
  truncf .bf16 (addf (mulf (mulf x (broadcastTo ⟨2, ![M, 1024]⟩ (invV hr hc x) hb))
    (broadcastTo ⟨2, ![M, 1024]⟩ (mulf g (addf (broadcast ⟨2, ![1, 1024]⟩ (Scalar.ofBits .f32 0x3F800000#32)) sc)) hb'))
    (broadcastTo ⟨2, ![M, 1024]⟩ sh hb')) (by decide)

theorem normV_apply (i : Fin M) (xr gr scr shr : ℕ → EReal) (hx : ∀ k : Fin 1024, x (ix2 i k) = xr k)
    (hg : ∀ k : Fin 1024, g (ix2 (0 : Fin 1) k) = gr k) (hsc : ∀ k : Fin 1024, sc (ix2 (0 : Fin 1) k) = scr k)
    (hsh : ∀ k : Fin 1024, sh (ix2 (0 : Fin 1) k) = shr k) (k : Fin 1024) :
    normV hr hc hb hb' x g sc sh (ix2 i k) = normed xr gr scr shr k := by
  have e : invV hr hc x (ix2 i (0 : Fin 1)) = inv xr := by
    refine (congrArg (fun s => Ideal.rsqrt (Ideal.div s (Ideal.ofBits .f32 0x44800000#32) + Ideal.ofBits .f32 0x358637BD#32))
      (rowsum_apply (mulf x x) hr hc (.inl rfl) rfl i)).trans ?_
    unfold inv
    exact congrArg (fun s => Ideal.rsqrt (Ideal.div s _ + _)) (Finset.sum_congr rfl fun j _ => by
      show x (ix2 i j) * x (ix2 i j) = _; rw [hx j])
  unfold normV normed
  rw [ValueIdx.truncf_apply]
  show x (ix2 i k) * broadcastTo ⟨2, ![M, 1024]⟩ (invV hr hc x) hb (ix2 i k)
      * broadcastTo ⟨2, ![M, 1024]⟩ (mulf g (addf (broadcast ⟨2, ![1, 1024]⟩ (Scalar.ofBits .f32 0x3F800000#32)) sc)) hb' (ix2 i k)
      + broadcastTo ⟨2, ![M, 1024]⟩ sh hb' (ix2 i k) = _
  rw [spread_apply, broadcastTo_1b_ab_apply, broadcastTo_1b_ab_apply, e, hx k, hsh k]
  show _ * (g (ix2 (0 : Fin 1) k) * (_ + sc (ix2 (0 : Fin 1) k))) + _ = _
  rw [hg k, hsc k]
  rfl

end Block

end Cert.Norm

end
-- ==== Proof.Mlp.lean ====
/- The feed-forward part of a layer for one row over the extended reals, and the kernels' spelling of it: the hidden units
   in four chunks of 1024, each chunk's share added to the last. -/
module

public import proofs.«01_k».proof.Proof.At
public import proofs.«01_k».proof.Proof.Norm

@[expose] public section

noncomputable section

namespace Cert.Mlp

open Cert.At Cert.Ops Cert.Norm Idealize.SL.Sem Idealize.ShloMosaic.ValueIdx
open Idealize.ShloMosaic hiding ix0 ix1 ix2 ix3 ix4 ix5
open scoped BigOperators

/-- The squared positive part. -/
def act (z : EReal) : EReal := max z 0 * max z 0

/-- What hidden unit `c` adds to output `j`, of the normalised row `h`. -/
def unit (h : ℕ → EReal) (w1 w2 : ℕ → ℕ → EReal) (j c : ℕ) : EReal := act (∑ k : Fin 1024, h k * w1 k c) * w2 c j

/-- The feed-forward part of one row: the row, and the gated sum over the hidden units. -/
def row (x g sc sh gate : ℕ → EReal) (w1 w2 : ℕ → ℕ → EReal) (j : ℕ) : EReal :=
  x j + gate j * ∑ c : Fin 4096, unit (normed x g sc sh) w1 w2 j c

/-- The whole feed-forward part of layer `l`: `rows` what it is given, row `r` modulated as batch `r / 4096` is. -/
def whole (rows : ℕ → ℕ → EReal) (md : (⟨2, ![8, 6144]⟩ : Shape).Idx → EReal) (g : (⟨1, ![1024]⟩ : Shape).Idx → EReal)
    (w1 : (⟨3, ![4, 1024, 4096]⟩ : Shape).Idx → EReal) (w2 : (⟨3, ![4, 4096, 1024]⟩ : Shape).Idx → EReal) (l : ℕ)
    (i : (⟨2, ![16384, 1024]⟩ : Shape).Idx) : EReal :=
  row (rows (i 0).val) (at1 g) (fun k => at2 md (1 + (i 0).val / 4096) (4096 + k)) (fun k => at2 md (1 + (i 0).val / 4096) (3072 + k))
    (fun k => at2 md (1 + (i 0).val / 4096) (5120 + k)) (at3 w1 l) (at3 w2 l) (i 1).val

/-- `whole` at an index, of its row's number, its batch and its column however they are spelled. -/
theorem row_place (rows : ℕ → ℕ → EReal) (md : (⟨2, ![8, 6144]⟩ : Shape).Idx → EReal) (g : (⟨1, ![1024]⟩ : Shape).Idx → EReal)
    (w1 : (⟨3, ![4, 1024, 4096]⟩ : Shape).Idx → EReal) (w2 : (⟨3, ![4, 4096, 1024]⟩ : Shape).Idx → EReal) (l : ℕ)
    (i : (⟨2, ![16384, 1024]⟩ : Shape).Idx) {r b j : ℕ} (hr : r = (i 0).val) (hb : b = (i 0).val / 4096) (hj : j = (i 1).val) :
    row (rows r) (at1 g) (fun k => at2 md (1 + b) (4096 + k)) (fun k => at2 md (1 + b) (3072 + k)) (fun k => at2 md (1 + b) (5120 + k))
      (at3 w1 l) (at3 w2 l) j = whole rows md g w1 w2 l i := by
  subst hr; subst hb; subst hj; rfl

/-- A sum over 4096 numbers in four parts, added in order. -/
theorem sum_four (f : ℕ → EReal) :
    ∑ c : Fin 4096, f c = (((∑ c : Fin 1024, f c) + ∑ c : Fin 1024, f (1024 + c)) + ∑ c : Fin 1024, f (2048 + c)) + ∑ c : Fin 1024, f (3072 + c) := by
  have e : ∀ a : ℕ, ∑ c : Fin 1024, f (a + c) = ∑ c ∈ Finset.range 1024, f (a + c) := fun a => (Finset.sum_range fun c => f (a + c)).symm
  rw [e, e, e, ← Finset.sum_range f, ← Finset.sum_range f]
  rw [show 4096 = 3072 + 1024 from rfl, Finset.sum_range_add, show 3072 = 2048 + 1024 from rfl, Finset.sum_range_add,
    show 2048 = 1024 + 1024 from rfl, Finset.sum_range_add]

section Block

variable (hs : (⟨3, ![1, 1024, 1024]⟩ : Shape).ShapeCasts ⟨2, ![1024, 1024]⟩) (h : FVec Ideal ⟨2, ![1024, 1024]⟩ .bf16)

/-- The share of one chunk of the hidden units. -/
def chunkV (a b : FVec Ideal ⟨3, ![1, 1024, 1024]⟩ .bf16) : FVec Ideal ⟨2, ![1024, 1024]⟩ .f32 :=
  let z : FVec Ideal ⟨2, ![1024, 1024]⟩ .f32 := maximumf
    (FloatOps.matmul (DotDims.plain 1024 1024 1024) none h (shapeCast ⟨2, ![1024, 1024]⟩ a hs) (constant ⟨2, ![1024, 1024]⟩ .f32 0x00000000#32))
    (broadcast ⟨2, ![1024, 1024]⟩ (Scalar.ofBits .f32 0x00000000#32))
  FloatOps.matmul (φ₁ := .bf16) (DotDims.plain 1024 1024 1024) none (truncf .bf16 (mulf z z) (by decide))
    (shapeCast ⟨2, ![1024, 1024]⟩ b hs) (constant ⟨2, ![1024, 1024]⟩ .f32 0x00000000#32)

theorem chunkV_apply (a b : FVec Ideal ⟨3, ![1, 1024, 1024]⟩ .bf16) (i j : Fin 1024) (hr : ℕ → EReal) (w1 w2 : ℕ → ℕ → EReal) (o : ℕ)
    (hh : ∀ k : Fin 1024, h (ix2 i k) = hr k) (ha : ∀ k c : Fin 1024, a (ix3 (0 : Fin 1) k c) = w1 k (o + c))
    (hb : ∀ c j : Fin 1024, b (ix3 (0 : Fin 1) c j) = w2 (o + c) j) :
    chunkV hs h a b (ix2 i j) = ∑ c : Fin 1024, unit hr w1 w2 j (o + c) := by
  unfold chunkV
  rw [mm_apply]
  refine Finset.sum_congr rfl fun c _ => ?_
  unfold unit act
  rw [ValueIdx.truncf_apply, shapeCast_1ab_ab_apply, hb]
  show max (FloatOps.matmul (DotDims.plain 1024 1024 1024) none h (shapeCast ⟨2, ![1024, 1024]⟩ a hs) (constant ⟨2, ![1024, 1024]⟩ .f32 0x00000000#32) (ix2 i c)) (Ideal.ofBits .f32 0x00000000#32)
    * max (FloatOps.matmul (DotDims.plain 1024 1024 1024) none h (shapeCast ⟨2, ![1024, 1024]⟩ a hs) (constant ⟨2, ![1024, 1024]⟩ .f32 0x00000000#32) (ix2 i c)) (Ideal.ofBits .f32 0x00000000#32) * _ = _
  rw [mm_apply, Ideal.ofBits_zero_f32]
  have e : (∑ k : Fin 1024, h (ix2 i k) * shapeCast ⟨2, ![1024, 1024]⟩ a hs (ix2 k c)) = ∑ k : Fin 1024, hr k * w1 k (o + c) :=
    Finset.sum_congr rfl fun k _ => by rw [hh, shapeCast_1ab_ab_apply, ha]
  rw [e]

/-- The whole feed-forward part on a block of rows: `x` the rows, `h` them normalised, the four chunks of both weights. -/
def ffV (hb' : (⟨2, ![1, 1024]⟩ : Shape).Broadcasts ⟨2, ![1024, 1024]⟩) (x : FVec Ideal ⟨2, ![1024, 1024]⟩ .f32)
    (gate : FVec Ideal ⟨2, ![1, 1024]⟩ .f32) (a b : Fin 4 → FVec Ideal ⟨3, ![1, 1024, 1024]⟩ .bf16) : FVec Ideal ⟨2, ![1024, 1024]⟩ .f32 :=
  addf x (mulf (broadcastTo ⟨2, ![1024, 1024]⟩ gate hb')
    (addf (addf (addf (chunkV hs h (a 0) (b 0)) (chunkV hs h (a 1) (b 1))) (chunkV hs h (a 2) (b 2))) (chunkV hs h (a 3) (b 3))))

theorem ffV_apply (hb' : (⟨2, ![1, 1024]⟩ : Shape).Broadcasts ⟨2, ![1024, 1024]⟩) (x : FVec Ideal ⟨2, ![1024, 1024]⟩ .f32)
    (gate : FVec Ideal ⟨2, ![1, 1024]⟩ .f32) (a b : Fin 4 → FVec Ideal ⟨3, ![1, 1024, 1024]⟩ .bf16) (i j : Fin 1024)
    (xr gr scr shr gater : ℕ → EReal) (w1 w2 : ℕ → ℕ → EReal)
    (hx : x (ix2 i j) = xr j) (hh : ∀ k : Fin 1024, h (ix2 i k) = normed xr gr scr shr k)
    (hg : gate (ix2 (0 : Fin 1) j) = gater j)
    (ha : ∀ (n : Fin 4) (k c : Fin 1024), a n (ix3 (0 : Fin 1) k c) = w1 k (1024 * n + c))
    (hb : ∀ (n : Fin 4) (c j : Fin 1024), b n (ix3 (0 : Fin 1) c j) = w2 (1024 * n + c) j) :
    ffV hs h hb' x gate a b (ix2 i j) = row xr gr scr shr gater w1 w2 j := by
  have ch := fun n : Fin 4 => chunkV_apply hs h (a n) (b n) i j _ w1 w2 (1024 * n) hh (ha n) (hb n)
  unfold ffV row
  rw [sum_four]
  show x (ix2 i j) + broadcastTo ⟨2, ![1024, 1024]⟩ gate hb' (ix2 i j)
    * (((chunkV hs h (a 0) (b 0) (ix2 i j) + chunkV hs h (a 1) (b 1) (ix2 i j)) + chunkV hs h (a 2) (b 2) (ix2 i j)) + chunkV hs h (a 3) (b 3) (ix2 i j)) = _
  rw [broadcastTo_1b_ab_apply, hx, hg, ch 0, ch 1, ch 2, ch 3]
  have e0 : (∑ c : Fin 1024, unit (normed xr gr scr shr) w1 w2 j (1024 * (0 : Fin 4).val + c.val)) = ∑ c : Fin 1024, unit (normed xr gr scr shr) w1 w2 j c :=
    Finset.sum_congr rfl fun c _ => congrArg _ (Nat.zero_add c.val)
  rw [e0]
  rfl

end Block

section Tail

/-- A row of what the feed-forward part is given when a product comes before it: `x` and the gated product of `z`'s row with `w`. -/
def tailRow (x gate z : ℕ → EReal) (w : ℕ → ℕ → EReal) (k : ℕ) : EReal := x k + gate k * ∑ c : Fin 1024, z c * w c k

variable (hs : (⟨3, ![1, 1024, 1024]⟩ : Shape).ShapeCasts ⟨2, ![1024, 1024]⟩) (hb' : (⟨2, ![1, 1024]⟩ : Shape).Broadcasts ⟨2, ![1024, 1024]⟩)
  (x : FVec Ideal ⟨2, ![1024, 1024]⟩ .f32) (gate : FVec Ideal ⟨2, ![1, 1024]⟩ .f32) (z : FVec Ideal ⟨2, ![1024, 1024]⟩ .bf16)
  (w : FVec Ideal ⟨3, ![1, 1024, 1024]⟩ .bf16)

/-- The same on a block of rows. -/
def tailV : FVec Ideal ⟨2, ![1024, 1024]⟩ .f32 :=
  addf x (mulf (broadcastTo ⟨2, ![1024, 1024]⟩ gate hb') (FloatOps.matmul (DotDims.plain 1024 1024 1024) none z (shapeCast ⟨2, ![1024, 1024]⟩ w hs)
    (constant ⟨2, ![1024, 1024]⟩ .f32 0x00000000#32)))

theorem tailV_apply (i : Fin 1024) (xr gr zr : ℕ → EReal) (wr : ℕ → ℕ → EReal) (hx : ∀ k : Fin 1024, x (ix2 i k) = xr k)
    (hg : ∀ k : Fin 1024, gate (ix2 (0 : Fin 1) k) = gr k) (hz : ∀ k : Fin 1024, z (ix2 i k) = zr k)
    (hw : ∀ c k : Fin 1024, w (ix3 (0 : Fin 1) c k) = wr c k) (k : Fin 1024) : tailV hs hb' x gate z w (ix2 i k) = tailRow xr gr zr wr k := by
  unfold tailV tailRow
  show x (ix2 i k) + broadcastTo ⟨2, ![1024, 1024]⟩ gate hb' (ix2 i k) * FloatOps.matmul (DotDims.plain 1024 1024 1024) none z (shapeCast ⟨2, ![1024, 1024]⟩ w hs)
    (constant ⟨2, ![1024, 1024]⟩ .f32 0x00000000#32) (ix2 i k) = _
  rw [broadcastTo_1b_ab_apply, mm_apply, hx, hg, Finset.sum_congr rfl fun c _ => congrArg₂ (· * ·) (hz c) ((shapeCast_1ab_ab_apply w hs c k).trans (hw c k))]

end Tail

section Load

/-- Chunk `n` of a layer's first weights. -/
def up (x : (⟨3, ![1, 1024, 4096]⟩ : Shape).Idx → EReal) : Fin 4 → (⟨3, ![1, 1024, 1024]⟩ : Shape).Idx → EReal
  | 0 => View.ld (Val := Elt Ideal) (e' := .bf16) x (Rect.unit (s := ⟨3, ![1, 1024, 4096]⟩) ![0, 0, 0] ![1, 1024, 1024] (by decide))
  | 1 => View.ld (Val := Elt Ideal) (e' := .bf16) x (Rect.unit (s := ⟨3, ![1, 1024, 4096]⟩) ![0, 0, 1024] ![1, 1024, 1024] (by decide))
  | 2 => View.ld (Val := Elt Ideal) (e' := .bf16) x (Rect.unit (s := ⟨3, ![1, 1024, 4096]⟩) ![0, 0, 2048] ![1, 1024, 1024] (by decide))
  | 3 => View.ld (Val := Elt Ideal) (e' := .bf16) x (Rect.unit (s := ⟨3, ![1, 1024, 4096]⟩) ![0, 0, 3072] ![1, 1024, 1024] (by decide))

/-- Chunk `n` of a layer's second weights. -/
def down (x : (⟨3, ![1, 4096, 1024]⟩ : Shape).Idx → EReal) : Fin 4 → (⟨3, ![1, 1024, 1024]⟩ : Shape).Idx → EReal
  | 0 => View.ld (Val := Elt Ideal) (e' := .bf16) x (Rect.unit (s := ⟨3, ![1, 4096, 1024]⟩) ![0, 0, 0] ![1, 1024, 1024] (by decide))
  | 1 => View.ld (Val := Elt Ideal) (e' := .bf16) x (Rect.unit (s := ⟨3, ![1, 4096, 1024]⟩) ![0, 1024, 0] ![1, 1024, 1024] (by decide))
  | 2 => View.ld (Val := Elt Ideal) (e' := .bf16) x (Rect.unit (s := ⟨3, ![1, 4096, 1024]⟩) ![0, 2048, 0] ![1, 1024, 1024] (by decide))
  | 3 => View.ld (Val := Elt Ideal) (e' := .bf16) x (Rect.unit (s := ⟨3, ![1, 4096, 1024]⟩) ![0, 3072, 0] ![1, 1024, 1024] (by decide))

theorem up_apply (x : (⟨3, ![1, 1024, 4096]⟩ : Shape).Idx → EReal) (w : ℕ → ℕ → EReal) (hx : ∀ i, x i = w (i 1).val (i 2).val) (n : Fin 4) (k j : Fin 1024) :
    up x n (ix3 (0 : Fin 1) k j) = w k (1024 * n + j) := by
  fin_cases n <;> exact (hx _).trans (congrArg₂ w (by show 0 + 1 * k.val = _; omega) (by first | (show 0 + 1 * j.val = 1024 * 0 + _; omega) | (show 1024 + 1 * j.val = 1024 * 1 + _; omega) | (show 2048 + 1 * j.val = 1024 * 2 + _; omega) | (show 3072 + 1 * j.val = 1024 * 3 + _; omega)))

theorem down_apply (x : (⟨3, ![1, 4096, 1024]⟩ : Shape).Idx → EReal) (w : ℕ → ℕ → EReal) (hx : ∀ i, x i = w (i 1).val (i 2).val) (n : Fin 4) (k j : Fin 1024) :
    down x n (ix3 (0 : Fin 1) k j) = w (1024 * n + k) j := by
  fin_cases n <;> exact (hx _).trans (congrArg₂ w (by first | (show 0 + 1 * k.val = 1024 * 0 + _; omega) | (show 1024 + 1 * k.val = 1024 * 1 + _; omega) | (show 2048 + 1 * k.val = 1024 * 2 + _; omega) | (show 3072 + 1 * k.val = 1024 * 3 + _; omega)) (by show 0 + 1 * j.val = _; omega))

end Load

end Cert.Mlp

end
-- ==== Proof.Mlp2Array.lean ====
/- The whole array the feed-forward kernel with a product before it leaves: every point writes its block of one function of the seven arguments,
   and the points' blocks cover the result. -/
module

public import proofs.«01_k».proof.Proof.Mlp
public import proofs.«01_k».proof.Proof.Gen.Kernel2Ideal.Value

@[expose] public section

noncomputable section

namespace Cert.Mlp2

open Cert.At Cert.Ops Cert.Norm Cert.Mlp Cert.Kernel2Ideal Cert.Kernel2Ideal.Gen Cert.Kernel2Ideal.Value Idealize.SL.Sem Idealize.ShloMosaic.ValueIdx
open Idealize.ShloMosaic hiding ix0 ix1 ix2 ix3 ix4 ix5
open Idealize.ShloMosaic.TcCoe
open scoped BigOperators

/-! ## The body as one function of the seven blocks -/

section Body

variable (i : grid0.Coords) (x0 : Vec Ideal S1024x1024 .bf16) (x1 : Vec Ideal S1x1024x1024 .bf16) (x2 : Vec Ideal S1024x1024 .f32) (x3 : Vec Ideal S8x6144 .f32)
  (x4 : Vec Ideal S1x1024 .f32) (x5 : Vec Ideal S1x1024x4096 .bf16) (x6 : Vec Ideal S1x4096x1024 .bf16)

/-- The rows the feed-forward part is given. -/
def rows : FVec Ideal S1024x1024 .f32 :=
  tailV shapeCasts_S1x1024x1024_S1024x1024 broadcasts_S1x1024_S1024x1024
    (View.ld x2 (Rect.unit (s := S1024x1024) ![0, 0] S1024x1024.size inb_S1024x1024_S1024x1024_0_0))
    (View.ld x3 (Rect.unit (s := S8x6144) (k0_off1 i) S1x1024.size (k0_off1_inb i)))
    (View.ld x0 (Rect.unit (s := S1024x1024) ![0, 0] S1024x1024.size inb_S1024x1024_S1024x1024_0_0))
    (View.ld x1 (Rect.unit (s := S1x1024x1024) ![0, 0, 0] S1x1024x1024.size inb_S1x1024x1024_S1x1024x1024_0_0_0))

/-- The normalised block. -/
def hidden : FVec Ideal S1024x1024 .bf16 :=
  normV reduces_S1024x1024_S1024 shapeCasts_S1024_S1024x1 broadcasts_S1024x1_S1024x1024 broadcasts_S1x1024_S1024x1024 (rows i x0 x1 x2 x3)
    (shapeCast S1x1024 (View.ld x4 (Rect.unit (s := S1x1024) ![0, 0] S1x1024.size inb_S1x1024_S1x1024_0_0)) shapeCasts_S1x1024_S1x1024)
    (View.ld x3 (Rect.unit (s := S8x6144) (k0_off2 i) S1x1024.size (k0_off2_inb i)))
    (View.ld x3 (Rect.unit (s := S8x6144) (k0_off3 i) S1x1024.size (k0_off3_inb i)))

def body : FVec Ideal S1024x1024 .f32 :=
  ffV shapeCasts_S1x1024x1024_S1024x1024 (hidden i x0 x1 x2 x3 x4) broadcasts_S1x1024_S1024x1024 (rows i x0 x1 x2 x3)
    (View.ld x3 (Rect.unit (s := S8x6144) (k0_off4 i) S1x1024.size (k0_off4_inb i))) (up x5) (down x6)

end Body

theorem hz : (![0, 0] : Fin 2 → ℕ) = fun _ => 0 := funext fun a => by fin_cases a <;> rfl

/-- What the run leaves in the result's staging buffer: its one piece is a store of the whole block. -/
theorem out_eq (c : Dev nD) (i : grid0.Coords) (arg1 : Memref sig .tc .vmem S1024x1024 .bf16) (h1 : arg1.IsWhole) (arg2 : Memref sig .tc .vmem S1x1024x1024 .bf16) (h2 : arg2.IsWhole)
    (arg3 : Memref sig .tc .vmem S1024x1024 .f32) (h3 : arg3.IsWhole) (arg4 : Memref sig .tc .vmem S8x6144 .f32) (h4 : arg4.IsWhole)
    (arg5 : Memref sig .tc .vmem S1x1024 .f32) (h5 : arg5.IsWhole) (arg6 : Memref sig .tc .vmem S1x1024x4096 .bf16) (h6 : arg6.IsWhole)
    (arg7 : Memref sig .tc .vmem S1x4096x1024 .bf16) (h7 : arg7.IsWhole) (arg8 : Memref sig .tc .vmem S1024x1024 .f32) (h8 : arg8.IsWhole)
    (x0 : Vec Ideal S1024x1024 .bf16) (x1 : Vec Ideal S1x1024x1024 .bf16) (x2 : Vec Ideal S1024x1024 .f32) (x3 : Vec Ideal S8x6144 .f32)
    (x4 : Vec Ideal S1x1024 .f32) (x5 : Vec Ideal S1x1024x4096 .bf16) (x6 : Vec Ideal S1x4096x1024 .bf16) :
    out0_A_7 c i arg1 h1 arg2 h2 arg3 h3 arg4 h4 arg5 h5 arg6 h6 arg7 h7 arg8 h8 x0 x1 x2 x3 x4 x5 x6 = body i x0 x1 x2 x3 x4 x5 x6 := by
  unfold out0_A_7
  rw [View.read_writes_junk_eq_canon]
  show View.canon ([⟨Rect.unit ![0, 0] S1024x1024.size inb_S1024x1024_S1024x1024_0_0,
      body i (arg1.view.read (Elt Ideal) (h1.unread x0)) (arg2.view.read (Elt Ideal) (h2.unread x1)) (arg3.view.read (Elt Ideal) (h3.unread x2))
        (arg4.view.read (Elt Ideal) (h4.unread x3)) (arg5.view.read (Elt Ideal) (h5.unread x4)) (arg6.view.read (Elt Ideal) (h6.unread x5))
        (arg7.view.read (Elt Ideal) (h7.unread x6))⟩] :
      List (View.Piece (Elt Ideal) S1024x1024 .f32)) = _
  rw [View.canon_unit_zero hz, h1.read_unread, h2.read_unread, h3.read_unread, h4.read_unread, h5.read_unread, h6.read_unread, h7.read_unread]

theorem off1 : ∀ t : Fin cfg0.N, k0_off1 (grid0.coords t) (0 : Fin 2) = 1 + t.val / 4 ∧ k0_off1 (grid0.coords t) (1 : Fin 2) = 2048 :=
  (by decide +kernel : ∀ t : Fin grid0.N, _)
theorem off2 : ∀ t : Fin cfg0.N, k0_off2 (grid0.coords t) (0 : Fin 2) = 1 + t.val / 4 ∧ k0_off2 (grid0.coords t) (1 : Fin 2) = 4096 :=
  (by decide +kernel : ∀ t : Fin grid0.N, _)
theorem off3 : ∀ t : Fin cfg0.N, k0_off3 (grid0.coords t) (0 : Fin 2) = 1 + t.val / 4 ∧ k0_off3 (grid0.coords t) (1 : Fin 2) = 3072 :=
  (by decide +kernel : ∀ t : Fin grid0.N, _)
theorem off4 : ∀ t : Fin cfg0.N, k0_off4 (grid0.coords t) (0 : Fin 2) = 1 + t.val / 4 ∧ k0_off4 (grid0.coords t) (1 : Fin 2) = 5120 :=
  (by decide +kernel : ∀ t : Fin grid0.N, _)

/-! ## Where each window's block lies -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 3) = 1 ∧ win0_5.index t (1 : Fin 3) = 0 ∧ win0_5.index t (2 : Fin 3) = 0 := (by decide +kernel : ∀ t : Fin grid0.N, _)
theorem idx6 : ∀ t : Fin cfg0.N, win0_6.index t (0 : Fin 3) = 1 ∧ win0_6.index t (1 : Fin 3) = 0 ∧ win0_6.index t (2 : Fin 3) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)

theorem V_main_v0 (c : Dev nD) : V m c main_v0 = shapeCast S1x1024 (m ((c : Thread nD τ).loc main_arg4) : Vec Ideal S1024 .f32) shapeCasts_S1024_S1x1024 := by
  show StableHlo.after hostOps0 _ (Proc.devRef .tc main_v0) = _
  after_results
  rfl

theorem blk0 (c : Dev nD) (t : Fin cfg0.N) (x : S1024x1024.Idx) : (iblk m c 0 t : S1024x1024.Idx → EReal) x
    = at2 (m ((c : Thread nD τ).loc main_arg0) : Vec Ideal S16384x1024 .bf16) (t.val * 1024 + (x 0).val) (x 1).val := by
  obtain ⟨e0, e1⟩ := idx0 t
  show V m c main_arg0 (((cfg0.win 0).blk t).view.emb x) = _
  rw [V_main_arg0]
  refine at2_of (m ((c : Thread nD τ).loc main_arg0) : Vec Ideal S16384x1024 .bf16) (((cfg0.win 0).blk t).view.emb x) _ _ ?_ ?_
  · show win0_0.index t (0 : Fin 2) * 1024 + 1 * (x 0).val = _; rw [e0]; omega
  · show win0_0.index t (1 : Fin 2) * 1024 + 1 * (x 1).val = _; rw [e1]; omega

theorem blk1 (c : Dev nD) (t : Fin cfg0.N) (x : S1x1024x1024.Idx) : (iblk m c 1 t : S1x1024x1024.Idx → EReal) x
    = at3 (m ((c : Thread nD τ).loc main_arg1) : Vec Ideal S1x1024x1024 .bf16) 0 (x 1).val (x 2).val := by
  obtain ⟨e0, e1, e2⟩ := idx1 t
  have hx : (x 0).val < 1 := (x 0).isLt
  show V m c main_arg1 (((cfg0.win 1).blk t).view.emb x) = _
  rw [V_main_arg1]
  refine at3_of (m ((c : Thread nD τ).loc main_arg1) : Vec Ideal S1x1024x1024 .bf16) (((cfg0.win 1).blk t).view.emb x) _ _ _ ?_ ?_ ?_
  · show win0_1.index t (0 : Fin 3) * 1 + 1 * (x 0).val = _; rw [e0]; omega
  · show win0_1.index t (1 : Fin 3) * 1024 + 1 * (x 1).val = _; rw [e1]; omega
  · show win0_1.index t (2 : Fin 3) * 1024 + 1 * (x 2).val = _; rw [e2]; omega

theorem blk2 (c : Dev nD) (t : Fin cfg0.N) (x : S1024x1024.Idx) : (iblk m c 2 t : S1024x1024.Idx → EReal) x
    = at2 (m ((c : Thread nD τ).loc main_arg2) : Vec Ideal S16384x1024 .f32) (t.val * 1024 + (x 0).val) (x 1).val := by
  obtain ⟨e0, e1⟩ := idx2 t
  show V m c main_arg2 (((cfg0.win 2).blk t).view.emb x) = _
  rw [V_main_arg2]
  refine at2_of (m ((c : Thread nD τ).loc main_arg2) : Vec Ideal S16384x1024 .f32) (((cfg0.win 2).blk t).view.emb x) _ _ ?_ ?_
  · show win0_2.index t (0 : Fin 2) * 1024 + 1 * (x 0).val = _; rw [e0]; omega
  · show win0_2.index t (1 : Fin 2) * 1024 + 1 * (x 1).val = _; rw [e1]; omega

theorem blk3 (c : Dev nD) (t : Fin cfg0.N) (x : S8x6144.Idx) : (iblk m c 3 t : S8x6144.Idx → EReal) x
    = at2 (m ((c : Thread nD τ).loc main_arg3) : Vec Ideal S8x6144 .f32) (x 0).val (x 1).val := by
  obtain ⟨e0, e1⟩ := idx3 t
  show V m c main_arg3 (((cfg0.win 3).blk t).view.emb x) = _
  rw [V_main_arg3]
  refine at2_of (m ((c : Thread nD τ).loc main_arg3) : Vec Ideal S8x6144 .f32) (((cfg0.win 3).blk t).view.emb x) _ _ ?_ ?_
  · show win0_3.index t (0 : Fin 2) * 8 + 1 * (x 0).val = _; rw [e0]; omega
  · show win0_3.index t (1 : Fin 2) * 6144 + 1 * (x 1).val = _; rw [e1]; omega

theorem blk4 (c : Dev nD) (t : Fin cfg0.N) (k : Fin 1024) : (iblk m c 4 t : S1x1024.Idx → EReal) (ix2 (0 : Fin 1) k)
    = at1 (m ((c : Thread nD τ).loc main_arg4) : Vec Ideal S1024 .f32) k.val := by
  obtain ⟨e0, e1⟩ := idx4 t
  have he : ((cfg0.win 4).blk t).view.emb (ix2 (0 : Fin 1) k) = (ix2 (0 : Fin 1) k : S1x1024.Idx) := by
    funext a; apply Fin.ext
    match a with
    | ⟨0, _⟩ => show win0_4.index t (0 : Fin 2) * 1 + 1 * 0 = 0; rw [e0]
    | ⟨1, _⟩ => show win0_4.index t (1 : Fin 2) * 1024 + 1 * k.val = k.val; rw [e1]; omega
  show V m c main_v0 (((cfg0.win 4).blk t).view.emb (ix2 (0 : Fin 1) k)) = _
  rw [V_main_v0, he]
  exact (shapeCast_a_1a_apply _ _ _ k).trans (at1_of _ _ _ rfl)

theorem blk5 (c : Dev nD) (t : Fin cfg0.N) (x : S1x1024x4096.Idx) : (iblk m c 5 t : S1x1024x4096.Idx → EReal) x
    = at3 (m ((c : Thread nD τ).loc main_arg5) : Vec Ideal S4x1024x4096 .bf16) 1 (x 1).val (x 2).val := by
  obtain ⟨e0, e1, e2⟩ := idx5 t
  have hx : (x 0).val < 1 := (x 0).isLt
  show V m c main_arg5 (((cfg0.win 5).blk t).view.emb x) = _
  rw [V_main_arg5]
  refine at3_of (m ((c : Thread nD τ).loc main_arg5) : Vec Ideal S4x1024x4096 .bf16) (((cfg0.win 5).blk t).view.emb x) _ _ _ ?_ ?_ ?_
  · show win0_5.index t (0 : Fin 3) * 1 + 1 * (x 0).val = _; rw [e0]; omega
  · show win0_5.index t (1 : Fin 3) * 1024 + 1 * (x 1).val = _; rw [e1]; omega
  · show win0_5.index t (2 : Fin 3) * 4096 + 1 * (x 2).val = _; rw [e2]; omega

theorem blk6 (c : Dev nD) (t : Fin cfg0.N) (x : S1x4096x1024.Idx) : (iblk m c 6 t : S1x4096x1024.Idx → EReal) x
    = at3 (m ((c : Thread nD τ).loc main_arg6) : Vec Ideal S4x4096x1024 .bf16) 1 (x 1).val (x 2).val := by
  obtain ⟨e0, e1, e2⟩ := idx6 t
  have hx : (x 0).val < 1 := (x 0).isLt
  show V m c main_arg6 (((cfg0.win 6).blk t).view.emb x) = _
  rw [V_main_arg6]
  refine at3_of (m ((c : Thread nD τ).loc main_arg6) : Vec Ideal S4x4096x1024 .bf16) (((cfg0.win 6).blk t).view.emb x) _ _ _ ?_ ?_ ?_
  · show win0_6.index t (0 : Fin 3) * 1 + 1 * (x 0).val = _; rw [e0]; omega
  · show win0_6.index t (1 : Fin 3) * 4096 + 1 * (x 1).val = _; rw [e1]; omega
  · show win0_6.index t (2 : Fin 3) * 1024 + 1 * (x 2).val = _; rw [e2]; omega

theorem emb7_val (t : Fin cfg0.N) (y : S1024x1024.Idx) :
    (((cfg0.win 7).blk t).view.emb y (0 : Fin 2)).val = t.val * 1024 + (y 0).val
      ∧ (((cfg0.win 7).blk t).view.emb y (1 : Fin 2)).val = (y 1).val := by
  obtain ⟨e0, e1⟩ := idx7 t
  constructor
  · show win0_7.index t (0 : Fin 2) * 1024 + 1 * (y 0).val = _; rw [e0]; omega
  · show win0_7.index t (1 : Fin 2) * 1024 + 1 * (y 1).val = _; rw [e1]; omega

/-! ## One point's block is its block of the whole -/

/-- The rows the feed-forward part is given, of the argument arrays as launched. -/
abbrev given (c : Dev nD) (r : ℕ) : ℕ → EReal :=
  tailRow (at2 (m ((c : Thread nD τ).loc main_arg2) : Vec Ideal S16384x1024 .f32) r)
    (fun k => at2 (m ((c : Thread nD τ).loc main_arg3) : Vec Ideal S8x6144 .f32) (1 + r / 4096) (2048 + k))
    (at2 (m ((c : Thread nD τ).loc main_arg0) : Vec Ideal S16384x1024 .bf16) r) (at3 (m ((c : Thread nD τ).loc main_arg1) : Vec Ideal S1x1024x1024 .bf16) 0)

/-- The product and the feed-forward part of layer 1 of the argument arrays as launched. -/
abbrev G (c : Dev nD) : S16384x1024.Idx → EReal :=
  whole (given m c) (m ((c : Thread nD τ).loc main_arg3)) (m ((c : Thread nD τ).loc main_arg4))
    (m ((c : Thread nD τ).loc main_arg5)) (m ((c : Thread nD τ).loc main_arg6)) 1

/-- The modulation a row of point `t` reads, from column `o`. -/
abbrev md (c : Dev nD) (t : Fin cfg0.N) (o : ℕ) : ℕ → EReal := fun k =>
  at2 (m ((c : Thread nD τ).loc main_arg3) : Vec Ideal S8x6144 .f32) (1 + t.val / 4) (o + k)

theorem given_apply (c : Dev nD) (t : Fin cfg0.N) (i k : Fin 1024) :
    rows (grid0.coords t) (iblk m c 0 t) (iblk m c 1 t) (iblk m c 2 t) (iblk m c 3 t) (ix2 i k) = given m c (t.val * 1024 + i.val) k := by
  have hi := i.isLt
  have e : (t.val * 1024 + i.val) / 4096 = t.val / 4 := by omega
  unfold rows given
  rw [e]
  have hx : ∀ k : Fin 1024, View.ld (iblk m c 2 t : Vec Ideal S1024x1024 .f32) (Rect.unit (s := S1024x1024) ![0, 0] S1024x1024.size inb_S1024x1024_S1024x1024_0_0) (ix2 i k)
      = at2 (m ((c : Thread nD τ).loc main_arg2) : Vec Ideal S16384x1024 .f32) (t.val * 1024 + i.val) k := fun k =>
    (blk2 m c t _).trans (at2_congr _ (by show t.val * 1024 + (0 + 1 * i.val) = _; omega) (by show 0 + 1 * k.val = _; omega))
  have hz : ∀ k : Fin 1024, View.ld (iblk m c 0 t : Vec Ideal S1024x1024 .bf16) (Rect.unit (s := S1024x1024) ![0, 0] S1024x1024.size inb_S1024x1024_S1024x1024_0_0) (ix2 i k)
      = at2 (m ((c : Thread nD τ).loc main_arg0) : Vec Ideal S16384x1024 .bf16) (t.val * 1024 + i.val) k := fun k =>
    (blk0 m c t _).trans (at2_congr _ (by show t.val * 1024 + (0 + 1 * i.val) = _; omega) (by show 0 + 1 * k.val = _; omega))
  have hw : ∀ a k : Fin 1024, View.ld (iblk m c 1 t : Vec Ideal S1x1024x1024 .bf16) (Rect.unit (s := S1x1024x1024) ![0, 0, 0] S1x1024x1024.size inb_S1x1024x1024_S1x1024x1024_0_0_0) (ix3 (0 : Fin 1) a k)
      = at3 (m ((c : Thread nD τ).loc main_arg1) : Vec Ideal S1x1024x1024 .bf16) 0 a k := fun a k =>
    (blk1 m c t _).trans (congrArg₂ (at3 _ 0) (by show 0 + 1 * a.val = _; omega) (by show 0 + 1 * k.val = _; omega))
  exact tailV_apply _ _ _ _ _ _ i _ (md m c t 2048) _ _ hx (modRow_apply _ _ (blk3 m c t) _ _ _ _ (off1 t).1 (off1 t).2) hz hw k

theorem hidden_apply (c : Dev nD) (t : Fin cfg0.N) (i k : Fin 1024) :
    hidden (grid0.coords t) (iblk m c 0 t) (iblk m c 1 t) (iblk m c 2 t) (iblk m c 3 t) (iblk m c 4 t) (ix2 i k)
      = normed (given m c (t.val * 1024 + i.val))
          (at1 (m ((c : Thread nD τ).loc main_arg4) : Vec Ideal S1024 .f32)) (md m c t 4096) (md m c t 3072) k := by
  unfold hidden
  exact normV_apply _ _ _ _ _ _ _ _ i (given m c (t.val * 1024 + i.val))
    (at1 (m ((c : Thread nD τ).loc main_arg4) : Vec Ideal S1024 .f32)) (md m c t 4096) (md m c t 3072) (given_apply m c t i) (wholeRow_apply _ _ (blk4 m c t) _ _)
    (modRow_apply _ _ (blk3 m c t) _ _ _ _ (off2 t).1 (off2 t).2) (modRow_apply _ _ (blk3 m c t) _ _ _ _ (off3 t).1 (off3 t).2) k

theorem body_apply (c : Dev nD) (t : Fin cfg0.N) (i j : Fin 1024) :
    body (grid0.coords t) (iblk m c 0 t) (iblk m c 1 t) (iblk m c 2 t) (iblk m c 3 t) (iblk m c 4 t) (iblk m c 5 t) (iblk m c 6 t) (ix2 i j)
      = row (given m c (t.val * 1024 + i.val))
          (at1 (m ((c : Thread nD τ).loc main_arg4) : Vec Ideal S1024 .f32)) (md m c t 4096) (md m c t 3072) (md m c t 5120)
          (at3 (m ((c : Thread nD τ).loc main_arg5) : Vec Ideal S4x1024x4096 .bf16) 1) (at3 (m ((c : Thread nD τ).loc main_arg6) : Vec Ideal S4x4096x1024 .bf16) 1) j := by
  unfold body
  exact ffV_apply _ _ _ _ _ _ _ i j _ _ _ _ (md m c t 5120) _ _ (given_apply m c t i j) (hidden_apply m c t i)
    (modRow_apply _ _ (blk3 m c t) _ _ _ _ (off4 t).1 (off4 t).2 j) (up_apply _ _ (blk5 m c t)) (down_apply _ _ (blk6 m c t))

theorem flushed_eq (c : Dev nD) (t : Fin cfg0.N) :
    (dats m 0 c).flushed 7 t = ((cfg0.win 7).blk t).view.read (Elt Ideal) (G m c) := by
  rw [flushed7_A, out_eq]
  funext y
  show body (grid0.coords t) (iblk m c 0 t) (iblk m c 1 t) (iblk m c 2 t) (iblk m c 3 t) (iblk m c 4 t) (iblk m c 5 t) (iblk m c 6 t) y = G m c (((cfg0.win 7).blk t).view.emb y)
  obtain ⟨i, j, rfl⟩ : ∃ i j : Fin 1024, y = ix2 i j := ⟨y 0, y 1, funext fun a => by fin_cases a <;> rfl⟩
  obtain ⟨e0, e1⟩ := emb7_val t (ix2 i j)
  have e0 : (((cfg0.win 7).blk t).view.emb (ix2 i j) (0 : Fin 2)).val = t.val * 1024 + i.val := e0
  have e1 : (((cfg0.win 7).blk t).view.emb (ix2 i j) (1 : Fin 2)).val = j.val := e1
  have hi := i.isLt
  have er : (t.val * 1024 + i.val) / 4096 = t.val / 4 := by omega
  rw [body_apply]
  unfold G whole
  rw [e0, e1, er]

theorem covered (j : S16384x1024.Idx) : ∃ t : Fin cfg0.N, (cfg0.win 7).flush t = true ∧ j ∈ ((cfg0.win 7).blk t).view.set := by
  have h0 : (j 0).val < 16384 := (j 0).isLt
  obtain ⟨t, ht⟩ : ∃ t : Fin cfg0.N, t.val = (j 0).val / 1024 := ⟨⟨(j 0).val / 1024, by show _ < 16; omega⟩, rfl⟩
  refine ⟨t, flush0_7 _, ?_⟩
  obtain ⟨y, hy⟩ : ∃ y : S1024x1024.Idx, (y 0).val = (j 0).val % 1024 ∧ (y 1).val = (j 1).val :=
    ⟨ix2 (⟨(j 0).val % 1024, by omega⟩ : Fin 1024) (j 1), rfl, rfl⟩
  obtain ⟨e0, e1⟩ := emb7_val t y
  have key : j = ((cfg0.win 7).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 7).blk t).view.emb_mem_set y

/-- The result array after the run. -/
theorem final (c : Dev nD) : (dats m 0 c).arrAt 7 cfg0.N = G m c :=
  (dats m 0 c).arrAt_eq_of_cover 7 (G m c) (fun t _ => flushed_eq m c t) covered

/-- The kernel's run: the result is the product and the feed-forward part of the arguments, which are left as launched. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Mlp2

end
-- ==== Proof.Mlp2Ref.lean ====
/- The reference of the feed-forward part with a product before it read at an index: it is the same function of the seven arguments as the
   kernel's whole array. -/
module

public import proofs.«01_k».proof.Proof.Mlp
public import proofs.«01_k».proof.Proof.Gen.Reference2Ideal.Read

@[expose] public section

noncomputable section

namespace Cert.Mlp2Ref

open Cert.At Cert.Norm Cert.Mlp Cert.Reference2Ideal Cert.Reference2Ideal.Gen Cert.Reference2Ideal.Read Idealize.SL.Sem Idealize.ShloMosaic.ValueIdx
open Idealize.ShloMosaic hiding ix0 ix1 ix2 ix3 ix4 ix5 inv
open Idealize.ShloMosaic.TcCoe
open scoped BigOperators

variable (x0 : Vec Ideal S16384x1024 .bf16) (x1 : Vec Ideal S1x1024x1024 .bf16) (x2 : Vec Ideal S16384x1024 .f32) (x3 : Vec Ideal S8x6144 .f32)
  (x4 : Vec Ideal S1024 .f32) (x5 : Vec Ideal S4x1024x4096 .bf16) (x6 : Vec Ideal S4x4096x1024 .bf16)

/-- The rows the feed-forward part is given. -/
abbrev given (r : ℕ) : ℕ → EReal := tailRow (at2 x2 r) (fun k => at2 x3 (1 + r / 4096) (2048 + k)) (at2 x0 r) (at3 x1 0)

theorem z_apply (i : S4x4096x1024.Idx) : val_main_v10 (F := Ideal) x0 i = at2 x0 ((i 0).val * 4096 + (i 1).val) (i 2).val := by
  show val_main_v0 (F := Ideal) x0 i = _
  rw [val_main_v0_apply]
  have h2 : (i 2).val < 1024 := (i 2).isLt
  refine at2_of x0 _ _ _ ?_ ?_
  · show (((i 0).val * 4096 + (i 1).val) * 1024 + (i 2).val) / 1024 = _; omega
  · show (((i 0).val * 4096 + (i 1).val) * 1024 + (i 2).val) % 1024 = _; omega

theorem w_apply (i : S1024x1024.Idx) : val_main_v12 (F := Ideal) x1 i = at3 x1 0 (i 0).val (i 1).val := by
  have h0 : (i 0).val < 1024 := (i 0).isLt
  have h1 : (i 1).val < 1024 := (i 1).isLt
  show val_main_v11 (F := Ideal) x1 i = _
  rw [val_main_v11_apply]
  refine at3_of x1 _ _ _ _ rfl ?_ ?_
  · show ((i 0).val * 1024 + (i 1).val) / 1024 % 1024 = _; omega
  · show ((i 0).val * 1024 + (i 1).val) % 1024 = _; omega

theorem skip_apply (i : S4x4096x1024.Idx) : val_main_v1 (F := Ideal) x2 i = at2 x2 ((i 0).val * 4096 + (i 1).val) (i 2).val := by
  rw [val_main_v1_apply]
  have h2 : (i 2).val < 1024 := (i 2).isLt
  refine at2_of x2 _ _ _ ?_ ?_
  · show (((i 0).val * 4096 + (i 1).val) * 1024 + (i 2).val) / 1024 = _; omega
  · show (((i 0).val * 4096 + (i 1).val) * 1024 + (i 2).val) % 1024 = _; omega

theorem gate_apply (i : S4x4096x1024.Idx) : val_main_v14 (F := Ideal) x3 i = at2 x3 (1 + (i 0).val) (2048 + (i 2).val) := by
  rw [val_main_v14_apply, val_main_v6_apply, val_main_v3_apply, val_main_v2_apply]
  exact at2_of x3 _ _ _ rfl rfl

theorem x_apply (i : S4x4096x1024.Idx) : val_main_v16 (F := Ideal) x0 x1 x2 x3 i = given x0 x1 x2 x3 ((i 0).val * 4096 + (i 1).val) (i 2).val := by
  have h1 : (i 1).val < 4096 := (i 1).isLt
  have e : ((i 0).val * 4096 + (i 1).val) / 4096 = (i 0).val := by omega
  rw [val_main_v16_apply, val_main_v15_apply, val_main_v13_apply, skip_apply, gate_apply]
  simp only [z_apply, w_apply]
  unfold given tailRow
  rw [e]
  rfl

theorem md_apply (i : S4x1x6144.Idx) : val_main_v22 (F := Ideal) x3 i = at2 x3 (1 + (i 0).val) (i 2).val := by
  rw [val_main_v22_apply, val_main_v21_apply]
  exact at2_of x3 _ _ _ rfl rfl

theorem w1_apply (i : S1024x4096.Idx) : val_main_v48 (F := Ideal) x5 i = at3 x5 1 (i 0).val (i 1).val := by
  have h0 : (i 0).val < 1024 := (i 0).isLt
  have h1 : (i 1).val < 4096 := (i 1).isLt
  rw [val_main_v48_apply, val_main_v18_apply, val_main_v17_apply]
  refine at3_of x5 _ _ _ _ rfl ?_ ?_
  · show ((i 0).val * 4096 + (i 1).val) / 4096 % 1024 = _; omega
  · show ((i 0).val * 4096 + (i 1).val) % 4096 = _; omega

theorem w2_apply (i : S4096x1024.Idx) : val_main_v52 (F := Ideal) x6 i = at3 x6 1 (i 0).val (i 1).val := by
  have h0 : (i 0).val < 4096 := (i 0).isLt
  have h1 : (i 1).val < 1024 := (i 1).isLt
  rw [val_main_v52_apply, val_main_v20_apply, val_main_v19_apply]
  refine at3_of x6 _ _ _ _ rfl ?_ ?_
  · show ((i 0).val * 1024 + (i 1).val) / 1024 % 4096 = _; omega
  · show ((i 0).val * 1024 + (i 1).val) % 1024 = _; omega

/-- The normalisation factor of a row. -/
theorem inv_apply (i : S4x4096x1.Idx) : val_main_v36 (F := Ideal) x0 x1 x2 x3 i = inv (given x0 x1 x2 x3 ((i 0).val * 4096 + (i 1).val)) := by
  rw [val_main_v36_apply, val_main_v35_apply, val_main_v33_apply, val_main_v34_apply, val_main_v32_apply, val_main_v31_apply, val_main_v30_apply]
  have e : (val_main_cst (F := Ideal)) (Shape.Idx.first h_S_) = (0 : EReal) := Ideal.ofBits_zero_f32
  rw [e, zero_add]
  unfold Norm.inv
  refine congrArg (fun s => Ideal.rsqrt (Ideal.div s (Ideal.ofBits .f32 0x44800000#32) + Ideal.ofBits .f32 0x358637BD#32)) (Finset.sum_congr rfl fun j _ => ?_)
  rw [val_main_v29_apply, x_apply]
  rfl

/-- The modulated normalised rows. -/
theorem h_apply (i : S4x4096x1024.Idx) : val_main_v47 (F := Ideal) x0 x1 x2 x3 x4 i
    = normed (given x0 x1 x2 x3 ((i 0).val * 4096 + (i 1).val)) (at1 x4) (fun k => at2 x3 (1 + (i 0).val) (4096 + k)) (fun k => at2 x3 (1 + (i 0).val) (3072 + k)) (i 2).val := by
  rw [val_main_v47_apply, val_main_v45_apply, val_main_v41_apply, val_main_v38_apply, val_main_v37_apply, val_main_v40_apply, val_main_v39_apply,
    val_main_v44_apply, val_main_v43_apply, val_main_v42_apply, val_main_v46_apply, val_main_v27_apply, val_main_v26_apply, inv_apply, x_apply, md_apply, md_apply,
    at1_of x4 _ (i 2).val rfl]
  unfold normed
  rw [← mul_assoc]
  rfl

/-- What hidden unit `k` adds. -/
theorem unit_apply (i : S4x4096x1024.Idx) (k : Fin 4096) :
    val_main_v51 (F := Ideal) x0 x1 x2 x3 x4 x5 (lidx_main_v53 i k) * val_main_v52 (F := Ideal) x6 (ridx_main_v53 i k)
      = unit (normed (given x0 x1 x2 x3 ((i 0).val * 4096 + (i 1).val)) (at1 x4) (fun k => at2 x3 (1 + (i 0).val) (4096 + k)) (fun k => at2 x3 (1 + (i 0).val) (3072 + k)))
          (at3 x5 1) (at3 x6 1) (i 2).val k.val := by
  have hz : val_main_call0_v0 (F := Ideal) (lidx_main_v53 i k) = (0 : EReal) := (val_main_call0_v0_apply _).trans Ideal.ofBits_zero_f32
  rw [val_main_v51_apply, val_main_v50_apply, val_main_v49_apply, hz, w2_apply]
  simp only [h_apply, w1_apply]
  rfl

theorem ff_apply (i : S4x4096x1024.Idx) : val_main_v56 (F := Ideal) x0 x1 x2 x3 x4 x5 x6 i
    = row (given x0 x1 x2 x3 ((i 0).val * 4096 + (i 1).val)) (at1 x4) (fun k => at2 x3 (1 + (i 0).val) (4096 + k)) (fun k => at2 x3 (1 + (i 0).val) (3072 + k))
        (fun k => at2 x3 (1 + (i 0).val) (5120 + k)) (at3 x5 1) (at3 x6 1) (i 2).val := by
  rw [val_main_v56_apply, val_main_v55_apply, val_main_v54_apply, val_main_v28_apply, val_main_v53_apply, x_apply, md_apply,
    Finset.sum_congr rfl fun k _ => unit_apply x0 x1 x2 x3 x4 x5 x6 i k]
  rfl

/-- The reference's result is the whole array that the kernel leaves. -/
theorem ref_eq : val_main_v57 (F := Ideal) x0 x1 x2 x3 x4 x5 x6 = whole (given x0 x1 x2 x3) x3 x4 x5 x6 1 := by
  funext i
  have h1 : (i 1).val < 1024 := (i 1).isLt
  rw [val_main_v57_apply, ff_apply]
  exact row_place (given x0 x1 x2 x3) x3 x4 x5 x6 1 i (by show ((i 0).val * 1024 + (i 1).val) / 4194304 * 4096 + ((i 0).val * 1024 + (i 1).val) / 1024 % 4096 = _; omega)
    (by show ((i 0).val * 1024 + (i 1).val) / 4194304 = _; omega) (by show ((i 0).val * 1024 + (i 1).val) % 1024 = _; omega)

end Cert.Mlp2Ref

end
-- ==== Proof.Mlp3Array.lean ====
/- The whole array the plain feed-forward kernel leaves: every point writes its block of one function of the five arguments,
   and the points' blocks cover the result. -/
module

public import proofs.«01_k».proof.Proof.Mlp
public import proofs.«01_k».proof.Proof.Gen.Kernel3Ideal.Value

@[expose] public section

noncomputable section

namespace Cert.Mlp3

open Cert.At Cert.Ops Cert.Norm Cert.Mlp Cert.Kernel3Ideal Cert.Kernel3Ideal.Gen Cert.Kernel3Ideal.Value Idealize.SL.Sem Idealize.ShloMosaic.ValueIdx
open Idealize.ShloMosaic hiding ix0 ix1 ix2 ix3 ix4 ix5
open Idealize.ShloMosaic.TcCoe
open scoped BigOperators

/-! ## The body as one function of the five blocks -/

section Body

variable (i : grid0.Coords) (x0 : Vec Ideal S1024x1024 .f32) (x1 : Vec Ideal S8x6144 .f32) (x2 : Vec Ideal S1x1024 .f32)
  (x3 : Vec Ideal S1x1024x4096 .bf16) (x4 : Vec Ideal S1x4096x1024 .bf16)

abbrev rows : Vec Ideal S1024x1024 .f32 := View.ld x0 (Rect.unit (s := S1024x1024) ![0, 0] S1024x1024.size inb_S1024x1024_S1024x1024_0_0)

/-- The normalised block. -/
def hidden : FVec Ideal S1024x1024 .bf16 :=
  normV reduces_S1024x1024_S1024 shapeCasts_S1024_S1024x1 broadcasts_S1024x1_S1024x1024 broadcasts_S1x1024_S1024x1024 (rows x0)
    (shapeCast S1x1024 (View.ld x2 (Rect.unit (s := S1x1024) ![0, 0] S1x1024.size inb_S1x1024_S1x1024_0_0)) shapeCasts_S1x1024_S1x1024)
    (View.ld x1 (Rect.unit (s := S8x6144) (k0_off1 i) S1x1024.size (k0_off1_inb i)))
    (View.ld x1 (Rect.unit (s := S8x6144) (k0_off2 i) S1x1024.size (k0_off2_inb i)))

def body : FVec Ideal S1024x1024 .f32 :=
  ffV shapeCasts_S1x1024x1024_S1024x1024 (hidden i x0 x1 x2) broadcasts_S1x1024_S1024x1024 (rows x0)
    (View.ld x1 (Rect.unit (s := S8x6144) (k0_off3 i) S1x1024.size (k0_off3_inb i))) (up x3) (down x4)

end Body

theorem hz : (![0, 0] : Fin 2 → ℕ) = fun _ => 0 := funext fun a => by fin_cases a <;> rfl

/-- What the run leaves in the result's staging buffer: its one piece is a store of the whole block. -/
theorem out_eq (c : Dev nD) (i : grid0.Coords) (arg1 : Memref sig .tc .vmem S1024x1024 .f32) (h1 : arg1.IsWhole) (arg2 : Memref sig .tc .vmem S8x6144 .f32) (h2 : arg2.IsWhole)
    (arg3 : Memref sig .tc .vmem S1x1024 .f32) (h3 : arg3.IsWhole) (arg4 : Memref sig .tc .vmem S1x1024x4096 .bf16) (h4 : arg4.IsWhole)
    (arg5 : Memref sig .tc .vmem S1x4096x1024 .bf16) (h5 : arg5.IsWhole) (arg6 : Memref sig .tc .vmem S1024x1024 .f32) (h6 : arg6.IsWhole)
    (x0 : Vec Ideal S1024x1024 .f32) (x1 : Vec Ideal S8x6144 .f32) (x2 : Vec Ideal S1x1024 .f32) (x3 : Vec Ideal S1x1024x4096 .bf16) (x4 : Vec Ideal S1x4096x1024 .bf16) :
    out0_A_5 c i arg1 h1 arg2 h2 arg3 h3 arg4 h4 arg5 h5 arg6 h6 x0 x1 x2 x3 x4 = body i x0 x1 x2 x3 x4 := by
  unfold out0_A_5
  rw [View.read_writes_junk_eq_canon]
  show View.canon ([⟨Rect.unit ![0, 0] S1024x1024.size inb_S1024x1024_S1024x1024_0_0,
      body i (arg1.view.read (Elt Ideal) (h1.unread x0)) (arg2.view.read (Elt Ideal) (h2.unread x1)) (arg3.view.read (Elt Ideal) (h3.unread x2))
        (arg4.view.read (Elt Ideal) (h4.unread x3)) (arg5.view.read (Elt Ideal) (h5.unread x4))⟩] :
      List (View.Piece (Elt Ideal) S1024x1024 .f32)) = _
  rw [View.canon_unit_zero hz, h1.read_unread, h2.read_unread, h3.read_unread, h4.read_unread, h5.read_unread]

theorem off1 : ∀ t : Fin cfg0.N, k0_off1 (grid0.coords t) (0 : Fin 2) = 1 + t.val / 4 ∧ k0_off1 (grid0.coords t) (1 : Fin 2) = 4096 :=
  (by decide +kernel : ∀ t : Fin grid0.N, _)
theorem off2 : ∀ t : Fin cfg0.N, k0_off2 (grid0.coords t) (0 : Fin 2) = 1 + t.val / 4 ∧ k0_off2 (grid0.coords t) (1 : Fin 2) = 3072 :=
  (by decide +kernel : ∀ t : Fin grid0.N, _)
theorem off3 : ∀ t : Fin cfg0.N, k0_off3 (grid0.coords t) (0 : Fin 2) = 1 + t.val / 4 ∧ k0_off3 (grid0.coords t) (1 : Fin 2) = 5120 :=
  (by decide +kernel : ∀ t : Fin grid0.N, _)

/-! ## Where each window's block lies -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 3) = 0 ∧ win0_3.index t (1 : Fin 3) = 0 ∧ win0_3.index t (2 : Fin 3) = 0 := (by decide +kernel : ∀ t : Fin grid0.N, _)
theorem idx4 : ∀ t : Fin cfg0.N, win0_4.index t (0 : Fin 3) = 0 ∧ win0_4.index t (1 : Fin 3) = 0 ∧ win0_4.index t (2 : Fin 3) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem V_main_v0 (c : Dev nD) : V m c main_v0 = shapeCast S1x1024 (m ((c : Thread nD τ).loc main_arg2) : Vec Ideal S1024 .f32) shapeCasts_S1024_S1x1024 := by
  show StableHlo.after hostOps0 _ (Proc.devRef .tc main_v0) = _
  after_results
  rfl

theorem blk0 (c : Dev nD) (t : Fin cfg0.N) (x : S1024x1024.Idx) : (iblk m c 0 t : S1024x1024.Idx → EReal) x
    = at2 (m ((c : Thread nD τ).loc main_arg0) : Vec Ideal S16384x1024 .f32) (t.val * 1024 + (x 0).val) (x 1).val := by
  obtain ⟨e0, e1⟩ := idx0 t
  show V m c main_arg0 (((cfg0.win 0).blk t).view.emb x) = _
  rw [V_main_arg0]
  refine at2_of (m ((c : Thread nD τ).loc main_arg0) : Vec Ideal S16384x1024 .f32) (((cfg0.win 0).blk t).view.emb x) _ _ ?_ ?_
  · show win0_0.index t (0 : Fin 2) * 1024 + 1 * (x 0).val = _; rw [e0]; omega
  · show win0_0.index t (1 : Fin 2) * 1024 + 1 * (x 1).val = _; rw [e1]; omega

theorem blk1 (c : Dev nD) (t : Fin cfg0.N) (x : S8x6144.Idx) : (iblk m c 1 t : S8x6144.Idx → EReal) x
    = at2 (m ((c : Thread nD τ).loc main_arg1) : Vec Ideal S8x6144 .f32) (x 0).val (x 1).val := by
  obtain ⟨e0, e1⟩ := idx1 t
  show V m c main_arg1 (((cfg0.win 1).blk t).view.emb x) = _
  rw [V_main_arg1]
  refine at2_of (m ((c : Thread nD τ).loc main_arg1) : Vec Ideal S8x6144 .f32) (((cfg0.win 1).blk t).view.emb x) _ _ ?_ ?_
  · show win0_1.index t (0 : Fin 2) * 8 + 1 * (x 0).val = _; rw [e0]; omega
  · show win0_1.index t (1 : Fin 2) * 6144 + 1 * (x 1).val = _; rw [e1]; omega

theorem blk2 (c : Dev nD) (t : Fin cfg0.N) (k : Fin 1024) : (iblk m c 2 t : S1x1024.Idx → EReal) (ix2 (0 : Fin 1) k)
    = at1 (m ((c : Thread nD τ).loc main_arg2) : Vec Ideal S1024 .f32) k.val := by
  obtain ⟨e0, e1⟩ := idx2 t
  have he : ((cfg0.win 2).blk t).view.emb (ix2 (0 : Fin 1) k) = (ix2 (0 : Fin 1) k : S1x1024.Idx) := by
    funext a; apply Fin.ext
    match a with
    | ⟨0, _⟩ => show win0_2.index t (0 : Fin 2) * 1 + 1 * 0 = 0; rw [e0]
    | ⟨1, _⟩ => show win0_2.index t (1 : Fin 2) * 1024 + 1 * k.val = k.val; rw [e1]; omega
  show V m c main_v0 (((cfg0.win 2).blk t).view.emb (ix2 (0 : Fin 1) k)) = _
  rw [V_main_v0, he]
  exact (shapeCast_a_1a_apply _ _ _ k).trans (at1_of _ _ _ rfl)

theorem blk3 (c : Dev nD) (t : Fin cfg0.N) (x : S1x1024x4096.Idx) : (iblk m c 3 t : S1x1024x4096.Idx → EReal) x
    = at3 (m ((c : Thread nD τ).loc main_arg3) : Vec Ideal S4x1024x4096 .bf16) 0 (x 1).val (x 2).val := by
  obtain ⟨e0, e1, e2⟩ := idx3 t
  have hx : (x 0).val < 1 := (x 0).isLt
  show V m c main_arg3 (((cfg0.win 3).blk t).view.emb x) = _
  rw [V_main_arg3]
  refine at3_of (m ((c : Thread nD τ).loc main_arg3) : Vec Ideal S4x1024x4096 .bf16) (((cfg0.win 3).blk t).view.emb x) _ _ _ ?_ ?_ ?_
  · show win0_3.index t (0 : Fin 3) * 1 + 1 * (x 0).val = _; rw [e0]; omega
  · show win0_3.index t (1 : Fin 3) * 1024 + 1 * (x 1).val = _; rw [e1]; omega
  · show win0_3.index t (2 : Fin 3) * 4096 + 1 * (x 2).val = _; rw [e2]; omega

theorem blk4 (c : Dev nD) (t : Fin cfg0.N) (x : S1x4096x1024.Idx) : (iblk m c 4 t : S1x4096x1024.Idx → EReal) x
    = at3 (m ((c : Thread nD τ).loc main_arg4) : Vec Ideal S4x4096x1024 .bf16) 0 (x 1).val (x 2).val := by
  obtain ⟨e0, e1, e2⟩ := idx4 t
  have hx : (x 0).val < 1 := (x 0).isLt
  show V m c main_arg4 (((cfg0.win 4).blk t).view.emb x) = _
  rw [V_main_arg4]
  refine at3_of (m ((c : Thread nD τ).loc main_arg4) : Vec Ideal S4x4096x1024 .bf16) (((cfg0.win 4).blk t).view.emb x) _ _ _ ?_ ?_ ?_
  · show win0_4.index t (0 : Fin 3) * 1 + 1 * (x 0).val = _; rw [e0]; omega
  · show win0_4.index t (1 : Fin 3) * 4096 + 1 * (x 1).val = _; rw [e1]; omega
  · show win0_4.index t (2 : Fin 3) * 1024 + 1 * (x 2).val = _; rw [e2]; omega

theorem emb5_val (t : Fin cfg0.N) (y : S1024x1024.Idx) :
    (((cfg0.win 5).blk t).view.emb y (0 : Fin 2)).val = t.val * 1024 + (y 0).val
      ∧ (((cfg0.win 5).blk t).view.emb y (1 : Fin 2)).val = (y 1).val := by
  obtain ⟨e0, e1⟩ := idx5 t
  constructor
  · show win0_5.index t (0 : Fin 2) * 1024 + 1 * (y 0).val = _; rw [e0]; omega
  · show win0_5.index t (1 : Fin 2) * 1024 + 1 * (y 1).val = _; rw [e1]; omega

/-! ## One point's block is its block of the whole -/

/-- The feed-forward part of layer 0 of the argument arrays as launched. -/
abbrev G (c : Dev nD) : S16384x1024.Idx → EReal :=
  whole (at2 (m ((c : Thread nD τ).loc main_arg0) : Vec Ideal S16384x1024 .f32)) (m ((c : Thread nD τ).loc main_arg1)) (m ((c : Thread nD τ).loc main_arg2))
    (m ((c : Thread nD τ).loc main_arg3)) (m ((c : Thread nD τ).loc main_arg4)) 0

theorem rows_apply (c : Dev nD) (t : Fin cfg0.N) (i k : Fin 1024) : rows (iblk m c 0 t : Vec Ideal S1024x1024 .f32) (ix2 i k)
    = at2 (m ((c : Thread nD τ).loc main_arg0) : Vec Ideal S16384x1024 .f32) (t.val * 1024 + i.val) k := by
  refine (blk0 m c t _).trans (at2_congr _ ?_ ?_)
  · show t.val * 1024 + (0 + 1 * i.val) = _; omega
  · show 0 + 1 * k.val = _; omega

/-- The modulation a row of point `t` reads, from column `o`. -/
abbrev md (c : Dev nD) (t : Fin cfg0.N) (o : ℕ) : ℕ → EReal := fun k =>
  at2 (m ((c : Thread nD τ).loc main_arg1) : Vec Ideal S8x6144 .f32) (1 + t.val / 4) (o + k)

theorem hidden_apply (c : Dev nD) (t : Fin cfg0.N) (i k : Fin 1024) :
    hidden (grid0.coords t) (iblk m c 0 t) (iblk m c 1 t) (iblk m c 2 t) (ix2 i k)
      = normed (at2 (m ((c : Thread nD τ).loc main_arg0) : Vec Ideal S16384x1024 .f32) (t.val * 1024 + i.val))
          (at1 (m ((c : Thread nD τ).loc main_arg2) : Vec Ideal S1024 .f32)) (md m c t 4096) (md m c t 3072) k := by
  unfold hidden
  exact normV_apply _ _ _ _ _ _ _ _ i (at2 (m ((c : Thread nD τ).loc main_arg0) : Vec Ideal S16384x1024 .f32) (t.val * 1024 + i.val))
    (at1 (m ((c : Thread nD τ).loc main_arg2) : Vec Ideal S1024 .f32)) (md m c t 4096) (md m c t 3072) (rows_apply m c t i) (wholeRow_apply _ _ (blk2 m c t) _ _)
    (modRow_apply _ _ (blk1 m c t) _ _ _ _ (off1 t).1 (off1 t).2) (modRow_apply _ _ (blk1 m c t) _ _ _ _ (off2 t).1 (off2 t).2) k

theorem body_apply (c : Dev nD) (t : Fin cfg0.N) (i j : Fin 1024) :
    body (grid0.coords t) (iblk m c 0 t) (iblk m c 1 t) (iblk m c 2 t) (iblk m c 3 t) (iblk m c 4 t) (ix2 i j)
      = row (at2 (m ((c : Thread nD τ).loc main_arg0) : Vec Ideal S16384x1024 .f32) (t.val * 1024 + i.val))
          (at1 (m ((c : Thread nD τ).loc main_arg2) : Vec Ideal S1024 .f32)) (md m c t 4096) (md m c t 3072) (md m c t 5120)
          (at3 (m ((c : Thread nD τ).loc main_arg3) : Vec Ideal S4x1024x4096 .bf16) 0) (at3 (m ((c : Thread nD τ).loc main_arg4) : Vec Ideal S4x4096x1024 .bf16) 0) j := by
  unfold body
  exact ffV_apply _ _ _ _ _ _ _ i j _ _ _ _ (md m c t 5120) _ _ (rows_apply m c t i j) (hidden_apply m c t i)
    (modRow_apply _ _ (blk1 m c t) _ _ _ _ (off3 t).1 (off3 t).2 j) (up_apply _ _ (blk3 m c t)) (down_apply _ _ (blk4 m c t))

theorem flushed_eq (c : Dev nD) (t : Fin cfg0.N) :
    (dats m 0 c).flushed 5 t = ((cfg0.win 5).blk t).view.read (Elt Ideal) (G m c) := by
  rw [flushed5_A, out_eq]
  funext y
  show body (grid0.coords t) (iblk m c 0 t) (iblk m c 1 t) (iblk m c 2 t) (iblk m c 3 t) (iblk m c 4 t) y = G m c (((cfg0.win 5).blk t).view.emb y)
  obtain ⟨i, j, rfl⟩ : ∃ i j : Fin 1024, y = ix2 i j := ⟨y 0, y 1, funext fun a => by fin_cases a <;> rfl⟩
  obtain ⟨e0, e1⟩ := emb5_val t (ix2 i j)
  have e0 : (((cfg0.win 5).blk t).view.emb (ix2 i j) (0 : Fin 2)).val = t.val * 1024 + i.val := e0
  have e1 : (((cfg0.win 5).blk t).view.emb (ix2 i j) (1 : Fin 2)).val = j.val := e1
  have hi := i.isLt
  have er : (t.val * 1024 + i.val) / 4096 = t.val / 4 := by omega
  rw [body_apply]
  unfold G whole
  rw [e0, e1, er]

theorem covered (j : S16384x1024.Idx) : ∃ t : Fin cfg0.N, (cfg0.win 5).flush t = true ∧ j ∈ ((cfg0.win 5).blk t).view.set := by
  have h0 : (j 0).val < 16384 := (j 0).isLt
  obtain ⟨t, ht⟩ : ∃ t : Fin cfg0.N, t.val = (j 0).val / 1024 := ⟨⟨(j 0).val / 1024, by show _ < 16; omega⟩, rfl⟩
  refine ⟨t, flush0_5 _, ?_⟩
  obtain ⟨y, hy⟩ : ∃ y : S1024x1024.Idx, (y 0).val = (j 0).val % 1024 ∧ (y 1).val = (j 1).val :=
    ⟨ix2 (⟨(j 0).val % 1024, by omega⟩ : Fin 1024) (j 1), rfl, rfl⟩
  obtain ⟨e0, e1⟩ := emb5_val t y
  have key : j = ((cfg0.win 5).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 5).blk t).view.emb_mem_set y

/-- The result array after the run. -/
theorem final (c : Dev nD) : (dats m 0 c).arrAt 5 cfg0.N = G m c :=
  (dats m 0 c).arrAt_eq_of_cover 5 (G m c) (fun t _ => flushed_eq m c t) covered

/-- The kernel's run: the result is the feed-forward part of the arguments, which are left as launched. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Mlp3

end
-- ==== Proof.Mlp3Ref.lean ====
/- The reference of the plain feed-forward part read at an index: it is the same function of the five arguments as the
   kernel's whole array. -/
module

public import proofs.«01_k».proof.Proof.Mlp
public import proofs.«01_k».proof.Proof.Gen.Reference3Ideal.Read

@[expose] public section

noncomputable section

namespace Cert.Mlp3Ref

open Cert.At Cert.Norm Cert.Mlp Cert.Reference3Ideal Cert.Reference3Ideal.Gen Cert.Reference3Ideal.Read Idealize.SL.Sem Idealize.ShloMosaic.ValueIdx
open Idealize.ShloMosaic hiding ix0 ix1 ix2 ix3 ix4 ix5 inv
open Idealize.ShloMosaic.TcCoe
open scoped BigOperators

variable (x0 : Vec Ideal S16384x1024 .f32) (x1 : Vec Ideal S8x6144 .f32) (x2 : Vec Ideal S1024 .f32)
  (x3 : Vec Ideal S4x1024x4096 .bf16) (x4 : Vec Ideal S4x4096x1024 .bf16)

theorem x_apply (i : S4x4096x1024.Idx) : val_main_v0 (F := Ideal) x0 i = at2 x0 ((i 0).val * 4096 + (i 1).val) (i 2).val := by
  rw [val_main_v0_apply]
  have h2 : (i 2).val < 1024 := (i 2).isLt
  refine at2_of x0 _ _ _ ?_ ?_
  · show (((i 0).val * 4096 + (i 1).val) * 1024 + (i 2).val) / 1024 = _; omega
  · show (((i 0).val * 4096 + (i 1).val) * 1024 + (i 2).val) % 1024 = _; omega

theorem md_apply (i : S4x1x6144.Idx) : val_main_v6 (F := Ideal) x1 i = at2 x1 (1 + (i 0).val) (i 2).val := by
  rw [val_main_v6_apply, val_main_v5_apply]
  exact at2_of x1 _ _ _ rfl rfl

theorem w1_apply (i : S1024x4096.Idx) : val_main_v32 (F := Ideal) x3 i = at3 x3 0 (i 0).val (i 1).val := by
  have h0 : (i 0).val < 1024 := (i 0).isLt
  have h1 : (i 1).val < 4096 := (i 1).isLt
  rw [val_main_v32_apply, val_main_v2_apply, val_main_v1_apply]
  refine at3_of x3 _ _ _ _ rfl ?_ ?_
  · show ((i 0).val * 4096 + (i 1).val) / 4096 % 1024 = _; omega
  · show ((i 0).val * 4096 + (i 1).val) % 4096 = _; omega

theorem w2_apply (i : S4096x1024.Idx) : val_main_v36 (F := Ideal) x4 i = at3 x4 0 (i 0).val (i 1).val := by
  have h0 : (i 0).val < 4096 := (i 0).isLt
  have h1 : (i 1).val < 1024 := (i 1).isLt
  rw [val_main_v36_apply, val_main_v4_apply, val_main_v3_apply]
  refine at3_of x4 _ _ _ _ rfl ?_ ?_
  · show ((i 0).val * 1024 + (i 1).val) / 1024 % 4096 = _; omega
  · show ((i 0).val * 1024 + (i 1).val) % 1024 = _; omega

/-- The normalisation factor of a row. -/
theorem inv_apply (i : S4x4096x1.Idx) : val_main_v20 (F := Ideal) x0 i = inv (at2 x0 ((i 0).val * 4096 + (i 1).val)) := by
  rw [val_main_v20_apply, val_main_v19_apply, val_main_v17_apply, val_main_v18_apply, val_main_v16_apply, val_main_v15_apply, val_main_v14_apply]
  have e : (val_main_cst (F := Ideal)) (Shape.Idx.first h_S_) = (0 : EReal) := Ideal.ofBits_zero_f32
  rw [e, zero_add]
  unfold Norm.inv
  refine congrArg (fun s => Ideal.rsqrt (Ideal.div s (Ideal.ofBits .f32 0x44800000#32) + Ideal.ofBits .f32 0x358637BD#32)) (Finset.sum_congr rfl fun j _ => ?_)
  rw [val_main_v13_apply, x_apply]
  rfl

/-- The modulated normalised rows. -/
theorem h_apply (i : S4x4096x1024.Idx) : val_main_v31 (F := Ideal) x0 x1 x2 i
    = normed (at2 x0 ((i 0).val * 4096 + (i 1).val)) (at1 x2) (fun k => at2 x1 (1 + (i 0).val) (4096 + k)) (fun k => at2 x1 (1 + (i 0).val) (3072 + k)) (i 2).val := by
  rw [val_main_v31_apply, val_main_v29_apply, val_main_v25_apply, val_main_v22_apply, val_main_v21_apply, val_main_v24_apply, val_main_v23_apply,
    val_main_v28_apply, val_main_v27_apply, val_main_v26_apply, val_main_v30_apply, val_main_v11_apply, val_main_v10_apply, inv_apply, x_apply, md_apply, md_apply,
    at1_of x2 _ (i 2).val rfl]
  unfold normed
  rw [← mul_assoc]
  rfl

/-- What hidden unit `k` adds. -/
theorem unit_apply (i : S4x4096x1024.Idx) (k : Fin 4096) :
    val_main_v35 (F := Ideal) x0 x1 x2 x3 (lidx_main_v37 i k) * val_main_v36 (F := Ideal) x4 (ridx_main_v37 i k)
      = unit (normed (at2 x0 ((i 0).val * 4096 + (i 1).val)) (at1 x2) (fun k => at2 x1 (1 + (i 0).val) (4096 + k)) (fun k => at2 x1 (1 + (i 0).val) (3072 + k)))
          (at3 x3 0) (at3 x4 0) (i 2).val k.val := by
  have hz : val_main_call0_v0 (F := Ideal) (lidx_main_v37 i k) = (0 : EReal) := (val_main_call0_v0_apply _).trans Ideal.ofBits_zero_f32
  rw [val_main_v35_apply, val_main_v34_apply, val_main_v33_apply, hz, w2_apply]
  simp only [h_apply, w1_apply]
  rfl

theorem ff_apply (i : S4x4096x1024.Idx) : val_main_v40 (F := Ideal) x0 x1 x2 x3 x4 i
    = row (at2 x0 ((i 0).val * 4096 + (i 1).val)) (at1 x2) (fun k => at2 x1 (1 + (i 0).val) (4096 + k)) (fun k => at2 x1 (1 + (i 0).val) (3072 + k))
        (fun k => at2 x1 (1 + (i 0).val) (5120 + k)) (at3 x3 0) (at3 x4 0) (i 2).val := by
  rw [val_main_v40_apply, val_main_v39_apply, val_main_v38_apply, val_main_v12_apply, val_main_v37_apply, x_apply, md_apply,
    Finset.sum_congr rfl fun k _ => unit_apply x0 x1 x2 x3 x4 i k]
  rfl

/-- The reference's result is the whole array that the kernel leaves. -/
theorem ref_eq : val_main_v41 (F := Ideal) x0 x1 x2 x3 x4 = whole (at2 x0) x1 x2 x3 x4 0 := by
  funext i
  have h1 : (i 1).val < 1024 := (i 1).isLt
  rw [val_main_v41_apply, ff_apply]
  exact row_place (at2 x0) x1 x2 x3 x4 0 i (by show ((i 0).val * 1024 + (i 1).val) / 4194304 * 4096 + ((i 0).val * 1024 + (i 1).val) / 1024 % 4096 = _; omega)
    (by show ((i 0).val * 1024 + (i 1).val) / 4194304 = _; omega) (by show ((i 0).val * 1024 + (i 1).val) % 1024 = _; omega)

end Cert.Mlp3Ref

end
-- ==== Proof.Conv.lean ====
/- The three-tap convolution along a sequence over the extended reals, and the kernels' spelling of it on a block of 1024 rows
   that carries sixteen rows of its neighbours on either side. -/
module

public import proofs.«01_k».proof.Proof.Norm
public import Idealize.ShloMosaic.Lib.KernelVsHost

@[expose] public section

noncomputable section

namespace Cert.Conv

open Cert.Ops Cert.Norm Idealize.SL.Sem Idealize.ShloMosaic.ValueIdx
open Idealize.ShloMosaic hiding ix0 ix1 ix2 ix3 ix4 ix5 inv
open scoped BigOperators

/-- Row `n` of the convolution of the rows `P`, whose sequences have 4096 rows each and are surrounded by zeros. -/
def tap (P : ℕ → EReal) (w0 w1 w2 b : EReal) (n : ℕ) : EReal :=
  (if n % 4096 = 0 then 0 else P (n - 1)) * w0 + P n * w1 + (if n % 4096 = 4095 then 0 else P (n + 1)) * w2 + b

/-- A block of rows between the rows before it and the rows after it. -/
def haloV (hcat : Shape.Concatenates [⟨2, ![16, 1024]⟩, ⟨2, ![1024, 1024]⟩, ⟨2, ![16, 1024]⟩] ⟨2, ![1056, 1024]⟩ (0 : Fin 2))
    (x : FVec Ideal ⟨2, ![1024, 1024]⟩ .f32) (xp xn : FVec Ideal ⟨2, ![16, 1024]⟩ .f32) : FVec Ideal ⟨2, ![1056, 1024]⟩ .f32 :=
  concatenate ⟨2, ![1056, 1024]⟩ (0 : Fin 2) [⟨⟨2, ![16, 1024]⟩, xp⟩, ⟨⟨2, ![1024, 1024]⟩, x⟩, ⟨⟨2, ![16, 1024]⟩, xn⟩] hcat

/-- Of block `T`, whatever row of the same sequence lies at place `t` of the enlarged block is that row of the whole array. -/
theorem haloV_apply (hcat : Shape.Concatenates [⟨2, ![16, 1024]⟩, ⟨2, ![1024, 1024]⟩, ⟨2, ![16, 1024]⟩] ⟨2, ![1056, 1024]⟩ (0 : Fin 2))
    (x : FVec Ideal ⟨2, ![1024, 1024]⟩ .f32) (xp xn : FVec Ideal ⟨2, ![16, 1024]⟩ .f32) (X : ℕ → ℕ → EReal) (T : ℕ) (hT : T < 16)
    (hx : ∀ i k : Fin 1024, x (ix2 i k) = X (T * 1024 + i) k)
    (hxp : ∀ (i : Fin 16) (k : Fin 1024), xp (ix2 i k) = X ((T * 64 - 1) * 16 + i) k)
    (hxn : ∀ (i : Fin 16) (k : Fin 1024), xn (ix2 i k) = X (min ((T + 1) * 64) 1023 * 16 + i) k)
    (t : Fin 1056) (n : ℕ) (hn : n + 16 = T * 1024 + t.val) (hq : n / 4096 = T / 4) (k : Fin 1024) :
    haloV hcat x xp xn (ix2 t k) = X n k := by
  have ht := t.isLt
  unfold haloV
  by_cases h1 : t.val < 16
  · refine (concatenate_apply_piece (t := ⟨2, ![1056, 1024]⟩) (0 : Fin 2) _ _ (ix2 t k) 0 (by show 0 < 3; decide) ⟨2, ![16, 1024]⟩ xp rfl rfl 0 rfl
      (ix2 (⟨t.val, h1⟩ : Fin 16) k) (fun b hb => ?_) ?_).trans ((hxp _ k).trans (congrArg (fun a => X a k) ?_))
    · match b with
      | ⟨0, _⟩ => exact absurd rfl hb
      | ⟨1, _⟩ => rfl
    · show 0 + t.val = t.val; omega
    · show (T * 64 - 1) * 16 + t.val = n; omega
  · by_cases h2 : t.val < 1040
    · refine (concatenate_apply_piece (t := ⟨2, ![1056, 1024]⟩) (0 : Fin 2) _ _ (ix2 t k) 1 (by show 1 < 3; decide) ⟨2, ![1024, 1024]⟩ x rfl rfl 16 rfl
        (ix2 (⟨t.val - 16, by omega⟩ : Fin 1024) k) (fun b hb => ?_) ?_).trans ((hx _ k).trans (congrArg (fun a => X a k) ?_))
      · match b with
        | ⟨0, _⟩ => exact absurd rfl hb
        | ⟨1, _⟩ => rfl
      · show 16 + (t.val - 16) = t.val; omega
      · show T * 1024 + (t.val - 16) = n; omega
    · refine (concatenate_apply_piece (t := ⟨2, ![1056, 1024]⟩) (0 : Fin 2) _ _ (ix2 t k) 2 (by show 2 < 3; decide) ⟨2, ![16, 1024]⟩ xn rfl rfl 1040 rfl
        (ix2 (⟨t.val - 1040, by omega⟩ : Fin 16) k) (fun b hb => ?_) ?_).trans ((hxn _ k).trans (congrArg (fun a => X a k) ?_))
      · match b with
        | ⟨0, _⟩ => exact absurd rfl hb
        | ⟨1, _⟩ => rfl
      · show 1040 + (t.val - 1040) = t.val; omega
      · show min ((T + 1) * 64) 1023 * 16 + (t.val - 1040) = n; omega

section Block

variable {W : ℕ}

/-- The enlarged block moved by `k` rows, its inner part. -/
theorem moved_apply (k : BitVec 32) (p : FVec Ideal ⟨2, ![1056, W]⟩ .f32) (rot : (⟨2, ![1056, W]⟩ : Shape).Rotates (0 : Fin 2) none)
    (sl : (⟨2, ![1056, W]⟩ : Shape).Slices ![16, 0] ⟨2, ![1024, W]⟩) (r : Fin 1024) (j : Fin W) (q : Fin 1056)
    (hq : q.val = (16 + r.val + 1056 - k.toNat % 1056) % 1056) :
    extractStridedSlice ⟨2, ![1024, W]⟩ ![16, 0] (dynamicRotate (0 : Fin 2) k none p rot) sl (ix2 r j) = p (ix2 q j) := by
  refine (extractStridedSlice_apply (k := ix2 (⟨16 + r.val, by omega⟩ : Fin 1056) j) _ _ _ _ (fun a => ?_)).trans
    (dynamicRotate_apply _ _ _ _ _ _ fun a => ?_)
  · match a with
    | ⟨0, _⟩ => rfl
    | ⟨1, _⟩ => show j.val = 0 + j.val; omega
  · match a with
    | ⟨0, _⟩ => exact hq.trans (if_pos rfl).symm
    | ⟨1, _⟩ => exact (if_neg (by intro h; exact absurd (congrArg Fin.val h) (by decide : (1 : ℕ) ≠ 0))).symm

/-- A slice of whole rows from row `o`. -/
theorem rows_apply {A B : ℕ} {α : Type} (o : ℕ) (x : (⟨2, ![A, W]⟩ : Shape).Idx → α) (sl : (⟨2, ![A, W]⟩ : Shape).Slices ![o, 0] ⟨2, ![B, W]⟩)
    (r : Fin B) (j : Fin W) (q : Fin A) (hq : q.val = o + r.val) :
    extractStridedSlice ⟨2, ![B, W]⟩ ![o, 0] x sl (ix2 r j) = x (ix2 q j) :=
  extractStridedSlice_apply _ _ _ _ _ fun a => match a with
    | ⟨0, _⟩ => hq
    | ⟨1, _⟩ => (Nat.zero_add _).symm

section Edge

variable (hi : (⟨2, ![8, 1]⟩ : Shape).Iotas .tc 32 [0]) (hc : (⟨2, ![8, 1]⟩ : Shape).ShapeCasts ⟨2, ![8, 1]⟩)
  (hb : (⟨2, ![8, 1]⟩ : Shape).Broadcasts ⟨2, ![8, W]⟩)

/-- Eight rows, of which the row numbered `c` is made zero where `s` holds. -/
def edgeV (s : BitVec 1) (c : BitVec 32) (x : FVec Ideal ⟨2, ![8, W]⟩ .f32) : FVec Ideal ⟨2, ![8, W]⟩ .f32 :=
  select (broadcastTo ⟨2, ![8, W]⟩ (shapeCast ⟨2, ![8, 1]⟩ (cmpi .eq (iota .tc ⟨2, ![8, 1]⟩ 32 [0] hi)
      (broadcast ⟨2, ![8, 1]⟩ (Scalar.select s c 4294967295#32))) hc) hb)
    (broadcast ⟨2, ![8, W]⟩ (Scalar.ofBits .f32 0x00000000#32)) x

theorem edgeV_apply (s : BitVec 1) (c : BitVec 32) (n : ℕ) (hn : ∀ r : Fin 8, IntOp.cmpi .eq (BitVec.ofNat 32 r.val) c = if r.val = n then 1 else 0)
    (x : FVec Ideal ⟨2, ![8, W]⟩ .f32) (r : Fin 8) (j : Fin W) :
    edgeV hi hc hb s c x (ix2 r j) = if s = 1 ∧ r.val = n then 0 else x (ix2 r j) := by
  have hm : ∀ r : Fin 8, IntOp.cmpi .eq (BitVec.ofNat 32 r.val) 4294967295#32 = 0 := by decide
  unfold edgeV
  rw [select_apply, spread_apply, cast_self_apply]
  show Scalar.select (IntOp.cmpi .eq (iota .tc ⟨2, ![8, 1]⟩ 32 [0] hi (ix2 r (0 : Fin 1))) (Scalar.select s c 4294967295#32)) (Ideal.ofBits .f32 0x00000000#32) _ = _
  rw [iota_single_apply, Ideal.ofBits_zero_f32]
  show Scalar.select (IntOp.cmpi .eq (BitVec.ofNat 32 r.val) (Scalar.select s c 4294967295#32)) 0 _ = _
  unfold Scalar.select
  by_cases hs : s = 1
  · rw [if_pos hs, hn r]
    by_cases hr : r.val = n
    · rw [if_pos hr, if_pos rfl, if_pos ⟨hs, hr⟩]
    · rw [if_neg hr, if_neg (by decide), if_neg fun h => hr h.2]
  · rw [if_neg hs, hm r, if_neg (by decide), if_neg fun h => hs h.1]

end Edge

variable (hi : (⟨2, ![8, 1]⟩ : Shape).Iotas .tc 32 [0]) (hc : (⟨2, ![8, 1]⟩ : Shape).ShapeCasts ⟨2, ![8, 1]⟩)
  (hb : (⟨2, ![8, 1]⟩ : Shape).Broadcasts ⟨2, ![8, W]⟩) (rot : (⟨2, ![1056, W]⟩ : Shape).Rotates (0 : Fin 2) none)
  (sl : (⟨2, ![1056, W]⟩ : Shape).Slices ![16, 0] ⟨2, ![1024, W]⟩) (sl0 : (⟨2, ![1024, W]⟩ : Shape).Slices ![0, 0] ⟨2, ![8, W]⟩)
  (sl8 : (⟨2, ![1024, W]⟩ : Shape).Slices ![8, 0] ⟨2, ![1016, W]⟩) (sl0' : (⟨2, ![1024, W]⟩ : Shape).Slices ![0, 0] ⟨2, ![1016, W]⟩)
  (sl1016 : (⟨2, ![1024, W]⟩ : Shape).Slices ![1016, 0] ⟨2, ![8, W]⟩)
  (cat : Shape.Concatenates [⟨2, ![8, W]⟩, ⟨2, ![1016, W]⟩] ⟨2, ![1024, W]⟩ (0 : Fin 2))
  (cat' : Shape.Concatenates [⟨2, ![1016, W]⟩, ⟨2, ![8, W]⟩] ⟨2, ![1024, W]⟩ (0 : Fin 2))

/-- The rows before a block's rows; the first is zero where `s` holds. -/
def dnV (s : BitVec 1) (p : FVec Ideal ⟨2, ![1056, W]⟩ .f32) : FVec Ideal ⟨2, ![1024, W]⟩ .f32 :=
  concatenate ⟨2, ![1024, W]⟩ (0 : Fin 2)
    [⟨⟨2, ![8, W]⟩, edgeV hi hc hb s 0#32 (extractStridedSlice ⟨2, ![8, W]⟩ ![0, 0] (extractStridedSlice ⟨2, ![1024, W]⟩ ![16, 0] (dynamicRotate (0 : Fin 2) 1#32 none p rot) sl) sl0)⟩,
      ⟨⟨2, ![1016, W]⟩, extractStridedSlice ⟨2, ![1016, W]⟩ ![8, 0] (extractStridedSlice ⟨2, ![1024, W]⟩ ![16, 0] (dynamicRotate (0 : Fin 2) 1#32 none p rot) sl) sl8⟩] cat

/-- The rows after a block's rows; the last is zero where `e` holds. -/
def upV (e : BitVec 1) (p : FVec Ideal ⟨2, ![1056, W]⟩ .f32) : FVec Ideal ⟨2, ![1024, W]⟩ .f32 :=
  concatenate ⟨2, ![1024, W]⟩ (0 : Fin 2)
    [⟨⟨2, ![1016, W]⟩, extractStridedSlice ⟨2, ![1016, W]⟩ ![0, 0] (extractStridedSlice ⟨2, ![1024, W]⟩ ![16, 0] (dynamicRotate (0 : Fin 2) 1055#32 none p rot) sl) sl0'⟩,
      ⟨⟨2, ![8, W]⟩, edgeV hi hc hb e 7#32 (extractStridedSlice ⟨2, ![8, W]⟩ ![1016, 0] (extractStridedSlice ⟨2, ![1024, W]⟩ ![16, 0] (dynamicRotate (0 : Fin 2) 1055#32 none p rot) sl) sl1016)⟩] cat'

theorem dnV_apply (s : BitVec 1) (p : FVec Ideal ⟨2, ![1056, W]⟩ .f32) (r : Fin 1024) (j : Fin W) :
    dnV hi hc hb rot sl sl0 sl8 cat s p (ix2 r j) = if s = 1 ∧ r.val = 0 then 0 else p (ix2 (⟨15 + r.val, by omega⟩ : Fin 1056) j) := by
  have hr := r.isLt
  unfold dnV
  by_cases h : r.val < 8
  · refine (concatenate_pair_apply_left (t := ⟨2, ![1024, W]⟩) (s₁ := ⟨2, ![8, W]⟩) (s₂ := ⟨2, ![1016, W]⟩) (0 : Fin 2) _ _ _ (ix2 r j) rfl (ix2 (⟨r.val, h⟩ : Fin 8) j) (fun b => ?_)).trans ?_
    · match b with
      | ⟨0, _⟩ => rfl
      | ⟨1, _⟩ => rfl
    · rw [edgeV_apply hi hc hb s 0#32 0 (by decide), rows_apply 0 _ sl0 ⟨r.val, h⟩ j r (by show r.val = 0 + r.val; omega),
        moved_apply 1#32 p rot sl r j ⟨15 + r.val, by omega⟩ (by show 15 + r.val = (16 + r.val + 1056 - 1) % 1056; omega)]
  · refine (concatenate_pair_apply_right (t := ⟨2, ![1024, W]⟩) (s₁ := ⟨2, ![8, W]⟩) (s₂ := ⟨2, ![1016, W]⟩) (0 : Fin 2) _ _ _ (ix2 r j) rfl rfl (ix2 (⟨r.val - 8, by omega⟩ : Fin 1016) j) (fun b hb => ?_) ?_).trans ?_
    · match b with
      | ⟨0, _⟩ => exact absurd rfl hb
      | ⟨1, _⟩ => rfl
    · show r.val - 8 + 8 = r.val; omega
    · rw [rows_apply 8 _ sl8 ⟨r.val - 8, by omega⟩ j r (by show r.val = 8 + (r.val - 8); omega),
        moved_apply 1#32 p rot sl r j ⟨15 + r.val, by omega⟩ (by show 15 + r.val = (16 + r.val + 1056 - 1) % 1056; omega),
        if_neg fun h' => h (by rw [h'.2]; decide)]

theorem upV_apply (e : BitVec 1) (p : FVec Ideal ⟨2, ![1056, W]⟩ .f32) (r : Fin 1024) (j : Fin W) :
    upV hi hc hb rot sl sl0' sl1016 cat' e p (ix2 r j) = if e = 1 ∧ r.val = 1023 then 0 else p (ix2 (⟨17 + r.val, by omega⟩ : Fin 1056) j) := by
  have hr := r.isLt
  unfold upV
  by_cases h : r.val < 1016
  · refine (concatenate_pair_apply_left (t := ⟨2, ![1024, W]⟩) (s₁ := ⟨2, ![1016, W]⟩) (s₂ := ⟨2, ![8, W]⟩) (0 : Fin 2) _ _ _ (ix2 r j) rfl (ix2 (⟨r.val, h⟩ : Fin 1016) j) (fun b => ?_)).trans ?_
    · match b with
      | ⟨0, _⟩ => rfl
      | ⟨1, _⟩ => rfl
    · rw [rows_apply 0 _ sl0' ⟨r.val, h⟩ j r (by show r.val = 0 + r.val; omega),
        moved_apply 1055#32 p rot sl r j ⟨17 + r.val, by omega⟩ (by show 17 + r.val = (16 + r.val + 1056 - 1055) % 1056; omega),
        if_neg fun h' => by omega]
  · refine (concatenate_pair_apply_right (t := ⟨2, ![1024, W]⟩) (s₁ := ⟨2, ![1016, W]⟩) (s₂ := ⟨2, ![8, W]⟩) (0 : Fin 2) _ _ _ (ix2 r j) rfl rfl (ix2 (⟨r.val - 1016, by omega⟩ : Fin 8) j) (fun b hb => ?_) ?_).trans ?_
    · match b with
      | ⟨0, _⟩ => exact absurd rfl hb
      | ⟨1, _⟩ => rfl
    · show r.val - 1016 + 1016 = r.val; omega
    · rw [edgeV_apply hi hc hb e 7#32 7 (by decide), rows_apply 1016 _ sl1016 ⟨r.val - 1016, by omega⟩ j r (by show r.val = 1016 + (r.val - 1016); omega),
        moved_apply 1055#32 p rot sl r j ⟨17 + r.val, by omega⟩ (by show 17 + r.val = (16 + r.val + 1056 - 1055) % 1056; omega)]
      exact if_congr (and_congr_right fun _ => by show r.val - 1016 = 7 ↔ _; omega) rfl rfl

variable (slw0 : (⟨2, ![3, W]⟩ : Shape).Slices ![0, 0] ⟨2, ![1, W]⟩) (slw1 : (⟨2, ![3, W]⟩ : Shape).Slices ![1, 0] ⟨2, ![1, W]⟩)
  (slw2 : (⟨2, ![3, W]⟩ : Shape).Slices ![2, 0] ⟨2, ![1, W]⟩) (hbw : (⟨2, ![1, W]⟩ : Shape).Broadcasts ⟨2, ![1024, W]⟩)
  (hcb : (⟨2, ![1, W]⟩ : Shape).ShapeCasts ⟨2, ![1, W]⟩)

/-- The convolution of a block: the rows before, the rows and the rows after, each weighted by its row of `cw`, and `cb`. -/
def convV (s e : BitVec 1) (p : FVec Ideal ⟨2, ![1056, W]⟩ .f32) (cw : FVec Ideal ⟨2, ![3, W]⟩ .f32) (cb : FVec Ideal ⟨2, ![1, W]⟩ .f32) : FVec Ideal ⟨2, ![1024, W]⟩ .f32 :=
  addf (addf (addf (mulf (dnV hi hc hb rot sl sl0 sl8 cat s p) (broadcastTo ⟨2, ![1024, W]⟩ (extractStridedSlice ⟨2, ![1, W]⟩ ![0, 0] cw slw0) hbw))
      (mulf (extractStridedSlice ⟨2, ![1024, W]⟩ ![16, 0] p sl) (broadcastTo ⟨2, ![1024, W]⟩ (extractStridedSlice ⟨2, ![1, W]⟩ ![1, 0] cw slw1) hbw)))
      (mulf (upV hi hc hb rot sl sl0' sl1016 cat' e p) (broadcastTo ⟨2, ![1024, W]⟩ (extractStridedSlice ⟨2, ![1, W]⟩ ![2, 0] cw slw2) hbw)))
    (broadcastTo ⟨2, ![1024, W]⟩ (shapeCast ⟨2, ![1, W]⟩ cb hcb) hbw)

/-- Where `s` and `e` hold at block `T` exactly when it begins and ends a sequence, and the enlarged block holds the rows of
    `P` of its own sequence, the block's convolution is that of `P`. -/
theorem convV_apply (s e : BitVec 1) (p : FVec Ideal ⟨2, ![1056, W]⟩ .f32) (cw : FVec Ideal ⟨2, ![3, W]⟩ .f32) (cb : FVec Ideal ⟨2, ![1, W]⟩ .f32)
    (T : ℕ) (hs : s = 1 ↔ T % 4 = 0) (he : e = 1 ↔ T % 4 = 3) (r : Fin 1024) (j : Fin W) (P : ℕ → EReal)
    (hp : ∀ (t : Fin 1056) (n : ℕ), n + 16 = T * 1024 + t.val → n / 4096 = T / 4 → p (ix2 t j) = P n)
    (w0 w1 w2 b : EReal) (h0 : cw (ix2 (0 : Fin 3) j) = w0) (h1 : cw (ix2 (1 : Fin 3) j) = w1) (h2 : cw (ix2 (2 : Fin 3) j) = w2)
    (hcb' : cb (ix2 (0 : Fin 1) j) = b) :
    convV hi hc hb rot sl sl0 sl8 sl0' sl1016 cat cat' slw0 slw1 slw2 hbw hcb s e p cw cb (ix2 r j) = tap P w0 w1 w2 b (T * 1024 + r.val) := by
  have hr := r.isLt
  have ed : dnV hi hc hb rot sl sl0 sl8 cat s p (ix2 r j) = if (T * 1024 + r.val) % 4096 = 0 then 0 else P (T * 1024 + r.val - 1) := by
    rw [dnV_apply]
    by_cases h : (T * 1024 + r.val) % 4096 = 0
    · rw [if_pos h, if_pos ⟨hs.2 (by omega), by omega⟩]
    · rw [if_neg h, if_neg fun h' => h (by have := hs.1 h'.1; omega)]
      exact hp _ _ (by show T * 1024 + r.val - 1 + 16 = T * 1024 + (15 + r.val); omega) (by omega)
  have eu : upV hi hc hb rot sl sl0' sl1016 cat' e p (ix2 r j) = if (T * 1024 + r.val) % 4096 = 4095 then 0 else P (T * 1024 + r.val + 1) := by
    rw [upV_apply]
    by_cases h : (T * 1024 + r.val) % 4096 = 4095
    · rw [if_pos h, if_pos ⟨he.2 (by omega), by omega⟩]
    · rw [if_neg h, if_neg fun h' => h (by have := he.1 h'.1; omega)]
      exact hp _ _ (by show T * 1024 + r.val + 1 + 16 = T * 1024 + (17 + r.val); omega) (by omega)
  have em : extractStridedSlice ⟨2, ![1024, W]⟩ ![16, 0] p sl (ix2 r j) = P (T * 1024 + r.val) :=
    (rows_apply 16 p sl r j ⟨16 + r.val, by omega⟩ rfl).trans (hp _ _ (by show T * 1024 + r.val + 16 = T * 1024 + (16 + r.val); omega) (by omega))
  unfold convV tap
  show dnV hi hc hb rot sl sl0 sl8 cat s p (ix2 r j) * broadcastTo ⟨2, ![1024, W]⟩ (extractStridedSlice ⟨2, ![1, W]⟩ ![0, 0] cw slw0) hbw (ix2 r j)
      + extractStridedSlice ⟨2, ![1024, W]⟩ ![16, 0] p sl (ix2 r j) * broadcastTo ⟨2, ![1024, W]⟩ (extractStridedSlice ⟨2, ![1, W]⟩ ![1, 0] cw slw1) hbw (ix2 r j)
      + upV hi hc hb rot sl sl0' sl1016 cat' e p (ix2 r j) * broadcastTo ⟨2, ![1024, W]⟩ (extractStridedSlice ⟨2, ![1, W]⟩ ![2, 0] cw slw2) hbw (ix2 r j)
      + broadcastTo ⟨2, ![1024, W]⟩ (shapeCast ⟨2, ![1, W]⟩ cb hcb) hbw (ix2 r j) = _
  rw [ed, eu, em, broadcastTo_1b_ab_apply, broadcastTo_1b_ab_apply, broadcastTo_1b_ab_apply, broadcastTo_1b_ab_apply, cast_self_apply,
    rows_apply 0 cw slw0 (0 : Fin 1) j (0 : Fin 3) rfl, rows_apply 1 cw slw1 (0 : Fin 1) j (1 : Fin 3) rfl, rows_apply 2 cw slw2 (0 : Fin 1) j (2 : Fin 3) rfl,
    h0, h1, h2, hcb']

end Block

/-- Columns of a stack's one matrix from column `o`, loaded and used as a matrix. -/
theorem cols_apply {N C : ℕ} (x : (⟨3, ![1, 1024, N]⟩ : Shape).Idx → EReal) (w : ℕ → ℕ → EReal) (hx : ∀ i, x i = w (i 1).val (i 2).val) (o : ℕ)
    (inb : ∀ a, (![0, 0, o] : Fin 3 → ℕ) a + (![1, 1024, C] : Fin 3 → ℕ) a ≤ (⟨3, ![1, 1024, N]⟩ : Shape).size a)
    (h : (⟨3, ![1, 1024, C]⟩ : Shape).ShapeCasts ⟨2, ![1024, C]⟩) (k : Fin 1024) (j : Fin C) :
    shapeCast ⟨2, ![1024, C]⟩ (View.ld (Val := Elt Ideal) (e' := .bf16) x (Rect.unit (s := ⟨3, ![1, 1024, N]⟩) ![0, 0, o] ![1, 1024, C] inb)) h (ix2 k j) = w k (o + j) :=
  (shapeCast_1ab_ab_apply _ h k j).trans ((hx _).trans (congrArg₂ w (by show 0 + 1 * k.val = _; omega) (by show o + 1 * j.val = _; omega)))

/-- Columns of a matrix from column `o`, loaded. -/
theorem part_apply {R N C : ℕ} (x : (⟨2, ![R, N]⟩ : Shape).Idx → EReal) (w : ℕ → ℕ → EReal) (hx : ∀ i, x i = w (i 0).val (i 1).val) (o : ℕ)
    (inb : ∀ a, (![0, o] : Fin 2 → ℕ) a + (![R, C] : Fin 2 → ℕ) a ≤ (⟨2, ![R, N]⟩ : Shape).size a) (i : Fin R) (j : Fin C) :
    View.ld (Val := Elt Ideal) (e' := .f32) x (Rect.unit (s := ⟨2, ![R, N]⟩) ![0, o] ![R, C] inb) (ix2 i j) = w i (o + j) :=
  (hx _).trans (congrArg₂ w (by show 0 + 1 * i.val = _; omega) (by show o + 1 * j.val = _; omega))

/-- Sequences of 4096 rows with a zero row put before and after each, read at row `q` of sequence `b`. -/
theorem padded_apply {W : ℕ} (y : (⟨3, ![4, 4096, W]⟩ : Shape).Idx → EReal) {u : Shape} (z : u.Idx → EReal)
    (h : (⟨3, ![4, 4096, W]⟩ : Shape).Pads ![0, 1, 0] ![0, 1, 0] ![0, 0, 0] ⟨3, ![4, 4098, W]⟩) (hu : 0 < u.numel) (hz : z (Shape.Idx.first hu) = 0)
    (P : ℕ → EReal) (i : (⟨3, ![4, 4098, W]⟩ : Shape).Idx) (b q : ℕ) (hb : (i 0).val = b) (hq : (i 1).val = q)
    (hP : ∀ (j : (⟨3, ![4, 4096, W]⟩ : Shape).Idx), (j 0).val = b → (j 2).val = (i 2).val → y j = P (b * 4096 + (j 1).val)) :
    pad ⟨3, ![4, 4098, W]⟩ ![0, 1, 0] ![0, 1, 0] ![0, 0, 0] y z h hu i = if q = 0 ∨ q = 4097 then 0 else P (b * 4096 + q - 1) := by
  have h1 : (i 1).val < 4098 := (i 1).isLt
  by_cases hc : q = 0 ∨ q = 4097
  · rw [if_pos hc]
    refine (pad_apply_of_not_inside (lo := ![0, 1, 0]) (hi := ![0, 1, 0]) (interior := ![0, 0, 0]) (x := y) (v := z) (h := h) (hu := hu) (j := i) (a := (1 : Fin 3)) fun hin => ?_).trans hz
    have e1 : 1 ≤ (i 1).val := hin.1
    have e2 : ((i 1).val - 1) / (0 + 1) < 4096 := hin.2.2
    omega
  · rw [if_neg hc]
    refine (pad_apply_of_inside (lo := ![0, 1, 0]) (hi := ![0, 1, 0]) (interior := ![0, 0, 0]) (x := y) (v := z) (h := h) (hu := hu) (j := i) (k := ix3 (i 0) (⟨(i 1).val - 1, by omega⟩ : Fin 4096) (i 2)) fun a => ?_).trans
      ((hP _ hb rfl).trans (congrArg P ?_))
    · match a with
      | ⟨0, _⟩ => show (i 0).val = 0 + (i 0).val * 1; omega
      | ⟨1, _⟩ => show (i 1).val = 1 + ((i 1).val - 1) * 1; omega
      | ⟨2, _⟩ => show (i 2).val = 0 + (i 2).val * 1; omega
    · show b * 4096 + ((i 1).val - 1) = b * 4096 + q - 1; omega

/-- The convolution written over the padded sequences: row `r` of sequence `b` weighs the padded rows `r`, `r + 1` and `r + 2`. -/
theorem tap_of_padded (P : ℕ → EReal) (w0 w1 w2 c : EReal) (b r : ℕ) (hr : r < 4096) :
    (if r = 0 ∨ r = 4097 then 0 else P (b * 4096 + r - 1)) * w0 + (if 1 + r = 0 ∨ 1 + r = 4097 then 0 else P (b * 4096 + (1 + r) - 1)) * w1
      + (if 2 + r = 0 ∨ 2 + r = 4097 then 0 else P (b * 4096 + (2 + r) - 1)) * w2 + c = tap P w0 w1 w2 c (b * 4096 + r) := by
  unfold tap
  have e0 : (r = 0 ∨ r = 4097) = ((b * 4096 + r) % 4096 = 0) := propext (by omega)
  have e2 : (2 + r = 0 ∨ 2 + r = 4097) = ((b * 4096 + r) % 4096 = 4095) := propext (by omega)
  rw [if_neg (show ¬(1 + r = 0 ∨ 1 + r = 4097) by omega), show b * 4096 + (1 + r) - 1 = b * 4096 + r by omega,
    show b * 4096 + (2 + r) - 1 = b * 4096 + r + 1 by omega, if_congr (iff_of_eq e0) rfl rfl, if_congr (iff_of_eq e2) rfl rfl]

end Cert.Conv

end
-- ==== Proof.Sconv.lean ====
/- The gated short convolution as one function of its arguments over the extended reals. -/
module

public import proofs.«01_k».proof.Proof.At
public import proofs.«01_k».proof.Proof.Conv

@[expose] public section

noncomputable section

namespace Cert.Sconv

open Cert.At Cert.Norm Cert.Conv Idealize.ShloMosaic
open scoped BigOperators

/-- The normalised rows. -/
def hid (X : ℕ → ℕ → EReal) (md : ℕ → ℕ → EReal) (g : ℕ → EReal) (n k : ℕ) : EReal :=
  normed (X n) g (fun k => md (1 + n / 4096) (1024 + k)) (fun k => md (1 + n / 4096) (0 + k)) k

/-- Row `n` of the rows `H` times the columns of `w` from column `o`. -/
def prod (H : ℕ → ℕ → EReal) (w : ℕ → ℕ → EReal) (o n j : ℕ) : EReal := ∑ k : Fin 1024, H n k * w k (o + j)

/-- What is convolved: the product of the second and the third part of the projection. -/
def core (H : ℕ → ℕ → EReal) (w : ℕ → ℕ → EReal) (j n : ℕ) : EReal := prod H w 1024 n j * prod H w 2048 n j

/-- The convolution, gated by the first part of the projection. -/
def gated (H : ℕ → ℕ → EReal) (w cw : ℕ → ℕ → EReal) (cb : ℕ → EReal) (n c : ℕ) : EReal :=
  prod H w 0 n c * tap (core H w c) (cw 0 c) (cw 1 c) (cw 2 c) (cb c) n

/-- Row `n` of the result at column `j`. -/
def row (X md w cw wo : ℕ → ℕ → EReal) (g cb : ℕ → EReal) (n j : ℕ) : EReal :=
  X n j + md (1 + n / 4096) (2048 + j) * ∑ c : Fin 1024, gated (hid X md g) w cw cb n c * wo c j

/-- The whole result. -/
def whole (x0 : (⟨2, ![16384, 1024]⟩ : Shape).Idx → EReal) (x1 : (⟨2, ![8, 6144]⟩ : Shape).Idx → EReal) (x2 : (⟨1, ![1024]⟩ : Shape).Idx → EReal)
    (x3 : (⟨3, ![2, 1024, 3072]⟩ : Shape).Idx → EReal) (x4 : (⟨2, ![3, 1024]⟩ : Shape).Idx → EReal) (x5 : (⟨1, ![1024]⟩ : Shape).Idx → EReal)
    (x6 : (⟨3, ![2, 1024, 1024]⟩ : Shape).Idx → EReal) : (⟨2, ![16384, 1024]⟩ : Shape).Idx → EReal := fun i =>
  row (at2 x0) (at2 x1) (at3 x3 0) (at2 x4) (at3 x6 0) (at1 x2) (at1 x5) (i 0).val (i 1).val

end Cert.Sconv

end
-- ==== Proof.SconvArray.lean ====
/- The whole array the gated short convolution's kernel leaves: every point writes its block of one function of the seven arguments,
   and the points' blocks cover the result. -/
module

public import proofs.«01_k».proof.Proof.Mlp
public import proofs.«01_k».proof.Proof.Sconv
public import proofs.«01_k».proof.Proof.Gen.Kernel4Ideal.Value

@[expose] public section

noncomputable section

namespace Cert.Sconv

open Cert.At Cert.Ops Cert.Norm Cert.Mlp Cert.Conv Cert.Kernel4Ideal Cert.Kernel4Ideal.Gen Cert.Kernel4Ideal.Value Idealize.SL.Sem Idealize.ShloMosaic.ValueIdx
open Idealize.ShloMosaic hiding ix0 ix1 ix2 ix3 ix4 ix5
open Idealize.ShloMosaic.TcCoe
open scoped BigOperators

/-! ## The body as one function of the nine blocks -/

/-- Whether a point's block begins a sequence. -/
def begins (i : grid0.Coords) : BitVec 1 := Scalar.cmpi .eq (Scalar.andi (Scalar.muli (BitVec.ofNat 32 (i 0).val) 1024#32) 4095#32) 0#32

/-- Whether a point's block ends a sequence. -/
def ends (i : grid0.Coords) : BitVec 1 :=
  Scalar.cmpi .eq (Scalar.andi (Scalar.muli (Scalar.addi (BitVec.ofNat 32 (i 0).val) 1#32) 1024#32) 4095#32) 0#32

theorem begins_iff : ∀ t : Fin cfg0.N, begins (grid0.coords t) = 1 ↔ t.val % 4 = 0 := (by decide +kernel : ∀ t : Fin grid0.N, _)
theorem ends_iff : ∀ t : Fin cfg0.N, ends (grid0.coords t) = 1 ↔ t.val % 4 = 3 := (by decide +kernel : ∀ t : Fin grid0.N, _)

section Body

variable (i : grid0.Coords) (x0 : Vec Ideal S1024x1024 .f32) (x1 : Vec Ideal S16x1024 .f32) (x2 : Vec Ideal S16x1024 .f32) (x3 : Vec Ideal S8x6144 .f32)
  (x4 : Vec Ideal S1x1024 .f32) (x5 : Vec Ideal S1x1024x3072 .bf16) (x6 : Vec Ideal S3x1024 .f32) (x7 : Vec Ideal S1x1024 .f32) (x8 : Vec Ideal S1x1024x1024 .bf16)

abbrev rows : Vec Ideal S1024x1024 .f32 := View.ld x0 (Rect.unit (s := S1024x1024) ![0, 0] S1024x1024.size inb_S1024x1024_S1024x1024_0_0)
abbrev near (x : Vec Ideal S16x1024 .f32) : Vec Ideal S16x1024 .f32 := View.ld x (Rect.unit (s := S16x1024) ![0, 0] S16x1024.size inb_S16x1024_S16x1024_0_0)

/-- The normalised enlarged block. -/
def hidden : FVec Ideal S1056x1024 .bf16 :=
  normV reduces_S1056x1024_S1056 shapeCasts_S1056_S1056x1 broadcasts_S1056x1_S1056x1024 broadcasts_S1x1024_S1056x1024
    (haloV concatenates_S16x1024_S1024x1024_S16x1024_S1056x1024_d0 (rows x0) (near x1) (near x2))
    (shapeCast S1x1024 (View.ld x4 (Rect.unit (s := S1x1024) ![0, 0] S1x1024.size inb_S1x1024_S1x1024_0_0)) shapeCasts_S1x1024_S1x1024)
    (View.ld x3 (Rect.unit (s := S8x6144) (k0_off1 i) S1x1024.size (k0_off1_inb i)))
    (View.ld x3 (Rect.unit (s := S8x6144) (k0_off2 i) S1x1024.size (k0_off2_inb i)))

abbrev w0 : FVec Ideal S1024x1024 .bf16 :=
  shapeCast S1024x1024 (View.ld x5 (Rect.unit (s := S1x1024x3072) ![0, 0, 0] S1x1024x1024.size inb_S1x1024x3072_S1x1024x1024_0_0_0)) shapeCasts_S1x1024x1024_S1024x1024
abbrev w1 : FVec Ideal S1024x1024 .bf16 :=
  shapeCast S1024x1024 (View.ld x5 (Rect.unit (s := S1x1024x3072) ![0, 0, 1024] S1x1024x1024.size inb_S1x1024x3072_S1x1024x1024_0_0_1024)) shapeCasts_S1x1024x1024_S1024x1024
abbrev w2 : FVec Ideal S1024x1024 .bf16 :=
  shapeCast S1024x1024 (View.ld x5 (Rect.unit (s := S1x1024x3072) ![0, 0, 2048] S1x1024x1024.size inb_S1x1024x3072_S1x1024x1024_0_0_2048)) shapeCasts_S1x1024x1024_S1024x1024

/-- What is convolved, on the enlarged block. -/
def coreV : FVec Ideal S1056x1024 .f32 :=
  mulf (FloatOps.matmul (DotDims.plain 1056 1024 1024) none (hidden i x0 x1 x2 x3 x4) (w1 x5) (constant S1056x1024 .f32 0x00000000#32))
    (FloatOps.matmul (DotDims.plain 1056 1024 1024) none (hidden i x0 x1 x2 x3 x4) (w2 x5) (constant S1056x1024 .f32 0x00000000#32))

/-- Its convolution on the block. -/
def sumV : FVec Ideal S1024x1024 .f32 :=
  convV iota_S8x1_d0_w32 shapeCasts_S8x1_S8x1 broadcasts_S8x1_S8x1024 rotates_S1056x1024_d0 slices_S1056x1024_o16_0_S1024x1024
    slices_S1024x1024_o0_0_S8x1024 slices_S1024x1024_o8_0_S1016x1024 slices_S1024x1024_o0_0_S1016x1024 slices_S1024x1024_o1016_0_S8x1024
    concatenates_S8x1024_S1016x1024_S1024x1024_d0 concatenates_S1016x1024_S8x1024_S1024x1024_d0
    slices_S3x1024_o0_0_S1x1024 slices_S3x1024_o1_0_S1x1024 slices_S3x1024_o2_0_S1x1024 broadcasts_S1x1024_S1024x1024 shapeCasts_S1x1024_S1x1024
    (begins i) (ends i) (coreV i x0 x1 x2 x3 x4 x5)
    (View.ld x6 (Rect.unit (s := S3x1024) ![0, 0] S3x1024.size inb_S3x1024_S3x1024_0_0))
    (View.ld x7 (Rect.unit (s := S1x1024) ![0, 0] S1x1024.size inb_S1x1024_S1x1024_0_0))

/-- The convolution gated. -/
def gatedV : FVec Ideal S1024x1024 .bf16 :=
  truncf .bf16 (mulf (FloatOps.matmul (DotDims.plain 1024 1024 1024) none
      (extractStridedSlice S1024x1024 ![16, 0] (hidden i x0 x1 x2 x3 x4) slices_S1056x1024_o16_0_S1024x1024) (w0 x5) (constant S1024x1024 .f32 0x00000000#32))
    (sumV i x0 x1 x2 x3 x4 x5 x6 x7)) bitsLt_bf16_f32

def body : FVec Ideal S1024x1024 .f32 :=
  tailV shapeCasts_S1x1024x1024_S1024x1024 broadcasts_S1x1024_S1024x1024 (rows x0)
    (View.ld x3 (Rect.unit (s := S8x6144) (k0_off3 i) S1x1024.size (k0_off3_inb i))) (gatedV i x0 x1 x2 x3 x4 x5 x6 x7)
    (View.ld x8 (Rect.unit (s := S1x1024x1024) ![0, 0, 0] S1x1024x1024.size inb_S1x1024x1024_S1x1024x1024_0_0_0))

end Body

theorem hz : (![0, 0] : Fin 2 → ℕ) = fun _ => 0 := funext fun a => by fin_cases a <;> rfl

/-- What the run leaves in the result's staging buffer: its one piece is a store of the whole block. -/
theorem out_eq (c : Dev nD) (i : grid0.Coords) (arg1 : Memref sig .tc .vmem S1024x1024 .f32) (h1 : arg1.IsWhole)
    (arg2 : Memref sig .tc .vmem S16x1024 .f32) (h2 : arg2.IsWhole)
    (arg3 : Memref sig .tc .vmem S16x1024 .f32) (h3 : arg3.IsWhole)
    (arg4 : Memref sig .tc .vmem S8x6144 .f32) (h4 : arg4.IsWhole)
    (arg5 : Memref sig .tc .vmem S1x1024 .f32) (h5 : arg5.IsWhole)
    (arg6 : Memref sig .tc .vmem S1x1024x3072 .bf16) (h6 : arg6.IsWhole)
    (arg7 : Memref sig .tc .vmem S3x1024 .f32) (h7 : arg7.IsWhole)
    (arg8 : Memref sig .tc .vmem S1x1024 .f32) (h8 : arg8.IsWhole)
    (arg9 : Memref sig .tc .vmem S1x1024x1024 .bf16) (h9 : arg9.IsWhole)
    (arg10 : Memref sig .tc .vmem S1024x1024 .f32) (h10 : arg10.IsWhole)
    (x0 : Vec Ideal S1024x1024 .f32) (x1 : Vec Ideal S16x1024 .f32) (x2 : Vec Ideal S16x1024 .f32) (x3 : Vec Ideal S8x6144 .f32) (x4 : Vec Ideal S1x1024 .f32) (x5 : Vec Ideal S1x1024x3072 .bf16) (x6 : Vec Ideal S3x1024 .f32) (x7 : Vec Ideal S1x1024 .f32) (x8 : Vec Ideal S1x1024x1024 .bf16) :
    out0_A_9 c i arg1 h1 arg2 h2 arg3 h3 arg4 h4 arg5 h5 arg6 h6 arg7 h7 arg8 h8 arg9 h9 arg10 h10 x0 x1 x2 x3 x4 x5 x6 x7 x8 = body i x0 x1 x2 x3 x4 x5 x6 x7 x8 := by
  unfold out0_A_9
  rw [View.read_writes_junk_eq_canon]
  show View.canon ([⟨Rect.unit ![0, 0] S1024x1024.size inb_S1024x1024_S1024x1024_0_0,
      body i (arg1.view.read (Elt Ideal) (h1.unread x0)) (arg2.view.read (Elt Ideal) (h2.unread x1)) (arg3.view.read (Elt Ideal) (h3.unread x2)) (arg4.view.read (Elt Ideal) (h4.unread x3)) (arg5.view.read (Elt Ideal) (h5.unread x4)) (arg6.view.read (Elt Ideal) (h6.unread x5)) (arg7.view.read (Elt Ideal) (h7.unread x6)) (arg8.view.read (Elt Ideal) (h8.unread x7)) (arg9.view.read (Elt Ideal) (h9.unread x8))⟩] :
      List (View.Piece (Elt Ideal) S1024x1024 .f32)) = _
  rw [View.canon_unit_zero hz, h1.read_unread, h2.read_unread, h3.read_unread, h4.read_unread, h5.read_unread, h6.read_unread, h7.read_unread, h8.read_unread, h9.read_unread]

theorem off1 : ∀ t : Fin cfg0.N, k0_off1 (grid0.coords t) (0 : Fin 2) = 1 + t.val / 4 ∧ k0_off1 (grid0.coords t) (1 : Fin 2) = 1024 :=
  (by decide +kernel : ∀ t : Fin grid0.N, _)
theorem off2 : ∀ t : Fin cfg0.N, k0_off2 (grid0.coords t) (0 : Fin 2) = 1 + t.val / 4 ∧ k0_off2 (grid0.coords t) (1 : Fin 2) = 0 :=
  (by decide +kernel : ∀ t : Fin grid0.N, _)
theorem off3 : ∀ t : Fin cfg0.N, k0_off3 (grid0.coords t) (0 : Fin 2) = 1 + t.val / 4 ∧ k0_off3 (grid0.coords t) (1 : Fin 2) = 2048 :=
  (by decide +kernel : ∀ t : Fin grid0.N, _)

/-! ## Where each window's block lies -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val * 64 - 1 ∧ win0_1.index t (1 : Fin 2) = 0 := (by decide +kernel : ∀ t : Fin grid0.N, _)
theorem idx2 : ∀ t : Fin cfg0.N, win0_2.index t (0 : Fin 2) = min ((t.val + 1) * 64) 1023 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 3) = 0 ∧ win0_8.index t (1 : Fin 3) = 0 ∧ win0_8.index t (2 : Fin 3) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem V_main_v0 (c : Dev nD) : V m c main_v0 = shapeCast S1x1024 (m ((c : Thread nD τ).loc main_arg2) : Vec Ideal S1024 .f32) shapeCasts_S1024_S1x1024 := by
  show StableHlo.after hostOps0 _ (Proc.devRef .tc main_v0) = _
  after_results
  rfl

theorem V_main_v1 (c : Dev nD) : V m c main_v1 = shapeCast S1x1024 (m ((c : Thread nD τ).loc main_arg5) : Vec Ideal S1024 .f32) shapeCasts_S1024_S1x1024 := by
  show StableHlo.after hostOps0 _ (Proc.devRef .tc main_v1) = _
  after_results
  rfl

theorem blk0 (c : Dev nD) (t : Fin cfg0.N) (x : S1024x1024.Idx) : (iblk m c 0 t : S1024x1024.Idx → EReal) x
    = at2 (m ((c : Thread nD τ).loc main_arg0) : Vec Ideal S16384x1024 .f32) (t.val * 1024 + (x 0).val) (x 1).val := by
  obtain ⟨e0, e1⟩ := idx0 t
  show V m c main_arg0 (((cfg0.win 0).blk t).view.emb x) = _
  rw [V_main_arg0]
  refine at2_of (m ((c : Thread nD τ).loc main_arg0) : Vec Ideal S16384x1024 .f32) (((cfg0.win 0).blk t).view.emb x) _ _ ?_ ?_
  · show win0_0.index t (0 : Fin 2) * 1024 + 1 * (x 0).val = _; rw [e0]; omega
  · show win0_0.index t (1 : Fin 2) * 1024 + 1 * (x 1).val = _; rw [e1]; omega

theorem blk1 (c : Dev nD) (t : Fin cfg0.N) (x : S16x1024.Idx) : (iblk m c 1 t : S16x1024.Idx → EReal) x
    = at2 (m ((c : Thread nD τ).loc main_arg0) : Vec Ideal S16384x1024 .f32) ((t.val * 64 - 1) * 16 + (x 0).val) (x 1).val := by
  obtain ⟨e0, e1⟩ := idx1 t
  show V m c main_arg0 (((cfg0.win 1).blk t).view.emb x) = _
  rw [V_main_arg0]
  refine at2_of (m ((c : Thread nD τ).loc main_arg0) : Vec Ideal S16384x1024 .f32) (((cfg0.win 1).blk t).view.emb x) _ _ ?_ ?_
  · show win0_1.index t (0 : Fin 2) * 16 + 1 * (x 0).val = _; rw [e0]; omega
  · show win0_1.index t (1 : Fin 2) * 1024 + 1 * (x 1).val = _; rw [e1]; omega

theorem blk2 (c : Dev nD) (t : Fin cfg0.N) (x : S16x1024.Idx) : (iblk m c 2 t : S16x1024.Idx → EReal) x
    = at2 (m ((c : Thread nD τ).loc main_arg0) : Vec Ideal S16384x1024 .f32) (min ((t.val + 1) * 64) 1023 * 16 + (x 0).val) (x 1).val := by
  obtain ⟨e0, e1⟩ := idx2 t
  show V m c main_arg0 (((cfg0.win 2).blk t).view.emb x) = _
  rw [V_main_arg0]
  refine at2_of (m ((c : Thread nD τ).loc main_arg0) : Vec Ideal S16384x1024 .f32) (((cfg0.win 2).blk t).view.emb x) _ _ ?_ ?_
  · show win0_2.index t (0 : Fin 2) * 16 + 1 * (x 0).val = _; rw [e0]; omega
  · show win0_2.index t (1 : Fin 2) * 1024 + 1 * (x 1).val = _; rw [e1]; omega

theorem blk3 (c : Dev nD) (t : Fin cfg0.N) (x : S8x6144.Idx) : (iblk m c 3 t : S8x6144.Idx → EReal) x
    = at2 (m ((c : Thread nD τ).loc main_arg1) : Vec Ideal S8x6144 .f32) ((x 0).val) (x 1).val := by
  obtain ⟨e0, e1⟩ := idx3 t
  show V m c main_arg1 (((cfg0.win 3).blk t).view.emb x) = _
  rw [V_main_arg1]
  refine at2_of (m ((c : Thread nD τ).loc main_arg1) : Vec Ideal S8x6144 .f32) (((cfg0.win 3).blk t).view.emb x) _ _ ?_ ?_
  · show win0_3.index t (0 : Fin 2) * 8 + 1 * (x 0).val = _; rw [e0]; omega
  · show win0_3.index t (1 : Fin 2) * 6144 + 1 * (x 1).val = _; rw [e1]; omega

theorem blk4 (c : Dev nD) (t : Fin cfg0.N) (k : Fin 1024) : (iblk m c 4 t : S1x1024.Idx → EReal) (ix2 (0 : Fin 1) k)
    = at1 (m ((c : Thread nD τ).loc main_arg2) : Vec Ideal S1024 .f32) k.val := by
  obtain ⟨e0, e1⟩ := idx4 t
  have he : ((cfg0.win 4).blk t).view.emb (ix2 (0 : Fin 1) k) = (ix2 (0 : Fin 1) k : S1x1024.Idx) := by
    funext a; apply Fin.ext
    match a with
    | ⟨0, _⟩ => show win0_4.index t (0 : Fin 2) * 1 + 1 * 0 = 0; rw [e0]
    | ⟨1, _⟩ => show win0_4.index t (1 : Fin 2) * 1024 + 1 * k.val = k.val; rw [e1]; omega
  show V m c main_v0 (((cfg0.win 4).blk t).view.emb (ix2 (0 : Fin 1) k)) = _
  rw [V_main_v0, he]
  exact (shapeCast_a_1a_apply _ _ _ k).trans (at1_of _ _ _ rfl)

theorem blk5 (c : Dev nD) (t : Fin cfg0.N) (x : S1x1024x3072.Idx) : (iblk m c 5 t : S1x1024x3072.Idx → EReal) x
    = at3 (m ((c : Thread nD τ).loc main_arg3) : Vec Ideal S2x1024x3072 .bf16) 0 (x 1).val (x 2).val := by
  obtain ⟨e0, e1, e2⟩ := idx5 t
  have hx : (x 0).val < 1 := (x 0).isLt
  show V m c main_arg3 (((cfg0.win 5).blk t).view.emb x) = _
  rw [V_main_arg3]
  refine at3_of (m ((c : Thread nD τ).loc main_arg3) : Vec Ideal S2x1024x3072 .bf16) (((cfg0.win 5).blk t).view.emb x) _ _ _ ?_ ?_ ?_
  · show win0_5.index t (0 : Fin 3) * 1 + 1 * (x 0).val = _; rw [e0]; omega
  · show win0_5.index t (1 : Fin 3) * 1024 + 1 * (x 1).val = _; rw [e1]; omega
  · show win0_5.index t (2 : Fin 3) * 3072 + 1 * (x 2).val = _; rw [e2]; omega

theorem blk6 (c : Dev nD) (t : Fin cfg0.N) (x : S3x1024.Idx) : (iblk m c 6 t : S3x1024.Idx → EReal) x
    = at2 (m ((c : Thread nD τ).loc main_arg4) : Vec Ideal S3x1024 .f32) ((x 0).val) (x 1).val := by
  obtain ⟨e0, e1⟩ := idx6 t
  show V m c main_arg4 (((cfg0.win 6).blk t).view.emb x) = _
  rw [V_main_arg4]
  refine at2_of (m ((c : Thread nD τ).loc main_arg4) : Vec Ideal S3x1024 .f32) (((cfg0.win 6).blk t).view.emb x) _ _ ?_ ?_
  · show win0_6.index t (0 : Fin 2) * 3 + 1 * (x 0).val = _; rw [e0]; omega
  · show win0_6.index t (1 : Fin 2) * 1024 + 1 * (x 1).val = _; rw [e1]; omega

theorem blk7 (c : Dev nD) (t : Fin cfg0.N) (k : Fin 1024) : (iblk m c 7 t : S1x1024.Idx → EReal) (ix2 (0 : Fin 1) k)
    = at1 (m ((c : Thread nD τ).loc main_arg5) : Vec Ideal S1024 .f32) k.val := by
  obtain ⟨e0, e1⟩ := idx7 t
  have he : ((cfg0.win 7).blk t).view.emb (ix2 (0 : Fin 1) k) = (ix2 (0 : Fin 1) k : S1x1024.Idx) := by
    funext a; apply Fin.ext
    match a with
    | ⟨0, _⟩ => show win0_7.index t (0 : Fin 2) * 1 + 1 * 0 = 0; rw [e0]
    | ⟨1, _⟩ => show win0_7.index t (1 : Fin 2) * 1024 + 1 * k.val = k.val; rw [e1]; omega
  show V m c main_v1 (((cfg0.win 7).blk t).view.emb (ix2 (0 : Fin 1) k)) = _
  rw [V_main_v1, he]
  exact (shapeCast_a_1a_apply _ _ _ k).trans (at1_of _ _ _ rfl)

theorem blk8 (c : Dev nD) (t : Fin cfg0.N) (x : S1x1024x1024.Idx) : (iblk m c 8 t : S1x1024x1024.Idx → EReal) x
    = at3 (m ((c : Thread nD τ).loc main_arg6) : Vec Ideal S2x1024x1024 .bf16) 0 (x 1).val (x 2).val := by
  obtain ⟨e0, e1, e2⟩ := idx8 t
  have hx : (x 0).val < 1 := (x 0).isLt
  show V m c main_arg6 (((cfg0.win 8).blk t).view.emb x) = _
  rw [V_main_arg6]
  refine at3_of (m ((c : Thread nD τ).loc main_arg6) : Vec Ideal S2x1024x1024 .bf16) (((cfg0.win 8).blk t).view.emb x) _ _ _ ?_ ?_ ?_
  · show win0_8.index t (0 : Fin 3) * 1 + 1 * (x 0).val = _; rw [e0]; omega
  · show win0_8.index t (1 : Fin 3) * 1024 + 1 * (x 1).val = _; rw [e1]; omega
  · show win0_8.index t (2 : Fin 3) * 1024 + 1 * (x 2).val = _; rw [e2]; omega

theorem emb9_val (t : Fin cfg0.N) (y : S1024x1024.Idx) :
    (((cfg0.win 9).blk t).view.emb y (0 : Fin 2)).val = t.val * 1024 + (y 0).val
      ∧ (((cfg0.win 9).blk t).view.emb y (1 : Fin 2)).val = (y 1).val := by
  obtain ⟨e0, e1⟩ := idx9 t
  constructor
  · show win0_9.index t (0 : Fin 2) * 1024 + 1 * (y 0).val = _; rw [e0]; omega
  · show win0_9.index t (1 : Fin 2) * 1024 + 1 * (y 1).val = _; rw [e1]; omega

/-! ## One point's block is its block of the whole -/

/-- The arguments as launched. -/
abbrev X (c : Dev nD) : ℕ → ℕ → EReal := at2 (m ((c : Thread nD τ).loc main_arg0) : Vec Ideal S16384x1024 .f32)
abbrev M (c : Dev nD) : ℕ → ℕ → EReal := at2 (m ((c : Thread nD τ).loc main_arg1) : Vec Ideal S8x6144 .f32)
abbrev gain (c : Dev nD) : ℕ → EReal := at1 (m ((c : Thread nD τ).loc main_arg2) : Vec Ideal S1024 .f32)
abbrev win (c : Dev nD) : ℕ → ℕ → EReal := at3 (m ((c : Thread nD τ).loc main_arg3) : Vec Ideal S2x1024x3072 .bf16) 0
abbrev taps (c : Dev nD) : ℕ → ℕ → EReal := at2 (m ((c : Thread nD τ).loc main_arg4) : Vec Ideal S3x1024 .f32)
abbrev bias (c : Dev nD) : ℕ → EReal := at1 (m ((c : Thread nD τ).loc main_arg5) : Vec Ideal S1024 .f32)
abbrev wout (c : Dev nD) : ℕ → ℕ → EReal := at3 (m ((c : Thread nD τ).loc main_arg6) : Vec Ideal S2x1024x1024 .bf16) 0

/-- The short convolution of layer 0 of the argument arrays as launched. -/
abbrev G (c : Dev nD) : S16384x1024.Idx → EReal :=
  whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem rows_apply (c : Dev nD) (t : Fin cfg0.N) (i k : Fin 1024) : rows (iblk m c 0 t : Vec Ideal S1024x1024 .f32) (ix2 i k) = X m c (t.val * 1024 + i.val) k := by
  refine (blk0 m c t _).trans (at2_congr _ ?_ ?_)
  · show t.val * 1024 + (0 + 1 * i.val) = _; omega
  · show 0 + 1 * k.val = _; omega

theorem before_apply (c : Dev nD) (t : Fin cfg0.N) (i : Fin 16) (k : Fin 1024) :
    near (iblk m c 1 t : Vec Ideal S16x1024 .f32) (ix2 i k) = X m c ((t.val * 64 - 1) * 16 + i.val) k := by
  refine (blk1 m c t _).trans (at2_congr _ ?_ ?_)
  · show (t.val * 64 - 1) * 16 + (0 + 1 * i.val) = _; omega
  · show 0 + 1 * k.val = _; omega

theorem after_apply (c : Dev nD) (t : Fin cfg0.N) (i : Fin 16) (k : Fin 1024) :
    near (iblk m c 2 t : Vec Ideal S16x1024 .f32) (ix2 i k) = X m c (min ((t.val + 1) * 64) 1023 * 16 + i.val) k := by
  refine (blk2 m c t _).trans (at2_congr _ ?_ ?_)
  · show min ((t.val + 1) * 64) 1023 * 16 + (0 + 1 * i.val) = _; omega
  · show 0 + 1 * k.val = _; omega

theorem hidden_apply (c : Dev nD) (t : Fin cfg0.N) (r : Fin 1056) (n : ℕ) (hn : n + 16 = t.val * 1024 + r.val) (hq : n / 4096 = t.val / 4) (k : Fin 1024) :
    hidden (grid0.coords t) (iblk m c 0 t) (iblk m c 1 t) (iblk m c 2 t) (iblk m c 3 t) (iblk m c 4 t) (ix2 r k) = hid (X m c) (M m c) (gain m c) n k := by
  have ht : t.val < 16 := t.isLt
  have hx := haloV_apply concatenates_S16x1024_S1024x1024_S16x1024_S1056x1024_d0 _ _ _ (X m c) t.val ht (rows_apply m c t) (before_apply m c t) (after_apply m c t) r n hn hq
  unfold hidden hid
  rw [hq]
  exact normV_apply _ _ _ _ _ _ _ _ r (X m c n) (gain m c) (fun k => M m c (1 + t.val / 4) (1024 + k)) (fun k => M m c (1 + t.val / 4) (0 + k)) hx
    (wholeRow_apply _ _ (blk4 m c t) _ _) (modRow_apply _ _ (blk3 m c t) _ _ _ _ (off1 t).1 (off1 t).2) (modRow_apply _ _ (blk3 m c t) _ _ _ _ (off2 t).1 (off2 t).2) k

theorem coreV_apply (c : Dev nD) (t : Fin cfg0.N) (j : Fin 1024) (r : Fin 1056) (n : ℕ) (hn : n + 16 = t.val * 1024 + r.val) (hq : n / 4096 = t.val / 4) :
    coreV (grid0.coords t) (iblk m c 0 t) (iblk m c 1 t) (iblk m c 2 t) (iblk m c 3 t) (iblk m c 4 t) (iblk m c 5 t) (ix2 r j)
      = core (hid (X m c) (M m c) (gain m c)) (win m c) j n := by
  unfold coreV core prod
  rw [mulf_apply]
  refine congrArg₂ (· * ·) ((mm_apply _ _ r j).trans (Finset.sum_congr rfl fun k _ => ?_)) ((mm_apply _ _ r j).trans (Finset.sum_congr rfl fun k _ => ?_))
  · exact congrArg₂ (· * ·) (hidden_apply m c t r n hn hq k) (cols_apply _ (win m c) (blk5 m c t) 1024 _ _ k j)
  · exact congrArg₂ (· * ·) (hidden_apply m c t r n hn hq k) (cols_apply _ (win m c) (blk5 m c t) 2048 _ _ k j)

theorem taps_apply (c : Dev nD) (t : Fin cfg0.N) (a : Fin 3) (j : Fin 1024) :
    View.ld (iblk m c 6 t : Vec Ideal S3x1024 .f32) (Rect.unit (s := S3x1024) ![0, 0] S3x1024.size inb_S3x1024_S3x1024_0_0) (ix2 a j) = taps m c a j :=
  (part_apply _ (taps m c) (blk6 m c t) 0 _ a j).trans (congrArg (taps m c a) (Nat.zero_add _))

theorem bias_apply (c : Dev nD) (t : Fin cfg0.N) (j : Fin 1024) :
    View.ld (iblk m c 7 t : Vec Ideal S1x1024 .f32) (Rect.unit (s := S1x1024) ![0, 0] S1x1024.size inb_S1x1024_S1x1024_0_0) (ix2 (0 : Fin 1) j) = bias m c j :=
  (cast_self_apply _ shapeCasts_S1x1024_S1x1024 _).symm.trans (wholeRow_apply _ _ (blk7 m c t) _ _ j)

theorem sumV_apply (c : Dev nD) (t : Fin cfg0.N) (i j : Fin 1024) :
    sumV (grid0.coords t) (iblk m c 0 t) (iblk m c 1 t) (iblk m c 2 t) (iblk m c 3 t) (iblk m c 4 t) (iblk m c 5 t) (iblk m c 6 t) (iblk m c 7 t) (ix2 i j)
      = tap (core (hid (X m c) (M m c) (gain m c)) (win m c) j) (taps m c 0 j) (taps m c 1 j) (taps m c 2 j) (bias m c j) (t.val * 1024 + i.val) := by
  unfold sumV
  exact convV_apply _ _ _ _ _ _ _ _ _ _ _ _ _ _ _ _ _ _ _ _ _ t.val (begins_iff t) (ends_iff t) i j _ (coreV_apply m c t j) _ _ _ _
    (taps_apply m c t 0 j) (taps_apply m c t 1 j) (taps_apply m c t 2 j) (bias_apply m c t j)

theorem gatedV_apply (c : Dev nD) (t : Fin cfg0.N) (i j : Fin 1024) :
    gatedV (grid0.coords t) (iblk m c 0 t) (iblk m c 1 t) (iblk m c 2 t) (iblk m c 3 t) (iblk m c 4 t) (iblk m c 5 t) (iblk m c 6 t) (iblk m c 7 t) (ix2 i j)
      = gated (hid (X m c) (M m c) (gain m c)) (win m c) (taps m c) (bias m c) (t.val * 1024 + i.val) j := by
  have hi := i.isLt
  unfold gatedV gated prod
  rw [ValueIdx.truncf_apply, mulf_apply]
  refine congrArg₂ (· * ·) ((mm_apply _ _ i j).trans (Finset.sum_congr rfl fun k _ => congrArg₂ (· * ·) ?_ (cols_apply _ (win m c) (blk5 m c t) 0 _ _ k j))) (sumV_apply m c t i j)
  exact (Conv.rows_apply 16 _ _ i k ⟨16 + i.val, by omega⟩ rfl).trans
    (hidden_apply m c t _ _ (by show t.val * 1024 + i.val + 16 = t.val * 1024 + (16 + i.val); omega) (by omega) k)

theorem wout_apply (c : Dev nD) (t : Fin cfg0.N) (k j : Fin 1024) :
    View.ld (iblk m c 8 t : Vec Ideal S1x1024x1024 .bf16) (Rect.unit (s := S1x1024x1024) ![0, 0, 0] S1x1024x1024.size inb_S1x1024x1024_S1x1024x1024_0_0_0) (ix3 (0 : Fin 1) k j)
      = wout m c k j :=
  (blk8 m c t _).trans (congrArg₂ (wout m c) (by show 0 + 1 * k.val = _; omega) (by show 0 + 1 * j.val = _; omega))

theorem body_apply (c : Dev nD) (t : Fin cfg0.N) (i j : Fin 1024) :
    body (grid0.coords t) (iblk m c 0 t) (iblk m c 1 t) (iblk m c 2 t) (iblk m c 3 t) (iblk m c 4 t) (iblk m c 5 t) (iblk m c 6 t) (iblk m c 7 t) (iblk m c 8 t) (ix2 i j)
      = row (X m c) (M m c) (win m c) (taps m c) (wout m c) (gain m c) (bias m c) (t.val * 1024 + i.val) j := by
  have hi := i.isLt
  unfold body row
  rw [show (t.val * 1024 + i.val) / 4096 = t.val / 4 by omega]
  exact tailV_apply _ _ _ _ _ _ i (X m c (t.val * 1024 + i.val)) (fun k => M m c (1 + t.val / 4) (2048 + k))
    (gated (hid (X m c) (M m c) (gain m c)) (win m c) (taps m c) (bias m c) (t.val * 1024 + i.val)) (wout m c) (rows_apply m c t i)
    (modRow_apply _ _ (blk3 m c t) _ _ _ _ (off3 t).1 (off3 t).2) (gatedV_apply m c t i) (wout_apply m c t) j

theorem flushed_eq (c : Dev nD) (t : Fin cfg0.N) :
    (dats m 0 c).flushed 9 t = ((cfg0.win 9).blk t).view.read (Elt Ideal) (G m c) := by
  rw [flushed9_A, out_eq]
  funext y
  show body (grid0.coords t) (iblk m c 0 t) (iblk m c 1 t) (iblk m c 2 t) (iblk m c 3 t) (iblk m c 4 t) (iblk m c 5 t) (iblk m c 6 t) (iblk m c 7 t) (iblk m c 8 t) y = G m c (((cfg0.win 9).blk t).view.emb y)
  obtain ⟨i, j, rfl⟩ : ∃ i j : Fin 1024, y = ix2 i j := ⟨y 0, y 1, funext fun a => by fin_cases a <;> rfl⟩
  obtain ⟨e0, e1⟩ := emb9_val t (ix2 i j)
  have e0 : (((cfg0.win 9).blk t).view.emb (ix2 i j) (0 : Fin 2)).val = t.val * 1024 + i.val := e0
  have e1 : (((cfg0.win 9).blk t).view.emb (ix2 i j) (1 : Fin 2)).val = j.val := e1
  rw [body_apply]
  unfold G whole
  rw [e0, e1]

theorem covered (j : S16384x1024.Idx) : ∃ t : Fin cfg0.N, (cfg0.win 9).flush t = true ∧ j ∈ ((cfg0.win 9).blk t).view.set := by
  have h0 : (j 0).val < 16384 := (j 0).isLt
  obtain ⟨t, ht⟩ : ∃ t : Fin cfg0.N, t.val = (j 0).val / 1024 := ⟨⟨(j 0).val / 1024, by show _ < 16; omega⟩, rfl⟩
  refine ⟨t, flush0_9 _, ?_⟩
  obtain ⟨y, hy⟩ : ∃ y : S1024x1024.Idx, (y 0).val = (j 0).val % 1024 ∧ (y 1).val = (j 1).val :=
    ⟨ix2 (⟨(j 0).val % 1024, by omega⟩ : Fin 1024) (j 1), rfl, rfl⟩
  obtain ⟨e0, e1⟩ := emb9_val t y
  have key : j = ((cfg0.win 9).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 9).blk t).view.emb_mem_set y

/-- The result array after the run. -/
theorem final (c : Dev nD) : (dats m 0 c).arrAt 9 cfg0.N = G m c :=
  (dats m 0 c).arrAt_eq_of_cover 9 (G m c) (fun t _ => flushed_eq m c t) covered

/-- The kernel's run: the result is the short convolution of the arguments, which are left as launched. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Sconv

end
-- ==== Proof.SconvRef.lean ====
/- The reference of the gated short convolution read at an index: it is the same function of the seven arguments as the
   kernel's whole array. -/
module

public import proofs.«01_k».proof.Proof.Sconv
public import proofs.«01_k».proof.Proof.Gen.Reference4Ideal.Read

@[expose] public section

noncomputable section

namespace Cert.SconvRef

open Cert.At Cert.Norm Cert.Conv Cert.Sconv Cert.Reference4Ideal Cert.Reference4Ideal.Gen Cert.Reference4Ideal.Read Idealize.SL.Sem Idealize.ShloMosaic.ValueIdx
open Idealize.ShloMosaic hiding ix0 ix1 ix2 ix3 ix4 ix5 inv
open Idealize.ShloMosaic.TcCoe
open scoped BigOperators

variable (x0 : Vec Ideal S16384x1024 .f32) (x1 : Vec Ideal S8x6144 .f32) (x2 : Vec Ideal S1024 .f32) (x3 : Vec Ideal S2x1024x3072 .bf16)
  (x4 : Vec Ideal S3x1024 .f32) (x5 : Vec Ideal S1024 .f32) (x6 : Vec Ideal S2x1024x1024 .bf16)

theorem x_apply (i : S4x4096x1024.Idx) : val_main_v0 (F := Ideal) x0 i = at2 x0 ((i 0).val * 4096 + (i 1).val) (i 2).val := by
  rw [val_main_v0_apply]
  have h2 : (i 2).val < 1024 := (i 2).isLt
  refine at2_of x0 _ _ _ ?_ ?_
  · show (((i 0).val * 4096 + (i 1).val) * 1024 + (i 2).val) / 1024 = _; omega
  · show (((i 0).val * 4096 + (i 1).val) * 1024 + (i 2).val) % 1024 = _; omega

theorem md_apply (i : S4x1x6144.Idx) : val_main_v2 (F := Ideal) x1 i = at2 x1 (1 + (i 0).val) (i 2).val := by
  rw [val_main_v2_apply, val_main_v1_apply]
  exact at2_of x1 _ _ _ rfl rfl

theorem win_apply (i : S1024x3072.Idx) : val_main_v30 (F := Ideal) x3 i = at3 x3 0 (i 0).val (i 1).val := by
  have h0 : (i 0).val < 1024 := (i 0).isLt
  have h1 : (i 1).val < 3072 := (i 1).isLt
  rw [val_main_v30_apply, val_main_v29_apply, val_main_v28_apply]
  refine at3_of x3 _ _ _ _ rfl ?_ ?_
  · show ((i 0).val * 3072 + (i 1).val) / 3072 % 1024 = _; omega
  · show ((i 0).val * 3072 + (i 1).val) % 3072 = _; omega

theorem wout_apply (i : S1024x1024.Idx) : val_main_v63 (F := Ideal) x6 i = at3 x6 0 (i 0).val (i 1).val := by
  have h0 : (i 0).val < 1024 := (i 0).isLt
  have h1 : (i 1).val < 1024 := (i 1).isLt
  rw [val_main_v63_apply, val_main_v62_apply, val_main_v61_apply]
  refine at3_of x6 _ _ _ _ rfl ?_ ?_
  · show ((i 0).val * 1024 + (i 1).val) / 1024 % 1024 = _; omega
  · show ((i 0).val * 1024 + (i 1).val) % 1024 = _; omega

/-- The normalisation factor of a row. -/
theorem inv_apply (i : S4x4096x1.Idx) : val_main_v16 (F := Ideal) x0 i = inv (at2 x0 ((i 0).val * 4096 + (i 1).val)) := by
  rw [val_main_v16_apply, val_main_v15_apply, val_main_v13_apply, val_main_v14_apply, val_main_v12_apply, val_main_v11_apply, val_main_v10_apply]
  have e : (val_main_cst (F := Ideal)) (Shape.Idx.first h_S_) = (0 : EReal) := Ideal.ofBits_zero_f32
  rw [e, zero_add]
  unfold Norm.inv
  refine congrArg (fun s => Ideal.rsqrt (Ideal.div s (Ideal.ofBits .f32 0x44800000#32) + Ideal.ofBits .f32 0x358637BD#32)) (Finset.sum_congr rfl fun j _ => ?_)
  rw [val_main_v9_apply, x_apply]
  rfl

/-- The row of the whole array at which sequence `i 0` has its row `i 1`. -/
abbrev place (i : S4x4096x1024.Idx) : ℕ := (i 0).val * 4096 + (i 1).val

/-- The modulated normalised rows. -/
theorem h_apply (i : S4x4096x1024.Idx) : val_main_v27 (F := Ideal) x0 x1 x2 i = hid (at2 x0) (at2 x1) (at1 x2) (place i) (i 2).val := by
  have h1 : (i 1).val < 4096 := (i 1).isLt
  rw [val_main_v27_apply, val_main_v25_apply, val_main_v21_apply, val_main_v18_apply, val_main_v17_apply, val_main_v20_apply, val_main_v19_apply,
    val_main_v24_apply, val_main_v23_apply, val_main_v22_apply, val_main_v26_apply, val_main_v4_apply, val_main_v3_apply, inv_apply, x_apply, md_apply, md_apply,
    at1_of x2 _ (i 2).val rfl]
  unfold hid normed
  rw [← mul_assoc, show place i / 4096 = (i 0).val by show ((i 0).val * 4096 + (i 1).val) / 4096 = _; omega]
  exact congrArg (fun k => _ + at2 x1 (1 + (i 0).val) k) (Nat.zero_add (i 2).val).symm

/-- The projection of the rows. -/
theorem prod_apply (i : S4x4096x3072.Idx) (o j : ℕ) (hj : (i 2).val = o + j) :
    val_main_v31 (F := Ideal) x0 x1 x2 x3 i = prod (hid (at2 x0) (at2 x1) (at1 x2)) (at3 x3 0) o ((i 0).val * 4096 + (i 1).val) j := by
  rw [val_main_v31_apply]
  unfold prod
  refine Finset.sum_congr rfl fun k _ => ?_
  rw [h_apply, win_apply, ← hj]

theorem core_apply (i : S4x4096x1024.Idx) :
    val_main_v35 (F := Ideal) x0 x1 x2 x3 i = core (hid (at2 x0) (at2 x1) (at1 x2)) (at3 x3 0) (i 2).val (place i) := by
  rw [val_main_v35_apply, val_main_v33_apply, val_main_v34_apply, prod_apply x0 x1 x2 x3 (idx_main_v33 i) 1024 (i 2).val rfl,
    prod_apply x0 x1 x2 x3 (idx_main_v34 i) 2048 (i 2).val rfl]
  rfl

/-- The padded rows. -/
theorem pad_apply (i : S4x4098x1024.Idx) (b q : ℕ) (hb : (i 0).val = b) (hq : (i 1).val = q) : val_main_v36 (F := Ideal) x0 x1 x2 x3 i
    = if q = 0 ∨ q = 4097 then 0 else core (hid (at2 x0) (at2 x1) (at1 x2)) (at3 x3 0) (i 2).val (b * 4096 + q - 1) := by
  have hz : val_main_call0_v0 (F := Ideal) (Shape.Idx.first h_S_) = (0 : EReal) := by
    show (((0#32 : BitVec 32).toInt : ℝ) : EReal) = 0
    simp
  unfold val_main_v36
  refine padded_apply _ _ _ h_S_ hz (core (hid (at2 x0) (at2 x1) (at1 x2)) (at3 x3 0) (i 2).val) i b q hb hq fun j h0 h2 => ?_
  rw [core_apply, h2]
  show core _ _ _ ((j 0).val * 4096 + (j 1).val) = _
  rw [h0]

theorem tap0_apply (i : S4x4096x1024.Idx) : val_main_v41 (F := Ideal) x4 i = at2 x4 0 (i 2).val := by
  have h2 : (i 2).val < 1024 := (i 2).isLt
  rw [val_main_v41_apply, val_main_v40_apply, val_main_v39_apply, val_main_v38_apply]
  exact at2_of x4 _ _ _ rfl (by show (i 2).val % 1024 = _; omega)

theorem tap1_apply (i : S4x4096x1024.Idx) : val_main_v47 (F := Ideal) x4 i = at2 x4 1 (i 2).val := by
  have h2 : (i 2).val < 1024 := (i 2).isLt
  rw [val_main_v47_apply, val_main_v46_apply, val_main_v45_apply, val_main_v44_apply]
  exact at2_of x4 _ _ _ rfl (by show (i 2).val % 1024 = _; omega)

theorem tap2_apply (i : S4x4096x1024.Idx) : val_main_v54 (F := Ideal) x4 i = at2 x4 2 (i 2).val := by
  have h2 : (i 2).val < 1024 := (i 2).isLt
  rw [val_main_v54_apply, val_main_v53_apply, val_main_v52_apply, val_main_v51_apply]
  exact at2_of x4 _ _ _ rfl (by show (i 2).val % 1024 = _; omega)

theorem bias_apply (i : S4x4096x1024.Idx) : val_main_v58 (F := Ideal) x5 i = at1 x5 (i 2).val := by
  rw [val_main_v58_apply, val_main_v57_apply]
  exact at1_of x5 _ _ rfl

/-- The convolution. -/
theorem conv_apply (i : S4x4096x1024.Idx) : val_main_v59 (F := Ideal) x0 x1 x2 x3 x4 x5 i
    = tap (core (hid (at2 x0) (at2 x1) (at1 x2)) (at3 x3 0) (i 2).val) (at2 x4 0 (i 2).val) (at2 x4 1 (i 2).val) (at2 x4 2 (i 2).val) (at1 x5 (i 2).val) (place i) := by
  have h1 : (i 1).val < 4096 := (i 1).isLt
  rw [val_main_v59_apply, val_main_v56_apply, val_main_v49_apply, val_main_v42_apply, val_main_v48_apply, val_main_v55_apply,
    val_main_v37_apply, val_main_v43_apply, val_main_v50_apply, tap0_apply, tap1_apply, tap2_apply, bias_apply,
    pad_apply x0 x1 x2 x3 (idx_main_v37 i) (i 0).val (i 1).val rfl rfl, pad_apply x0 x1 x2 x3 (idx_main_v43 i) (i 0).val (1 + (i 1).val) rfl rfl,
    pad_apply x0 x1 x2 x3 (idx_main_v50 i) (i 0).val (2 + (i 1).val) rfl rfl]
  exact tap_of_padded _ _ _ _ _ _ _ h1

theorem gated_apply (i : S4x4096x1024.Idx) : val_main_v60 (F := Ideal) x0 x1 x2 x3 x4 x5 i
    = gated (hid (at2 x0) (at2 x1) (at1 x2)) (at3 x3 0) (at2 x4) (at1 x5) (place i) (i 2).val := by
  rw [val_main_v60_apply, val_main_v32_apply, conv_apply, prod_apply x0 x1 x2 x3 (idx_main_v32 i) 0 (i 2).val (Nat.zero_add _).symm]
  rfl

theorem row_apply (i : S4x4096x1024.Idx) : val_main_v67 (F := Ideal) x0 x1 x2 x3 x4 x5 x6 i
    = row (at2 x0) (at2 x1) (at3 x3 0) (at2 x4) (at3 x6 0) (at1 x2) (at1 x5) (place i) (i 2).val := by
  have h1 : (i 1).val < 4096 := (i 1).isLt
  rw [val_main_v67_apply, val_main_v66_apply, val_main_v65_apply, val_main_v5_apply, val_main_v64_apply, x_apply, md_apply]
  unfold row
  rw [show place i / 4096 = (i 0).val by show ((i 0).val * 4096 + (i 1).val) / 4096 = _; omega]
  refine congrArg (fun s => _ + _ * s) (Finset.sum_congr rfl fun k _ => ?_)
  rw [gated_apply, wout_apply]

/-- The reference's result is the whole array that the kernel leaves. -/
theorem ref_eq : val_main_v68 (F := Ideal) x0 x1 x2 x3 x4 x5 x6 = whole x0 x1 x2 x3 x4 x5 x6 := by
  funext i
  have h1 : (i 1).val < 1024 := (i 1).isLt
  rw [val_main_v68_apply, row_apply]
  unfold whole
  exact congrArg₂ (row _ _ _ _ _ _ _) (by show ((i 0).val * 1024 + (i 1).val) / 4194304 * 4096 + ((i 0).val * 1024 + (i 1).val) / 1024 % 4096 = _; omega)
    (by show ((i 0).val * 1024 + (i 1).val) % 1024 = _; omega)

end Cert.SconvRef

end
-- ==== Proof.Hyena.lean ====
/- The gated input of the long convolution as two functions of its arguments over the extended reals. -/
module

public import proofs.«01_k».proof.Proof.Sconv

@[expose] public section

noncomputable section

namespace Cert.Hyena

open Cert.At Cert.Conv Idealize.ShloMosaic
open Cert.Sconv (hid prod)

/-- Row `n` of the convolved projection at column `j` of the part that begins at column `o`. -/
def chan (H w cw : ℕ → ℕ → EReal) (cb : ℕ → EReal) (o n j : ℕ) : EReal :=
  tap (fun n => prod H w o n j) (cw 0 (o + j)) (cw 1 (o + j)) (cw 2 (o + j)) (cb (o + j)) n

variable (x0 : (⟨2, ![16384, 1024]⟩ : Shape).Idx → EReal) (x1 : (⟨2, ![8, 6144]⟩ : Shape).Idx → EReal) (x2 : (⟨1, ![1024]⟩ : Shape).Idx → EReal)
  (x3 : (⟨3, ![1, 1024, 3072]⟩ : Shape).Idx → EReal) (x4 : (⟨2, ![3, 3072]⟩ : Shape).Idx → EReal) (x5 : (⟨1, ![3072]⟩ : Shape).Idx → EReal)

/-- The convolved projection of the whole array. -/
def whole (o n j : ℕ) : EReal := chan (hid (at2 x0) (at2 x1) (at1 x2)) (at3 x3 0) (at2 x4) (at1 x5) o n j

/-- The first result: the first part, the gate of what the long convolution yields. -/
def gate : (⟨2, ![16384, 1024]⟩ : Shape).Idx → EReal := fun i => whole x0 x1 x2 x3 x4 x5 0 (i 0).val (i 1).val

/-- The second result: the product of the third and the second part, which the long convolution takes. -/
def input : (⟨2, ![16384, 1024]⟩ : Shape).Idx → EReal := fun i =>
  whole x0 x1 x2 x3 x4 x5 2048 (i 0).val (i 1).val * whole x0 x1 x2 x3 x4 x5 1024 (i 0).val (i 1).val

end Cert.Hyena

end
-- ==== Proof.HyenaArray.lean ====
/- The two arrays the kernel of the long convolution's gated input leaves: every point writes its block of two functions of the six
   arguments, and the points' blocks cover the results. -/
module

public import proofs.«01_k».proof.Proof.Mlp
public import proofs.«01_k».proof.Proof.Hyena
public import proofs.«01_k».proof.Proof.Gen.Kernel5Ideal.Value

@[expose] public section

noncomputable section

namespace Cert.Hyena

open Cert.At Cert.Ops Cert.Norm Cert.Mlp Cert.Conv Cert.Kernel5Ideal Cert.Kernel5Ideal.Gen Cert.Kernel5Ideal.Value Idealize.SL.Sem Idealize.ShloMosaic.ValueIdx
open Cert.Sconv (hid prod)
open Idealize.ShloMosaic hiding ix0 ix1 ix2 ix3 ix4 ix5
open Idealize.ShloMosaic.TcCoe
open scoped BigOperators

/-! ## The body as two functions of the eight blocks -/

/-- Whether a point's block begins a sequence. -/
def begins (i : grid0.Coords) : BitVec 1 := Scalar.cmpi .eq (Scalar.andi (Scalar.muli (BitVec.ofNat 32 (i 0).val) 1024#32) 4095#32) 0#32

/-- Whether a point's block ends a sequence. -/
def ends (i : grid0.Coords) : BitVec 1 :=
  Scalar.cmpi .eq (Scalar.andi (Scalar.muli (Scalar.addi (BitVec.ofNat 32 (i 0).val) 1#32) 1024#32) 4095#32) 0#32

theorem begins_iff : ∀ t : Fin cfg0.N, begins (grid0.coords t) = 1 ↔ t.val % 4 = 0 := (by decide +kernel : ∀ t : Fin grid0.N, _)
theorem ends_iff : ∀ t : Fin cfg0.N, ends (grid0.coords t) = 1 ↔ t.val % 4 = 3 := (by decide +kernel : ∀ t : Fin grid0.N, _)

section Body

variable (i : grid0.Coords) (x0 : Vec Ideal S1024x1024 .f32) (x1 : Vec Ideal S16x1024 .f32) (x2 : Vec Ideal S16x1024 .f32) (x3 : Vec Ideal S8x6144 .f32)
  (x4 : Vec Ideal S1x1024 .f32) (x5 : Vec Ideal S1x1024x3072 .bf16) (x6 : Vec Ideal S3x3072 .f32) (x7 : Vec Ideal S1x3072 .f32)

abbrev rows : Vec Ideal S1024x1024 .f32 := View.ld x0 (Rect.unit (s := S1024x1024) ![0, 0] S1024x1024.size inb_S1024x1024_S1024x1024_0_0)
abbrev near (x : Vec Ideal S16x1024 .f32) : Vec Ideal S16x1024 .f32 := View.ld x (Rect.unit (s := S16x1024) ![0, 0] S16x1024.size inb_S16x1024_S16x1024_0_0)

/-- The normalised enlarged block. -/
def hidden : FVec Ideal S1056x1024 .bf16 :=
  normV reduces_S1056x1024_S1056 shapeCasts_S1056_S1056x1 broadcasts_S1056x1_S1056x1024 broadcasts_S1x1024_S1056x1024
    (haloV concatenates_S16x1024_S1024x1024_S16x1024_S1056x1024_d0 (rows x0) (near x1) (near x2))
    (shapeCast S1x1024 (View.ld x4 (Rect.unit (s := S1x1024) ![0, 0] S1x1024.size inb_S1x1024_S1x1024_0_0)) shapeCasts_S1x1024_S1x1024)
    (View.ld x3 (Rect.unit (s := S8x6144) (k0_off1 i) S1x1024.size (k0_off1_inb i)))
    (View.ld x3 (Rect.unit (s := S8x6144) (k0_off2 i) S1x1024.size (k0_off2_inb i)))

/-- The convolved projection of the block at the 256 columns from column `o`. -/
def chanV (o : ℕ) (hw : ∀ a, (![0, 0, o] : Fin 3 → ℕ) a + S1x1024x256.size a ≤ S1x1024x3072.size a)
    (ht : ∀ a, (![0, o] : Fin 2 → ℕ) a + S3x256.size a ≤ S3x3072.size a) (hb : ∀ a, (![0, o] : Fin 2 → ℕ) a + S1x256.size a ≤ S1x3072.size a) :
    FVec Ideal S1024x256 .f32 :=
  convV iota_S8x1_d0_w32 shapeCasts_S8x1_S8x1 broadcasts_S8x1_S8x256 rotates_S1056x256_d0 slices_S1056x256_o16_0_S1024x256
    slices_S1024x256_o0_0_S8x256 slices_S1024x256_o8_0_S1016x256 slices_S1024x256_o0_0_S1016x256 slices_S1024x256_o1016_0_S8x256
    concatenates_S8x256_S1016x256_S1024x256_d0 concatenates_S1016x256_S8x256_S1024x256_d0
    slices_S3x256_o0_0_S1x256 slices_S3x256_o1_0_S1x256 slices_S3x256_o2_0_S1x256 broadcasts_S1x256_S1024x256 shapeCasts_S1x256_S1x256
    (begins i) (ends i)
    (FloatOps.matmul (DotDims.plain 1056 1024 256) none (hidden i x0 x1 x2 x3 x4)
      (shapeCast S1024x256 (View.ld x5 (Rect.unit (s := S1x1024x3072) ![0, 0, o] S1x1024x256.size hw)) shapeCasts_S1x1024x256_S1024x256 : FVec Ideal S1024x256 .bf16)
      (constant S1056x256 .f32 0x00000000#32))
    (View.ld x6 (Rect.unit (s := S3x3072) ![0, o] S3x256.size ht))
    (View.ld x7 (Rect.unit (s := S1x3072) ![0, o] S1x256.size hb))

/-- Four blocks of 256 columns each, as stored: the last first. -/
abbrev pieces (a b c d : FVec Ideal S1024x256 .bf16) : List (View.Piece (Elt Ideal) S1024x1024 .bf16) :=
  [⟨Rect.unit ![0, 768] S1024x256.size inb_S1024x1024_S1024x256_0_768, d⟩, ⟨Rect.unit ![0, 512] S1024x256.size inb_S1024x1024_S1024x256_0_512, c⟩,
    ⟨Rect.unit ![0, 256] S1024x256.size inb_S1024x1024_S1024x256_0_256, b⟩, ⟨Rect.unit ![0, 0] S1024x256.size inb_S1024x1024_S1024x256_0_0, a⟩]

def gateV : FVec Ideal S1024x1024 .bf16 := View.canon (pieces
  (truncf .bf16 (chanV i x0 x1 x2 x3 x4 x5 x6 x7 0 inb_S1x1024x3072_S1x1024x256_0_0_0 inb_S3x3072_S3x256_0_0 inb_S1x3072_S1x256_0_0) bitsLt_bf16_f32)
  (truncf .bf16 (chanV i x0 x1 x2 x3 x4 x5 x6 x7 256 inb_S1x1024x3072_S1x1024x256_0_0_256 inb_S3x3072_S3x256_0_256 inb_S1x3072_S1x256_0_256) bitsLt_bf16_f32)
  (truncf .bf16 (chanV i x0 x1 x2 x3 x4 x5 x6 x7 512 inb_S1x1024x3072_S1x1024x256_0_0_512 inb_S3x3072_S3x256_0_512 inb_S1x3072_S1x256_0_512) bitsLt_bf16_f32)
  (truncf .bf16 (chanV i x0 x1 x2 x3 x4 x5 x6 x7 768 inb_S1x1024x3072_S1x1024x256_0_0_768 inb_S3x3072_S3x256_0_768 inb_S1x3072_S1x256_0_768) bitsLt_bf16_f32))

def inputV : FVec Ideal S1024x1024 .bf16 := View.canon (pieces
  (truncf .bf16 (mulf (chanV i x0 x1 x2 x3 x4 x5 x6 x7 2048 inb_S1x1024x3072_S1x1024x256_0_0_2048 inb_S3x3072_S3x256_0_2048 inb_S1x3072_S1x256_0_2048)
    (chanV i x0 x1 x2 x3 x4 x5 x6 x7 1024 inb_S1x1024x3072_S1x1024x256_0_0_1024 inb_S3x3072_S3x256_0_1024 inb_S1x3072_S1x256_0_1024)) bitsLt_bf16_f32)
  (truncf .bf16 (mulf (chanV i x0 x1 x2 x3 x4 x5 x6 x7 2304 inb_S1x1024x3072_S1x1024x256_0_0_2304 inb_S3x3072_S3x256_0_2304 inb_S1x3072_S1x256_0_2304)
    (chanV i x0 x1 x2 x3 x4 x5 x6 x7 1280 inb_S1x1024x3072_S1x1024x256_0_0_1280 inb_S3x3072_S3x256_0_1280 inb_S1x3072_S1x256_0_1280)) bitsLt_bf16_f32)
  (truncf .bf16 (mulf (chanV i x0 x1 x2 x3 x4 x5 x6 x7 2560 inb_S1x1024x3072_S1x1024x256_0_0_2560 inb_S3x3072_S3x256_0_2560 inb_S1x3072_S1x256_0_2560)
    (chanV i x0 x1 x2 x3 x4 x5 x6 x7 1536 inb_S1x1024x3072_S1x1024x256_0_0_1536 inb_S3x3072_S3x256_0_1536 inb_S1x3072_S1x256_0_1536)) bitsLt_bf16_f32)
  (truncf .bf16 (mulf (chanV i x0 x1 x2 x3 x4 x5 x6 x7 2816 inb_S1x1024x3072_S1x1024x256_0_0_2816 inb_S3x3072_S3x256_0_2816 inb_S1x3072_S1x256_0_2816)
    (chanV i x0 x1 x2 x3 x4 x5 x6 x7 1792 inb_S1x1024x3072_S1x1024x256_0_0_1792 inb_S3x3072_S3x256_0_1792 inb_S1x3072_S1x256_0_1792)) bitsLt_bf16_f32))

end Body

/-- What the run leaves in the first result's staging buffer. -/
theorem out8_eq (c : Dev nD) (i : grid0.Coords) (arg1 : Memref sig .tc .vmem S1024x1024 .f32) (h1 : arg1.IsWhole)
    (arg2 : Memref sig .tc .vmem S16x1024 .f32) (h2 : arg2.IsWhole)
    (arg3 : Memref sig .tc .vmem S16x1024 .f32) (h3 : arg3.IsWhole)
    (arg4 : Memref sig .tc .vmem S8x6144 .f32) (h4 : arg4.IsWhole)
    (arg5 : Memref sig .tc .vmem S1x1024 .f32) (h5 : arg5.IsWhole)
    (arg6 : Memref sig .tc .vmem S1x1024x3072 .bf16) (h6 : arg6.IsWhole)
    (arg7 : Memref sig .tc .vmem S3x3072 .f32) (h7 : arg7.IsWhole)
    (arg8 : Memref sig .tc .vmem S1x3072 .f32) (h8 : arg8.IsWhole)
    (arg9 : Memref sig .tc .vmem S1024x1024 .bf16) (h9 : arg9.IsWhole)
    (arg10 : Memref sig .tc .vmem S1024x1024 .bf16) (h10 : arg10.IsWhole)
    (x0 : Vec Ideal S1024x1024 .f32) (x1 : Vec Ideal S16x1024 .f32) (x2 : Vec Ideal S16x1024 .f32) (x3 : Vec Ideal S8x6144 .f32) (x4 : Vec Ideal S1x1024 .f32) (x5 : Vec Ideal S1x1024x3072 .bf16) (x6 : Vec Ideal S3x3072 .f32) (x7 : Vec Ideal S1x3072 .f32) :
    out0_A_8 c i arg1 h1 arg2 h2 arg3 h3 arg4 h4 arg5 h5 arg6 h6 arg7 h7 arg8 h8 arg9 h9 arg10 h10 x0 x1 x2 x3 x4 x5 x6 x7 = gateV i x0 x1 x2 x3 x4 x5 x6 x7 := by
  unfold out0_A_8
  rw [View.read_writes_junk_eq_canon]
  show gateV i (arg1.view.read (Elt Ideal) (h1.unread x0)) (arg2.view.read (Elt Ideal) (h2.unread x1)) (arg3.view.read (Elt Ideal) (h3.unread x2)) (arg4.view.read (Elt Ideal) (h4.unread x3)) (arg5.view.read (Elt Ideal) (h5.unread x4)) (arg6.view.read (Elt Ideal) (h6.unread x5)) (arg7.view.read (Elt Ideal) (h7.unread x6)) (arg8.view.read (Elt Ideal) (h8.unread x7)) = _
  rw [h1.read_unread, h2.read_unread, h3.read_unread, h4.read_unread, h5.read_unread, h6.read_unread, h7.read_unread, h8.read_unread]

/-- What the run leaves in the second result's staging buffer. -/
theorem out9_eq (c : Dev nD) (i : grid0.Coords) (arg1 : Memref sig .tc .vmem S1024x1024 .f32) (h1 : arg1.IsWhole)
    (arg2 : Memref sig .tc .vmem S16x1024 .f32) (h2 : arg2.IsWhole)
    (arg3 : Memref sig .tc .vmem S16x1024 .f32) (h3 : arg3.IsWhole)
    (arg4 : Memref sig .tc .vmem S8x6144 .f32) (h4 : arg4.IsWhole)
    (arg5 : Memref sig .tc .vmem S1x1024 .f32) (h5 : arg5.IsWhole)
    (arg6 : Memref sig .tc .vmem S1x1024x3072 .bf16) (h6 : arg6.IsWhole)
    (arg7 : Memref sig .tc .vmem S3x3072 .f32) (h7 : arg7.IsWhole)
    (arg8 : Memref sig .tc .vmem S1x3072 .f32) (h8 : arg8.IsWhole)
    (arg9 : Memref sig .tc .vmem S1024x1024 .bf16) (h9 : arg9.IsWhole)
    (arg10 : Memref sig .tc .vmem S1024x1024 .bf16) (h10 : arg10.IsWhole)
    (x0 : Vec Ideal S1024x1024 .f32) (x1 : Vec Ideal S16x1024 .f32) (x2 : Vec Ideal S16x1024 .f32) (x3 : Vec Ideal S8x6144 .f32) (x4 : Vec Ideal S1x1024 .f32) (x5 : Vec Ideal S1x1024x3072 .bf16) (x6 : Vec Ideal S3x3072 .f32) (x7 : Vec Ideal S1x3072 .f32) :
    out0_A_9 c i arg1 h1 arg2 h2 arg3 h3 arg4 h4 arg5 h5 arg6 h6 arg7 h7 arg8 h8 arg9 h9 arg10 h10 x0 x1 x2 x3 x4 x5 x6 x7 = inputV i x0 x1 x2 x3 x4 x5 x6 x7 := by
  unfold out0_A_9
  rw [View.read_writes_junk_eq_canon]
  show inputV i (arg1.view.read (Elt Ideal) (h1.unread x0)) (arg2.view.read (Elt Ideal) (h2.unread x1)) (arg3.view.read (Elt Ideal) (h3.unread x2)) (arg4.view.read (Elt Ideal) (h4.unread x3)) (arg5.view.read (Elt Ideal) (h5.unread x4)) (arg6.view.read (Elt Ideal) (h6.unread x5)) (arg7.view.read (Elt Ideal) (h7.unread x6)) (arg8.view.read (Elt Ideal) (h8.unread x7)) = _
  rw [h1.read_unread, h2.read_unread, h3.read_unread, h4.read_unread, h5.read_unread, h6.read_unread, h7.read_unread, h8.read_unread]

theorem off1 : ∀ t : Fin cfg0.N, k0_off1 (grid0.coords t) (0 : Fin 2) = 1 + t.val / 4 ∧ k0_off1 (grid0.coords t) (1 : Fin 2) = 1024 :=
  (by decide +kernel : ∀ t : Fin grid0.N, _)
theorem off2 : ∀ t : Fin cfg0.N, k0_off2 (grid0.coords t) (0 : Fin 2) = 1 + t.val / 4 ∧ k0_off2 (grid0.coords t) (1 : Fin 2) = 0 :=
  (by decide +kernel : ∀ t : Fin grid0.N, _)

/-! ## Where each window's block lies -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val * 64 - 1 ∧ win0_1.index t (1 : Fin 2) = 0 := (by decide +kernel : ∀ t : Fin grid0.N, _)
theorem idx2 : ∀ t : Fin cfg0.N, win0_2.index t (0 : Fin 2) = min ((t.val + 1) * 64) 1023 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 3) = 0 ∧ win0_5.index t (1 : Fin 3) = 0 ∧ win0_5.index t (2 : Fin 3) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)

theorem V_main_v0 (c : Dev nD) : V m c main_v0 = shapeCast S1x1024 (m ((c : Thread nD τ).loc main_arg2) : Vec Ideal S1024 .f32) shapeCasts_S1024_S1x1024 := by
  show StableHlo.after hostOps0 _ (Proc.devRef .tc main_v0) = _
  after_results
  rfl

theorem V_main_v1 (c : Dev nD) : V m c main_v1 = shapeCast S1x3072 (m ((c : Thread nD τ).loc main_arg5) : Vec Ideal S3072 .f32) shapeCasts_S3072_S1x3072 := by
  show StableHlo.after hostOps0 _ (Proc.devRef .tc main_v1) = _
  after_results
  rfl

theorem blk0 (c : Dev nD) (t : Fin cfg0.N) (x : S1024x1024.Idx) : (iblk m c 0 t : S1024x1024.Idx → EReal) x
    = at2 (m ((c : Thread nD τ).loc main_arg0) : Vec Ideal S16384x1024 .f32) (t.val * 1024 + (x 0).val) (x 1).val := by
  obtain ⟨e0, e1⟩ := idx0 t
  show V m c main_arg0 (((cfg0.win 0).blk t).view.emb x) = _
  rw [V_main_arg0]
  refine at2_of (m ((c : Thread nD τ).loc main_arg0) : Vec Ideal S16384x1024 .f32) (((cfg0.win 0).blk t).view.emb x) _ _ ?_ ?_
  · show win0_0.index t (0 : Fin 2) * 1024 + 1 * (x 0).val = _; rw [e0]; omega
  · show win0_0.index t (1 : Fin 2) * 1024 + 1 * (x 1).val = _; rw [e1]; omega

theorem blk1 (c : Dev nD) (t : Fin cfg0.N) (x : S16x1024.Idx) : (iblk m c 1 t : S16x1024.Idx → EReal) x
    = at2 (m ((c : Thread nD τ).loc main_arg0) : Vec Ideal S16384x1024 .f32) ((t.val * 64 - 1) * 16 + (x 0).val) (x 1).val := by
  obtain ⟨e0, e1⟩ := idx1 t
  show V m c main_arg0 (((cfg0.win 1).blk t).view.emb x) = _
  rw [V_main_arg0]
  refine at2_of (m ((c : Thread nD τ).loc main_arg0) : Vec Ideal S16384x1024 .f32) (((cfg0.win 1).blk t).view.emb x) _ _ ?_ ?_
  · show win0_1.index t (0 : Fin 2) * 16 + 1 * (x 0).val = _; rw [e0]; omega
  · show win0_1.index t (1 : Fin 2) * 1024 + 1 * (x 1).val = _; rw [e1]; omega

theorem blk2 (c : Dev nD) (t : Fin cfg0.N) (x : S16x1024.Idx) : (iblk m c 2 t : S16x1024.Idx → EReal) x
    = at2 (m ((c : Thread nD τ).loc main_arg0) : Vec Ideal S16384x1024 .f32) (min ((t.val + 1) * 64) 1023 * 16 + (x 0).val) (x 1).val := by
  obtain ⟨e0, e1⟩ := idx2 t
  show V m c main_arg0 (((cfg0.win 2).blk t).view.emb x) = _
  rw [V_main_arg0]
  refine at2_of (m ((c : Thread nD τ).loc main_arg0) : Vec Ideal S16384x1024 .f32) (((cfg0.win 2).blk t).view.emb x) _ _ ?_ ?_
  · show win0_2.index t (0 : Fin 2) * 16 + 1 * (x 0).val = _; rw [e0]; omega
  · show win0_2.index t (1 : Fin 2) * 1024 + 1 * (x 1).val = _; rw [e1]; omega

theorem blk3 (c : Dev nD) (t : Fin cfg0.N) (x : S8x6144.Idx) : (iblk m c 3 t : S8x6144.Idx → EReal) x
    = at2 (m ((c : Thread nD τ).loc main_arg1) : Vec Ideal S8x6144 .f32) ((x 0).val) (x 1).val := by
  obtain ⟨e0, e1⟩ := idx3 t
  show V m c main_arg1 (((cfg0.win 3).blk t).view.emb x) = _
  rw [V_main_arg1]
  refine at2_of (m ((c : Thread nD τ).loc main_arg1) : Vec Ideal S8x6144 .f32) (((cfg0.win 3).blk t).view.emb x) _ _ ?_ ?_
  · show win0_3.index t (0 : Fin 2) * 8 + 1 * (x 0).val = _; rw [e0]; omega
  · show win0_3.index t (1 : Fin 2) * 6144 + 1 * (x 1).val = _; rw [e1]; omega

theorem blk4 (c : Dev nD) (t : Fin cfg0.N) (k : Fin 1024) : (iblk m c 4 t : S1x1024.Idx → EReal) (ix2 (0 : Fin 1) k)
    = at1 (m ((c : Thread nD τ).loc main_arg2) : Vec Ideal S1024 .f32) k.val := by
  obtain ⟨e0, e1⟩ := idx4 t
  have he : ((cfg0.win 4).blk t).view.emb (ix2 (0 : Fin 1) k) = (ix2 (0 : Fin 1) k : S1x1024.Idx) := by
    funext a; apply Fin.ext
    match a with
    | ⟨0, _⟩ => show win0_4.index t (0 : Fin 2) * 1 + 1 * 0 = 0; rw [e0]
    | ⟨1, _⟩ => show win0_4.index t (1 : Fin 2) * 1024 + 1 * k.val = k.val; rw [e1]; omega
  show V m c main_v0 (((cfg0.win 4).blk t).view.emb (ix2 (0 : Fin 1) k)) = _
  rw [V_main_v0, he]
  exact (shapeCast_a_1a_apply _ _ _ k).trans (at1_of _ _ _ rfl)

theorem blk5 (c : Dev nD) (t : Fin cfg0.N) (x : S1x1024x3072.Idx) : (iblk m c 5 t : S1x1024x3072.Idx → EReal) x
    = at3 (m ((c : Thread nD τ).loc main_arg3) : Vec Ideal S1x1024x3072 .bf16) 0 (x 1).val (x 2).val := by
  obtain ⟨e0, e1, e2⟩ := idx5 t
  have hx : (x 0).val < 1 := (x 0).isLt
  show V m c main_arg3 (((cfg0.win 5).blk t).view.emb x) = _
  rw [V_main_arg3]
  refine at3_of (m ((c : Thread nD τ).loc main_arg3) : Vec Ideal S1x1024x3072 .bf16) (((cfg0.win 5).blk t).view.emb x) _ _ _ ?_ ?_ ?_
  · show win0_5.index t (0 : Fin 3) * 1 + 1 * (x 0).val = _; rw [e0]; omega
  · show win0_5.index t (1 : Fin 3) * 1024 + 1 * (x 1).val = _; rw [e1]; omega
  · show win0_5.index t (2 : Fin 3) * 3072 + 1 * (x 2).val = _; rw [e2]; omega

theorem blk6 (c : Dev nD) (t : Fin cfg0.N) (x : S3x3072.Idx) : (iblk m c 6 t : S3x3072.Idx → EReal) x
    = at2 (m ((c : Thread nD τ).loc main_arg4) : Vec Ideal S3x3072 .f32) ((x 0).val) (x 1).val := by
  obtain ⟨e0, e1⟩ := idx6 t
  show V m c main_arg4 (((cfg0.win 6).blk t).view.emb x) = _
  rw [V_main_arg4]
  refine at2_of (m ((c : Thread nD τ).loc main_arg4) : Vec Ideal S3x3072 .f32) (((cfg0.win 6).blk t).view.emb x) _ _ ?_ ?_
  · show win0_6.index t (0 : Fin 2) * 3 + 1 * (x 0).val = _; rw [e0]; omega
  · show win0_6.index t (1 : Fin 2) * 3072 + 1 * (x 1).val = _; rw [e1]; omega

theorem blk7 (c : Dev nD) (t : Fin cfg0.N) (x : S1x3072.Idx) : (iblk m c 7 t : S1x3072.Idx → EReal) x
    = at1 (m ((c : Thread nD τ).loc main_arg5) : Vec Ideal S3072 .f32) (x 1).val := by
  obtain ⟨e0, e1⟩ := idx7 t
  have hx : (x 0).val < 1 := (x 0).isLt
  have he : ((cfg0.win 7).blk t).view.emb x = (ix2 (0 : Fin 1) (x 1 : Fin 3072) : S1x3072.Idx) := by
    funext a; apply Fin.ext
    match a with
    | ⟨0, _⟩ => show win0_7.index t (0 : Fin 2) * 1 + 1 * (x 0).val = 0; rw [e0]; omega
    | ⟨1, _⟩ => show win0_7.index t (1 : Fin 2) * 3072 + 1 * (x 1).val = (x 1).val; rw [e1]; omega
  show V m c main_v1 (((cfg0.win 7).blk t).view.emb x) = _
  rw [V_main_v1, he]
  exact (shapeCast_a_1a_apply _ _ _ (x 1)).trans (at1_of _ _ _ rfl)

/-! ## One point's blocks are its blocks of the whole -/

/-- The arguments as launched. -/
abbrev X (c : Dev nD) : ℕ → ℕ → EReal := at2 (m ((c : Thread nD τ).loc main_arg0) : Vec Ideal S16384x1024 .f32)
abbrev M (c : Dev nD) : ℕ → ℕ → EReal := at2 (m ((c : Thread nD τ).loc main_arg1) : Vec Ideal S8x6144 .f32)
abbrev gain (c : Dev nD) : ℕ → EReal := at1 (m ((c : Thread nD τ).loc main_arg2) : Vec Ideal S1024 .f32)
abbrev win (c : Dev nD) : ℕ → ℕ → EReal := at3 (m ((c : Thread nD τ).loc main_arg3) : Vec Ideal S1x1024x3072 .bf16) 0
abbrev taps (c : Dev nD) : ℕ → ℕ → EReal := at2 (m ((c : Thread nD τ).loc main_arg4) : Vec Ideal S3x3072 .f32)
abbrev bias (c : Dev nD) : ℕ → EReal := at1 (m ((c : Thread nD τ).loc main_arg5) : Vec Ideal S3072 .f32)

/-- The convolved projection, and the two results, of the argument arrays as launched. -/
abbrev P (c : Dev nD) : ℕ → ℕ → ℕ → EReal :=
  whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))
abbrev G0 (c : Dev nD) : S16384x1024.Idx → EReal :=
  gate (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))
abbrev G1 (c : Dev nD) : S16384x1024.Idx → EReal :=
  input (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5))

theorem rows_apply (c : Dev nD) (t : Fin cfg0.N) (i k : Fin 1024) : rows (iblk m c 0 t : Vec Ideal S1024x1024 .f32) (ix2 i k) = X m c (t.val * 1024 + i.val) k := by
  refine (blk0 m c t _).trans (at2_congr _ ?_ ?_)
  · show t.val * 1024 + (0 + 1 * i.val) = _; omega
  · show 0 + 1 * k.val = _; omega

theorem before_apply (c : Dev nD) (t : Fin cfg0.N) (i : Fin 16) (k : Fin 1024) :
    near (iblk m c 1 t : Vec Ideal S16x1024 .f32) (ix2 i k) = X m c ((t.val * 64 - 1) * 16 + i.val) k := by
  refine (blk1 m c t _).trans (at2_congr _ ?_ ?_)
  · show (t.val * 64 - 1) * 16 + (0 + 1 * i.val) = _; omega
  · show 0 + 1 * k.val = _; omega

theorem after_apply (c : Dev nD) (t : Fin cfg0.N) (i : Fin 16) (k : Fin 1024) :
    near (iblk m c 2 t : Vec Ideal S16x1024 .f32) (ix2 i k) = X m c (min ((t.val + 1) * 64) 1023 * 16 + i.val) k := by
  refine (blk2 m c t _).trans (at2_congr _ ?_ ?_)
  · show min ((t.val + 1) * 64) 1023 * 16 + (0 + 1 * i.val) = _; omega
  · show 0 + 1 * k.val = _; omega

theorem hidden_apply (c : Dev nD) (t : Fin cfg0.N) (r : Fin 1056) (n : ℕ) (hn : n + 16 = t.val * 1024 + r.val) (hq : n / 4096 = t.val / 4) (k : Fin 1024) :
    hidden (grid0.coords t) (iblk m c 0 t) (iblk m c 1 t) (iblk m c 2 t) (iblk m c 3 t) (iblk m c 4 t) (ix2 r k) = hid (X m c) (M m c) (gain m c) n k := by
  have ht : t.val < 16 := t.isLt
  have hx := haloV_apply concatenates_S16x1024_S1024x1024_S16x1024_S1056x1024_d0 _ _ _ (X m c) t.val ht (rows_apply m c t) (before_apply m c t) (after_apply m c t) r n hn hq
  unfold hidden hid
  rw [hq]
  exact normV_apply _ _ _ _ _ _ _ _ r (X m c n) (gain m c) (fun k => M m c (1 + t.val / 4) (1024 + k)) (fun k => M m c (1 + t.val / 4) (0 + k)) hx
    (wholeRow_apply _ _ (blk4 m c t) _ _) (modRow_apply _ _ (blk3 m c t) _ _ _ _ (off1 t).1 (off1 t).2) (modRow_apply _ _ (blk3 m c t) _ _ _ _ (off2 t).1 (off2 t).2) k

theorem chanV_apply (c : Dev nD) (t : Fin cfg0.N) (o O q : ℕ) (ho : o = O + q) (hw) (ht) (hb) (i : Fin 1024) (j : Fin 256) :
    chanV (grid0.coords t) (iblk m c 0 t) (iblk m c 1 t) (iblk m c 2 t) (iblk m c 3 t) (iblk m c 4 t) (iblk m c 5 t) (iblk m c 6 t) (iblk m c 7 t) o hw ht hb (ix2 i j)
      = P m c O (t.val * 1024 + i.val) (q + j.val) := by
  have e : O + (q + j.val) = o + j.val := by omega
  have hp (r : Fin 1056) (n : ℕ) (hn : n + 16 = t.val * 1024 + r.val) (hq : n / 4096 = t.val / 4) :
      FloatOps.matmul (DotDims.plain 1056 1024 256) none (hidden (grid0.coords t) (iblk m c 0 t) (iblk m c 1 t) (iblk m c 2 t) (iblk m c 3 t) (iblk m c 4 t))
        (shapeCast S1024x256 (View.ld (iblk m c 5 t : Vec Ideal S1x1024x3072 .bf16) (Rect.unit (s := S1x1024x3072) ![0, 0, o] S1x1024x256.size hw)) shapeCasts_S1x1024x256_S1024x256 :
          FVec Ideal S1024x256 .bf16) (constant S1056x256 .f32 0x00000000#32) (ix2 r j) = prod (hid (X m c) (M m c) (gain m c)) (win m c) O n (q + j.val) := by
    unfold prod
    rw [e]
    exact (mm_apply _ _ r j).trans (Finset.sum_congr rfl fun k _ =>
      congrArg₂ (· * ·) (hidden_apply m c t r n hn hq k) (cols_apply _ (win m c) (blk5 m c t) o _ _ k j))
  have htap (a : Fin 3) : View.ld (iblk m c 6 t : Vec Ideal S3x3072 .f32) (Rect.unit (s := S3x3072) ![0, o] S3x256.size ht) (ix2 a j) = taps m c a (O + (q + j.val)) := by
    rw [e]
    exact part_apply _ (taps m c) (blk6 m c t) o _ a j
  have hbias : View.ld (iblk m c 7 t : Vec Ideal S1x3072 .f32) (Rect.unit (s := S1x3072) ![0, o] S1x256.size hb) (ix2 (0 : Fin 1) j) = bias m c (O + (q + j.val)) := by
    rw [e]
    exact part_apply _ (fun _ => bias m c) (blk7 m c t) o _ 0 j
  unfold chanV P whole chan
  exact convV_apply _ _ _ _ _ _ _ _ _ _ _ _ _ _ _ _ _ _ _ _ _ t.val (begins_iff t) (ends_iff t) i j _ hp _ _ _ _ (htap 0) (htap 1) (htap 2) hbias

/-- Four blocks of 256 columns read at an index, where each holds its columns of `f`. -/
theorem pieces_apply (a b c d : FVec Ideal S1024x256 .bf16) (f : ℕ → EReal) (i : Fin 1024) (ha : ∀ j : Fin 256, a (ix2 i j) = f (0 + j.val))
    (hb : ∀ j : Fin 256, b (ix2 i j) = f (256 + j.val)) (hc : ∀ j : Fin 256, c (ix2 i j) = f (512 + j.val)) (hd : ∀ j : Fin 256, d (ix2 i j) = f (768 + j.val))
    (j : Fin 1024) : View.canon (pieces a b c d) (ix2 i j) = f j.val := by
  have at_ (o : ℕ) (w : FVec Ideal S1024x256 .bf16) (hw : ∀ j : Fin 256, w (ix2 i j) = f (o + j.val)) :
      View.TileAt (S := S1024x1024) (Val := Elt Ideal) (e := .bf16) (ix2 i j) ![0, o] S1024x256.size w (f j.val) := by
    intro x hx
    have h0 : i.val = 0 + (x 0).val := hx 0
    have h1 : j.val = o + (x 1).val := hx 1
    obtain ⟨r, k, rfl⟩ : ∃ (r : Fin 1024) (k : Fin 256), x = ix2 r k := ⟨x 0, x 1, funext fun a => by fin_cases a <;> rfl⟩
    have er : r = i := Fin.ext (by have h0 : i.val = 0 + r.val := h0; omega)
    have h1 : j.val = o + k.val := h1
    rw [er, h1]
    exact hw k
  refine View.canon_eq_of_allAt _ _ _ (View.cover_of_tiledL (pieces a b c d) S1024x256.size (by sl_kernel_rfl) (ix2 i j)) ?_
  exact View.allAt_cons_unit _ _ _ _ _ (at_ 768 d hd) (View.allAt_cons_unit _ _ _ _ _ (at_ 512 c hc)
    (View.allAt_cons_unit _ _ _ _ _ (at_ 256 b hb) (View.allAt_cons_unit _ _ _ _ _ (at_ 0 a ha) (View.allAt_nil _ _))))

theorem gateV_apply (c : Dev nD) (t : Fin cfg0.N) (i j : Fin 1024) :
    gateV (grid0.coords t) (iblk m c 0 t) (iblk m c 1 t) (iblk m c 2 t) (iblk m c 3 t) (iblk m c 4 t) (iblk m c 5 t) (iblk m c 6 t) (iblk m c 7 t) (ix2 i j)
      = P m c 0 (t.val * 1024 + i.val) j.val := by
  unfold gateV
  exact pieces_apply _ _ _ _ (P m c 0 (t.val * 1024 + i.val)) i (chanV_apply m c t 0 0 0 rfl _ _ _ i) (chanV_apply m c t 256 0 256 rfl _ _ _ i)
    (chanV_apply m c t 512 0 512 rfl _ _ _ i) (chanV_apply m c t 768 0 768 rfl _ _ _ i) j

theorem inputV_apply (c : Dev nD) (t : Fin cfg0.N) (i j : Fin 1024) :
    inputV (grid0.coords t) (iblk m c 0 t) (iblk m c 1 t) (iblk m c 2 t) (iblk m c 3 t) (iblk m c 4 t) (iblk m c 5 t) (iblk m c 6 t) (iblk m c 7 t) (ix2 i j)
      = P m c 2048 (t.val * 1024 + i.val) j.val * P m c 1024 (t.val * 1024 + i.val) j.val := by
  have both (q : ℕ) (hw) (ht) (hb) (hw') (ht') (hb') (k : Fin 256) :
      chanV (grid0.coords t) (iblk m c 0 t) (iblk m c 1 t) (iblk m c 2 t) (iblk m c 3 t) (iblk m c 4 t) (iblk m c 5 t) (iblk m c 6 t) (iblk m c 7 t) (2048 + q) hw ht hb (ix2 i k)
        * chanV (grid0.coords t) (iblk m c 0 t) (iblk m c 1 t) (iblk m c 2 t) (iblk m c 3 t) (iblk m c 4 t) (iblk m c 5 t) (iblk m c 6 t) (iblk m c 7 t) (1024 + q) hw' ht' hb' (ix2 i k)
        = P m c 2048 (t.val * 1024 + i.val) (q + k.val) * P m c 1024 (t.val * 1024 + i.val) (q + k.val) :=
    congrArg₂ (· * ·) (chanV_apply m c t _ 2048 q rfl _ _ _ i k) (chanV_apply m c t _ 1024 q rfl _ _ _ i k)
  unfold inputV
  exact pieces_apply _ _ _ _ (fun j => P m c 2048 (t.val * 1024 + i.val) j * P m c 1024 (t.val * 1024 + i.val) j) i (both 0 _ _ _ _ _ _) (both 256 _ _ _ _ _ _)
    (both 512 _ _ _ _ _ _) (both 768 _ _ _ _ _ _) j

theorem emb8_val (t : Fin cfg0.N) (y : S1024x1024.Idx) :
    (((cfg0.win 8).blk t).view.emb y (0 : Fin 2)).val = t.val * 1024 + (y 0).val
      ∧ (((cfg0.win 8).blk t).view.emb y (1 : Fin 2)).val = (y 1).val := by
  obtain ⟨e0, e1⟩ := idx8 t
  constructor
  · show win0_8.index t (0 : Fin 2) * 1024 + 1 * (y 0).val = _; rw [e0]; omega
  · show win0_8.index t (1 : Fin 2) * 1024 + 1 * (y 1).val = _; rw [e1]; omega

theorem emb9_val (t : Fin cfg0.N) (y : S1024x1024.Idx) :
    (((cfg0.win 9).blk t).view.emb y (0 : Fin 2)).val = t.val * 1024 + (y 0).val
      ∧ (((cfg0.win 9).blk t).view.emb y (1 : Fin 2)).val = (y 1).val := by
  obtain ⟨e0, e1⟩ := idx9 t
  constructor
  · show win0_9.index t (0 : Fin 2) * 1024 + 1 * (y 0).val = _; rw [e0]; omega
  · show win0_9.index t (1 : Fin 2) * 1024 + 1 * (y 1).val = _; rw [e1]; omega

theorem flushed8_eq (c : Dev nD) (t : Fin cfg0.N) :
    (dats m 0 c).flushed 8 t = ((cfg0.win 8).blk t).view.read (Elt Ideal) (G0 m c) := by
  rw [flushed8_A, out8_eq]
  funext y
  show gateV (grid0.coords t) (iblk m c 0 t) (iblk m c 1 t) (iblk m c 2 t) (iblk m c 3 t) (iblk m c 4 t) (iblk m c 5 t) (iblk m c 6 t) (iblk m c 7 t) y = G0 m c (((cfg0.win 8).blk t).view.emb y)
  obtain ⟨i, j, rfl⟩ : ∃ i j : Fin 1024, y = ix2 i j := ⟨y 0, y 1, funext fun a => by fin_cases a <;> rfl⟩
  obtain ⟨e0, e1⟩ := emb8_val t (ix2 i j)
  have e0 : (((cfg0.win 8).blk t).view.emb (ix2 i j) (0 : Fin 2)).val = t.val * 1024 + i.val := e0
  have e1 : (((cfg0.win 8).blk t).view.emb (ix2 i j) (1 : Fin 2)).val = j.val := e1
  rw [gateV_apply]
  unfold G0 gate
  rw [e0, e1]

theorem covered8 (j : S16384x1024.Idx) : ∃ t : Fin cfg0.N, (cfg0.win 8).flush t = true ∧ j ∈ ((cfg0.win 8).blk t).view.set := by
  have h0 : (j 0).val < 16384 := (j 0).isLt
  obtain ⟨t, ht⟩ : ∃ t : Fin cfg0.N, t.val = (j 0).val / 1024 := ⟨⟨(j 0).val / 1024, by show _ < 16; omega⟩, rfl⟩
  refine ⟨t, flush0_8 _, ?_⟩
  obtain ⟨y, hy⟩ : ∃ y : S1024x1024.Idx, (y 0).val = (j 0).val % 1024 ∧ (y 1).val = (j 1).val :=
    ⟨ix2 (⟨(j 0).val % 1024, by omega⟩ : Fin 1024) (j 1), rfl, rfl⟩
  obtain ⟨e0, e1⟩ := emb8_val t y
  have key : j = ((cfg0.win 8).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 8).blk t).view.emb_mem_set y

theorem flushed9_eq (c : Dev nD) (t : Fin cfg0.N) :
    (dats m 0 c).flushed 9 t = ((cfg0.win 9).blk t).view.read (Elt Ideal) (G1 m c) := by
  rw [flushed9_A, out9_eq]
  funext y
  show inputV (grid0.coords t) (iblk m c 0 t) (iblk m c 1 t) (iblk m c 2 t) (iblk m c 3 t) (iblk m c 4 t) (iblk m c 5 t) (iblk m c 6 t) (iblk m c 7 t) y = G1 m c (((cfg0.win 9).blk t).view.emb y)
  obtain ⟨i, j, rfl⟩ : ∃ i j : Fin 1024, y = ix2 i j := ⟨y 0, y 1, funext fun a => by fin_cases a <;> rfl⟩
  obtain ⟨e0, e1⟩ := emb9_val t (ix2 i j)
  have e0 : (((cfg0.win 9).blk t).view.emb (ix2 i j) (0 : Fin 2)).val = t.val * 1024 + i.val := e0
  have e1 : (((cfg0.win 9).blk t).view.emb (ix2 i j) (1 : Fin 2)).val = j.val := e1
  rw [inputV_apply]
  unfold G1 input
  rw [e0, e1]

theorem covered9 (j : S16384x1024.Idx) : ∃ t : Fin cfg0.N, (cfg0.win 9).flush t = true ∧ j ∈ ((cfg0.win 9).blk t).view.set := by
  have h0 : (j 0).val < 16384 := (j 0).isLt
  obtain ⟨t, ht⟩ : ∃ t : Fin cfg0.N, t.val = (j 0).val / 1024 := ⟨⟨(j 0).val / 1024, by show _ < 16; omega⟩, rfl⟩
  refine ⟨t, flush0_9 _, ?_⟩
  obtain ⟨y, hy⟩ : ∃ y : S1024x1024.Idx, (y 0).val = (j 0).val % 1024 ∧ (y 1).val = (j 1).val :=
    ⟨ix2 (⟨(j 0).val % 1024, by omega⟩ : Fin 1024) (j 1), rfl, rfl⟩
  obtain ⟨e0, e1⟩ := emb9_val t y
  have key : j = ((cfg0.win 9).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 9).blk t).view.emb_mem_set y

/-- The result arrays after the run. -/
theorem final8 (c : Dev nD) : (dats m 0 c).arrAt 8 cfg0.N = G0 m c :=
  (dats m 0 c).arrAt_eq_of_cover 8 (G0 m c) (fun t _ => flushed8_eq m c t) covered8

theorem final9 (c : Dev nD) : (dats m 0 c).arrAt 9 cfg0.N = G1 m c :=
  (dats m 0 c).arrAt_eq_of_cover 9 (G1 m c) (fun t _ => flushed9_eq m c t) covered9

/-- The kernel's run: the results are the two functions of the arguments, which are left as launched. -/
theorem run : θ_run defs (onTc (τ := τ) (main (F := Ideal))) ⟨m, fun _ => 0, ρ⟩ fun r => ∀ c : Dev nD,
      r.2.mem ((c : Thread nD τ).loc main_v2_0) = G0 m c
      ∧ r.2.mem ((c : Thread nD τ).loc main_v2_1) = G1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final8 m c), (h c).2.1.trans (final9 m c), (h c).2.2⟩) (run_blocks m ρ)

end Cert.Hyena

end
-- ==== Proof.HyenaRef.lean ====
/- The reference of the long convolution's gated input read at an index: its two results are the same functions of the six
   arguments as the kernel's two whole arrays. -/
module

public import proofs.«01_k».proof.Proof.Hyena
public import proofs.«01_k».proof.Proof.Gen.Reference5Ideal.Read

@[expose] public section

noncomputable section

namespace Cert.HyenaRef

open Cert.At Cert.Norm Cert.Conv Cert.Sconv Cert.Reference5Ideal Cert.Reference5Ideal.Gen Cert.Reference5Ideal.Read Idealize.SL.Sem Idealize.ShloMosaic.ValueIdx
open Idealize.ShloMosaic hiding ix0 ix1 ix2 ix3 ix4 ix5 inv
open Idealize.ShloMosaic.TcCoe
open Cert.Hyena (chan gate input)
open scoped BigOperators

variable (x0 : Vec Ideal S16384x1024 .f32) (x1 : Vec Ideal S8x6144 .f32) (x2 : Vec Ideal S1024 .f32) (x3 : Vec Ideal S1x1024x3072 .bf16)
  (x4 : Vec Ideal S3x3072 .f32) (x5 : Vec Ideal S3072 .f32)

theorem x_apply (i : S4x4096x1024.Idx) : val_main_v0 (F := Ideal) x0 i = at2 x0 ((i 0).val * 4096 + (i 1).val) (i 2).val := by
  rw [val_main_v0_apply]
  have h2 : (i 2).val < 1024 := (i 2).isLt
  refine at2_of x0 _ _ _ ?_ ?_
  · show (((i 0).val * 4096 + (i 1).val) * 1024 + (i 2).val) / 1024 = _; omega
  · show (((i 0).val * 4096 + (i 1).val) * 1024 + (i 2).val) % 1024 = _; omega

theorem md_apply (i : S4x1x6144.Idx) : val_main_v2 (F := Ideal) x1 i = at2 x1 (1 + (i 0).val) (i 2).val := by
  rw [val_main_v2_apply, val_main_v1_apply]
  exact at2_of x1 _ _ _ rfl rfl

theorem win_apply (i : S1024x3072.Idx) : val_main_v29 (F := Ideal) x3 i = at3 x3 0 (i 0).val (i 1).val := by
  have h0 : (i 0).val < 1024 := (i 0).isLt
  have h1 : (i 1).val < 3072 := (i 1).isLt
  rw [val_main_v29_apply, val_main_v28_apply]
  refine at3_of x3 _ _ _ _ rfl ?_ ?_
  · show ((i 0).val * 3072 + (i 1).val) / 3072 % 1024 = _; omega
  · show ((i 0).val * 3072 + (i 1).val) % 3072 = _; omega

/-- The normalisation factor of a row. -/
theorem inv_apply (i : S4x4096x1.Idx) : val_main_v16 (F := Ideal) x0 i = inv (at2 x0 ((i 0).val * 4096 + (i 1).val)) := by
  rw [val_main_v16_apply, val_main_v15_apply, val_main_v13_apply, val_main_v14_apply, val_main_v12_apply, val_main_v11_apply, val_main_v10_apply]
  have e : (val_main_cst (F := Ideal)) (Shape.Idx.first h_S_) = (0 : EReal) := Ideal.ofBits_zero_f32
  rw [e, zero_add]
  unfold Norm.inv
  refine congrArg (fun s => Ideal.rsqrt (Ideal.div s (Ideal.ofBits .f32 0x44800000#32) + Ideal.ofBits .f32 0x358637BD#32)) (Finset.sum_congr rfl fun j _ => ?_)
  rw [val_main_v9_apply, x_apply]
  rfl

/-- The normalised rows of the whole array. -/
abbrev H : ℕ → ℕ → EReal := hid (at2 x0) (at2 x1) (at1 x2)

/-- The modulated normalised rows. -/
theorem h_apply (i : S4x4096x1024.Idx) : val_main_v27 (F := Ideal) x0 x1 x2 i = H x0 x1 x2 ((i 0).val * 4096 + (i 1).val) (i 2).val := by
  have h1 : (i 1).val < 4096 := (i 1).isLt
  rw [val_main_v27_apply, val_main_v25_apply, val_main_v21_apply, val_main_v18_apply, val_main_v17_apply, val_main_v20_apply, val_main_v19_apply,
    val_main_v24_apply, val_main_v23_apply, val_main_v22_apply, val_main_v26_apply, val_main_v4_apply, val_main_v3_apply, inv_apply, x_apply, md_apply, md_apply,
    at1_of x2 _ (i 2).val rfl]
  unfold H hid normed
  rw [← mul_assoc, show ((i 0).val * 4096 + (i 1).val) / 4096 = (i 0).val by omega]
  exact congrArg (fun k => _ + at2 x1 (1 + (i 0).val) k) (Nat.zero_add (i 2).val).symm

/-- The projection of the rows. -/
theorem prod_apply (i : S4x4096x3072.Idx) (o j : ℕ) (hj : (i 2).val = o + j) :
    val_main_v30 (F := Ideal) x0 x1 x2 x3 i = prod (H x0 x1 x2) (at3 x3 0) o ((i 0).val * 4096 + (i 1).val) j := by
  rw [val_main_v30_apply]
  unfold prod
  refine Finset.sum_congr rfl fun k _ => ?_
  rw [h_apply, win_apply, ← hj]

/-- The padded rows. -/
theorem pad_apply (i : S4x4098x3072.Idx) (o j : ℕ) (hj : (i 2).val = o + j) (b q : ℕ) (hb : (i 0).val = b) (hq : (i 1).val = q) :
    val_main_v31 (F := Ideal) x0 x1 x2 x3 i = if q = 0 ∨ q = 4097 then 0 else prod (H x0 x1 x2) (at3 x3 0) o (b * 4096 + q - 1) j := by
  have hz : val_main_call0_v0 (F := Ideal) (Shape.Idx.first h_S_) = (0 : EReal) := by
    show (((0#32 : BitVec 32).toInt : ℝ) : EReal) = 0
    simp
  unfold val_main_v31
  refine padded_apply _ _ _ h_S_ hz (fun n => prod (H x0 x1 x2) (at3 x3 0) o n j) i b q hb hq fun k h0 h2 => ?_
  rw [prod_apply x0 x1 x2 x3 k o j (by rw [h2, hj]), h0]

theorem tap0_apply (i : S4x4096x3072.Idx) : val_main_v36 (F := Ideal) x4 i = at2 x4 0 (i 2).val := by
  have h2 : (i 2).val < 3072 := (i 2).isLt
  rw [val_main_v36_apply, val_main_v35_apply, val_main_v34_apply, val_main_v33_apply]
  exact at2_of x4 _ _ _ rfl (by show (i 2).val % 3072 = _; omega)

theorem tap1_apply (i : S4x4096x3072.Idx) : val_main_v42 (F := Ideal) x4 i = at2 x4 1 (i 2).val := by
  have h2 : (i 2).val < 3072 := (i 2).isLt
  rw [val_main_v42_apply, val_main_v41_apply, val_main_v40_apply, val_main_v39_apply]
  exact at2_of x4 _ _ _ rfl (by show (i 2).val % 3072 = _; omega)

theorem tap2_apply (i : S4x4096x3072.Idx) : val_main_v49 (F := Ideal) x4 i = at2 x4 2 (i 2).val := by
  have h2 : (i 2).val < 3072 := (i 2).isLt
  rw [val_main_v49_apply, val_main_v48_apply, val_main_v47_apply, val_main_v46_apply]
  exact at2_of x4 _ _ _ rfl (by show (i 2).val % 3072 = _; omega)

theorem bias_apply (i : S4x4096x3072.Idx) : val_main_v53 (F := Ideal) x5 i = at1 x5 (i 2).val := by
  rw [val_main_v53_apply, val_main_v52_apply]
  exact at1_of x5 _ _ rfl

/-- The convolution. -/
theorem conv_apply (i : S4x4096x3072.Idx) (o j : ℕ) (hj : (i 2).val = o + j) :
    val_main_v54 (F := Ideal) x0 x1 x2 x3 x4 x5 i = Hyena.whole x0 x1 x2 x3 x4 x5 o ((i 0).val * 4096 + (i 1).val) j := by
  have h1 : (i 1).val < 4096 := (i 1).isLt
  rw [val_main_v54_apply, val_main_v51_apply, val_main_v44_apply, val_main_v37_apply, val_main_v43_apply, val_main_v50_apply,
    val_main_v32_apply, val_main_v38_apply, val_main_v45_apply, tap0_apply, tap1_apply, tap2_apply, bias_apply,
    pad_apply x0 x1 x2 x3 (idx_main_v32 i) o j hj (i 0).val (i 1).val rfl rfl, pad_apply x0 x1 x2 x3 (idx_main_v38 i) o j hj (i 0).val (1 + (i 1).val) rfl rfl,
    pad_apply x0 x1 x2 x3 (idx_main_v45 i) o j hj (i 0).val (2 + (i 1).val) rfl rfl, hj]
  exact tap_of_padded (fun n => prod (H x0 x1 x2) (at3 x3 0) o n j) _ _ _ _ _ _ h1

/-- The reference's first result is the first whole array that the kernel leaves. -/
theorem gate_eq : val_main_v59 (F := Ideal) x0 x1 x2 x3 x4 x5 = gate x0 x1 x2 x3 x4 x5 := by
  funext i
  have h1 : (i 1).val < 1024 := (i 1).isLt
  rw [val_main_v59_apply, val_main_v58_apply, val_main_v55_apply]
  refine (conv_apply x0 x1 x2 x3 x4 x5 _ 0 (((i 0).val * 1024 + (i 1).val) % 1024) (Nat.zero_add _).symm).trans ?_
  unfold gate
  exact congrArg₂ (Hyena.whole x0 x1 x2 x3 x4 x5 0)
    (by show ((i 0).val * 1024 + (i 1).val) / 4194304 * 4096 + ((i 0).val * 1024 + (i 1).val) / 1024 % 4096 = _; omega) (by omega)

/-- The reference's second result is the second whole array that the kernel leaves. -/
theorem input_eq : val_main_v62 (F := Ideal) x0 x1 x2 x3 x4 x5 = input x0 x1 x2 x3 x4 x5 := by
  funext i
  have h1 : (i 1).val < 1024 := (i 1).isLt
  have part (k : S4x4096x3072.Idx) (o : ℕ) (h0 : (k 0).val = ((i 0).val * 1024 + (i 1).val) / 4194304) (h1' : (k 1).val = ((i 0).val * 1024 + (i 1).val) / 1024 % 4096)
      (h2 : (k 2).val = o + ((i 0).val * 1024 + (i 1).val) % 1024) :
      val_main_v54 (F := Ideal) x0 x1 x2 x3 x4 x5 k = Hyena.whole x0 x1 x2 x3 x4 x5 o (i 0).val (i 1).val :=
    (conv_apply x0 x1 x2 x3 x4 x5 k o _ h2).trans (congrArg₂ (Hyena.whole x0 x1 x2 x3 x4 x5 o) (by rw [h0, h1']; omega) (by omega))
  rw [val_main_v62_apply, val_main_v61_apply, val_main_v60_apply, val_main_v57_apply, val_main_v56_apply]
  unfold input
  exact congrArg₂ (· * ·) (part _ 2048 rfl rfl rfl) (part _ 1024 rfl rfl rfl)

end Cert.HyenaRef

end
-- ==== Proof.Mla.lean ====
/- The projections around the attention as functions of their arguments over the extended reals: the low-rank queries, keys
   and values, every head's queries and keys normalised and turned by the positions' angles, each head in a slot of 128. -/
module

public import proofs.«01_k».proof.Proof.Sconv
public import Idealize.ShloMosaic.Lib.IdealHost

@[expose] public section

noncomputable section

namespace Cert.Mla

open Cert.At Idealize.ShloMosaic
open Cert.Sconv (hid)
open scoped BigOperators

/-- What keeps a mean square away from zero. -/
abbrev eps : EReal := Ideal.ofBits .f32 0x358637BD#32

/-- One over the root of the mean square of the first `n` entries, their sum divided by `d`. -/
def invN (n : ℕ) (d : EReal) (f : ℕ → EReal) : EReal := Ideal.rsqrt (Ideal.div (∑ j : Fin n, f j * f j) d + eps)

/-- The entries normalised and weighted by `g`. -/
def normN (n : ℕ) (d : EReal) (f g : ℕ → EReal) (j : ℕ) : EReal := f j * invN n d f * g j

/-- A row times the column `c` of a matrix of `n` rows. -/
def proj (n : ℕ) (f : ℕ → EReal) (w : ℕ → ℕ → EReal) (c : ℕ) : EReal := ∑ k : Fin n, f k * w k c

/-- The last 32 of 96 entries turned pairwise: the first 16 by the row's angles, the others by the column's. -/
def rope (c s c' s' f : ℕ → EReal) (t : ℕ) : EReal :=
  if t < 64 then f t
  else if t < 72 then f t * c (t - 64) - f (t + 8) * s (t - 64)
  else if t < 80 then f t * c (t - 72) + f (t - 8) * s (t - 72)
  else if t < 88 then f t * c' (t - 80) - f (t + 8) * s' (t - 80)
  else f t * c' (t - 88) + f (t - 8) * s' (t - 88)

/-! ## The kernels' tables -/

/-- The cosines of a slot. -/
def cosT (c c' : ℕ → EReal) (t : ℕ) : EReal :=
  if t < 64 then 1 else if t < 72 then c (t - 64) else if t < 80 then c (t - 72) else if t < 88 then c' (t - 80)
  else if t < 96 then c' (t - 88) else 1

/-- The sines that weigh the entry eight further. -/
def saT (s s' : ℕ → EReal) (t : ℕ) : EReal :=
  if t < 64 then 0 else if t < 72 then -s (t - 64) else if t < 80 then 0 else if t < 88 then -s' (t - 80) else 0

/-- The sines that weigh the entry eight before. -/
def sbT (s s' : ℕ → EReal) (t : ℕ) : EReal :=
  if t < 72 then 0 else if t < 80 then s (t - 72) else if t < 88 then 0 else if t < 96 then s' (t - 88) else 0

/-- A gain of 96 entries in its slot. -/
def gain (g : ℕ → EReal) (t : ℕ) : EReal := if t < 96 then g t else 0

/-! ## The factor of a head is a number that is not negative -/

theorem sq_nonneg (x : EReal) : 0 ≤ x * x := by
  rcases le_total 0 x with h | h
  · exact mul_nonneg h h
  · have := mul_nonneg (EReal.neg_nonneg.2 h) (EReal.neg_nonneg.2 h)
    simpa using this

theorem ofBits_eps_pos : ∃ e : ℝ, eps = (e : EReal) ∧ 0 < e := by
  refine ⟨_, by simp [eps, Ideal.ofBits, Ideal.ieee]; rfl, ?_⟩
  norm_num

theorem ofBits_96 : Ideal.ofBits .f32 0x42C00000#32 = ((96 : ℝ) : EReal) := by
  simp [Ideal.ofBits, Ideal.ieee]
  rw [← EReal.coe_mul]
  norm_num

theorem sum_sq_nonneg {n : ℕ} (f : Fin n → EReal) : 0 ≤ ∑ j : Fin n, f j * f j := Finset.sum_nonneg fun _ _ => sq_nonneg _

/-- The factor computed from the sum divided by 96 and from the sum times one 96th. -/
theorem div96 (s : EReal) : Ideal.div s (Ideal.ofBits .f32 0x42C00000#32) = s * ((1 / 96 : ℝ) : EReal) := by
  rw [ofBits_96]
  exact Ideal.div_coe (by norm_num) s

theorem rsqrt_range (a : EReal) (h : 0 ≤ a) : 0 ≤ Ideal.rsqrt (a + eps) ∧ Ideal.rsqrt (a + eps) ≠ ⊤ := by
  obtain ⟨e, he, hp⟩ := ofBits_eps_pos
  rw [he]
  induction a with
  | bot => simp at h
  | top => rw [EReal.top_add_coe, Ideal.rsqrt_top]; simp
  | coe r =>
    have hr : 0 ≤ r := by exact_mod_cast h
    have hpos : 0 < r + e := by linarith
    rw [← EReal.coe_add, Ideal.rsqrt_coe, if_neg (by linarith), if_neg (by linarith)]
    exact ⟨by exact_mod_cast inv_nonneg.2 (Real.sqrt_nonneg _), EReal.coe_ne_top _⟩

theorem inv96_range (f : ℕ → EReal) : 0 ≤ invN 96 (Ideal.ofBits .f32 0x42C00000#32) f ∧ invN 96 (Ideal.ofBits .f32 0x42C00000#32) f ≠ ⊤ := by
  unfold invN
  refine rsqrt_range _ ?_
  rw [div96]
  exact mul_nonneg (sum_sq_nonneg _) (by exact_mod_cast (by norm_num : (0 : ℝ) ≤ 1 / 96))

/-- The sum over a slot is the sum over its head, the rest being zero. -/
theorem sum_slot (x : ℕ → EReal) (h : ∀ t, 96 ≤ t → t < 128 → x t = 0) : ∑ j : Fin 128, x j * x j = ∑ j : Fin 96, x j * x j := by
  rw [← Finset.sum_range (fun j => x j * x j), ← Finset.sum_range (fun j => x j * x j)]
  refine (Finset.sum_subset (Finset.range_subset_range.2 (by norm_num)) fun t ht ht' => ?_).symm
  rw [h t (by simpa using ht') (by simpa using ht), mul_zero]

/-- The kernels' factor of a slot. -/
theorem slot_inv (x : ℕ → EReal) (h : ∀ t, 96 ≤ t → t < 128 → x t = 0) :
    Ideal.rsqrt ((∑ j : Fin 128, x j * x j) * ((1 / 96 : ℝ) : EReal) + eps) = invN 96 (Ideal.ofBits .f32 0x42C00000#32) x := by
  unfold invN
  rw [div96, sum_slot x h]

/-! ## A slot as the kernels compute it -/

/-- A slot's entry: the entry and its two partners, weighted by the gains and the tables, times the factor. -/
def slotK (c s c' s' x p A : ℕ → EReal) (r : EReal) (t : ℕ) : EReal :=
  (x t * (A t * cosT c c' t) + (p ((t + 8) % 128) * (A ((t + 8) % 128) * saT s s' t) + p ((t + 120) % 128) * (A ((t + 120) % 128) * sbT s s' t))) * r

theorem slotK_eq (c s c' s' x p A : ℕ → EReal) (r : EReal) (hr : 0 ≤ r) (hr' : r ≠ ⊤) (hx : ∀ t, 96 ≤ t → t < 128 → x t = 0)
    (hp : ∀ t, 64 ≤ t → t < 96 → p t = x t) (t : ℕ) (ht : t < 128) :
    slotK c s c' s' x p A r t = if t < 96 then rope c s c' s' (fun t => x t * r * A t) t else 0 := by
  unfold slotK
  by_cases h1 : t < 64
  · rw [if_pos (by omega)]
    simp only [cosT, saT, sbT, rope, if_pos h1, if_pos (show t < 72 by omega), mul_zero, add_zero, mul_one]
    ac_rfl
  by_cases h2 : t < 72
  · rw [if_pos (by omega)]
    simp only [cosT, saT, sbT, rope, if_neg h1, if_pos h2, mul_zero, add_zero, mul_neg]
    rw [show (t + 8) % 128 = t + 8 by omega, hp (t + 8) (by omega) (by omega), EReal.right_distrib_of_nonneg_of_ne_top hr hr', sub_eq_add_neg, neg_mul]
    congr 1
    · ac_rfl
    · congr 1; ac_rfl
  by_cases h3 : t < 80
  · rw [if_pos (by omega)]
    simp only [cosT, saT, sbT, rope, if_neg h1, if_neg h2, if_pos h3, mul_zero, zero_add]
    rw [show (t + 120) % 128 = t - 8 by omega, hp (t - 8) (by omega) (by omega), EReal.right_distrib_of_nonneg_of_ne_top hr hr']
    congr 1 <;> ac_rfl
  by_cases h4 : t < 88
  · rw [if_pos (by omega)]
    simp only [cosT, saT, sbT, rope, if_neg h1, if_neg h2, if_neg h3, if_pos h4, mul_zero, add_zero, mul_neg]
    rw [show (t + 8) % 128 = t + 8 by omega, hp (t + 8) (by omega) (by omega), EReal.right_distrib_of_nonneg_of_ne_top hr hr', sub_eq_add_neg, neg_mul]
    congr 1
    · ac_rfl
    · congr 1; ac_rfl
  by_cases h5 : t < 96
  · rw [if_pos (by omega)]
    simp only [cosT, saT, sbT, rope, if_neg h1, if_neg h2, if_neg h3, if_neg h4, if_pos h5, mul_zero, zero_add]
    rw [show (t + 120) % 128 = t - 8 by omega, hp (t - 8) (by omega) (by omega), EReal.right_distrib_of_nonneg_of_ne_top hr hr']
    congr 1 <;> ac_rfl
  · rw [if_neg (by omega)]
    simp only [cosT, saT, sbT, if_neg h1, if_neg h2, if_neg h3, if_neg h4, if_neg h5, mul_zero, add_zero]
    rw [hx t (by omega) ht, zero_mul, zero_mul]

/-- A common factor of all entries. -/
theorem rope_mul (c s c' s' f : ℕ → EReal) (q : EReal) (hq : 0 ≤ q) (hq' : q ≠ ⊤) (t : ℕ) :
    rope c s c' s' (fun t => f t * q) t = rope c s c' s' f t * q := by
  have e (a b d e : EReal) : a * q * b + d * q * e = (a * b + d * e) * q := by
    rw [EReal.right_distrib_of_nonneg_of_ne_top hq hq']; congr 1 <;> ac_rfl
  have e' (a b d e : EReal) : a * q * b - d * q * e = (a * b - d * e) * q := by
    rw [sub_eq_add_neg, sub_eq_add_neg, EReal.right_distrib_of_nonneg_of_ne_top hq hq', neg_mul]
    congr 1
    · ac_rfl
    · congr 1; ac_rfl
  unfold rope
  split_ifs
  · rfl
  · exact e' _ _ _ _
  · exact e _ _ _ _
  · exact e' _ _ _ _
  · exact e _ _ _ _

theorem rope_congr (c s c' s' f f' : ℕ → EReal) (t : ℕ) (ht : t < 96) (h : ∀ t, t < 96 → f t = f' t) : rope c s c' s' f t = rope c s c' s' f' t := by
  unfold rope
  split_ifs
  · exact h _ ht
  · rw [h t ht, h (t + 8) (by omega)]
  · rw [h t ht, h (t - 8) (by omega)]
  · rw [h t ht, h (t + 8) (by omega)]
  · rw [h t ht, h (t - 8) (by omega)]

/-- The root of the head's width times the logarithm of two. -/
def width : EReal := Ideal.sqrt (Ideal.ofBits .f32 0x42C00000#32) * Ideal.log (Ideal.ofBits .f32 0x40000000#32)

/-- Dividing by it is multiplying by one over it. -/
theorem div_width (a : EReal) : Ideal.div a width = a * (((Real.sqrt 96)⁻¹ * (Real.log 2)⁻¹ : ℝ) : EReal) := by
  have h2 : Ideal.ofBits .f32 0x40000000#32 = ((2 : ℝ) : EReal) := by
    simp [Ideal.ofBits, Ideal.ieee]
    rw [← EReal.coe_mul]
    norm_num
  have hl : (0 : ℝ) < Real.log 2 := Real.log_pos (by norm_num)
  have hs : (0 : ℝ) < Real.sqrt 96 := Real.sqrt_pos.2 (by norm_num)
  have e : width = ((Real.sqrt 96 * Real.log 2 : ℝ) : EReal) := by
    unfold width
    rw [ofBits_96, h2]
    show (if (96 : ℝ) < 0 then (⊥ : EReal) else (Real.sqrt 96 : EReal)) * (if (2 : ℝ) ≤ 0 then (⊥ : EReal) else (Real.log 2 : EReal)) = _
    rw [if_neg (by norm_num), if_neg (by norm_num), EReal.coe_mul]
  rw [e, Ideal.div_coe (mul_pos hs hl).ne', one_div, mul_inv]

theorem score_range : 0 ≤ (((Real.sqrt 96)⁻¹ * (Real.log 2)⁻¹ : ℝ) : EReal) ∧ (((Real.sqrt 96)⁻¹ * (Real.log 2)⁻¹ : ℝ) : EReal) ≠ ⊤ :=
  ⟨by exact_mod_cast mul_nonneg (inv_nonneg.2 (Real.sqrt_nonneg _)) (inv_nonneg.2 (Real.log_nonneg (by norm_num))), EReal.coe_ne_top _⟩

/-! ## The three results -/

section Whole

variable (x0 : (⟨2, ![16384, 1024]⟩ : Shape).Idx → EReal) (x1 : (⟨2, ![8, 6144]⟩ : Shape).Idx → EReal) (x2 : (⟨1, ![1024]⟩ : Shape).Idx → EReal)
  (x3 : (⟨2, ![1024, 384]⟩ : Shape).Idx → EReal) (x4 : (⟨1, ![384]⟩ : Shape).Idx → EReal) (x5 : (⟨2, ![384, 1536]⟩ : Shape).Idx → EReal)
  (x6 : (⟨1, ![96]⟩ : Shape).Idx → EReal) (x7 : (⟨2, ![1024, 288]⟩ : Shape).Idx → EReal) (x8 : (⟨1, ![256]⟩ : Shape).Idx → EReal)
  (x9 : (⟨2, ![256, 2048]⟩ : Shape).Idx → EReal) (x10 : (⟨1, ![96]⟩ : Shape).Idx → EReal)
  (x11 x12 x13 x14 : (⟨2, ![4096, 8]⟩ : Shape).Idx → EReal)

/-- The queries' latent of row `n`, normalised. -/
def latQ (n : ℕ) : ℕ → EReal :=
  normN 384 (Ideal.ofBits .f32 0x43C00000#32) (proj 1024 (hid (at2 x0) (at2 x1) (at1 x2) n) (at2 x3)) (at1 x4)

/-- The keys' and values' latent of row `n` and the part of the keys that all heads share. -/
def down (n : ℕ) : ℕ → EReal := proj 1024 (hid (at2 x0) (at2 x1) (at1 x2) n) (at2 x7)

/-- The keys' and values' latent of row `n`, normalised. -/
def latK (n : ℕ) : ℕ → EReal := normN 256 (Ideal.ofBits .f32 0x43800000#32) (down x0 x1 x2 x7 n) (at1 x8)

/-- Head `h` of the queries of row `n`. -/
def headQ (n h t : ℕ) : EReal := proj 384 (latQ x0 x1 x2 x3 x4 n) (at2 x5) (h * 96 + t)

/-- Head `h` of the keys of row `n`. -/
def headK (n h t : ℕ) : EReal :=
  if t < 64 then proj 256 (latK x0 x1 x2 x7 x8 n) (at2 x9) (h * 128 + t) else down x0 x1 x2 x7 n (256 + (t - 64))

/-- A head normalised and turned by the angles of row `n`. -/
def turned (f : ℕ → EReal) (g : (⟨1, ![96]⟩ : Shape).Idx → EReal) (n : ℕ) : ℕ → EReal :=
  rope (at2 x11 (n % 4096)) (at2 x12 (n % 4096)) (at2 x13 (n % 4096)) (at2 x14 (n % 4096)) (normN 96 (Ideal.ofBits .f32 0x42C00000#32) f (at1 g))

/-- Entry `c` of the queries of row `n`, every head in a slot of 128. -/
def entryQ (n c : ℕ) : EReal :=
  if c % 128 < 96 then Ideal.div (turned x11 x12 x13 x14 (headQ x0 x1 x2 x3 x4 x5 n (c / 128)) x6 n (c % 128)) width else 0

/-- Entry `c` of the keys of row `n`, every head in a slot of 128. -/
def entryK (n c : ℕ) : EReal :=
  if c % 128 < 96 then turned x11 x12 x13 x14 (headK x0 x1 x2 x7 x8 x9 n (c / 128)) x10 n (c % 128) else 0

/-- Entry `c` of the values of row `n`. -/
def entryV (n c : ℕ) : EReal := proj 256 (latK x0 x1 x2 x7 x8 n) (at2 x9) (c / 64 * 128 + 64 + c % 64)

def wholeQ : (⟨2, ![2048, 16384]⟩ : Shape).Idx → EReal := fun i => entryQ x0 x1 x2 x3 x4 x5 x6 x11 x12 x13 x14 (i 1).val (i 0).val
def wholeK : (⟨2, ![16384, 2048]⟩ : Shape).Idx → EReal := fun i => entryK x0 x1 x2 x7 x8 x9 x10 x11 x12 x13 x14 (i 0).val (i 1).val
def wholeV : (⟨2, ![1024, 16384]⟩ : Shape).Idx → EReal := fun i => entryV x0 x1 x2 x7 x8 x9 (i 1).val (i 0).val

end Whole

end Cert.Mla

end
-- ==== Proof.Shapes.lean ====
/- Slices, transposes, paddings, joins and reshapes of an array that is given as a function of its indices' numbers, as
   functions of those numbers. -/
module

public import proofs.«01_k».proof.Proof.At
public import proofs.«01_k».proof.Proof.Ops
public import Idealize.ShloMosaic.Lib.KernelVsHost
public import Idealize.ShloMosaic.Lib.IdealHost

@[expose] public section

noncomputable section

namespace Cert.Shapes

open Idealize.SL.Sem Idealize.ShloMosaic.ValueIdx
open Idealize.ShloMosaic hiding ix0 ix1 ix2 ix3 ix4 ix5

theorem slice1 {A A' o : ℕ} (x : (⟨1, ![A]⟩ : Shape).Idx → EReal) (h : (⟨1, ![A]⟩ : Shape).Slices ![o] ⟨1, ![A']⟩)
    (F : ℕ → EReal) (hx : ∀ i, x i = F (i 0).val) (j : (⟨1, ![A']⟩ : Shape).Idx) :
    extractStridedSlice ⟨1, ![A']⟩ ![o] x h j = F (o + (j 0).val) := hx _

theorem slice2 {A B A' B' o p : ℕ} (x : (⟨2, ![A, B]⟩ : Shape).Idx → EReal) (h : (⟨2, ![A, B]⟩ : Shape).Slices ![o, p] ⟨2, ![A', B']⟩)
    (F : ℕ → ℕ → EReal) (hx : ∀ i, x i = F (i 0).val (i 1).val) (j : (⟨2, ![A', B']⟩ : Shape).Idx) :
    extractStridedSlice ⟨2, ![A', B']⟩ ![o, p] x h j = F (o + (j 0).val) (p + (j 1).val) := hx _

theorem slice3 {A B C A' B' C' o p q : ℕ} (x : (⟨3, ![A, B, C]⟩ : Shape).Idx → EReal)
    (h : (⟨3, ![A, B, C]⟩ : Shape).Slices ![o, p, q] ⟨3, ![A', B', C']⟩)
    (F : ℕ → ℕ → ℕ → EReal) (hx : ∀ i, x i = F (i 0).val (i 1).val (i 2).val) (j : (⟨3, ![A', B', C']⟩ : Shape).Idx) :
    extractStridedSlice ⟨3, ![A', B', C']⟩ ![o, p, q] x h j = F (o + (j 0).val) (p + (j 1).val) (q + (j 2).val) := hx _

theorem transpose2 {A B : ℕ} (x : (⟨2, ![A, B]⟩ : Shape).Idx → EReal) (h : (⟨2, ![A, B]⟩ : Shape).Transposes [1, 0] ⟨2, ![B, A]⟩)
    (F : ℕ → ℕ → EReal) (hx : ∀ i, x i = F (i 0).val (i 1).val) (j : (⟨2, ![B, A]⟩ : Shape).Idx) :
    transpose ⟨2, ![B, A]⟩ [1, 0] x h j = F (j 1).val (j 0).val :=
  (transpose_apply [1, 0] x h j (ix2 (j 1) (j 0)) fun b => match b with
    | ⟨0, _⟩ => rfl
    | ⟨1, _⟩ => rfl).trans (hx _)

/-- Columns of zeros before and after. -/
theorem pad2 {A W B p q : ℕ} (x : (⟨2, ![A, W]⟩ : Shape).Idx → EReal) {u : Shape} (v : u.Idx → EReal)
    (h : (⟨2, ![A, W]⟩ : Shape).Pads ![0, p] ![0, q] ![0, 0] ⟨2, ![A, B]⟩) (hu : 0 < u.numel) (hv : ∀ i, v i = 0)
    (F : ℕ → ℕ → EReal) (hx : ∀ i, x i = F (i 0).val (i 1).val) (j : (⟨2, ![A, B]⟩ : Shape).Idx) :
    pad ⟨2, ![A, B]⟩ ![0, p] ![0, q] ![0, 0] x v h hu j = if p ≤ (j 1).val ∧ (j 1).val < p + W then F (j 0).val ((j 1).val - p) else 0 := by
  split_ifs with hc
  · refine (pad_apply_of_inside (lo := ![0, p]) (hi := ![0, q]) (interior := ![0, 0]) (x := x) (v := v) (h := h) (hu := hu) (j := j)
      (k := ix2 (j 0) (⟨(j 1).val - p, by omega⟩ : Fin W)) fun a => ?_).trans (hx _)
    match a with
    | ⟨0, _⟩ => show (j 0).val = 0 + (j 0).val * 1; omega
    | ⟨1, _⟩ => show (j 1).val = p + ((j 1).val - p) * 1; omega
  · refine (pad_apply_of_not_inside (lo := ![0, p]) (hi := ![0, q]) (interior := ![0, 0]) (x := x) (v := v) (h := h) (hu := hu) (j := j)
      (a := (1 : Fin 2)) fun hin => hc ?_).trans (hv _)
    have e1 : p ≤ (j 1).val := hin.1
    have e2 : ((j 1).val - p) / (0 + 1) < W := hin.2.2
    omega

/-- Zeros after the entries of the last axis. -/
theorem pad3 {A H W B q : ℕ} (x : (⟨3, ![A, H, W]⟩ : Shape).Idx → EReal) {u : Shape} (v : u.Idx → EReal)
    (h : (⟨3, ![A, H, W]⟩ : Shape).Pads ![0, 0, 0] ![0, 0, q] ![0, 0, 0] ⟨3, ![A, H, B]⟩) (hu : 0 < u.numel) (hv : ∀ i, v i = 0)
    (F : ℕ → ℕ → ℕ → EReal) (hx : ∀ i, x i = F (i 0).val (i 1).val (i 2).val) (j : (⟨3, ![A, H, B]⟩ : Shape).Idx) :
    pad ⟨3, ![A, H, B]⟩ ![0, 0, 0] ![0, 0, q] ![0, 0, 0] x v h hu j = if (j 2).val < W then F (j 0).val (j 1).val (j 2).val else 0 := by
  split_ifs with hc
  · refine (pad_apply_of_inside (lo := ![0, 0, 0]) (hi := ![0, 0, q]) (interior := ![0, 0, 0]) (x := x) (v := v) (h := h) (hu := hu) (j := j)
      (k := ix3 (j 0) (j 1) (⟨(j 2).val, hc⟩ : Fin W)) fun a => ?_).trans (hx _)
    match a with
    | ⟨0, _⟩ => show (j 0).val = 0 + (j 0).val * 1; omega
    | ⟨1, _⟩ => show (j 1).val = 0 + (j 1).val * 1; omega
    | ⟨2, _⟩ => show (j 2).val = 0 + (j 2).val * 1; omega
  · refine (pad_apply_of_not_inside (lo := ![0, 0, 0]) (hi := ![0, 0, q]) (interior := ![0, 0, 0]) (x := x) (v := v) (h := h) (hu := hu) (j := j)
      (a := (2 : Fin 3)) fun hin => hc ?_).trans (hv _)
    have e2 : ((j 2).val - 0) / (0 + 1) < W := hin.2.2
    omega

/-- Zeros after the entries of a vector. -/
theorem pad1 {W B q : ℕ} (x : (⟨1, ![W]⟩ : Shape).Idx → EReal) {u : Shape} (v : u.Idx → EReal)
    (h : (⟨1, ![W]⟩ : Shape).Pads ![0] ![q] ![0] ⟨1, ![B]⟩) (hu : 0 < u.numel) (hv : ∀ i, v i = 0)
    (F : ℕ → EReal) (hx : ∀ i, x i = F (i 0).val) (j : (⟨1, ![B]⟩ : Shape).Idx) :
    pad ⟨1, ![B]⟩ ![0] ![q] ![0] x v h hu j = if (j 0).val < W then F (j 0).val else 0 := by
  split_ifs with hc
  · refine (pad_apply_of_inside (lo := ![0]) (hi := ![q]) (interior := ![0]) (x := x) (v := v) (h := h) (hu := hu) (j := j)
      (k := ix1 (⟨(j 0).val, hc⟩ : Fin W)) fun a => ?_).trans (hx _)
    match a with
    | ⟨0, _⟩ => show (j 0).val = 0 + (j 0).val * 1; omega
  · refine (pad_apply_of_not_inside (lo := ![0]) (hi := ![q]) (interior := ![0]) (x := x) (v := v) (h := h) (hu := hu) (j := j)
      (a := (0 : Fin 1)) fun hin => hc ?_).trans (hv _)
    have e2 : ((j 0).val - 0) / (0 + 1) < W := hin.2.2
    omega

/-- A join of matrices side by side, at a column of piece `k`. -/
theorem join2 {A B W : ℕ} (xs : List ((s : Shape) × (s.Idx → EReal))) (h : Shape.Concatenates (xs.map (·.1)) ⟨2, ![A, B]⟩ (1 : Fin 2))
    (j : (⟨2, ![A, B]⟩ : Shape).Idx) (k : ℕ) (hk : k < xs.length) (x : (⟨2, ![A, W]⟩ : Shape).Idx → EReal) (hxk : xs[k] = ⟨_, x⟩) (o : ℕ)
    (ho : (((xs.take k).map (·.1)).map fun s => if h : s.rank = (⟨2, ![A, B]⟩ : Shape).rank then s.size ((1 : Fin 2).cast h.symm) else 0).sum = o)
    (F : ℕ → ℕ → EReal) (hx : ∀ i, x i = F (i 0).val (i 1).val) (h1 : o ≤ (j 1).val) (h2 : (j 1).val < o + W) :
    concatenate ⟨2, ![A, B]⟩ (1 : Fin 2) xs h j = F (j 0).val ((j 1).val - o) := by
  refine (concatenate_apply_piece (t := ⟨2, ![A, B]⟩) (1 : Fin 2) xs h j k hk ⟨2, ![A, W]⟩ x hxk rfl o ho
    (ix2 (j 0) (⟨(j 1).val - o, by omega⟩ : Fin W)) (fun b hb => ?_) ?_).trans (hx _)
  · match b with
    | ⟨0, _⟩ => rfl
    | ⟨1, _⟩ => exact absurd rfl hb
  · show o + ((j 1).val - o) = (j 1).val; omega

/-- A join of vectors, at a place of piece `k`. -/
theorem join1 {B W : ℕ} (xs : List ((s : Shape) × (s.Idx → EReal))) (h : Shape.Concatenates (xs.map (·.1)) ⟨1, ![B]⟩ (0 : Fin 1))
    (j : (⟨1, ![B]⟩ : Shape).Idx) (k : ℕ) (hk : k < xs.length) (x : (⟨1, ![W]⟩ : Shape).Idx → EReal) (hxk : xs[k] = ⟨_, x⟩) (o : ℕ)
    (ho : (((xs.take k).map (·.1)).map fun s => if h : s.rank = (⟨1, ![B]⟩ : Shape).rank then s.size ((0 : Fin 1).cast h.symm) else 0).sum = o)
    (F : ℕ → EReal) (hx : ∀ i, x i = F (i 0).val) (h1 : o ≤ (j 0).val) (h2 : (j 0).val < o + W) :
    concatenate ⟨1, ![B]⟩ (0 : Fin 1) xs h j = F ((j 0).val - o) := by
  refine (concatenate_apply_piece (t := ⟨1, ![B]⟩) (0 : Fin 1) xs h j k hk ⟨1, ![W]⟩ x hxk rfl o ho
    (ix1 (⟨(j 0).val - o, by omega⟩ : Fin W)) (fun b hb => ?_) ?_).trans (hx _)
  · match b with
    | ⟨0, _⟩ => exact absurd rfl hb
  · show o + ((j 0).val - o) = (j 0).val; omega

/-- The last axis cut into pieces of `D`. -/
theorem split {A N H D : ℕ} (x : (⟨2, ![A, N]⟩ : Shape).Idx → EReal) (h : (⟨2, ![A, N]⟩ : Shape).ShapeCasts ⟨3, ![A, H, D]⟩) (hN : H * D = N)
    (F : ℕ → ℕ → EReal) (hx : ∀ i, x i = F (i 0).val (i 1).val) (j : (⟨3, ![A, H, D]⟩ : Shape).Idx) :
    shapeCast ⟨3, ![A, H, D]⟩ x h j = F (j 0).val ((j 1).val * D + (j 2).val) := by
  have h1 : (j 1).val < H := (j 1).isLt
  have h2 : (j 2).val < D := (j 2).isLt
  have hb : (j 1).val * D + (j 2).val < N := by nlinarith
  refine (shapeCast_apply x h j (ix2 (j 0) (⟨(j 1).val * D + (j 2).val, hb⟩ : Fin N)) ?_).trans (hx _)
  rw [Shape.rowMajor_val_two, Shape.rowMajor_val_three]
  show (j 0).val * N + ((j 1).val * D + (j 2).val) = ((j 0).val * H + (j 1).val) * D + (j 2).val
  rw [← hN]; ring

/-- The last two axes joined into one. -/
theorem merge {A N H D : ℕ} (x : (⟨3, ![A, H, D]⟩ : Shape).Idx → EReal) (h : (⟨3, ![A, H, D]⟩ : Shape).ShapeCasts ⟨2, ![A, N]⟩) (hN : H * D = N)
    (hD : 0 < D) (F : ℕ → ℕ → ℕ → EReal) (hx : ∀ i, x i = F (i 0).val (i 1).val (i 2).val) (j : (⟨2, ![A, N]⟩ : Shape).Idx) :
    shapeCast ⟨2, ![A, N]⟩ x h j = F (j 0).val ((j 1).val / D) ((j 1).val % D) := by
  have h1 : (j 1).val < N := (j 1).isLt
  refine (shapeCast_apply x h j (ix3 (j 0) (⟨(j 1).val / D, Nat.div_lt_of_lt_mul (by rw [mul_comm, hN]; exact h1)⟩ : Fin H) (⟨(j 1).val % D, Nat.mod_lt _ hD⟩ : Fin D)) ?_).trans (hx _)
  rw [Shape.rowMajor_val_two, Shape.rowMajor_val_three]
  show ((j 0).val * H + (j 1).val / D) * D + (j 1).val % D = (j 0).val * N + (j 1).val
  have e := Nat.div_add_mod (j 1).val D
  have e' : (j 0).val * H * D = (j 0).val * N := by rw [mul_assoc]; exact congrArg _ hN
  rw [add_mul, e']
  nlinarith

theorem cast_row {A : ℕ} (x : (⟨1, ![A]⟩ : Shape).Idx → EReal) (h : (⟨1, ![A]⟩ : Shape).ShapeCasts ⟨2, ![1, A]⟩)
    (F : ℕ → EReal) (hx : ∀ i, x i = F (i 0).val) (j : (⟨2, ![1, A]⟩ : Shape).Idx) : shapeCast ⟨2, ![1, A]⟩ x h j = F (j 1).val := by
  refine (shapeCast_apply x h j (ix1 (j 1)) ?_).trans (hx _)
  have h0 : (j 0).val < 1 := (j 0).isLt
  rw [Shape.rowMajor_val_two, Shape.rowMajor_val_one]
  show (j 1).val = (j 0).val * A + (j 1).val
  rw [show (j 0).val = 0 by omega]; omega

theorem cast_unrow {A : ℕ} (x : (⟨2, ![1, A]⟩ : Shape).Idx → EReal) (h : (⟨2, ![1, A]⟩ : Shape).ShapeCasts ⟨1, ![A]⟩)
    (F : ℕ → EReal) (hx : ∀ i, x i = F (i 1).val) (j : (⟨1, ![A]⟩ : Shape).Idx) : shapeCast ⟨1, ![A]⟩ x h j = F (j 0).val := by
  refine (shapeCast_apply x h j (ix2 (0 : Fin 1) (j 0)) ?_).trans (hx _)
  rw [Shape.rowMajor_val_two, Shape.rowMajor_val_one]
  show 0 * A + (j 0).val = (j 0).val
  omega

theorem cast_col {A : ℕ} (x : (⟨1, ![A]⟩ : Shape).Idx → EReal) (h : (⟨1, ![A]⟩ : Shape).ShapeCasts ⟨2, ![A, 1]⟩)
    (F : ℕ → EReal) (hx : ∀ i, x i = F (i 0).val) (j : (⟨2, ![A, 1]⟩ : Shape).Idx) : shapeCast ⟨2, ![A, 1]⟩ x h j = F (j 0).val := by
  refine (shapeCast_apply x h j (ix1 (j 0)) ?_).trans (hx _)
  have h0 : (j 1).val < 1 := (j 1).isLt
  rw [Shape.rowMajor_val_two, Shape.rowMajor_val_one]
  show (j 0).val = (j 0).val * 1 + (j 1).val
  omega

theorem bcast_col {A : ℕ} (x : (⟨1, ![A]⟩ : Shape).Idx → EReal) (h : (⟨1, ![A]⟩ : Shape).BroadcastsInDim ⟨2, ![A, 1]⟩ ![0])
    (F : ℕ → EReal) (hx : ∀ i, x i = F (i 0).val) (j : (⟨2, ![A, 1]⟩ : Shape).Idx) : broadcastInDim ⟨2, ![A, 1]⟩ ![0] h x j = F (j 0).val := by
  refine (broadcastInDim_apply ![0] h x j (ix1 (j 0)) fun a => ?_).trans (hx _)
  match a with
  | ⟨0, _⟩ =>
    have : (j 0).val < A := (j 0).isLt
    show (j 0).val = if A = 1 then 0 else (j 0).val
    split <;> omega

end Cert.Shapes

end
-- ==== Proof.MlaHost.lean ====
/- What the program does before its grid: the weights laid out head by head in slots of 128 and turned over, the gains in
   slots, the tables of cosines and sines. -/
module

public import proofs.«01_k».proof.Proof.Gen.Kernel6Ideal.Value
public import proofs.«01_k».proof.Proof.Mla
public import proofs.«01_k».proof.Proof.Shapes

@[expose] public section

noncomputable section

namespace Cert.Mla

open Cert.At Cert.Shapes Cert.Kernel6Ideal Cert.Kernel6Ideal.Gen Cert.Kernel6Ideal.Value Idealize.SL.Sem
open Idealize.ShloMosaic.ValueIdx
open Idealize.ShloMosaic hiding ix0 ix1 ix2 ix3 ix4 ix5
open Idealize.ShloMosaic.TcCoe

/-- The padding's value. -/
abbrev padV : FVec Ideal S_ .f32 := sitofp .f32 (constantI S_ 32 0#32)

theorem padV_apply (i : S_.Idx) : padV i = 0 := by
  show (((0#32 : BitVec 32).toInt : ℝ) : EReal) = 0
  simp

/-- The query projection beside the latent projection of the keys and values beside its shared part in a slot of 128. -/
def wcatV (a3 : Vec Ideal S1024x384 .f32) (a7 : Vec Ideal S1024x288 .f32) : Vec Ideal S1024x768 .f32 :=
  concatenate S1024x768 1 [⟨S1024x384, a3⟩, ⟨S1024x256, extractStridedSlice S1024x256 ![0, 0] a7 slices_S1024x288_S1024x256_0_0⟩,
    ⟨S1024x128, pad S1024x128 ![0, 64] ![0, 32] ![0, 0] (extractStridedSlice S1024x32 ![0, 256] a7 slices_S1024x288_S1024x32_0_256) padV pads_S1024x32_S1024x128_000_64320 h_S_⟩]
    concatenates_S1024x384_S1024x256_S1024x128_S1024x768_d1

def wcat (w w' : ℕ → ℕ → EReal) (k c : ℕ) : EReal :=
  if c < 384 then w k c else if c < 640 then w' k (c - 384) else if 704 ≤ c ∧ c < 736 then w' k (c - 448) else 0

theorem wcatV_apply (a3 : Vec Ideal S1024x384 .f32) (a7 : Vec Ideal S1024x288 .f32) (j : S1024x768.Idx) :
    wcatV a3 a7 j = wcat (at2 a3) (at2 a7) (j 0).val (j 1).val := by
  have hj : (j 1).val < 768 := (j 1).isLt
  unfold wcatV wcat
  by_cases h1 : (j 1).val < 384
  · rw [if_pos h1]
    exact join2 _ _ j 0 (by show 0 < 3; decide) a3 rfl 0 rfl (at2 a3) (fun i => at2_of _ _ _ _ rfl rfl) (Nat.zero_le _) (by omega)
  rw [if_neg h1]
  by_cases h2 : (j 1).val < 640
  · rw [if_pos h2]
    refine (join2 _ _ j 1 (by show 1 < 3; decide) _ rfl 384 rfl (fun r t => at2 a7 (0 + r) (0 + t)) (slice2 a7 _ (at2 a7) fun i => at2_of _ _ _ _ rfl rfl) (by omega) (by omega)).trans ?_
    exact at2_congr _ (Nat.zero_add _) (Nat.zero_add _)
  rw [if_neg h2]
  refine (join2 _ _ j 2 (by show 2 < 3; decide) _ rfl 640 rfl (fun r t => if 64 ≤ t ∧ t < 64 + 32 then at2 a7 (0 + r) (256 + (t - 64)) else 0) (pad2 _ _ _ _ padV_apply (fun r t => at2 a7 (0 + r) (256 + t)) (slice2 a7 _ (at2 a7) fun i => at2_of _ _ _ _ rfl rfl)) (by omega) (by omega)).trans ?_
  by_cases h3 : 704 ≤ (j 1).val ∧ (j 1).val < 736
  · rw [if_pos h3, if_pos (by omega)]
    exact at2_congr _ (Nat.zero_add _) (by omega)
  · rw [if_neg h3, if_neg (by omega)]

/-- The expansion of the queries, every head in a slot of 128. -/
def wuqV (a5 : Vec Ideal S384x1536 .f32) : Vec Ideal S384x2048 .f32 :=
  shapeCast S384x2048 (pad S384x16x128 ![0, 0, 0] ![0, 0, 32] ![0, 0, 0] (shapeCast S384x16x96 a5 shapeCasts_S384x1536_S384x16x96) padV
    pads_S384x16x96_S384x16x128_000_000_0320 h_S_) shapeCasts_S384x16x128_S384x2048

theorem wuqV_apply (a5 : Vec Ideal S384x1536 .f32) (j : S384x2048.Idx) :
    wuqV a5 j = if (j 1).val % 128 < 96 then at2 a5 (j 0).val ((j 1).val / 128 * 96 + (j 1).val % 128) else 0 := by
  have h1 := split a5 shapeCasts_S384x1536_S384x16x96 (by norm_num) (at2 a5) fun i => at2_of _ _ _ _ rfl rfl
  have h2 := pad3 _ padV pads_S384x16x96_S384x16x128_000_000_0320 h_S_ padV_apply (fun r h t => at2 a5 r (h * 96 + t)) h1
  exact merge _ shapeCasts_S384x16x128_S384x2048 (by norm_num) (by norm_num) (fun r h t => if t < 96 then at2 a5 r (h * 96 + t) else 0) h2 j

/-- The expansion of the keys, every head's part in a slot of 128, beside that of the values. -/
def wukvV (a9 : Vec Ideal S256x2048 .f32) : Vec Ideal S256x3072 .f32 :=
  concatenate S256x3072 1 [⟨S256x2048, shapeCast S256x2048 (pad S256x16x128 ![0, 0, 0] ![0, 0, 64] ![0, 0, 0]
      (shapeCast S256x16x64 (shapeCast S256x1024 (extractStridedSlice S256x16x64 ![0, 0, 0] (shapeCast S256x16x128 a9 shapeCasts_S256x2048_S256x16x128) slices_S256x16x128_S256x16x64_0_0_0)
        shapeCasts_S256x16x64_S256x1024) shapeCasts_S256x1024_S256x16x64) padV pads_S256x16x64_S256x16x128_000_000_0640 h_S_) shapeCasts_S256x16x128_S256x2048⟩,
    ⟨S256x1024, shapeCast S256x1024 (extractStridedSlice S256x16x64 ![0, 0, 64] (shapeCast S256x16x128 a9 shapeCasts_S256x2048_S256x16x128) slices_S256x16x128_S256x16x64_0_0_64)
        shapeCasts_S256x16x64_S256x1024⟩] concatenates_S256x2048_S256x1024_S256x3072_d1

def wukv (w : ℕ → ℕ → EReal) (k c : ℕ) : EReal :=
  if c < 2048 then (if c % 128 < 64 then w k c else 0) else w k ((c - 2048) / 64 * 128 + 64 + (c - 2048) % 64)

theorem wukvV_apply (a9 : Vec Ideal S256x2048 .f32) (j : S256x3072.Idx) : wukvV a9 j = wukv (at2 a9) (j 0).val (j 1).val := by
  have hj : (j 1).val < 3072 := (j 1).isLt
  have hs := split a9 shapeCasts_S256x2048_S256x16x128 (by norm_num) (at2 a9) fun i => at2_of _ _ _ _ rfl rfl
  have hl := slice3 _ slices_S256x16x128_S256x16x64_0_0_0 (fun r h t => at2 a9 r (h * 128 + t)) hs
  have hr := slice3 _ slices_S256x16x128_S256x16x64_0_0_64 (fun r h t => at2 a9 r (h * 128 + t)) hs
  have hl1 := merge _ shapeCasts_S256x16x64_S256x1024 (by norm_num) (by norm_num) (fun r h t => at2 a9 (0 + r) ((0 + h) * 128 + (0 + t))) hl
  have hr1 := merge _ shapeCasts_S256x16x64_S256x1024 (by norm_num) (by norm_num) (fun r h t => at2 a9 (0 + r) ((0 + h) * 128 + (64 + t))) hr
  have hl2 := split _ shapeCasts_S256x1024_S256x16x64 (by norm_num) (fun r c => at2 a9 (0 + r) ((0 + c / 64) * 128 + (0 + c % 64))) hl1
  have hl3 := pad3 _ padV pads_S256x16x64_S256x16x128_000_000_0640 h_S_ padV_apply
    (fun r h t => at2 a9 (0 + r) ((0 + (h * 64 + t) / 64) * 128 + (0 + (h * 64 + t) % 64))) hl2
  have hl4 := merge _ shapeCasts_S256x16x128_S256x2048 (by norm_num) (by norm_num)
    (fun r h t => if t < 64 then at2 a9 (0 + r) ((0 + (h * 64 + t) / 64) * 128 + (0 + (h * 64 + t) % 64)) else 0) hl3
  unfold wukvV wukv
  by_cases h1 : (j 1).val < 2048
  · rw [if_pos h1]
    refine (join2 _ _ j 0 (by show 0 < 2; decide) _ rfl 0 rfl (fun r c => if c % 128 < 64 then
      at2 a9 (0 + r) ((0 + (c / 128 * 64 + c % 128) / 64) * 128 + (0 + (c / 128 * 64 + c % 128) % 64)) else 0) hl4 (Nat.zero_le _) (by omega)).trans ?_
    show (if ((j 1).val - 0) % 128 < 64 then _ else _) = _
    by_cases h2 : (j 1).val % 128 < 64
    · rw [if_pos h2, if_pos (by omega)]
      exact at2_congr _ (Nat.zero_add _) (by omega)
    · rw [if_neg h2, if_neg (by omega)]
  rw [if_neg h1]
  refine (join2 _ _ j 1 (by show 1 < 2; decide) _ rfl 2048 rfl (fun r c => at2 a9 (0 + r) ((0 + c / 64) * 128 + (64 + c % 64))) hr1 (by omega) (by omega)).trans ?_
  exact at2_congr _ (Nat.zero_add _) (by omega)

/-- A gain in its slot. -/
def slotV (a : Vec Ideal S96 .f32) : Vec Ideal S128 .f32 :=
  shapeCast S128 (shapeCast S1x128 (pad S128 ![0] ![32] ![0] a padV pads_S96_S128_0320 h_S_) shapeCasts_S128_S1x128) shapeCasts_S1x128_S128

theorem slotV_apply (a : Vec Ideal S96 .f32) (j : S128.Idx) : slotV a j = gain (at1 a) (j 0).val :=
  cast_unrow _ _ (gain (at1 a)) (cast_row _ _ _ (pad1 a _ _ _ padV_apply (at1 a) fun i => at1_of _ _ _ rfl)) j

/-- The gain, the gain eight places further and the gain eight places before, side by side. -/
def gainV (a : Vec Ideal S96 .f32) : Vec Ideal S128x3 .f32 :=
  concatenate S128x3 1 [⟨S128x1, broadcastInDim S128x1 ![0] bcast_S128_S128x1_0 (slotV a)⟩,
    ⟨S128x1, broadcastInDim S128x1 ![0] bcast_S128_S128x1_0 (concatenate S128 0 [⟨S120, extractStridedSlice S120 ![8] (slotV a) slices_S128_S120_8⟩,
      ⟨S8, extractStridedSlice S8 ![0] (slotV a) slices_S128_S8_0⟩] concatenates_S120_S8_S128_d0)⟩,
    ⟨S128x1, broadcastInDim S128x1 ![0] bcast_S128_S128x1_0 (concatenate S128 0 [⟨S8, extractStridedSlice S8 ![120] (slotV a) slices_S128_S8_120⟩,
      ⟨S120, extractStridedSlice S120 ![0] (slotV a) slices_S128_S120_0⟩] concatenates_S8_S120_S128_d0)⟩] concatenates_S128x1_S128x1_S128x1_S128x3_d1

/-- The three columns. -/
def gains (g : ℕ → EReal) (t k : ℕ) : EReal :=
  if k = 0 then gain g t else if k = 1 then gain g ((t + 8) % 128) else gain g ((t + 120) % 128)

theorem further_apply (a : Vec Ideal S96 .f32) (j : S128.Idx) :
    concatenate S128 0 [⟨S120, extractStridedSlice S120 ![8] (slotV a) slices_S128_S120_8⟩,
      ⟨S8, extractStridedSlice S8 ![0] (slotV a) slices_S128_S8_0⟩] concatenates_S120_S8_S128_d0 j = gain (at1 a) (((j 0).val + 8) % 128) := by
  have hj : (j 0).val < 128 := (j 0).isLt
  by_cases h1 : (j 0).val < 120
  · refine (join1 _ _ j 0 (by show 0 < 2; decide) _ rfl 0 rfl (fun t => gain (at1 a) (8 + t)) (slice1 _ _ _ (slotV_apply a)) (Nat.zero_le _) (by omega)).trans (congrArg _ (by omega))
  · refine (join1 _ _ j 1 (by show 1 < 2; decide) _ rfl 120 rfl (fun t => gain (at1 a) (0 + t)) (slice1 _ _ _ (slotV_apply a)) (by omega) (by omega)).trans (congrArg _ (by omega))

theorem before_apply (a : Vec Ideal S96 .f32) (j : S128.Idx) :
    concatenate S128 0 [⟨S8, extractStridedSlice S8 ![120] (slotV a) slices_S128_S8_120⟩,
      ⟨S120, extractStridedSlice S120 ![0] (slotV a) slices_S128_S120_0⟩] concatenates_S8_S120_S128_d0 j = gain (at1 a) (((j 0).val + 120) % 128) := by
  have hj : (j 0).val < 128 := (j 0).isLt
  by_cases h1 : (j 0).val < 8
  · refine (join1 _ _ j 0 (by show 0 < 2; decide) _ rfl 0 rfl (fun t => gain (at1 a) (120 + t)) (slice1 _ _ _ (slotV_apply a)) (Nat.zero_le _) (by omega)).trans (congrArg _ (by omega))
  · refine (join1 _ _ j 1 (by show 1 < 2; decide) _ rfl 8 rfl (fun t => gain (at1 a) (0 + t)) (slice1 _ _ _ (slotV_apply a)) (by omega) (by omega)).trans (congrArg _ (by omega))

theorem gainV_apply (a : Vec Ideal S96 .f32) (j : S128x3.Idx) : gainV a j = gains (at1 a) (j 0).val (j 1).val := by
  have hj : (j 1).val < 3 := (j 1).isLt
  unfold gainV gains
  by_cases h0 : (j 1).val = 0
  · rw [if_pos h0]
    exact join2 _ _ j 0 (by show 0 < 3; decide) _ rfl 0 rfl (fun t _ => gain (at1 a) t) (bcast_col _ _ _ (slotV_apply a)) (Nat.zero_le _) (by omega)
  rw [if_neg h0]
  by_cases h1 : (j 1).val = 1
  · rw [if_pos h1]
    exact join2 _ _ j 1 (by show 1 < 3; decide) _ rfl 1 rfl (fun t _ => gain (at1 a) ((t + 8) % 128)) (bcast_col _ _ (fun t => gain (at1 a) ((t + 8) % 128)) (further_apply a)) (by omega) (by omega)
  · rw [if_neg h1]
    exact join2 _ _ j 2 (by show 2 < 3; decide) _ rfl 2 rfl (fun t _ => gain (at1 a) ((t + 120) % 128)) (bcast_col _ _ (fun t => gain (at1 a) ((t + 120) % 128)) (before_apply a)) (by omega) (by omega)

/-! ## The tables -/

/-- Six matrices side by side: one of 64 columns, four of eight, one of 32. -/
abbrev six (a : Vec Ideal S4096x64 .f32) (b c d e : Vec Ideal S4096x8 .f32) (f : Vec Ideal S4096x32 .f32) : Vec Ideal S4096x128 .f32 :=
  concatenate S4096x128 1 [⟨S4096x64, a⟩, ⟨S4096x8, b⟩, ⟨S4096x8, c⟩, ⟨S4096x8, d⟩, ⟨S4096x8, e⟩, ⟨S4096x32, f⟩]
    concatenates_S4096x64_S4096x8_S4096x8_S4096x8_S4096x8_S4096x32_S4096x128_d1

def sixF (a b c d e f : ℕ → ℕ → EReal) (r t : ℕ) : EReal :=
  if t < 64 then a r t else if t < 72 then b r (t - 64) else if t < 80 then c r (t - 72) else if t < 88 then d r (t - 80)
  else if t < 96 then e r (t - 88) else f r (t - 96)

theorem six_apply (a : Vec Ideal S4096x64 .f32) (b c d e : Vec Ideal S4096x8 .f32) (f : Vec Ideal S4096x32 .f32) (a' b' c' d' e' f' : ℕ → ℕ → EReal)
    (ha : ∀ i, a i = a' (i 0).val (i 1).val) (hb : ∀ i, b i = b' (i 0).val (i 1).val) (hc : ∀ i, c i = c' (i 0).val (i 1).val)
    (hd : ∀ i, d i = d' (i 0).val (i 1).val) (he : ∀ i, e i = e' (i 0).val (i 1).val) (hf : ∀ i, f i = f' (i 0).val (i 1).val) (j : S4096x128.Idx) :
    six a b c d e f j = sixF a' b' c' d' e' f' (j 0).val (j 1).val := by
  have hj : (j 1).val < 128 := (j 1).isLt
  unfold sixF
  by_cases h1 : (j 1).val < 64
  · rw [if_pos h1]
    exact join2 _ _ j 0 (by show 0 < 6; decide) a rfl 0 rfl a' ha (Nat.zero_le _) (by omega)
  rw [if_neg h1]
  by_cases h2 : (j 1).val < 72
  · rw [if_pos h2]
    exact join2 _ _ j 1 (by show 1 < 6; decide) b rfl 64 rfl b' hb (by omega) (by omega)
  rw [if_neg h2]
  by_cases h3 : (j 1).val < 80
  · rw [if_pos h3]
    exact join2 _ _ j 2 (by show 2 < 6; decide) c rfl 72 rfl c' hc (by omega) (by omega)
  rw [if_neg h3]
  by_cases h4 : (j 1).val < 88
  · rw [if_pos h4]
    exact join2 _ _ j 3 (by show 3 < 6; decide) d rfl 80 rfl d' hd (by omega) (by omega)
  rw [if_neg h4]
  by_cases h5 : (j 1).val < 96
  · rw [if_pos h5]
    exact join2 _ _ j 4 (by show 4 < 6; decide) e rfl 88 rfl e' he (by omega) (by omega)
  · rw [if_neg h5]
    exact join2 _ _ j 5 (by show 5 < 6; decide) f rfl 96 rfl f' hf (by omega) (by omega)

abbrev onesV : FVec Ideal S4096x64 .f32 := broadcastInDim S4096x64 ![] bcast_S_S4096x64 (constant S_ .f32 0x3F800000#32 : FVec Ideal S_ .f32)
abbrev zerosV : FVec Ideal S4096x64 .f32 := broadcastInDim S4096x64 ![] bcast_S_S4096x64 (constant S_ .f32 0x00000000#32 : FVec Ideal S_ .f32)
abbrev zeros8V : FVec Ideal S4096x8 .f32 := broadcastInDim S4096x8 ![] bcast_S_S4096x8 (constant S_ .f32 0x00000000#32 : FVec Ideal S_ .f32)

theorem onesV_apply (i : S4096x64.Idx) : onesV i = 1 := Ideal.ofBits_one_f32
theorem zerosV_apply (i : S4096x64.Idx) : zerosV i = 0 := by
  show Ideal.ofBits .f32 0#32 = 0
  exact Ideal.ofBits_zero_f32
theorem zeros8V_apply (i : S4096x8.Idx) : zeros8V i = 0 := by
  show Ideal.ofBits .f32 0#32 = 0
  exact Ideal.ofBits_zero_f32

/-- A matrix with its sign changed. -/
abbrev negV (a : FVec Ideal S4096x8 .f32) : FVec Ideal S4096x8 .f32 := Host.negf a

abbrev cosV (a11 a13 : Vec Ideal S4096x8 .f32) : Vec Ideal S4096x128 .f32 :=
  six onesV a11 a11 a13 a13 (extractStridedSlice S4096x32 ![0, 0] onesV slices_S4096x64_S4096x32_0_0)
abbrev saV (a12 a14 : Vec Ideal S4096x8 .f32) : Vec Ideal S4096x128 .f32 :=
  six zerosV (negV a12) zeros8V (negV a14) zeros8V (extractStridedSlice S4096x32 ![0, 0] zerosV slices_S4096x64_S4096x32_0_0)
abbrev sbV (a12 a14 : Vec Ideal S4096x8 .f32) : Vec Ideal S4096x128 .f32 :=
  six zerosV zeros8V a12 zeros8V a14 (extractStridedSlice S4096x32 ![0, 0] zerosV slices_S4096x64_S4096x32_0_0)

theorem cosV_apply (a11 a13 : Vec Ideal S4096x8 .f32) (j : S4096x128.Idx) :
    cosV a11 a13 j = cosT (at2 a11 (j 0).val) (at2 a13 (j 0).val) (j 1).val :=
  six_apply _ _ _ _ _ _ (fun _ _ => 1) (at2 a11) (at2 a11) (at2 a13) (at2 a13) (fun _ _ => 1) onesV_apply (fun i => at2_of _ _ _ _ rfl rfl)
    (fun i => at2_of _ _ _ _ rfl rfl) (fun i => at2_of _ _ _ _ rfl rfl) (fun i => at2_of _ _ _ _ rfl rfl) (slice2 onesV slices_S4096x64_S4096x32_0_0 (fun _ _ => 1) onesV_apply) j

theorem neg_at (a : Vec Ideal S4096x8 .f32) (i : S4096x8.Idx) : negV a i = -at2 a (i 0).val (i 1).val :=
  congrArg (- ·) (at2_of a i _ _ rfl rfl)

theorem saV_apply (a12 a14 : Vec Ideal S4096x8 .f32) (j : S4096x128.Idx) :
    saV a12 a14 j = saT (at2 a12 (j 0).val) (at2 a14 (j 0).val) (j 1).val := by
  refine (six_apply _ _ _ _ _ _ (fun _ _ => 0) (fun r t => -at2 a12 r t) (fun _ _ => 0) (fun r t => -at2 a14 r t) (fun _ _ => 0) (fun _ _ => 0) zerosV_apply
    (neg_at a12) zeros8V_apply (neg_at a14) zeros8V_apply (slice2 zerosV slices_S4096x64_S4096x32_0_0 (fun _ _ => 0) zerosV_apply) j).trans ?_
  unfold sixF saT
  split_ifs <;> rfl

theorem sbV_apply (a12 a14 : Vec Ideal S4096x8 .f32) (j : S4096x128.Idx) :
    sbV a12 a14 j = sbT (at2 a12 (j 0).val) (at2 a14 (j 0).val) (j 1).val := by
  refine (six_apply _ _ _ _ _ _ (fun _ _ => 0) (fun _ _ => 0) (at2 a12) (fun _ _ => 0) (at2 a14) (fun _ _ => 0) zerosV_apply zeros8V_apply
    (fun i => at2_of _ _ _ _ rfl rfl) zeros8V_apply (fun i => at2_of _ _ _ _ rfl rfl) (slice2 zerosV slices_S4096x64_S4096x32_0_0 (fun _ _ => 0) zerosV_apply) j).trans ?_
  unfold sixF sbT
  split_ifs <;> first | rfl | omega

end Cert.Mla

end
-- ==== Proof.MlaBody.lean ====
/- A block of the projections around the attention, column by column: the hidden rows turned over, a normalised latent, a
   head in its slot. -/
module

public import proofs.«01_k».proof.Proof.AttnHead
public import proofs.«01_k».proof.Proof.Mla
public import proofs.«01_k».proof.Proof.MlaHost
public import proofs.«01_k».proof.Proof.Norm
public import proofs.«01_k».proof.Proof.Shapes

@[expose] public section

noncomputable section

namespace Cert.Mla

open Cert.At Cert.Ops Cert.Shapes Idealize.SL.Sem Idealize.ShloMosaic.ValueIdx
open Idealize.ShloMosaic hiding ix0 ix1 ix2 ix3 ix4 ix5
open Cert.Norm (normed normV normV_apply invV)
open Cert.Attn (colsum_apply)
open scoped BigOperators

/-! ## The hidden rows, turned over -/

section Hidden

variable {M : ℕ} (hr : Shape.Reduces ⟨2, ![M, 1024]⟩ [1] ⟨1, ![M]⟩) (hc : (⟨1, ![M]⟩ : Shape).ShapeCasts ⟨2, ![M, 1]⟩)
  (hb : (⟨2, ![M, 1]⟩ : Shape).Broadcasts ⟨2, ![M, 1024]⟩) (hb' : (⟨2, ![1, 1024]⟩ : Shape).Broadcasts ⟨2, ![M, 1024]⟩)
  (ht : (⟨2, ![M, 1024]⟩ : Shape).Transposes [1, 0] ⟨2, ![1024, M]⟩)
  (x : FVec Ideal ⟨2, ![M, 1024]⟩ .f32) (g sc sh : FVec Ideal ⟨2, ![1, 1024]⟩ .f32)

def hidT : FVec Ideal ⟨2, ![1024, M]⟩ .bf16 :=
  truncf .bf16 (transpose ⟨2, ![1024, M]⟩ [1, 0] (addf (mulf (mulf x (broadcastTo ⟨2, ![M, 1024]⟩ (invV hr hc x) hb))
    (broadcastTo ⟨2, ![M, 1024]⟩ (mulf g (addf (broadcast ⟨2, ![1, 1024]⟩ (Scalar.ofBits .f32 0x3F800000#32)) sc)) hb'))
    (broadcastTo ⟨2, ![M, 1024]⟩ sh hb')) ht : FVec Ideal ⟨2, ![1024, M]⟩ .f32) (by decide)

theorem hidT_apply (i : Fin M) (xr gr scr shr : ℕ → EReal) (hx : ∀ k : Fin 1024, x (ix2 i k) = xr k)
    (hg : ∀ k : Fin 1024, g (ix2 (0 : Fin 1) k) = gr k) (hsc : ∀ k : Fin 1024, sc (ix2 (0 : Fin 1) k) = scr k)
    (hsh : ∀ k : Fin 1024, sh (ix2 (0 : Fin 1) k) = shr k) (k : Fin 1024) :
    hidT hr hc hb hb' ht x g sc sh (ix2 k i) = normed xr gr scr shr k := by
  unfold hidT
  rw [ValueIdx.truncf_apply]
  refine (transpose_apply [1, 0] _ ht (ix2 k i) (ix2 i k) fun b => match b with
    | ⟨0, _⟩ => rfl
    | ⟨1, _⟩ => rfl).trans ?_
  exact normV_apply hr hc hb hb' x g sc sh i xr gr scr shr hx hg hsc hsh k

end Hidden

/-! ## A latent normalised -/

section Latent

variable {M N : ℕ} (hr : Shape.Reduces ⟨2, ![M, N]⟩ [0] ⟨1, ![N]⟩) (hc : (⟨1, ![N]⟩ : Shape).ShapeCasts ⟨2, ![1, N]⟩)
  (hb : (⟨2, ![1, N]⟩ : Shape).Broadcasts ⟨2, ![M, N]⟩) (hb' : (⟨2, ![M, 1]⟩ : Shape).Broadcasts ⟨2, ![M, N]⟩)
  (hs : (⟨2, ![M, 1]⟩ : Shape).ShapeCasts ⟨2, ![M, 1]⟩)
  (d : BitVec 32) (x : FVec Ideal ⟨2, ![M, N]⟩ .f32) (g : FVec Ideal ⟨2, ![M, 1]⟩ .f32)

def latV : FVec Ideal ⟨2, ![M, N]⟩ .f32 :=
  mulf (mulf x (broadcastTo ⟨2, ![M, N]⟩ (rsqrt (addf (divf (shapeCast ⟨2, ![1, N]⟩ (multiReduction .add [0] ⟨1, ![N]⟩ (mulf x x) 0x00000000#32 hr (.inl rfl) rfl) hc)
    (broadcast ⟨2, ![1, N]⟩ (Scalar.ofBits .f32 d))) (broadcast ⟨2, ![1, N]⟩ (Scalar.ofBits .f32 0x358637BD#32)))) hb))
    (broadcastTo ⟨2, ![M, N]⟩ (shapeCast ⟨2, ![M, 1]⟩ g hs) hb')

theorem latV_apply (i : Fin N) (f w : ℕ → EReal) (hx : ∀ k : Fin M, x (ix2 k i) = f k) (hg : ∀ k : Fin M, g (ix2 k (0 : Fin 1)) = w k) (j : Fin M) :
    latV hr hc hb hb' hs d x g (ix2 j i) = normN M (Ideal.ofBits .f32 d) f w j := by
  unfold latV
  show x (ix2 j i) * broadcastTo ⟨2, ![M, N]⟩ _ hb (ix2 j i) * broadcastTo ⟨2, ![M, N]⟩ _ hb' (ix2 j i) = _
  rw [spread_apply, broadcastTo_1b_ab_apply, hx j]
  refine congrArg₂ (· * ·) (congrArg (f j * ·) ?_) ((cast_self_apply g hs _).trans (hg j))
  refine (congrArg (fun s => Ideal.rsqrt (Ideal.div s (Ideal.ofBits .f32 d) + eps)) (colsum_apply (mulf x x) hr hc (.inl rfl) rfl i)).trans ?_
  unfold invN
  exact congrArg (fun s => Ideal.rsqrt (Ideal.div s _ + _)) (Finset.sum_congr rfl fun k _ => by
    show x (ix2 k i) * x (ix2 k i) = _; rw [hx k])

end Latent

/-! ## A head in its slot -/

section Head

variable {N : ℕ} (hr : Shape.Reduces ⟨2, ![128, N]⟩ [0] ⟨1, ![N]⟩) (hc : (⟨1, ![N]⟩ : Shape).ShapeCasts ⟨2, ![1, N]⟩)
  (hb : (⟨2, ![1, N]⟩ : Shape).Broadcasts ⟨2, ![128, N]⟩) (hrot : (⟨2, ![128, N]⟩ : Shape).Rotates (0 : Fin 2) none)

/-- The two partners' part of a slot. -/
def partnerV (p ga gb : FVec Ideal ⟨2, ![128, N]⟩ .f32) : FVec Ideal ⟨2, ![128, N]⟩ .f32 :=
  addf (mulf (dynamicRotate 0 120#32 none p hrot) ga) (mulf (dynamicRotate 0 8#32 none p hrot) gb)

/-- A slot. -/
def slotHeadV (x gc q : FVec Ideal ⟨2, ![128, N]⟩ .f32) : FVec Ideal ⟨2, ![128, N]⟩ .f32 :=
  mulf (addf (mulf x gc) q) (broadcastTo ⟨2, ![128, N]⟩ (rsqrt (addf (mulf (shapeCast ⟨2, ![1, N]⟩
    (multiReduction .add [0] ⟨1, ![N]⟩ (mulf x x) 0x00000000#32 hr (.inl rfl) rfl) hc)
    (broadcast ⟨2, ![1, N]⟩ (Named.named Cert.Kernel6Ideal.κ "per_channel" 0x3C2AAAAB#32))) (broadcast ⟨2, ![1, N]⟩ (Scalar.ofBits .f32 0x358637BD#32)))) hb)

theorem rotate_apply (k : BitVec 32) (p : FVec Ideal ⟨2, ![128, N]⟩ .f32) (t q : Fin 128) (i : Fin N)
    (hq : q.val = (t.val + 128 - k.toNat % 128) % 128) : dynamicRotate 0 k none p hrot (ix2 t i) = p (ix2 q i) :=
  dynamicRotate_apply (0 : Fin 2) k p hrot (ix2 t i) (ix2 q i) fun b => match b with
    | ⟨0, _⟩ => hq.trans (if_pos rfl).symm
    | ⟨1, _⟩ => (if_neg (by intro h; exact absurd (congrArg Fin.val h) (by decide : (1 : ℕ) ≠ 0))).symm

theorem partnerV_apply (p ga gb : FVec Ideal ⟨2, ![128, N]⟩ .f32) (i : Fin N) (pf af bf : ℕ → EReal) (hp : ∀ t : Fin 128, p (ix2 t i) = pf t)
    (ha : ∀ t : Fin 128, ga (ix2 t i) = af t) (hb : ∀ t : Fin 128, gb (ix2 t i) = bf t) (t : Fin 128) :
    partnerV hrot p ga gb (ix2 t i) = pf ((t.val + 8) % 128) * af t + pf ((t.val + 120) % 128) * bf t := by
  unfold partnerV
  show dynamicRotate 0 120#32 none p hrot (ix2 t i) * ga (ix2 t i) + dynamicRotate 0 8#32 none p hrot (ix2 t i) * gb (ix2 t i) = _
  rw [rotate_apply hrot 120#32 p t (⟨(t.val + 8) % 128, Nat.mod_lt _ (by norm_num)⟩ : Fin 128) i (by show (t.val + 8) % 128 = (t.val + 128 - 120 % 128) % 128; omega),
    rotate_apply hrot 8#32 p t (⟨(t.val + 120) % 128, Nat.mod_lt _ (by norm_num)⟩ : Fin 128) i (by show (t.val + 120) % 128 = (t.val + 128 - 8 % 128) % 128; omega),
    hp, hp, ha, hb]

theorem slotHeadV_apply (x gc q : FVec Ideal ⟨2, ![128, N]⟩ .f32) (i : Fin N) (xf : ℕ → EReal) (hx : ∀ t : Fin 128, x (ix2 t i) = xf t) (t : Fin 128) :
    slotHeadV hr hc hb x gc q (ix2 t i)
      = (xf t * gc (ix2 t i) + q (ix2 t i)) * Ideal.rsqrt ((∑ j : Fin 128, xf j * xf j) * ((1 / 96 : ℝ) : EReal) + eps) := by
  unfold slotHeadV
  show (x (ix2 t i) * gc (ix2 t i) + q (ix2 t i)) * broadcastTo ⟨2, ![128, N]⟩ _ hb (ix2 t i) = _
  rw [broadcastTo_1b_ab_apply, hx t]
  refine congrArg ((xf t * gc (ix2 t i) + q (ix2 t i)) * ·) ?_
  have e : (Named.named Cert.Kernel6Ideal.κ "per_channel" 0x3C2AAAAB#32 : Ideal .f32) = ((1 / 96 : ℝ) : EReal) :=
    IdealRules.named_const.ideal_named_scalar _ _ _ _ rfl
  show Ideal.rsqrt (shapeCast ⟨2, ![1, N]⟩ (multiReduction .add [0] ⟨1, ![N]⟩ (mulf x x) 0x00000000#32 hr (.inl rfl) rfl) hc (ix2 (0 : Fin 1) i)
    * (Named.named Cert.Kernel6Ideal.κ "per_channel" 0x3C2AAAAB#32 : Ideal .f32) + eps) = _
  rw [e]
  refine congrArg (fun s => Ideal.rsqrt (s * ((1 / 96 : ℝ) : EReal) + eps)) ((colsum_apply (mulf x x) hr hc (.inl rfl) rfl i).trans ?_)
  exact Finset.sum_congr rfl fun k _ => by show x (ix2 k i) * x (ix2 k i) = _; rw [hx k]

/-- A column of the gains, spread and weighted by a table. -/
def weightV {k : ℕ} (hsl : (⟨2, ![128, 3]⟩ : Shape).Slices ![0, k] ⟨2, ![128, 1]⟩) (hb : (⟨2, ![128, 1]⟩ : Shape).Broadcasts ⟨2, ![128, N]⟩)
    (hs : (⟨2, ![128, N]⟩ : Shape).ShapeCasts ⟨2, ![128, N]⟩) (G : FVec Ideal ⟨2, ![128, 3]⟩ .f32) (T : FVec Ideal ⟨2, ![128, N]⟩ .f32) :
    FVec Ideal ⟨2, ![128, N]⟩ .f32 :=
  mulf (broadcastTo ⟨2, ![128, N]⟩ (extractStridedSlice ⟨2, ![128, 1]⟩ ![0, k] G hsl) hb) (shapeCast ⟨2, ![128, N]⟩ T hs)

theorem weightV_apply {k : ℕ} (hsl : (⟨2, ![128, 3]⟩ : Shape).Slices ![0, k] ⟨2, ![128, 1]⟩) (hb : (⟨2, ![128, 1]⟩ : Shape).Broadcasts ⟨2, ![128, N]⟩)
    (hs : (⟨2, ![128, N]⟩ : Shape).ShapeCasts ⟨2, ![128, N]⟩) (G : FVec Ideal ⟨2, ![128, 3]⟩ .f32) (T : FVec Ideal ⟨2, ![128, N]⟩ .f32)
    (F : ℕ → ℕ → EReal) (hG : ∀ j, G j = F (j 0).val (j 1).val) (i : Fin N) (Tf : ℕ → EReal) (hT : ∀ t : Fin 128, T (ix2 t i) = Tf t) (t : Fin 128) :
    weightV hsl hb hs G T (ix2 t i) = F t k * Tf t := by
  unfold weightV
  show broadcastTo ⟨2, ![128, N]⟩ (extractStridedSlice ⟨2, ![128, 1]⟩ ![0, k] G hsl) hb (ix2 t i) * shapeCast ⟨2, ![128, N]⟩ T hs (ix2 t i) = _
  rw [spread_apply]
  refine congrArg₂ (· * ·) ((slice2 G hsl F hG _).trans ?_) ((cast_self_apply T hs _).trans (hT t))
  show F (0 + t.val) (k + 0) = F t k
  rw [Nat.zero_add, Nat.add_zero]

end Head

/-! ## The slot's value -/

theorem invN_congr {n : ℕ} (d : EReal) {f f' : ℕ → EReal} (h : ∀ t, t < n → f t = f' t) : invN n d f = invN n d f' := by
  unfold invN
  exact congrArg (fun s => Ideal.rsqrt (Ideal.div s _ + _)) (Finset.sum_congr rfl fun j _ => by rw [h j j.isLt])

/-- One over the root of a head's width and the logarithm of two. -/
abbrev perScore : EReal := (((Real.sqrt 96)⁻¹ * (Real.log 2)⁻¹ : ℝ) : EReal)

/-- A slot of the keys. -/
theorem slot_key (c s c' s' x p f g : ℕ → EReal) (hx : ∀ t, 96 ≤ t → t < 128 → x t = 0) (hf : ∀ t, t < 96 → x t = f t)
    (hp : ∀ t, 64 ≤ t → t < 96 → p t = x t) (t : ℕ) (ht : t < 128) :
    slotK c s c' s' x p (gain g) (Ideal.rsqrt ((∑ j : Fin 128, x j * x j) * ((1 / 96 : ℝ) : EReal) + eps)) t
      = if t < 96 then rope c s c' s' (normN 96 (Ideal.ofBits .f32 0x42C00000#32) f g) t else 0 := by
  rw [slot_inv x hx, slotK_eq _ _ _ _ _ _ _ _ (inv96_range x).1 (inv96_range x).2 hx hp t ht]
  split_ifs with h
  · refine rope_congr _ _ _ _ _ _ t h fun u hu => ?_
    rw [gain, if_pos hu, normN, hf u hu, invN_congr _ hf]
  · rfl

/-- A slot of the queries. -/
theorem slot_query (c s c' s' x f g : ℕ → EReal) (hx : ∀ t, 96 ≤ t → t < 128 → x t = 0) (hf : ∀ t, t < 96 → x t = f t) (t : ℕ) (ht : t < 128) :
    slotK c s c' s' x x (fun t => gain g t * perScore) (Ideal.rsqrt ((∑ j : Fin 128, x j * x j) * ((1 / 96 : ℝ) : EReal) + eps)) t
      = if t < 96 then Ideal.div (rope c s c' s' (normN 96 (Ideal.ofBits .f32 0x42C00000#32) f g) t) width else 0 := by
  rw [slot_inv x hx, slotK_eq _ _ _ _ _ _ _ _ (inv96_range x).1 (inv96_range x).2 hx (fun _ _ _ => rfl) t ht]
  split_ifs with h
  · rw [div_width, ← rope_mul _ _ _ _ _ _ score_range.1 score_range.2]
    refine rope_congr _ _ _ _ _ _ t h fun u hu => ?_
    show x u * _ * (gain g u * _) = _
    rw [gain, if_pos hu, normN, hf u hu, invN_congr _ hf]
    simp only [mul_assoc]
  · rfl

/-- A product whose first operand is a matrix of weights turned over. -/
theorem mmT_apply {M K N : ℕ} (w : FVec Ideal ⟨2, ![M, K]⟩ .bf16) (hs : (⟨2, ![M, K]⟩ : Shape).ShapeCasts ⟨2, ![M, K]⟩) (x : FVec Ideal ⟨2, ![K, N]⟩ .bf16)
    (W : ℕ → ℕ → EReal) (f : ℕ → EReal) (hw : ∀ j, w j = W (j 1).val (j 0).val) (i : Fin N) (hx : ∀ k : Fin K, x (ix2 k i) = f k) (c : Fin M) :
    FloatOps.matmul (DotDims.plain M K N) none (shapeCast ⟨2, ![M, K]⟩ w hs) x (constant ⟨2, ![M, N]⟩ .f32 0x00000000#32) (ix2 c i) = proj K f W c := by
  rw [mm_apply]
  refine Finset.sum_congr rfl fun k _ => ?_
  rw [hx k, mul_comm]
  exact congrArg (f k * ·) ((cast_self_apply w hs _).trans (hw _))

end Cert.Mla

end
-- ==== Proof.MlaOut.lean ====
/- The body of the kernel of the projections around the attention, as three functions of its thirteen blocks. -/
module

public import proofs.«01_k».proof.Proof.MlaBody
public import proofs.«01_k».proof.Proof.SconvArray
public import proofs.«01_k».proof.Proof.Gen.Kernel6Ideal.Value

@[expose] public section

noncomputable section

namespace Cert.Mla

open Cert.At Cert.Ops Cert.Kernel6Ideal Cert.Kernel6Ideal.Gen Idealize.SL.Sem Idealize.ShloMosaic.ValueIdx
open Idealize.ShloMosaic hiding ix0 ix1 ix2 ix3 ix4 ix5
open Idealize.ShloMosaic.TcCoe

section Body

variable (i : grid0.Coords) (x0 : Vec Ideal S512x1024 .f32) (x1 : Vec Ideal S8x6144 .f32) (x2 : Vec Ideal S1x1024 .f32) (x3 : Vec Ideal S768x1024 .bf16) (x4 : Vec Ideal S384x1 .f32)
  (x5 : Vec Ideal S256x1 .f32) (x6 : Vec Ideal S2048x384 .bf16) (x7 : Vec Ideal S3072x256 .bf16) (x8 : Vec Ideal S128x3 .f32) (x9 : Vec Ideal S128x3 .f32)
  (x10 : Vec Ideal S128x512 .f32) (x11 : Vec Ideal S128x512 .f32) (x12 : Vec Ideal S128x512 .f32)

/-- The hidden rows, turned over. -/
def hiddenB : FVec Ideal S1024x512 .bf16 :=
  hidT reduces_S512x1024_S512 shapeCasts_S512_S512x1 broadcasts_S512x1_S512x1024 broadcasts_S1x1024_S512x1024 transposes_S512x1024_p1_0_S1024x512
    (View.ld x0 (Rect.unit (s := S512x1024) ![0, 0] S512x1024.size inb_S512x1024_S512x1024_0_0)) (shapeCast S1x1024 (View.ld x2 (Rect.unit (s := S1x1024) ![0, 0] S1x1024.size inb_S1x1024_S1x1024_0_0)) shapeCasts_S1x1024_S1x1024)
    (View.ld x1 (Rect.unit (s := S8x6144) (k0_off1 i) S1x1024.size (k0_off1_inb i)))
    (View.ld x1 (Rect.unit (s := S8x6144) (k0_off2 i) S1x1024.size (k0_off2_inb i)))

/-- The latents and the part all heads of the keys share, as projected. -/
def downB : FVec Ideal S768x512 .f32 :=
  FloatOps.matmul (DotDims.plain 768 1024 512) none (shapeCast S768x1024 (View.ld x3 (Rect.unit (s := S768x1024) ![0, 0] S768x1024.size inb_S768x1024_S768x1024_0_0)) shapeCasts_S768x1024_S768x1024 : FVec Ideal S768x1024 .bf16)
    (hiddenB i x0 x1 x2) (constant S768x512 .f32 0x00000000#32)

def latQB : FVec Ideal S384x512 .f32 :=
  latV reduces_S384x512_S512 shapeCasts_S512_S1x512 broadcasts_S1x512_S384x512 broadcasts_S384x1_S384x512 shapeCasts_S384x1_S384x1 0x43C00000#32
    (extractStridedSlice S384x512 ![0, 0] (downB i x0 x1 x2 x3) slices_S768x512_o0_0_S384x512) (View.ld x4 (Rect.unit (s := S384x1) ![0, 0] S384x1.size inb_S384x1_S384x1_0_0))

def latKB : FVec Ideal S256x512 .f32 :=
  latV reduces_S256x512_S512 shapeCasts_S512_S1x512 broadcasts_S1x512_S256x512 broadcasts_S256x1_S256x512 shapeCasts_S256x1_S256x1 0x43800000#32
    (extractStridedSlice S256x512 ![384, 0] (downB i x0 x1 x2 x3) slices_S768x512_o384_0_S256x512) (View.ld x5 (Rect.unit (s := S256x1) ![0, 0] S256x1.size inb_S256x1_S256x1_0_0))

/-- The part all heads of the keys share. -/
def sharedB : FVec Ideal S128x512 .f32 := extractStridedSlice S128x512 ![640, 0] (downB i x0 x1 x2 x3) slices_S768x512_o640_0_S128x512

/-- The queries' slots before their norm. -/
def rawQ : FVec Ideal S2048x512 .f32 :=
  FloatOps.matmul (DotDims.plain 2048 384 512) none (shapeCast S2048x384 (View.ld x6 (Rect.unit (s := S2048x384) ![0, 0] S2048x384.size inb_S2048x384_S2048x384_0_0)) shapeCasts_S2048x384_S2048x384 : FVec Ideal S2048x384 .bf16)
    (truncf .bf16 (latQB i x0 x1 x2 x3 x4) bitsLt_bf16_f32) (constant S2048x512 .f32 0x00000000#32)

/-- The keys' slots before their norm, without the shared part, and the values. -/
def rawK : FVec Ideal S3072x512 .f32 :=
  FloatOps.matmul (DotDims.plain 3072 256 512) none (shapeCast S3072x256 (View.ld x7 (Rect.unit (s := S3072x256) ![0, 0] S3072x256.size inb_S3072x256_S3072x256_0_0)) shapeCasts_S3072x256_S3072x256 : FVec Ideal S3072x256 .bf16)
    (truncf .bf16 (latKB i x0 x1 x2 x3 x5) bitsLt_bf16_f32) (constant S3072x512 .f32 0x00000000#32)

/-- The queries' gains, with the scores' factor. -/
def gainsQ : FVec Ideal S128x3 .f32 :=
  mulf (shapeCast S128x3 (View.ld x8 (Rect.unit (s := S128x3) ![0, 0] S128x3.size inb_S128x3_S128x3_0_0)) shapeCasts_S128x3_S128x3) (broadcast S128x3 (Named.named κ "per_score" 0x3E16C740#32))

def gainsK : FVec Ideal S128x3 .f32 := shapeCast S128x3 (View.ld x9 (Rect.unit (s := S128x3) ![0, 0] S128x3.size inb_S128x3_S128x3_0_0)) shapeCasts_S128x3_S128x3

/-- A column of gains over the point's rows, weighted by a table of angles. -/
def overB {k : ℕ} (hsl : S128x3.Slices ![0, k] S128x1) (G : FVec Ideal S128x3 .f32) (T : Vec Ideal S128x512 .f32) : FVec Ideal S128x512 .f32 :=
  weightV hsl broadcasts_S128x1_S128x512 shapeCasts_S128x512_S128x512 G (View.ld T (Rect.unit (s := S128x512) ![0, 0] S128x512.size inb_S128x512_S128x512_0_0))

/-- A slot from its row `o` of the queries. -/
def headQB (o : ℕ) (hsl : S2048x512.Slices ![o, 0] S128x512) : FVec Ideal S128x512 .f32 :=
  slotHeadV reduces_S128x512_S512 shapeCasts_S512_S1x512 broadcasts_S1x512_S128x512 (extractStridedSlice S128x512 ![o, 0] (rawQ i x0 x1 x2 x3 x4 x6) hsl)
    (overB slices_S128x3_o0_0_S128x1 (gainsQ x8) x10)
    (partnerV rotates_S128x512_d0 (extractStridedSlice S128x512 ![o, 0] (rawQ i x0 x1 x2 x3 x4 x6) hsl)
      (overB slices_S128x3_o0_1_S128x1 (gainsQ x8) x11) (overB slices_S128x3_o0_2_S128x1 (gainsQ x8) x12))

/-- A slot from its row `o` of the keys. -/
def headKB (o : ℕ) (hsl : S3072x512.Slices ![o, 0] S128x512) : FVec Ideal S128x512 .f32 :=
  slotHeadV reduces_S128x512_S512 shapeCasts_S512_S1x512 broadcasts_S1x512_S128x512
    (addf (extractStridedSlice S128x512 ![o, 0] (rawK i x0 x1 x2 x3 x5 x7) hsl) (sharedB i x0 x1 x2 x3))
    (overB slices_S128x3_o0_0_S128x1 (gainsK x9) x10)
    (partnerV rotates_S128x512_d0 (sharedB i x0 x1 x2 x3)
      (overB slices_S128x3_o0_1_S128x1 (gainsK x9) x11) (overB slices_S128x3_o0_2_S128x1 (gainsK x9) x12))

theorem inbQ (h : Fin 16) : ∀ a : Fin 2, (![h.val * 128, 0] : Fin 2 → ℕ) a + S128x512.size a ≤ S2048x512.size a := fun a => match a with
  | ⟨0, _⟩ => by show h.val * 128 + 128 ≤ 2048; omega
  | ⟨1, _⟩ => by show 0 + 512 ≤ 512; omega

theorem inbK (h : Fin 16) : ∀ a : Fin 2, (![0, h.val * 128] : Fin 2 → ℕ) a + S512x128.size a ≤ S512x2048.size a := fun a => match a with
  | ⟨0, _⟩ => by show 0 + 512 ≤ 512; omega
  | ⟨1, _⟩ => by show h.val * 128 + 128 ≤ 2048; omega

theorem sliceQ (h : Fin 16) : S2048x512.Slices ![h.val * 128, 0] S128x512 := ⟨rfl, fun a => match a with
  | ⟨0, _⟩ => by show h.val * 128 + 128 ≤ 2048; omega
  | ⟨1, _⟩ => by show 0 + 512 ≤ 512; omega⟩

theorem sliceK (h : Fin 16) : S3072x512.Slices ![h.val * 128, 0] S128x512 := ⟨rfl, fun a => match a with
  | ⟨0, _⟩ => by show h.val * 128 + 128 ≤ 3072; omega
  | ⟨1, _⟩ => by show 0 + 512 ≤ 512; omega⟩

/-- The heads, the last stored first. -/
abbrev heads : List (Fin 16) := [15, 14, 13, 12, 11, 10, 9, 8, 7, 6, 5, 4, 3, 2, 1, 0]

def pieceQ (h : Fin 16) : View.Piece (Elt Ideal) S2048x512 .bf16 :=
  ⟨Rect.unit ![h.val * 128, 0] S128x512.size (inbQ h), (truncf .bf16 (headQB i x0 x1 x2 x3 x4 x6 x8 x10 x11 x12 (h.val * 128) (sliceQ h)) bitsLt_bf16_f32 : FVec Ideal S128x512 .bf16)⟩

def pieceK (h : Fin 16) : View.Piece (Elt Ideal) S512x2048 .bf16 :=
  ⟨Rect.unit ![0, h.val * 128] S512x128.size (inbK h),
    (truncf .bf16 (transpose S512x128 [1, 0] (headKB i x0 x1 x2 x3 x5 x7 x9 x10 x11 x12 (h.val * 128) (sliceK h)) transposes_S128x512_p1_0_S512x128 : FVec Ideal S512x128 .f32) bitsLt_bf16_f32 : FVec Ideal S512x128 .bf16)⟩

def queriesB : FVec Ideal S2048x512 .bf16 := View.canon (heads.map (pieceQ i x0 x1 x2 x3 x4 x6 x8 x10 x11 x12))

def keysB : FVec Ideal S512x2048 .bf16 := View.canon (heads.map (pieceK i x0 x1 x2 x3 x5 x7 x9 x10 x11 x12))

def valuesB : FVec Ideal S1024x512 .bf16 :=
  truncf .bf16 (extractStridedSlice S1024x512 ![2048, 0] (rawK i x0 x1 x2 x3 x5 x7) slices_S3072x512_o2048_0_S1024x512) bitsLt_bf16_f32

end Body

/-- What the run leaves in the first result's staging buffer. -/
theorem out13_eq (c : Dev nD) (i : grid0.Coords) (arg1 : Memref sig .tc .vmem S512x1024 .f32) (h1 : arg1.IsWhole)
    (arg2 : Memref sig .tc .vmem S8x6144 .f32) (h2 : arg2.IsWhole)
    (arg3 : Memref sig .tc .vmem S1x1024 .f32) (h3 : arg3.IsWhole)
    (arg4 : Memref sig .tc .vmem S768x1024 .bf16) (h4 : arg4.IsWhole)
    (arg5 : Memref sig .tc .vmem S384x1 .f32) (h5 : arg5.IsWhole)
    (arg6 : Memref sig .tc .vmem S256x1 .f32) (h6 : arg6.IsWhole)
    (arg7 : Memref sig .tc .vmem S2048x384 .bf16) (h7 : arg7.IsWhole)
    (arg8 : Memref sig .tc .vmem S3072x256 .bf16) (h8 : arg8.IsWhole)
    (arg9 : Memref sig .tc .vmem S128x3 .f32) (h9 : arg9.IsWhole)
    (arg10 : Memref sig .tc .vmem S128x3 .f32) (h10 : arg10.IsWhole)
    (arg11 : Memref sig .tc .vmem S128x512 .f32) (h11 : arg11.IsWhole)
    (arg12 : Memref sig .tc .vmem S128x512 .f32) (h12 : arg12.IsWhole)
    (arg13 : Memref sig .tc .vmem S128x512 .f32) (h13 : arg13.IsWhole)
    (arg14 : Memref sig .tc .vmem S2048x512 .bf16) (h14 : arg14.IsWhole)
    (arg15 : Memref sig .tc .vmem S512x2048 .bf16) (h15 : arg15.IsWhole)
    (arg16 : Memref sig .tc .vmem S1024x512 .bf16) (h16 : arg16.IsWhole)
    (x0 : Vec Ideal S512x1024 .f32) (x1 : Vec Ideal S8x6144 .f32) (x2 : Vec Ideal S1x1024 .f32) (x3 : Vec Ideal S768x1024 .bf16) (x4 : Vec Ideal S384x1 .f32)
    (x5 : Vec Ideal S256x1 .f32) (x6 : Vec Ideal S2048x384 .bf16) (x7 : Vec Ideal S3072x256 .bf16) (x8 : Vec Ideal S128x3 .f32) (x9 : Vec Ideal S128x3 .f32)
    (x10 : Vec Ideal S128x512 .f32) (x11 : Vec Ideal S128x512 .f32) (x12 : Vec Ideal S128x512 .f32) :
    out0_A_13 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 x12
      = queriesB i x0 x1 x2 x3 x4 x6 x8 x10 x11 x12 := by
  unfold out0_A_13
  rw [View.read_writes_junk_eq_canon]
  show queriesB i (arg1.view.read (Elt Ideal) (h1.unread x0)) (arg2.view.read (Elt Ideal) (h2.unread x1)) (arg3.view.read (Elt Ideal) (h3.unread x2)) (arg4.view.read (Elt Ideal) (h4.unread x3)) (arg5.view.read (Elt Ideal) (h5.unread x4)) (arg7.view.read (Elt Ideal) (h7.unread x6)) (arg9.view.read (Elt Ideal) (h9.unread x8)) (arg11.view.read (Elt Ideal) (h11.unread x10)) (arg12.view.read (Elt Ideal) (h12.unread x11)) (arg13.view.read (Elt Ideal) (h13.unread x12)) = _
  rw [h1.read_unread, h2.read_unread, h3.read_unread, h4.read_unread, h5.read_unread, h7.read_unread, h9.read_unread, h11.read_unread, h12.read_unread, h13.read_unread]

/-- What the run leaves in the second result's staging buffer. -/
theorem out14_eq (c : Dev nD) (i : grid0.Coords) (arg1 : Memref sig .tc .vmem S512x1024 .f32) (h1 : arg1.IsWhole)
    (arg2 : Memref sig .tc .vmem S8x6144 .f32) (h2 : arg2.IsWhole)
    (arg3 : Memref sig .tc .vmem S1x1024 .f32) (h3 : arg3.IsWhole)
    (arg4 : Memref sig .tc .vmem S768x1024 .bf16) (h4 : arg4.IsWhole)
    (arg5 : Memref sig .tc .vmem S384x1 .f32) (h5 : arg5.IsWhole)
    (arg6 : Memref sig .tc .vmem S256x1 .f32) (h6 : arg6.IsWhole)
    (arg7 : Memref sig .tc .vmem S2048x384 .bf16) (h7 : arg7.IsWhole)
    (arg8 : Memref sig .tc .vmem S3072x256 .bf16) (h8 : arg8.IsWhole)
    (arg9 : Memref sig .tc .vmem S128x3 .f32) (h9 : arg9.IsWhole)
    (arg10 : Memref sig .tc .vmem S128x3 .f32) (h10 : arg10.IsWhole)
    (arg11 : Memref sig .tc .vmem S128x512 .f32) (h11 : arg11.IsWhole)
    (arg12 : Memref sig .tc .vmem S128x512 .f32) (h12 : arg12.IsWhole)
    (arg13 : Memref sig .tc .vmem S128x512 .f32) (h13 : arg13.IsWhole)
    (arg14 : Memref sig .tc .vmem S2048x512 .bf16) (h14 : arg14.IsWhole)
    (arg15 : Memref sig .tc .vmem S512x2048 .bf16) (h15 : arg15.IsWhole)
    (arg16 : Memref sig .tc .vmem S1024x512 .bf16) (h16 : arg16.IsWhole)
    (x0 : Vec Ideal S512x1024 .f32) (x1 : Vec Ideal S8x6144 .f32) (x2 : Vec Ideal S1x1024 .f32) (x3 : Vec Ideal S768x1024 .bf16) (x4 : Vec Ideal S384x1 .f32)
    (x5 : Vec Ideal S256x1 .f32) (x6 : Vec Ideal S2048x384 .bf16) (x7 : Vec Ideal S3072x256 .bf16) (x8 : Vec Ideal S128x3 .f32) (x9 : Vec Ideal S128x3 .f32)
    (x10 : Vec Ideal S128x512 .f32) (x11 : Vec Ideal S128x512 .f32) (x12 : Vec Ideal S128x512 .f32) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 x12
      = keysB i x0 x1 x2 x3 x5 x7 x9 x10 x11 x12 := by
  unfold out0_A_14
  rw [View.read_writes_junk_eq_canon]
  show keysB i (arg1.view.read (Elt Ideal) (h1.unread x0)) (arg2.view.read (Elt Ideal) (h2.unread x1)) (arg3.view.read (Elt Ideal) (h3.unread x2)) (arg4.view.read (Elt Ideal) (h4.unread x3)) (arg6.view.read (Elt Ideal) (h6.unread x5)) (arg8.view.read (Elt Ideal) (h8.unread x7)) (arg10.view.read (Elt Ideal) (h10.unread x9)) (arg11.view.read (Elt Ideal) (h11.unread x10)) (arg12.view.read (Elt Ideal) (h12.unread x11)) (arg13.view.read (Elt Ideal) (h13.unread x12)) = _
  rw [h1.read_unread, h2.read_unread, h3.read_unread, h4.read_unread, h6.read_unread, h8.read_unread, h10.read_unread, h11.read_unread, h12.read_unread, h13.read_unread]

/-- What the run leaves in the third result's staging buffer. -/
theorem out15_eq (c : Dev nD) (i : grid0.Coords) (arg1 : Memref sig .tc .vmem S512x1024 .f32) (h1 : arg1.IsWhole)
    (arg2 : Memref sig .tc .vmem S8x6144 .f32) (h2 : arg2.IsWhole)
    (arg3 : Memref sig .tc .vmem S1x1024 .f32) (h3 : arg3.IsWhole)
    (arg4 : Memref sig .tc .vmem S768x1024 .bf16) (h4 : arg4.IsWhole)
    (arg5 : Memref sig .tc .vmem S384x1 .f32) (h5 : arg5.IsWhole)
    (arg6 : Memref sig .tc .vmem S256x1 .f32) (h6 : arg6.IsWhole)
    (arg7 : Memref sig .tc .vmem S2048x384 .bf16) (h7 : arg7.IsWhole)
    (arg8 : Memref sig .tc .vmem S3072x256 .bf16) (h8 : arg8.IsWhole)
    (arg9 : Memref sig .tc .vmem S128x3 .f32) (h9 : arg9.IsWhole)
    (arg10 : Memref sig .tc .vmem S128x3 .f32) (h10 : arg10.IsWhole)
    (arg11 : Memref sig .tc .vmem S128x512 .f32) (h11 : arg11.IsWhole)
    (arg12 : Memref sig .tc .vmem S128x512 .f32) (h12 : arg12.IsWhole)
    (arg13 : Memref sig .tc .vmem S128x512 .f32) (h13 : arg13.IsWhole)
    (arg14 : Memref sig .tc .vmem S2048x512 .bf16) (h14 : arg14.IsWhole)
    (arg15 : Memref sig .tc .vmem S512x2048 .bf16) (h15 : arg15.IsWhole)
    (arg16 : Memref sig .tc .vmem S1024x512 .bf16) (h16 : arg16.IsWhole)
    (x0 : Vec Ideal S512x1024 .f32) (x1 : Vec Ideal S8x6144 .f32) (x2 : Vec Ideal S1x1024 .f32) (x3 : Vec Ideal S768x1024 .bf16) (x4 : Vec Ideal S384x1 .f32)
    (x5 : Vec Ideal S256x1 .f32) (x6 : Vec Ideal S2048x384 .bf16) (x7 : Vec Ideal S3072x256 .bf16) (x8 : Vec Ideal S128x3 .f32) (x9 : Vec Ideal S128x3 .f32)
    (x10 : Vec Ideal S128x512 .f32) (x11 : Vec Ideal S128x512 .f32) (x12 : Vec Ideal S128x512 .f32) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 x0 x1 x2 x3 x4 x5 x6 x7 x8 x9 x10 x11 x12
      = valuesB i x0 x1 x2 x3 x5 x7 := by
  unfold out0_A_15
  rw [View.read_writes_junk_eq_canon]
  show View.canon ([⟨Rect.unit ![0, 0] S1024x512.size inb_S1024x512_S1024x512_0_0,
      valuesB i (arg1.view.read (Elt Ideal) (h1.unread x0)) (arg2.view.read (Elt Ideal) (h2.unread x1)) (arg3.view.read (Elt Ideal) (h3.unread x2)) (arg4.view.read (Elt Ideal) (h4.unread x3)) (arg6.view.read (Elt Ideal) (h6.unread x5)) (arg8.view.read (Elt Ideal) (h8.unread x7))⟩] :
      List (View.Piece (Elt Ideal) S1024x512 .bf16)) = _
  rw [View.canon_unit_zero Cert.Sconv.hz, h1.read_unread, h2.read_unread, h3.read_unread, h4.read_unread, h6.read_unread, h8.read_unread]

end Cert.Mla

end
-- ==== Proof.MlaBlock.lean ====
/- The three functions of a point's blocks, read at one of its rows: the row's queries, keys and values. -/
module

public import proofs.«01_k».proof.Proof.MlaOut

@[expose] public section

noncomputable section

namespace Cert.Mla

open Cert.At Cert.Ops Cert.Shapes Cert.Kernel6Ideal Cert.Kernel6Ideal.Gen Idealize.SL.Sem Idealize.ShloMosaic.ValueIdx
open Cert.Sconv (hid)
open Cert.Conv (rows_apply)
open Idealize.ShloMosaic hiding ix0 ix1 ix2 ix3 ix4 ix5
open Idealize.ShloMosaic.TcCoe
open scoped BigOperators

/-- A whole block loaded. -/
theorem whole_apply {A B : ℕ} {e : EltTy} (x : (⟨2, ![A, B]⟩ : Shape).Idx → Elt Ideal e) (inb : ∀ a, (![0, 0] : Fin 2 → ℕ) a + (![A, B] : Fin 2 → ℕ) a ≤ (⟨2, ![A, B]⟩ : Shape).size a)
    (j : (⟨2, ![A, B]⟩ : Shape).Idx) : View.ld (Val := Elt Ideal) (e' := e) x (Rect.unit (s := ⟨2, ![A, B]⟩) ![0, 0] ![A, B] inb) j = x j :=
  congrArg x (funext fun a => Fin.ext (match a with
    | ⟨0, _⟩ => by show 0 + 1 * (j 0).val = (j 0).val; omega
    | ⟨1, _⟩ => by show 0 + 1 * (j 1).val = (j 1).val; omega))

theorem proj_congr {n : ℕ} {f f' : ℕ → EReal} {w w' : ℕ → ℕ → EReal} {c c' : ℕ} (hf : ∀ k, k < n → f k = f' k) (hw : ∀ k, w k c = w' k c') :
    proj n f w c = proj n f' w' c' :=
  Finset.sum_congr rfl fun k _ => by rw [hf k k.isLt, hw k]

theorem proj_zero {n : ℕ} {f : ℕ → EReal} {w : ℕ → ℕ → EReal} {c : ℕ} (hw : ∀ k, w k c = 0) : proj n f w c = 0 :=
  Finset.sum_eq_zero fun k _ => by rw [hw k, mul_zero]

section Row

variable (i : grid0.Coords) (x0 : Vec Ideal S512x1024 .f32) (x1 : Vec Ideal S8x6144 .f32) (x2 : Vec Ideal S1x1024 .f32) (x3 : Vec Ideal S768x1024 .bf16)
  (x4 : Vec Ideal S384x1 .f32) (x5 : Vec Ideal S256x1 .f32) (x6 : Vec Ideal S2048x384 .bf16) (x7 : Vec Ideal S3072x256 .bf16) (x8 : Vec Ideal S128x3 .f32)
  (x9 : Vec Ideal S128x3 .f32) (x10 : Vec Ideal S128x512 .f32) (x11 : Vec Ideal S128x512 .f32) (x12 : Vec Ideal S128x512 .f32)
  (a0 : Vec Ideal S16384x1024 .f32) (a1 : Vec Ideal S8x6144 .f32) (a2 : Vec Ideal S1024 .f32) (a3 : Vec Ideal S1024x384 .f32) (a4 : Vec Ideal S384 .f32)
  (a5 : Vec Ideal S384x1536 .f32) (a6 : Vec Ideal S96 .f32) (a7 : Vec Ideal S1024x288 .f32) (a8 : Vec Ideal S256 .f32) (a9 : Vec Ideal S256x2048 .f32)
  (a10 : Vec Ideal S96 .f32) (a11 a12 a13 a14 : Vec Ideal S4096x8 .f32)
  (q : Fin 512) (n : ℕ)
  (o1 : k0_off1 i (0 : Fin 2) = 1 + n / 4096 ∧ k0_off1 i (1 : Fin 2) = 1024) (o2 : k0_off2 i (0 : Fin 2) = 1 + n / 4096 ∧ k0_off2 i (1 : Fin 2) = 0)
  (h0 : ∀ k : Fin 1024, x0 (ix2 q k) = at2 a0 n k) (h1 : ∀ j, x1 j = at2 a1 (j 0).val (j 1).val) (h2 : ∀ k : Fin 1024, x2 (ix2 (0 : Fin 1) k) = at1 a2 k)
  (h3 : ∀ j, x3 j = wcat (at2 a3) (at2 a7) (j 1).val (j 0).val) (h4 : ∀ j, x4 j = at1 a4 (j 0).val) (h5 : ∀ j, x5 j = at1 a8 (j 0).val)
  (h6 : ∀ j, x6 j = if (j 0).val % 128 < 96 then at2 a5 (j 1).val ((j 0).val / 128 * 96 + (j 0).val % 128) else 0)
  (h7 : ∀ j, x7 j = wukv (at2 a9) (j 1).val (j 0).val) (h8 : ∀ j, x8 j = gains (at1 a6) (j 0).val (j 1).val) (h9 : ∀ j, x9 j = gains (at1 a10) (j 0).val (j 1).val)
  (h10 : ∀ t : Fin 128, x10 (ix2 t q) = cosT (at2 a11 (n % 4096)) (at2 a13 (n % 4096)) t)
  (h11 : ∀ t : Fin 128, x11 (ix2 t q) = saT (at2 a12 (n % 4096)) (at2 a14 (n % 4096)) t)
  (h12 : ∀ t : Fin 128, x12 (ix2 t q) = sbT (at2 a12 (n % 4096)) (at2 a14 (n % 4096)) t)

include o1 o2 h0 h1 h2 in
theorem hiddenB_apply (k : Fin 1024) : hiddenB i x0 x1 x2 (ix2 k q) = hid (at2 a0) (at2 a1) (at1 a2) n k := by
  unfold hiddenB hid
  exact hidT_apply _ _ _ _ _ _ _ _ _ q (at2 a0 n) (at1 a2) (fun k => at2 a1 (1 + n / 4096) (1024 + k)) (fun k => at2 a1 (1 + n / 4096) (0 + k))
    (fun k => (whole_apply x0 _ _).trans (h0 k)) (wholeRow_apply _ _ h2 _ _) (modRow_apply _ _ h1 _ _ _ _ o1.1 o1.2) (modRow_apply _ _ h1 _ _ _ _ o2.1 o2.2) k

include o1 o2 h0 h1 h2 h3 in
theorem downB_apply (r : Fin 768) : downB i x0 x1 x2 x3 (ix2 r q) = proj 1024 (hid (at2 a0) (at2 a1) (at1 a2) n) (wcat (at2 a3) (at2 a7)) r :=
  mmT_apply _ _ _ _ _ (fun j => (whole_apply x3 _ j).trans (h3 j)) q (hiddenB_apply i x0 x1 x2 a0 a1 a2 q n o1 o2 h0 h1 h2) r

include o1 o2 h0 h1 h2 h3 h4 in
theorem latQB_apply (r : Fin 384) : latQB i x0 x1 x2 x3 x4 (ix2 r q) = latQ a0 a1 a2 a3 a4 n r := by
  refine latV_apply _ _ _ _ _ _ _ _ q (proj 1024 (hid (at2 a0) (at2 a1) (at1 a2) n) (at2 a3)) (at1 a4) (fun k => ?_) (fun k => (whole_apply x4 _ _).trans (h4 _)) r
  have hk : k.val < 384 := k.isLt
  refine (rows_apply 0 _ _ k q (⟨k.val, by omega⟩ : Fin 768) (Nat.zero_add _).symm).trans
    ((downB_apply i x0 x1 x2 x3 a0 a1 a2 a3 a7 q n o1 o2 h0 h1 h2 h3 _).trans (proj_congr (fun _ _ => rfl) fun c => ?_))
  exact if_pos hk

include o1 o2 h0 h1 h2 h3 in
theorem lowB_apply (r : Fin 768) (u : ℕ) (hu : r.val = 384 + u) (h : u < 256) : downB i x0 x1 x2 x3 (ix2 r q) = down a0 a1 a2 a7 n u := by
  refine (downB_apply i x0 x1 x2 x3 a0 a1 a2 a3 a7 q n o1 o2 h0 h1 h2 h3 r).trans (proj_congr (fun _ _ => rfl) fun c => ?_)
  unfold wcat
  rw [if_neg (by omega), if_pos (by omega)]
  exact at2_congr _ rfl (by omega)

include o1 o2 h0 h1 h2 h3 in
theorem sharedB_apply (t : Fin 128) : sharedB i x0 x1 x2 x3 (ix2 t q) = if 64 ≤ t.val ∧ t.val < 96 then down a0 a1 a2 a7 n (256 + (t.val - 64)) else 0 := by
  have ht : t.val < 128 := t.isLt
  refine (rows_apply 640 _ _ t q (⟨640 + t.val, by omega⟩ : Fin 768) rfl).trans ((downB_apply i x0 x1 x2 x3 a0 a1 a2 a3 a7 q n o1 o2 h0 h1 h2 h3 _).trans ?_)
  by_cases h : 64 ≤ t.val ∧ t.val < 96
  · rw [if_pos h]
    refine proj_congr (fun _ _ => rfl) fun c => ?_
    show wcat _ _ c (640 + t.val) = _
    unfold wcat
    rw [if_neg (by omega), if_neg (by omega), if_pos (by omega)]
    exact at2_congr _ rfl (by omega)
  · rw [if_neg h]
    refine proj_zero fun c => ?_
    show wcat _ _ c (640 + t.val) = _
    unfold wcat
    rw [if_neg (by omega), if_neg (by omega), if_neg (by omega)]

include o1 o2 h0 h1 h2 h3 h5 in
theorem latKB_apply (r : Fin 256) : latKB i x0 x1 x2 x3 x5 (ix2 r q) = latK a0 a1 a2 a7 a8 n r := by
  refine latV_apply _ _ _ _ _ _ _ _ q (down a0 a1 a2 a7 n) (at1 a8) (fun k => ?_) (fun k => (whole_apply x5 _ _).trans (h5 _)) r
  have hk : k.val < 256 := k.isLt
  exact (rows_apply 384 _ _ k q (⟨384 + k.val, by omega⟩ : Fin 768) rfl).trans (lowB_apply i x0 x1 x2 x3 a0 a1 a2 a3 a7 q n o1 o2 h0 h1 h2 h3 _ k.val rfl hk)

include o1 o2 h0 h1 h2 h3 h4 h6 in
theorem rawQ_apply (r : Fin 2048) : rawQ i x0 x1 x2 x3 x4 x6 (ix2 r q) = if r.val % 128 < 96 then headQ a0 a1 a2 a3 a4 a5 n (r.val / 128) (r.val % 128) else 0 := by
  refine (mmT_apply _ _ _ (fun k c => if c % 128 < 96 then at2 a5 k (c / 128 * 96 + c % 128) else 0) (latQ a0 a1 a2 a3 a4 n) (fun j => (whole_apply x6 _ j).trans (h6 j)) q
    (fun k => latQB_apply i x0 x1 x2 x3 x4 a0 a1 a2 a3 a4 a7 q n o1 o2 h0 h1 h2 h3 h4 k) r).trans ?_
  split_ifs with h
  · exact proj_congr (fun _ _ => rfl) fun k => if_pos h
  · exact proj_zero fun k => if_neg h

include o1 o2 h0 h1 h2 h3 h5 h7 in
theorem rawK_apply (r : Fin 3072) : rawK i x0 x1 x2 x3 x5 x7 (ix2 r q) = proj 256 (latK a0 a1 a2 a7 a8 n) (wukv (at2 a9)) r :=
  mmT_apply _ _ _ (wukv (at2 a9)) (latK a0 a1 a2 a7 a8 n) (fun j => (whole_apply x7 _ j).trans (h7 j)) q
    (fun k => latKB_apply i x0 x1 x2 x3 x5 a0 a1 a2 a3 a7 a8 q n o1 o2 h0 h1 h2 h3 h5 k) r

include h8 in
theorem gainsQ_apply (j : S128x3.Idx) : gainsQ x8 j = gains (at1 a6) (j 0).val (j 1).val * perScore := by
  have e : (Named.named κ "per_score" 0x3E16C740#32 : Ideal .f32) = perScore := IdealRules.named_const.ideal_named_scalar _ _ _ _ rfl
  exact congrArg₂ (· * ·) ((cast_self_apply _ _ _).trans ((whole_apply x8 _ j).trans (h8 j))) e

include h9 in
theorem gainsK_apply (j : S128x3.Idx) : gainsK x9 j = gains (at1 a10) (j 0).val (j 1).val :=
  (cast_self_apply _ _ _).trans ((whole_apply x9 _ j).trans (h9 j))

theorem overB_apply {k : ℕ} (hsl : S128x3.Slices ![0, k] S128x1) (G : FVec Ideal S128x3 .f32) (T : Vec Ideal S128x512 .f32)
    (F : ℕ → ℕ → EReal) (hG : ∀ j, G j = F (j 0).val (j 1).val) (Tf : ℕ → EReal) (hT : ∀ t : Fin 128, T (ix2 t q) = Tf t) (t : Fin 128) :
    overB hsl G T (ix2 t q) = F t k * Tf t :=
  weightV_apply hsl _ _ G _ F hG q Tf (fun t => (whole_apply T _ _).trans (hT t)) t

include o1 o2 h0 h1 h2 h3 h4 h6 h8 h10 h11 h12 in
theorem headQB_apply (h : ℕ) (hh : h < 16) (hsl : S2048x512.Slices ![h * 128, 0] S128x512) (t : Fin 128) :
    headQB i x0 x1 x2 x3 x4 x6 x8 x10 x11 x12 (h * 128) hsl (ix2 t q) = entryQ a0 a1 a2 a3 a4 a5 a6 a11 a12 a13 a14 n (h * 128 + t.val) := by
  have ht : t.val < 128 := t.isLt
  have hx (t : Fin 128) : extractStridedSlice S128x512 ![h * 128, 0] (rawQ i x0 x1 x2 x3 x4 x6) hsl (ix2 t q)
      = (fun t => if t < 96 then headQ a0 a1 a2 a3 a4 a5 n h t else 0) t.val := by
    have ht : t.val < 128 := t.isLt
    refine (rows_apply (h * 128) _ _ t q (⟨h * 128 + t.val, by omega⟩ : Fin 2048) rfl).trans
      ((rawQ_apply i x0 x1 x2 x3 x4 x6 a0 a1 a2 a3 a4 a5 a7 q n o1 o2 h0 h1 h2 h3 h4 h6 _).trans ?_)
    show (if (h * 128 + t.val) % 128 < 96 then headQ _ _ _ _ _ _ n ((h * 128 + t.val) / 128) ((h * 128 + t.val) % 128) else 0) = _
    rw [show (h * 128 + t.val) / 128 = h by omega, show (h * 128 + t.val) % 128 = t.val by omega]
  have hG := gainsQ_apply x8 a6 h8
  unfold headQB
  refine (slotHeadV_apply _ _ _ _ _ _ q (fun t => if t < 96 then headQ a0 a1 a2 a3 a4 a5 n h t else 0) hx t).trans ?_
  rw [overB_apply q _ _ _ (fun t k => gains (at1 a6) t k * perScore) hG _ h10 t,
    partnerV_apply _ _ _ _ q (fun t => if t < 96 then headQ a0 a1 a2 a3 a4 a5 n h t else 0)
      (fun t => gains (at1 a6) t 1 * perScore * saT (at2 a12 (n % 4096)) (at2 a14 (n % 4096)) t)
      (fun t => gains (at1 a6) t 2 * perScore * sbT (at2 a12 (n % 4096)) (at2 a14 (n % 4096)) t) hx (overB_apply q _ _ _ (fun t k => gains (at1 a6) t k * perScore) hG _ h11)
      (overB_apply q _ _ _ (fun t k => gains (at1 a6) t k * perScore) hG _ h12) t]
  refine (slot_query (at2 a11 (n % 4096)) (at2 a12 (n % 4096)) (at2 a13 (n % 4096)) (at2 a14 (n % 4096)) (fun t => if t < 96 then headQ a0 a1 a2 a3 a4 a5 n h t else 0)
    (headQ a0 a1 a2 a3 a4 a5 n h) (at1 a6) (fun u hu _ => if_neg (by omega)) (fun u hu => if_pos hu) t.val ht).trans ?_
  unfold entryQ turned
  rw [show (h * 128 + t.val) / 128 = h by omega, show (h * 128 + t.val) % 128 = t.val by omega]

include o1 o2 h0 h1 h2 h3 h5 h7 h9 h10 h11 h12 in
theorem headKB_apply (h : ℕ) (hh : h < 16) (hsl : S3072x512.Slices ![h * 128, 0] S128x512) (t : Fin 128) :
    headKB i x0 x1 x2 x3 x5 x7 x9 x10 x11 x12 (h * 128) hsl (ix2 t q) = entryK a0 a1 a2 a7 a8 a9 a10 a11 a12 a13 a14 n (h * 128 + t.val) := by
  have ht : t.val < 128 := t.isLt
  have hs := sharedB_apply i x0 x1 x2 x3 a0 a1 a2 a3 a7 q n o1 o2 h0 h1 h2 h3
  have hx (t : Fin 128) : addf (extractStridedSlice S128x512 ![h * 128, 0] (rawK i x0 x1 x2 x3 x5 x7) hsl) (sharedB i x0 x1 x2 x3) (ix2 t q)
      = (fun t => if t < 96 then headK a0 a1 a2 a7 a8 a9 n h t else 0) t.val := by
    have ht : t.val < 128 := t.isLt
    have e := (rows_apply (h * 128) _ hsl t q (⟨h * 128 + t.val, by omega⟩ : Fin 3072) rfl).trans
      (rawK_apply i x0 x1 x2 x3 x5 x7 a0 a1 a2 a3 a7 a8 a9 q n o1 o2 h0 h1 h2 h3 h5 h7 _)
    refine (congrArg₂ (· + ·) e (hs t)).trans ?_
    show proj 256 _ (wukv (at2 a9)) (h * 128 + t.val) + _ = if t.val < 96 then headK a0 a1 a2 a7 a8 a9 n h t.val else 0
    unfold headK
    by_cases h1 : t.val < 64
    · rw [if_neg (by omega), add_zero, if_pos (by omega), if_pos h1]
      refine proj_congr (fun _ _ => rfl) fun k => ?_
      unfold wukv
      rw [if_pos (by omega), if_pos (by omega)]
    · rw [proj_zero (fun k => by unfold wukv; rw [if_pos (by omega), if_neg (by omega)]), zero_add]
      by_cases h2 : t.val < 96
      · rw [if_pos ⟨by omega, h2⟩, if_pos h2, if_neg h1]
      · rw [if_neg (by omega), if_neg h2]
  have hG := gainsK_apply x9 a10 h9
  unfold headKB
  refine (slotHeadV_apply _ _ _ _ _ _ q (fun t => if t < 96 then headK a0 a1 a2 a7 a8 a9 n h t else 0) hx t).trans ?_
  rw [overB_apply q _ _ _ (gains (at1 a10)) hG _ h10 t,
    partnerV_apply _ _ _ _ q (fun t => if 64 ≤ t ∧ t < 96 then down a0 a1 a2 a7 n (256 + (t - 64)) else 0)
      (fun t => gains (at1 a10) t 1 * saT (at2 a12 (n % 4096)) (at2 a14 (n % 4096)) t)
      (fun t => gains (at1 a10) t 2 * sbT (at2 a12 (n % 4096)) (at2 a14 (n % 4096)) t) hs (overB_apply q _ _ _ (gains (at1 a10)) hG _ h11)
      (overB_apply q _ _ _ (gains (at1 a10)) hG _ h12) t]
  refine (slot_key (at2 a11 (n % 4096)) (at2 a12 (n % 4096)) (at2 a13 (n % 4096)) (at2 a14 (n % 4096)) (fun t => if t < 96 then headK a0 a1 a2 a7 a8 a9 n h t else 0)
    (fun t => if 64 ≤ t ∧ t < 96 then down a0 a1 a2 a7 n (256 + (t - 64)) else 0)
    (headK a0 a1 a2 a7 a8 a9 n h) (at1 a10) (fun u hu _ => if_neg (by omega)) (fun u hu => if_pos hu) (fun u hu hv => ?_) t.val ht).trans ?_
  · show (if 64 ≤ u ∧ u < 96 then _ else _) = if u < 96 then _ else _
    rw [if_pos ⟨hu, hv⟩, if_pos hv]
    unfold headK
    rw [if_neg (by omega)]
  unfold entryK turned
  rw [show (h * 128 + t.val) / 128 = h by omega, show (h * 128 + t.val) % 128 = t.val by omega]

include o1 o2 h0 h1 h2 h3 h4 h6 h8 h10 h11 h12 in
theorem queriesB_apply (r : Fin 2048) :
    queriesB i x0 x1 x2 x3 x4 x6 x8 x10 x11 x12 (ix2 r q) = entryQ a0 a1 a2 a3 a4 a5 a6 a11 a12 a13 a14 n r := by
  refine View.canon_eq_of_allAt _ _ _ (View.cover_of_tiledL (heads.map (pieceQ i x0 x1 x2 x3 x4 x6 x8 x10 x11 x12)) S128x512.size (by sl_kernel_rfl) (ix2 r q)) fun p hp x hx => ?_
  obtain ⟨h, -, rfl⟩ := List.mem_map.1 hp
  obtain ⟨t, u, rfl⟩ : ∃ (t : Fin 128) (u : Fin 512), x = ix2 t u := ⟨x 0, x 1, funext fun a => by fin_cases a <;> rfl⟩
  have e0 : h.val * 128 + 1 * t.val = r.val := congrArg (fun y : S2048x512.Idx => (y 0).val) hx
  have e1 : 0 + 1 * u.val = q.val := congrArg (fun y : S2048x512.Idx => (y 1).val) hx
  obtain rfl : u = q := Fin.ext (by omega)
  refine (headQB_apply i x0 x1 x2 x3 x4 x6 x8 x10 x11 x12 a0 a1 a2 a3 a4 a5 a6 a7 a11 a12 a13 a14 u n o1 o2 h0 h1 h2 h3 h4 h6 h8 h10 h11 h12 h.val h.isLt _ t).trans ?_
  rw [show h.val * 128 + t.val = r.val by omega]

include o1 o2 h0 h1 h2 h3 h5 h7 h9 h10 h11 h12 in
theorem keysB_apply (r : Fin 2048) :
    keysB i x0 x1 x2 x3 x5 x7 x9 x10 x11 x12 (ix2 q r) = entryK a0 a1 a2 a7 a8 a9 a10 a11 a12 a13 a14 n r := by
  refine View.canon_eq_of_allAt _ _ _ (View.cover_of_tiledL (heads.map (pieceK i x0 x1 x2 x3 x5 x7 x9 x10 x11 x12)) S512x128.size (by sl_kernel_rfl) (ix2 q r)) fun p hp x hx => ?_
  obtain ⟨h, -, rfl⟩ := List.mem_map.1 hp
  obtain ⟨u, t, rfl⟩ : ∃ (u : Fin 512) (t : Fin 128), x = ix2 u t := ⟨x 0, x 1, funext fun a => by fin_cases a <;> rfl⟩
  have e0 : 0 + 1 * u.val = q.val := congrArg (fun y : S512x2048.Idx => (y 0).val) hx
  have e1 : h.val * 128 + 1 * t.val = r.val := congrArg (fun y : S512x2048.Idx => (y 1).val) hx
  obtain rfl : u = q := Fin.ext (by omega)
  refine (transpose_apply [1, 0] (headKB i x0 x1 x2 x3 x5 x7 x9 x10 x11 x12 (h.val * 128) (sliceK h)) transposes_S128x512_p1_0_S512x128 (ix2 u t) (ix2 t u) fun b => match b with
    | ⟨0, _⟩ => rfl
    | ⟨1, _⟩ => rfl).trans
    ((headKB_apply i x0 x1 x2 x3 x5 x7 x9 x10 x11 x12 a0 a1 a2 a3 a7 a8 a9 a10 a11 a12 a13 a14 u n o1 o2 h0 h1 h2 h3 h5 h7 h9 h10 h11 h12 h.val h.isLt _ t).trans ?_)
  rw [show h.val * 128 + t.val = r.val by omega]

include o1 o2 h0 h1 h2 h3 h5 h7 in
theorem valuesB_apply (r : Fin 1024) : valuesB i x0 x1 x2 x3 x5 x7 (ix2 r q) = entryV a0 a1 a2 a7 a8 a9 n r := by
  have hr : r.val < 1024 := r.isLt
  refine (rows_apply 2048 (rawK i x0 x1 x2 x3 x5 x7) slices_S3072x512_o2048_0_S1024x512 r q (⟨2048 + r.val, by omega⟩ : Fin 3072) rfl).trans
    ((rawK_apply i x0 x1 x2 x3 x5 x7 a0 a1 a2 a3 a7 a8 a9 q n o1 o2 h0 h1 h2 h3 h5 h7 _).trans (proj_congr (fun _ _ => rfl) fun k => ?_))
  show wukv _ k (2048 + r.val) = _
  unfold wukv
  rw [if_neg (by omega)]
  exact at2_congr _ rfl (by omega)

end Row

end Cert.Mla

end
-- ==== Proof.MlaStart.lean ====
/- The arrays the program's grid finds, each as the host operations before it leave it. -/
module

public import proofs.«01_k».proof.Proof.MlaHost

@[expose] public section

noncomputable section

namespace Cert.Mla

open Cert.At Cert.Shapes Cert.Kernel6Ideal Cert.Kernel6Ideal.Gen Cert.Kernel6Ideal.Value Idealize.SL.Sem
open Idealize.ShloMosaic.ValueIdx
open Idealize.ShloMosaic hiding ix0 ix1 ix2 ix3 ix4 ix5
open Idealize.ShloMosaic.TcCoe

variable (m : (ℓ : Loc nD τ sig) → Buf (Elt Ideal) ℓ)

theorem V_main_v23 (c : Dev nD) : V m c main_v23 = (transpose S768x1024 [1, 0] (truncf .bf16 (wcatV (m ((c : Thread nD τ).loc main_arg3) : Vec Ideal S1024x384 .f32) (m ((c : Thread nD τ).loc main_arg7) : Vec Ideal S1024x288 .f32) : FVec Ideal _ .f32) bitsLt_bf16_f32 : FVec Ideal _ .bf16) transposes_S1024x768_S768x1024_1_0 : Vec Ideal S768x1024 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v24 (c : Dev nD) : V m c main_v24 = (transpose S2048x384 [1, 0] (truncf .bf16 (wuqV (m ((c : Thread nD τ).loc main_arg5) : Vec Ideal S384x1536 .f32) : FVec Ideal _ .f32) bitsLt_bf16_f32 : FVec Ideal _ .bf16) transposes_S384x2048_S2048x384_1_0 : Vec Ideal S2048x384 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v25 (c : Dev nD) : V m c main_v25 = (transpose S3072x256 [1, 0] (truncf .bf16 (wukvV (m ((c : Thread nD τ).loc main_arg9) : Vec Ideal S256x2048 .f32) : FVec Ideal _ .f32) bitsLt_bf16_f32 : FVec Ideal _ .bf16) transposes_S256x3072_S3072x256_1_0 : Vec Ideal S3072x256 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v32 (c : Dev nD) : V m c main_v32 = (gainV (m ((c : Thread nD τ).loc main_arg6) : Vec Ideal S96 .f32) : Vec Ideal S128x3 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v39 (c : Dev nD) : V m c main_v39 = (gainV (m ((c : Thread nD τ).loc main_arg10) : Vec Ideal S96 .f32) : Vec Ideal S128x3 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v51 (c : Dev nD) : V m c main_v51 = (transpose S128x4096 [1, 0] (cosV (m ((c : Thread nD τ).loc main_arg11) : Vec Ideal S4096x8 .f32) (m ((c : Thread nD τ).loc main_arg13) : Vec Ideal S4096x8 .f32)) transposes_S4096x128_S128x4096_1_0 : Vec Ideal S128x4096 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v52 (c : Dev nD) : V m c main_v52 = (transpose S128x4096 [1, 0] (saV (m ((c : Thread nD τ).loc main_arg12) : Vec Ideal S4096x8 .f32) (m ((c : Thread nD τ).loc main_arg14) : Vec Ideal S4096x8 .f32)) transposes_S4096x128_S128x4096_1_0 : Vec Ideal S128x4096 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v53 (c : Dev nD) : V m c main_v53 = (transpose S128x4096 [1, 0] (sbV (m ((c : Thread nD τ).loc main_arg12) : Vec Ideal S4096x8 .f32) (m ((c : Thread nD τ).loc main_arg14) : Vec Ideal S4096x8 .f32)) transposes_S4096x128_S128x4096_1_0 : Vec Ideal S128x4096 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v54 (c : Dev nD) : V m c main_v54 = (shapeCast S1x1024 (m ((c : Thread nD τ).loc main_arg2) : Vec Ideal S1024 .f32) shapeCasts_S1024_S1x1024 : Vec Ideal S1x1024 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v55 (c : Dev nD) : V m c main_v55 = (shapeCast S384x1 (m ((c : Thread nD τ).loc main_arg4) : Vec Ideal S384 .f32) shapeCasts_S384_S384x1 : Vec Ideal S384x1 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem V_main_v56 (c : Dev nD) : V m c main_v56 = (shapeCast S256x1 (m ((c : Thread nD τ).loc main_arg8) : Vec Ideal S256 .f32) shapeCasts_S256_S256x1 : Vec Ideal S256x1 .f32) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

end Cert.Mla

end
-- ==== Proof.MlaArray.lean ====
/- The three arrays the kernel of the projections around the attention leaves: every point writes its block of three functions of
   the fifteen arguments, and the points' blocks cover the results. -/
module

public import proofs.«01_k».proof.Proof.MlaBlock
public import proofs.«01_k».proof.Proof.MlaStart

@[expose] public section

noncomputable section

namespace Cert.Mla

open Cert.At Cert.Ops Cert.Shapes Cert.Kernel6Ideal Cert.Kernel6Ideal.Gen Cert.Kernel6Ideal.Value Idealize.SL.Sem Idealize.ShloMosaic.ValueIdx
open Idealize.ShloMosaic hiding ix0 ix1 ix2 ix3 ix4 ix5
open Idealize.ShloMosaic.TcCoe
open scoped BigOperators

theorem off1 : ∀ t : Fin cfg0.N, k0_off1 (grid0.coords t) (0 : Fin 2) = 1 + t.val / 8 ∧ k0_off1 (grid0.coords t) (1 : Fin 2) = 1024 :=
  (by decide +kernel : ∀ t : Fin grid0.N, _)
theorem off2 : ∀ t : Fin cfg0.N, k0_off2 (grid0.coords t) (0 : Fin 2) = 1 + t.val / 8 ∧ k0_off2 (grid0.coords t) (1 : Fin 2) = 0 :=
  (by decide +kernel : ∀ t : Fin grid0.N, _)

/-! ## Where each window's block lies -/

variable (m : (ℓ : Loc nD τ sig) → Buf (Elt Ideal) ℓ) (ρ : Dev nD → PrngReg)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)
theorem idx10 : ∀ t : Fin cfg0.N, win0_10.index t (0 : Fin 2) = 0 ∧ win0_10.index t (1 : Fin 2) = t.val % 8 := (by decide +kernel : ∀ t : Fin grid0.N, _)
theorem idx11 : ∀ t : Fin cfg0.N, win0_11.index t (0 : Fin 2) = 0 ∧ win0_11.index t (1 : Fin 2) = t.val % 8 := (by decide +kernel : ∀ t : Fin grid0.N, _)
theorem idx12 : ∀ t : Fin cfg0.N, win0_12.index t (0 : Fin 2) = 0 ∧ win0_12.index t (1 : Fin 2) = t.val % 8 := (by decide +kernel : ∀ t : Fin grid0.N, _)
theorem idx13 : ∀ t : Fin cfg0.N, win0_13.index t (0 : Fin 2) = 0 ∧ win0_13.index t (1 : Fin 2) = t.val := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx15 : ∀ t : Fin cfg0.N, win0_15.index t (0 : Fin 2) = 0 ∧ win0_15.index t (1 : Fin 2) = t.val := (by decide +kernel : ∀ t : Fin grid0.N, _)

theorem blk0 (c : Dev nD) (t : Fin cfg0.N) (x : S512x1024.Idx) : (iblk m c 0 t : S512x1024.Idx → EReal) x
    = (at2 (m ((c : Thread nD τ).loc main_arg0) : Vec Ideal S16384x1024 .f32)) (t.val * 512 + (x 0).val) ((x 1).val) := by
  obtain ⟨e0, e1⟩ := idx0 t
  show V m c main_arg0 (((cfg0.win 0).blk t).view.emb x) = _
  rw [V_main_arg0]
  refine ((fun i => at2_of (m ((c : Thread nD τ).loc main_arg0) : Vec Ideal S16384x1024 .f32) i _ _ rfl rfl) (((cfg0.win 0).blk t).view.emb x)).trans (congrArg₂ (at2 (m ((c : Thread nD τ).loc main_arg0) : Vec Ideal S16384x1024 .f32)) ?_ ?_)
  · show win0_0.index t (0 : Fin 2) * 512 + 1 * (x 0).val = _; rw [e0]; omega
  · show win0_0.index t (1 : Fin 2) * 1024 + 1 * (x 1).val = _; rw [e1]; omega

theorem blk1 (c : Dev nD) (t : Fin cfg0.N) (x : S8x6144.Idx) : (iblk m c 1 t : S8x6144.Idx → EReal) x
    = (at2 (m ((c : Thread nD τ).loc main_arg1) : Vec Ideal S8x6144 .f32)) ((x 0).val) ((x 1).val) := by
  obtain ⟨e0, e1⟩ := idx1 t
  show V m c main_arg1 (((cfg0.win 1).blk t).view.emb x) = _
  rw [V_main_arg1]
  refine ((fun i => at2_of (m ((c : Thread nD τ).loc main_arg1) : Vec Ideal S8x6144 .f32) i _ _ rfl rfl) (((cfg0.win 1).blk t).view.emb x)).trans (congrArg₂ (at2 (m ((c : Thread nD τ).loc main_arg1) : Vec Ideal S8x6144 .f32)) ?_ ?_)
  · show win0_1.index t (0 : Fin 2) * 8 + 1 * (x 0).val = _; rw [e0]; omega
  · show win0_1.index t (1 : Fin 2) * 6144 + 1 * (x 1).val = _; rw [e1]; omega

theorem blk2 (c : Dev nD) (t : Fin cfg0.N) (x : S1x1024.Idx) : (iblk m c 2 t : S1x1024.Idx → EReal) x
    = at1 (m ((c : Thread nD τ).loc main_arg2) : Vec Ideal S1024 .f32) (x 1).val := by
  obtain ⟨e0, e1⟩ := idx2 t
  show V m c main_v54 (((cfg0.win 2).blk t).view.emb x) = _
  rw [V_main_v54]
  refine (cast_row (m ((c : Thread nD τ).loc main_arg2) : Vec Ideal S1024 .f32) shapeCasts_S1024_S1x1024 (at1 (m ((c : Thread nD τ).loc main_arg2) : Vec Ideal S1024 .f32)) (fun i => at1_of _ i _ rfl) (((cfg0.win 2).blk t).view.emb x)).trans (congrArg (at1 (m ((c : Thread nD τ).loc main_arg2) : Vec Ideal S1024 .f32)) ?_)
  · show win0_2.index t (1 : Fin 2) * 1024 + 1 * (x 1).val = _; rw [e1]; omega

theorem blk3 (c : Dev nD) (t : Fin cfg0.N) (x : S768x1024.Idx) : (iblk m c 3 t : S768x1024.Idx → EReal) x
    = (fun r k => wcat (at2 (m ((c : Thread nD τ).loc main_arg3) : Vec Ideal S1024x384 .f32)) (at2 (m ((c : Thread nD τ).loc main_arg7) : Vec Ideal S1024x288 .f32)) k r) ((x 0).val) ((x 1).val) := by
  obtain ⟨e0, e1⟩ := idx3 t
  show V m c main_v23 (((cfg0.win 3).blk t).view.emb x) = _
  rw [V_main_v23]
  refine (transpose2 _ transposes_S1024x768_S768x1024_1_0 (wcat (at2 (m ((c : Thread nD τ).loc main_arg3) : Vec Ideal S1024x384 .f32)) (at2 (m ((c : Thread nD τ).loc main_arg7) : Vec Ideal S1024x288 .f32))) (wcatV_apply _ _) (((cfg0.win 3).blk t).view.emb x)).trans (congrArg₂ (fun r k => wcat (at2 (m ((c : Thread nD τ).loc main_arg3) : Vec Ideal S1024x384 .f32)) (at2 (m ((c : Thread nD τ).loc main_arg7) : Vec Ideal S1024x288 .f32)) k r) ?_ ?_)
  · show win0_3.index t (0 : Fin 2) * 768 + 1 * (x 0).val = _; rw [e0]; omega
  · show win0_3.index t (1 : Fin 2) * 1024 + 1 * (x 1).val = _; rw [e1]; omega

theorem blk4 (c : Dev nD) (t : Fin cfg0.N) (x : S384x1.Idx) : (iblk m c 4 t : S384x1.Idx → EReal) x
    = at1 (m ((c : Thread nD τ).loc main_arg4) : Vec Ideal S384 .f32) (x 0).val := by
  obtain ⟨e0, e1⟩ := idx4 t
  show V m c main_v55 (((cfg0.win 4).blk t).view.emb x) = _
  rw [V_main_v55]
  refine (cast_col (m ((c : Thread nD τ).loc main_arg4) : Vec Ideal S384 .f32) shapeCasts_S384_S384x1 (at1 (m ((c : Thread nD τ).loc main_arg4) : Vec Ideal S384 .f32)) (fun i => at1_of _ i _ rfl) (((cfg0.win 4).blk t).view.emb x)).trans (congrArg (at1 (m ((c : Thread nD τ).loc main_arg4) : Vec Ideal S384 .f32)) ?_)
  · show win0_4.index t (0 : Fin 2) * 384 + 1 * (x 0).val = _; rw [e0]; omega

theorem blk5 (c : Dev nD) (t : Fin cfg0.N) (x : S256x1.Idx) : (iblk m c 5 t : S256x1.Idx → EReal) x
    = at1 (m ((c : Thread nD τ).loc main_arg8) : Vec Ideal S256 .f32) (x 0).val := by
  obtain ⟨e0, e1⟩ := idx5 t
  show V m c main_v56 (((cfg0.win 5).blk t).view.emb x) = _
  rw [V_main_v56]
  refine (cast_col (m ((c : Thread nD τ).loc main_arg8) : Vec Ideal S256 .f32) shapeCasts_S256_S256x1 (at1 (m ((c : Thread nD τ).loc main_arg8) : Vec Ideal S256 .f32)) (fun i => at1_of _ i _ rfl) (((cfg0.win 5).blk t).view.emb x)).trans (congrArg (at1 (m ((c : Thread nD τ).loc main_arg8) : Vec Ideal S256 .f32)) ?_)
  · show win0_5.index t (0 : Fin 2) * 256 + 1 * (x 0).val = _; rw [e0]; omega

theorem blk6 (c : Dev nD) (t : Fin cfg0.N) (x : S2048x384.Idx) : (iblk m c 6 t : S2048x384.Idx → EReal) x
    = (fun r k => if r % 128 < 96 then at2 (m ((c : Thread nD τ).loc main_arg5) : Vec Ideal S384x1536 .f32) k (r / 128 * 96 + r % 128) else 0) ((x 0).val) ((x 1).val) := by
  obtain ⟨e0, e1⟩ := idx6 t
  show V m c main_v24 (((cfg0.win 6).blk t).view.emb x) = _
  rw [V_main_v24]
  refine (transpose2 _ transposes_S384x2048_S2048x384_1_0 (fun k r => if r % 128 < 96 then at2 (m ((c : Thread nD τ).loc main_arg5) : Vec Ideal S384x1536 .f32) k (r / 128 * 96 + r % 128) else 0) (wuqV_apply _) (((cfg0.win 6).blk t).view.emb x)).trans (congrArg₂ (fun r k => if r % 128 < 96 then at2 (m ((c : Thread nD τ).loc main_arg5) : Vec Ideal S384x1536 .f32) k (r / 128 * 96 + r % 128) else 0) ?_ ?_)
  · show win0_6.index t (0 : Fin 2) * 2048 + 1 * (x 0).val = _; rw [e0]; omega
  · show win0_6.index t (1 : Fin 2) * 384 + 1 * (x 1).val = _; rw [e1]; omega

theorem blk7 (c : Dev nD) (t : Fin cfg0.N) (x : S3072x256.Idx) : (iblk m c 7 t : S3072x256.Idx → EReal) x
    = (fun r k => wukv (at2 (m ((c : Thread nD τ).loc main_arg9) : Vec Ideal S256x2048 .f32)) k r) ((x 0).val) ((x 1).val) := by
  obtain ⟨e0, e1⟩ := idx7 t
  show V m c main_v25 (((cfg0.win 7).blk t).view.emb x) = _
  rw [V_main_v25]
  refine (transpose2 _ transposes_S256x3072_S3072x256_1_0 (wukv (at2 (m ((c : Thread nD τ).loc main_arg9) : Vec Ideal S256x2048 .f32))) (wukvV_apply _) (((cfg0.win 7).blk t).view.emb x)).trans (congrArg₂ (fun r k => wukv (at2 (m ((c : Thread nD τ).loc main_arg9) : Vec Ideal S256x2048 .f32)) k r) ?_ ?_)
  · show win0_7.index t (0 : Fin 2) * 3072 + 1 * (x 0).val = _; rw [e0]; omega
  · show win0_7.index t (1 : Fin 2) * 256 + 1 * (x 1).val = _; rw [e1]; omega

theorem blk8 (c : Dev nD) (t : Fin cfg0.N) (x : S128x3.Idx) : (iblk m c 8 t : S128x3.Idx → EReal) x
    = (gains (at1 (m ((c : Thread nD τ).loc main_arg6) : Vec Ideal S96 .f32))) ((x 0).val) ((x 1).val) := by
  obtain ⟨e0, e1⟩ := idx8 t
  show V m c main_v32 (((cfg0.win 8).blk t).view.emb x) = _
  rw [V_main_v32]
  refine (gainV_apply _ (((cfg0.win 8).blk t).view.emb x)).trans (congrArg₂ (gains (at1 (m ((c : Thread nD τ).loc main_arg6) : Vec Ideal S96 .f32))) ?_ ?_)
  · show win0_8.index t (0 : Fin 2) * 128 + 1 * (x 0).val = _; rw [e0]; omega
  · show win0_8.index t (1 : Fin 2) * 3 + 1 * (x 1).val = _; rw [e1]; omega

theorem blk9 (c : Dev nD) (t : Fin cfg0.N) (x : S128x3.Idx) : (iblk m c 9 t : S128x3.Idx → EReal) x
    = (gains (at1 (m ((c : Thread nD τ).loc main_arg10) : Vec Ideal S96 .f32))) ((x 0).val) ((x 1).val) := by
  obtain ⟨e0, e1⟩ := idx9 t
  show V m c main_v39 (((cfg0.win 9).blk t).view.emb x) = _
  rw [V_main_v39]
  refine (gainV_apply _ (((cfg0.win 9).blk t).view.emb x)).trans (congrArg₂ (gains (at1 (m ((c : Thread nD τ).loc main_arg10) : Vec Ideal S96 .f32))) ?_ ?_)
  · show win0_9.index t (0 : Fin 2) * 128 + 1 * (x 0).val = _; rw [e0]; omega
  · show win0_9.index t (1 : Fin 2) * 3 + 1 * (x 1).val = _; rw [e1]; omega

theorem blk10 (c : Dev nD) (t : Fin cfg0.N) (x : S128x512.Idx) : (iblk m c 10 t : S128x512.Idx → EReal) x
    = (fun r n => cosT (at2 (m ((c : Thread nD τ).loc main_arg11) : Vec Ideal S4096x8 .f32) n) (at2 (m ((c : Thread nD τ).loc main_arg13) : Vec Ideal S4096x8 .f32) n) r) ((x 0).val) (t.val % 8 * 512 + (x 1).val) := by
  obtain ⟨e0, e1⟩ := idx10 t
  show V m c main_v51 (((cfg0.win 10).blk t).view.emb x) = _
  rw [V_main_v51]
  refine (transpose2 _ transposes_S4096x128_S128x4096_1_0 (fun n r => cosT (at2 (m ((c : Thread nD τ).loc main_arg11) : Vec Ideal S4096x8 .f32) n) (at2 (m ((c : Thread nD τ).loc main_arg13) : Vec Ideal S4096x8 .f32) n) r) (cosV_apply _ _) (((cfg0.win 10).blk t).view.emb x)).trans (congrArg₂ (fun r n => cosT (at2 (m ((c : Thread nD τ).loc main_arg11) : Vec Ideal S4096x8 .f32) n) (at2 (m ((c : Thread nD τ).loc main_arg13) : Vec Ideal S4096x8 .f32) n) r) ?_ ?_)
  · show win0_10.index t (0 : Fin 2) * 128 + 1 * (x 0).val = _; rw [e0]; omega
  · show win0_10.index t (1 : Fin 2) * 512 + 1 * (x 1).val = _; rw [e1]; omega

theorem blk11 (c : Dev nD) (t : Fin cfg0.N) (x : S128x512.Idx) : (iblk m c 11 t : S128x512.Idx → EReal) x
    = (fun r n => saT (at2 (m ((c : Thread nD τ).loc main_arg12) : Vec Ideal S4096x8 .f32) n) (at2 (m ((c : Thread nD τ).loc main_arg14) : Vec Ideal S4096x8 .f32) n) r) ((x 0).val) (t.val % 8 * 512 + (x 1).val) := by
  obtain ⟨e0, e1⟩ := idx11 t
  show V m c main_v52 (((cfg0.win 11).blk t).view.emb x) = _
  rw [V_main_v52]
  refine (transpose2 _ transposes_S4096x128_S128x4096_1_0 (fun n r => saT (at2 (m ((c : Thread nD τ).loc main_arg12) : Vec Ideal S4096x8 .f32) n) (at2 (m ((c : Thread nD τ).loc main_arg14) : Vec Ideal S4096x8 .f32) n) r) (saV_apply _ _) (((cfg0.win 11).blk t).view.emb x)).trans (congrArg₂ (fun r n => saT (at2 (m ((c : Thread nD τ).loc main_arg12) : Vec Ideal S4096x8 .f32) n) (at2 (m ((c : Thread nD τ).loc main_arg14) : Vec Ideal S4096x8 .f32) n) r) ?_ ?_)
  · show win0_11.index t (0 : Fin 2) * 128 + 1 * (x 0).val = _; rw [e0]; omega
  · show win0_11.index t (1 : Fin 2) * 512 + 1 * (x 1).val = _; rw [e1]; omega

theorem blk12 (c : Dev nD) (t : Fin cfg0.N) (x : S128x512.Idx) : (iblk m c 12 t : S128x512.Idx → EReal) x
    = (fun r n => sbT (at2 (m ((c : Thread nD τ).loc main_arg12) : Vec Ideal S4096x8 .f32) n) (at2 (m ((c : Thread nD τ).loc main_arg14) : Vec Ideal S4096x8 .f32) n) r) ((x 0).val) (t.val % 8 * 512 + (x 1).val) := by
  obtain ⟨e0, e1⟩ := idx12 t
  show V m c main_v53 (((cfg0.win 12).blk t).view.emb x) = _
  rw [V_main_v53]
  refine (transpose2 _ transposes_S4096x128_S128x4096_1_0 (fun n r => sbT (at2 (m ((c : Thread nD τ).loc main_arg12) : Vec Ideal S4096x8 .f32) n) (at2 (m ((c : Thread nD τ).loc main_arg14) : Vec Ideal S4096x8 .f32) n) r) (sbV_apply _ _) (((cfg0.win 12).blk t).view.emb x)).trans (congrArg₂ (fun r n => sbT (at2 (m ((c : Thread nD τ).loc main_arg12) : Vec Ideal S4096x8 .f32) n) (at2 (m ((c : Thread nD τ).loc main_arg14) : Vec Ideal S4096x8 .f32) n) r) ?_ ?_)
  · show win0_12.index t (0 : Fin 2) * 128 + 1 * (x 0).val = _; rw [e0]; omega
  · show win0_12.index t (1 : Fin 2) * 512 + 1 * (x 1).val = _; rw [e1]; omega

/-! ## One point's blocks are its blocks of the whole -/

/-- The three results of the argument arrays as launched. -/
abbrev GQ (c : Dev nD) : S2048x16384.Idx → EReal :=
  wholeQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14))
abbrev GK (c : Dev nD) : S16384x2048.Idx → EReal :=
  wholeK (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
abbrev GV (c : Dev nD) : S1024x16384.Idx → EReal :=
  wholeV (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))

theorem queriesB_at (c : Dev nD) (t : Fin cfg0.N) (q : Fin 512) (r : Fin 2048) :
    queriesB (grid0.coords t) (iblk m c 0 t) (iblk m c 1 t) (iblk m c 2 t) (iblk m c 3 t) (iblk m c 4 t) (iblk m c 6 t) (iblk m c 8 t) (iblk m c 10 t) (iblk m c 11 t) (iblk m c 12 t) (ix2 r q)
      = entryQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) (m ((c : Thread nD τ).loc main_arg13)) (m ((c : Thread nD τ).loc main_arg14)) (t.val * 512 + q.val) r.val := by
  have hd : t.val / 8 = (t.val * 512 + q.val) / 4096 := by have := q.isLt; omega
  have hn : t.val % 8 * 512 + q.val = (t.val * 512 + q.val) % 4096 := by have := q.isLt; omega
  have o1 := off1 t
  have o2 := off2 t
  rw [hd] at o1 o2
  exact queriesB_apply (grid0.coords t) (iblk m c 0 t) (iblk m c 1 t) (iblk m c 2 t) (iblk m c 3 t) (iblk m c 4 t) (iblk m c 6 t) (iblk m c 8 t) (iblk m c 10 t) (iblk m c 11 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) q (t.val * 512 + q.val) o1 o2
    (fun k => blk0 m c t (ix2 q k)) (blk1 m c t) (fun k => blk2 m c t (ix2 (0 : Fin 1) k)) (blk3 m c t) (blk4 m c t) (blk6 m c t) (blk8 m c t) (fun u => (blk10 m c t (ix2 u q)).trans (by show _ = _; rw [hn]))  (fun u => (blk11 m c t (ix2 u q)).trans (by show _ = _; rw [hn]))  (fun u => (blk12 m c t (ix2 u q)).trans (by show _ = _; rw [hn]))  r

theorem keysB_at (c : Dev nD) (t : Fin cfg0.N) (q : Fin 512) (r : Fin 2048) :
    keysB (grid0.coords t) (iblk m c 0 t) (iblk m c 1 t) (iblk m c 2 t) (iblk m c 3 t) (iblk m c 5 t) (iblk m c 7 t) (iblk m c 9 t) (iblk m c 10 t) (iblk m c 11 t) (iblk m c 12 t) (ix2 q r)
      = entryK (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (t.val * 512 + q.val) r.val := by
  have hd : t.val / 8 = (t.val * 512 + q.val) / 4096 := by have := q.isLt; omega
  have hn : t.val % 8 * 512 + q.val = (t.val * 512 + q.val) % 4096 := by have := q.isLt; omega
  have o1 := off1 t
  have o2 := off2 t
  rw [hd] at o1 o2
  exact keysB_apply (grid0.coords t) (iblk m c 0 t) (iblk m c 1 t) (iblk m c 2 t) (iblk m c 3 t) (iblk m c 5 t) (iblk m c 7 t) (iblk m c 9 t) (iblk m c 10 t) (iblk m c 11 t) (iblk m c 12 t) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) q (t.val * 512 + q.val) o1 o2
    (fun k => blk0 m c t (ix2 q k)) (blk1 m c t) (fun k => blk2 m c t (ix2 (0 : Fin 1) k)) (blk3 m c t) (blk5 m c t) (blk7 m c t) (blk9 m c t) (fun u => (blk10 m c t (ix2 u q)).trans (by show _ = _; rw [hn]))  (fun u => (blk11 m c t (ix2 u q)).trans (by show _ = _; rw [hn]))  (fun u => (blk12 m c t (ix2 u q)).trans (by show _ = _; rw [hn]))  r

theorem valuesB_at (c : Dev nD) (t : Fin cfg0.N) (q : Fin 512) (r : Fin 1024) :
    valuesB (grid0.coords t) (iblk m c 0 t) (iblk m c 1 t) (iblk m c 2 t) (iblk m c 3 t) (iblk m c 5 t) (iblk m c 7 t) (ix2 r q)
      = entryV (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (t.val * 512 + q.val) r.val := by
  have hd : t.val / 8 = (t.val * 512 + q.val) / 4096 := by have := q.isLt; omega
  have hn : t.val % 8 * 512 + q.val = (t.val * 512 + q.val) % 4096 := by have := q.isLt; omega
  have o1 := off1 t
  have o2 := off2 t
  rw [hd] at o1 o2
  exact valuesB_apply (grid0.coords t) (iblk m c 0 t) (iblk m c 1 t) (iblk m c 2 t) (iblk m c 3 t) (iblk m c 5 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) q (t.val * 512 + q.val) o1 o2
    (fun k => blk0 m c t (ix2 q k)) (blk1 m c t) (fun k => blk2 m c t (ix2 (0 : Fin 1) k)) (blk3 m c t) (blk5 m c t) (blk7 m c t) r

theorem emb13_val (t : Fin cfg0.N) (y : S2048x512.Idx) :
    (((cfg0.win 13).blk t).view.emb y (0 : Fin 2)).val = (y 0).val ∧ (((cfg0.win 13).blk t).view.emb y (1 : Fin 2)).val = t.val * 512 + (y 1).val := by
  obtain ⟨e0, e1⟩ := idx13 t
  constructor
  · show win0_13.index t (0 : Fin 2) * 2048 + 1 * (y 0).val = _; rw [e0]; omega
  · show win0_13.index t (1 : Fin 2) * 512 + 1 * (y 1).val = _; rw [e1]; omega

theorem flushed13_eq (c : Dev nD) (t : Fin cfg0.N) :
    (dats m 0 c).flushed 13 t = ((cfg0.win 13).blk t).view.read (Elt Ideal) (GQ m c) := by
  rw [flushed13_A, out13_eq]
  funext y
  show queriesB (grid0.coords t) (iblk m c 0 t) (iblk m c 1 t) (iblk m c 2 t) (iblk m c 3 t) (iblk m c 4 t) (iblk m c 6 t) (iblk m c 8 t) (iblk m c 10 t) (iblk m c 11 t) (iblk m c 12 t) y = GQ m c (((cfg0.win 13).blk t).view.emb y)
  obtain ⟨r, q, rfl⟩ : ∃ (r : Fin 2048) (q : Fin 512), y = ix2 r q := ⟨y 0, y 1, funext fun a => by fin_cases a <;> rfl⟩
  obtain ⟨e0, e1⟩ := emb13_val t (ix2 r q)
  have e0 : (((cfg0.win 13).blk t).view.emb (ix2 r q) (0 : Fin 2)).val = r.val := e0
  have e1 : (((cfg0.win 13).blk t).view.emb (ix2 r q) (1 : Fin 2)).val = t.val * 512 + q.val := e1
  rw [queriesB_at]
  unfold GQ wholeQ
  rw [e0, e1]

theorem covered13 (j : S2048x16384.Idx) : ∃ t : Fin cfg0.N, (cfg0.win 13).flush t = true ∧ j ∈ ((cfg0.win 13).blk t).view.set := by
  have h : (j 1).val < 16384 := (j 1).isLt
  obtain ⟨t, ht⟩ : ∃ t : Fin cfg0.N, t.val = (j 1).val / 512 := ⟨⟨(j 1).val / 512, by show _ < 32; omega⟩, rfl⟩
  refine ⟨t, flush0_13 _, ?_⟩
  obtain ⟨y, hy⟩ : ∃ y : S2048x512.Idx, (y 0).val = (j 0).val ∧ (y 1).val = (j 1).val % 512 :=
    ⟨ix2 (j 0) (⟨(j 1).val % 512, by omega⟩ : Fin 512), rfl, rfl⟩
  obtain ⟨e0, e1⟩ := emb13_val t y
  have key : j = ((cfg0.win 13).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 13).blk t).view.emb_mem_set y

theorem final13 (c : Dev nD) : (dats m 0 c).arrAt 13 cfg0.N = GQ m c :=
  (dats m 0 c).arrAt_eq_of_cover 13 (GQ m c) (fun t _ => flushed13_eq m c t) covered13

theorem emb14_val (t : Fin cfg0.N) (y : S512x2048.Idx) :
    (((cfg0.win 14).blk t).view.emb y (0 : Fin 2)).val = t.val * 512 + (y 0).val ∧ (((cfg0.win 14).blk t).view.emb y (1 : Fin 2)).val = (y 1).val := by
  obtain ⟨e0, e1⟩ := idx14 t
  constructor
  · show win0_14.index t (0 : Fin 2) * 512 + 1 * (y 0).val = _; rw [e0]; omega
  · show win0_14.index t (1 : Fin 2) * 2048 + 1 * (y 1).val = _; rw [e1]; omega

theorem flushed14_eq (c : Dev nD) (t : Fin cfg0.N) :
    (dats m 0 c).flushed 14 t = ((cfg0.win 14).blk t).view.read (Elt Ideal) (GK m c) := by
  rw [flushed14_A, out14_eq]
  funext y
  show keysB (grid0.coords t) (iblk m c 0 t) (iblk m c 1 t) (iblk m c 2 t) (iblk m c 3 t) (iblk m c 5 t) (iblk m c 7 t) (iblk m c 9 t) (iblk m c 10 t) (iblk m c 11 t) (iblk m c 12 t) y = GK m c (((cfg0.win 14).blk t).view.emb y)
  obtain ⟨q, r, rfl⟩ : ∃ (q : Fin 512) (r : Fin 2048), y = ix2 q r := ⟨y 0, y 1, funext fun a => by fin_cases a <;> rfl⟩
  obtain ⟨e0, e1⟩ := emb14_val t (ix2 q r)
  have e0 : (((cfg0.win 14).blk t).view.emb (ix2 q r) (0 : Fin 2)).val = t.val * 512 + q.val := e0
  have e1 : (((cfg0.win 14).blk t).view.emb (ix2 q r) (1 : Fin 2)).val = r.val := e1
  rw [keysB_at]
  unfold GK wholeK
  rw [e0, e1]

theorem covered14 (j : S16384x2048.Idx) : ∃ t : Fin cfg0.N, (cfg0.win 14).flush t = true ∧ j ∈ ((cfg0.win 14).blk t).view.set := by
  have h : (j 0).val < 16384 := (j 0).isLt
  obtain ⟨t, ht⟩ : ∃ t : Fin cfg0.N, t.val = (j 0).val / 512 := ⟨⟨(j 0).val / 512, by show _ < 32; omega⟩, rfl⟩
  refine ⟨t, flush0_14 _, ?_⟩
  obtain ⟨y, hy⟩ : ∃ y : S512x2048.Idx, (y 0).val = (j 0).val % 512 ∧ (y 1).val = (j 1).val :=
    ⟨ix2 (⟨(j 0).val % 512, by omega⟩ : Fin 512) (j 1), rfl, rfl⟩
  obtain ⟨e0, e1⟩ := emb14_val t y
  have key : j = ((cfg0.win 14).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 14).blk t).view.emb_mem_set y

theorem final14 (c : Dev nD) : (dats m 0 c).arrAt 14 cfg0.N = GK m c :=
  (dats m 0 c).arrAt_eq_of_cover 14 (GK m c) (fun t _ => flushed14_eq m c t) covered14

theorem emb15_val (t : Fin cfg0.N) (y : S1024x512.Idx) :
    (((cfg0.win 15).blk t).view.emb y (0 : Fin 2)).val = (y 0).val ∧ (((cfg0.win 15).blk t).view.emb y (1 : Fin 2)).val = t.val * 512 + (y 1).val := by
  obtain ⟨e0, e1⟩ := idx15 t
  constructor
  · show win0_15.index t (0 : Fin 2) * 1024 + 1 * (y 0).val = _; rw [e0]; omega
  · show win0_15.index t (1 : Fin 2) * 512 + 1 * (y 1).val = _; rw [e1]; omega

theorem flushed15_eq (c : Dev nD) (t : Fin cfg0.N) :
    (dats m 0 c).flushed 15 t = ((cfg0.win 15).blk t).view.read (Elt Ideal) (GV m c) := by
  rw [flushed15_A, out15_eq]
  funext y
  show valuesB (grid0.coords t) (iblk m c 0 t) (iblk m c 1 t) (iblk m c 2 t) (iblk m c 3 t) (iblk m c 5 t) (iblk m c 7 t) y = GV m c (((cfg0.win 15).blk t).view.emb y)
  obtain ⟨r, q, rfl⟩ : ∃ (r : Fin 1024) (q : Fin 512), y = ix2 r q := ⟨y 0, y 1, funext fun a => by fin_cases a <;> rfl⟩
  obtain ⟨e0, e1⟩ := emb15_val t (ix2 r q)
  have e0 : (((cfg0.win 15).blk t).view.emb (ix2 r q) (0 : Fin 2)).val = r.val := e0
  have e1 : (((cfg0.win 15).blk t).view.emb (ix2 r q) (1 : Fin 2)).val = t.val * 512 + q.val := e1
  rw [valuesB_at]
  unfold GV wholeV
  rw [e0, e1]

theorem covered15 (j : S1024x16384.Idx) : ∃ t : Fin cfg0.N, (cfg0.win 15).flush t = true ∧ j ∈ ((cfg0.win 15).blk t).view.set := by
  have h : (j 1).val < 16384 := (j 1).isLt
  obtain ⟨t, ht⟩ : ∃ t : Fin cfg0.N, t.val = (j 1).val / 512 := ⟨⟨(j 1).val / 512, by show _ < 32; omega⟩, rfl⟩
  refine ⟨t, flush0_15 _, ?_⟩
  obtain ⟨y, hy⟩ : ∃ y : S1024x512.Idx, (y 0).val = (j 0).val ∧ (y 1).val = (j 1).val % 512 :=
    ⟨ix2 (j 0) (⟨(j 1).val % 512, by omega⟩ : Fin 512), rfl, rfl⟩
  obtain ⟨e0, e1⟩ := emb15_val t y
  have key : j = ((cfg0.win 15).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 15).blk t).view.emb_mem_set y

theorem final15 (c : Dev nD) : (dats m 0 c).arrAt 15 cfg0.N = GV m c :=
  (dats m 0 c).arrAt_eq_of_cover 15 (GV m c) (fun t _ => flushed15_eq m c t) covered15

/-- The kernel's run: the results are the three functions of the arguments, which are left as launched. -/
theorem run : θ_run defs (onTc (τ := τ) (main (F := Ideal))) ⟨m, fun _ => 0, ρ⟩ fun r => ∀ c : Dev nD,
      r.2.mem ((c : Thread nD τ).loc main_v57_0) = GQ m c
      ∧ r.2.mem ((c : Thread nD τ).loc main_v57_1) = GK m c
      ∧ r.2.mem ((c : Thread nD τ).loc main_v57_2) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final13 m c), (h c).2.1.trans (final14 m c), (h c).2.2.1.trans (final15 m c), (h c).2.2.2⟩) (run_blocks m ρ)

end Cert.Mla

end
-- ==== Proof.MlaRef.lean ====
/- The reference of the projections around the attention read at an index: its three results are the same functions of the
   arguments as the kernel's three whole arrays. -/
module

public import proofs.«01_k».proof.Proof.Mla
public import proofs.«01_k».proof.Proof.Shapes
public import proofs.«01_k».proof.Proof.Gen.Reference6Ideal.Read

@[expose] public section

noncomputable section

namespace Cert.MlaRef

open Cert.At Cert.Norm Cert.Mla Cert.Reference6Ideal Cert.Reference6Ideal.Gen Cert.Reference6Ideal.Read Idealize.SL.Sem Idealize.ShloMosaic.ValueIdx
open Idealize.ShloMosaic hiding ix0 ix1 ix2 ix3 ix4 ix5 inv
open Idealize.ShloMosaic.TcCoe
open Cert.Sconv (hid)
open scoped BigOperators

/-! ## Arrays of heads -/

/-- Two arrays joined along the last axis. -/
theorem join4 {A B C V W X : ℕ} (x : (⟨4, ![A, B, C, V]⟩ : Shape).Idx → EReal) (y : (⟨4, ![A, B, C, W]⟩ : Shape).Idx → EReal) (hX : X = V + W)
    (h : Shape.Concatenates [⟨4, ![A, B, C, V]⟩, ⟨4, ![A, B, C, W]⟩] ⟨4, ![A, B, C, X]⟩ (3 : Fin 4))
    (F G : ℕ → ℕ → ℕ → ℕ → EReal) (hx : ∀ i, x i = F (i 0).val (i 1).val (i 2).val (i 3).val) (hy : ∀ i, y i = G (i 0).val (i 1).val (i 2).val (i 3).val)
    (j : (⟨4, ![A, B, C, X]⟩ : Shape).Idx) :
    concatenate ⟨4, ![A, B, C, X]⟩ (3 : Fin 4) [⟨⟨4, ![A, B, C, V]⟩, x⟩, ⟨⟨4, ![A, B, C, W]⟩, y⟩] h j
      = if (j 3).val < V then F (j 0).val (j 1).val (j 2).val (j 3).val else G (j 0).val (j 1).val (j 2).val ((j 3).val - V) := by
  have h3 : (j 3).val < X := (j 3).isLt
  split_ifs with hc
  · refine (concatenate_apply_piece (t := ⟨4, ![A, B, C, X]⟩) (3 : Fin 4) [⟨⟨4, ![A, B, C, V]⟩, x⟩, ⟨⟨4, ![A, B, C, W]⟩, y⟩] h j 0 (by simp)
      ⟨4, ![A, B, C, V]⟩ x rfl rfl 0 rfl (ix4 (j 0) (j 1) (j 2) (⟨(j 3).val, hc⟩ : Fin V)) (fun b hb => ?_) ?_).trans (hx _)
    · match b with
      | ⟨0, _⟩ => rfl
      | ⟨1, _⟩ => rfl
      | ⟨2, _⟩ => rfl
      | ⟨3, _⟩ => exact absurd rfl hb
    · show 0 + (j 3).val = (j 3).val; omega
  · refine (concatenate_apply_piece (t := ⟨4, ![A, B, C, X]⟩) (3 : Fin 4) [⟨⟨4, ![A, B, C, V]⟩, x⟩, ⟨⟨4, ![A, B, C, W]⟩, y⟩] h j 1 (by simp)
      ⟨4, ![A, B, C, W]⟩ y rfl rfl V (by simp) (ix4 (j 0) (j 1) (j 2) (⟨(j 3).val - V, by omega⟩ : Fin W)) (fun b hb => ?_) ?_).trans (hy _)
    · match b with
      | ⟨0, _⟩ => rfl
      | ⟨1, _⟩ => rfl
      | ⟨2, _⟩ => rfl
      | ⟨3, _⟩ => exact absurd rfl hb
    · show V + ((j 3).val - V) = (j 3).val; omega

/-- Zeros after the entries of the last axis. -/
theorem pad4 {A B C W X q : ℕ} (x : (⟨4, ![A, B, C, W]⟩ : Shape).Idx → EReal) {u : Shape} (v : u.Idx → EReal)
    (h : (⟨4, ![A, B, C, W]⟩ : Shape).Pads ![0, 0, 0, 0] ![0, 0, 0, q] ![0, 0, 0, 0] ⟨4, ![A, B, C, X]⟩) (hu : 0 < u.numel) (hv : ∀ i, v i = 0)
    (F : ℕ → ℕ → ℕ → ℕ → EReal) (hx : ∀ i, x i = F (i 0).val (i 1).val (i 2).val (i 3).val) (j : (⟨4, ![A, B, C, X]⟩ : Shape).Idx) :
    pad ⟨4, ![A, B, C, X]⟩ ![0, 0, 0, 0] ![0, 0, 0, q] ![0, 0, 0, 0] x v h hu j
      = if (j 3).val < W then F (j 0).val (j 1).val (j 2).val (j 3).val else 0 := by
  split_ifs with hc
  · refine (pad_apply_of_inside (lo := ![0, 0, 0, 0]) (hi := ![0, 0, 0, q]) (interior := ![0, 0, 0, 0]) (x := x) (v := v) (h := h) (hu := hu) (j := j)
      (k := ix4 (j 0) (j 1) (j 2) (⟨(j 3).val, hc⟩ : Fin W)) fun a => ?_).trans (hx _)
    match a with
    | ⟨0, _⟩ => show (j 0).val = 0 + (j 0).val * 1; omega
    | ⟨1, _⟩ => show (j 1).val = 0 + (j 1).val * 1; omega
    | ⟨2, _⟩ => show (j 2).val = 0 + (j 2).val * 1; omega
    | ⟨3, _⟩ => show (j 3).val = 0 + (j 3).val * 1; omega
  · refine (pad_apply_of_not_inside (lo := ![0, 0, 0, 0]) (hi := ![0, 0, 0, q]) (interior := ![0, 0, 0, 0]) (x := x) (v := v) (h := h) (hu := hu) (j := j)
      (a := (3 : Fin 4)) fun hin => hc ?_).trans (hv _)
    have e2 : ((j 3).val - 0) / (0 + 1) < W := hin.2.2
    omega

/-- The five pieces of a head joined: the entries kept, and the four halves of the turned ones. -/
theorem turn4 (p : S4x4096x16x64.Idx → EReal) (a b a' b' : S4x4096x16x8.Idx → EReal)
    (h1 h1' : Shape.Concatenates [S4x4096x16x8, S4x4096x16x8] S4x4096x16x16 (3 : Fin 4)) (h2 : Shape.Concatenates [S4x4096x16x16, S4x4096x16x16] S4x4096x16x32 (3 : Fin 4))
    (h3 : Shape.Concatenates [S4x4096x16x64, S4x4096x16x32] S4x4096x16x96 (3 : Fin 4)) (f : ℕ → ℕ → ℕ → ℕ → EReal) (c s c' s' : ℕ → ℕ → EReal)
    (hp : ∀ i, p i = f (i 0).val (i 1).val (i 2).val (i 3).val)
    (ha : ∀ i, a i = f (i 0).val (i 1).val (i 2).val (64 + (i 3).val) * c (i 1).val (i 3).val - f (i 0).val (i 1).val (i 2).val (64 + (8 + (i 3).val)) * s (i 1).val (i 3).val)
    (hb : ∀ i, b i = f (i 0).val (i 1).val (i 2).val (64 + (8 + (i 3).val)) * c (i 1).val (i 3).val + f (i 0).val (i 1).val (i 2).val (64 + (i 3).val) * s (i 1).val (i 3).val)
    (ha' : ∀ i, a' i = f (i 0).val (i 1).val (i 2).val (64 + (16 + (i 3).val)) * c' (i 1).val (i 3).val - f (i 0).val (i 1).val (i 2).val (64 + (16 + (8 + (i 3).val))) * s' (i 1).val (i 3).val)
    (hb' : ∀ i, b' i = f (i 0).val (i 1).val (i 2).val (64 + (16 + (8 + (i 3).val))) * c' (i 1).val (i 3).val + f (i 0).val (i 1).val (i 2).val (64 + (16 + (i 3).val)) * s' (i 1).val (i 3).val)
    (i : S4x4096x16x96.Idx) :
    concatenate S4x4096x16x96 (3 : Fin 4) [⟨S4x4096x16x64, p⟩, ⟨S4x4096x16x32, concatenate S4x4096x16x32 (3 : Fin 4)
        [⟨S4x4096x16x16, concatenate S4x4096x16x16 (3 : Fin 4) [⟨S4x4096x16x8, a⟩, ⟨S4x4096x16x8, b⟩] h1⟩,
          ⟨S4x4096x16x16, concatenate S4x4096x16x16 (3 : Fin 4) [⟨S4x4096x16x8, a'⟩, ⟨S4x4096x16x8, b'⟩] h1'⟩] h2⟩] h3 i
      = rope (c (i 1).val) (s (i 1).val) (c' (i 1).val) (s' (i 1).val) (f (i 0).val (i 1).val (i 2).val) (i 3).val := by
  have ht : (i 3).val < 96 := (i 3).isLt
  have first := join4 a b (by norm_num : 16 = 8 + 8) h1 (fun x y z t => f x y z (64 + t) * c y t - f x y z (64 + (8 + t)) * s y t)
    (fun x y z t => f x y z (64 + (8 + t)) * c y t + f x y z (64 + t) * s y t) ha hb
  have second := join4 a' b' (by norm_num : 16 = 8 + 8) h1' (fun x y z t => f x y z (64 + (16 + t)) * c' y t - f x y z (64 + (16 + (8 + t))) * s' y t)
    (fun x y z t => f x y z (64 + (16 + (8 + t))) * c' y t + f x y z (64 + (16 + t)) * s' y t) ha' hb'
  have both := join4 _ _ (by norm_num : 32 = 16 + 16) h2
    (fun x y z t => if t < 8 then (fun t => f x y z (64 + t) * c y t - f x y z (64 + (8 + t)) * s y t) t else (fun t => f x y z (64 + (8 + t)) * c y t + f x y z (64 + t) * s y t) (t - 8))
    (fun x y z t => if t < 8 then (fun t => f x y z (64 + (16 + t)) * c' y t - f x y z (64 + (16 + (8 + t))) * s' y t) t
      else (fun t => f x y z (64 + (16 + (8 + t))) * c' y t + f x y z (64 + (16 + t)) * s' y t) (t - 8)) first second
  refine (join4 p _ (by norm_num : 96 = 64 + 32) h3 f
    (fun x y z t => if t < 16 then (fun t => if t < 8 then (fun t => f x y z (64 + t) * c y t - f x y z (64 + (8 + t)) * s y t) t
        else (fun t => f x y z (64 + (8 + t)) * c y t + f x y z (64 + t) * s y t) (t - 8)) t
      else (fun t => if t < 8 then (fun t => f x y z (64 + (16 + t)) * c' y t - f x y z (64 + (16 + (8 + t))) * s' y t) t
        else (fun t => f x y z (64 + (16 + (8 + t))) * c' y t + f x y z (64 + (16 + t)) * s' y t) (t - 8)) (t - 16)) hp both i).trans ?_
  generalize (i 3).val = t at ht
  simp only [rope]
  by_cases e1 : t < 64
  · rw [if_pos e1, if_pos e1]
  rw [if_neg e1, if_neg e1]
  by_cases e2 : t < 72
  · rw [if_pos e2, if_pos (by omega), if_pos (by omega), show 64 + (t - 64) = t by omega, show 64 + (8 + (t - 64)) = t + 8 by omega]
  rw [if_neg e2]
  by_cases e3 : t < 80
  · rw [if_pos e3, if_pos (by omega), if_neg (by omega), show 64 + (8 + (t - 64 - 8)) = t by omega, show 64 + (t - 64 - 8) = t - 8 by omega,
      show t - 64 - 8 = t - 72 by omega]
  rw [if_neg e3, if_neg (by omega)]
  by_cases e4 : t < 88
  · rw [if_pos e4, if_pos (by omega), show 64 + (16 + (t - 64 - 16)) = t by omega, show 64 + (16 + (8 + (t - 64 - 16))) = t + 8 by omega,
      show t - 64 - 16 = t - 80 by omega]
  · rw [if_neg e4, if_neg (by omega), show 64 + (16 + (8 + (t - 64 - 16 - 8))) = t by omega, show 64 + (16 + (t - 64 - 16 - 8)) = t - 8 by omega,
      show t - 64 - 16 - 8 = t - 88 by omega]

/-- The factor of `n` entries from the sum of their squares. -/
theorem factor (n : ℕ) (d o : EReal) (ho : o = 0) (z : Fin n → EReal) (f : ℕ → EReal) (h : ∀ j : Fin n, z j = f j * f j) :
    Ideal.rsqrt (Ideal.div (o + ∑ j : Fin n, z j) d + eps) = invN n d f := by
  unfold invN
  rw [ho, zero_add, Finset.sum_congr rfl fun j _ => h j]

variable (x0 : Vec Ideal S16384x1024 .f32) (x1 : Vec Ideal S8x6144 .f32) (x2 : Vec Ideal S1024 .f32) (x3 : Vec Ideal S1024x384 .f32)
  (x4 : Vec Ideal S384 .f32) (x5 : Vec Ideal S384x1536 .f32) (x6 : Vec Ideal S96 .f32) (x7 : Vec Ideal S1024x288 .f32) (x8 : Vec Ideal S256 .f32)
  (x9 : Vec Ideal S256x2048 .f32) (x10 : Vec Ideal S96 .f32) (x11 x12 x13 x14 : Vec Ideal S4096x8 .f32)

/-! ## The rows -/

theorem x_apply (i : S4x4096x1024.Idx) : val_main_v8 (F := Ideal) x0 i = at2 x0 ((i 0).val * 4096 + (i 1).val) (i 2).val := by
  rw [val_main_v8_apply]
  have h2 : (i 2).val < 1024 := (i 2).isLt
  refine at2_of x0 _ _ _ ?_ ?_
  · show (((i 0).val * 4096 + (i 1).val) * 1024 + (i 2).val) / 1024 = _; omega
  · show (((i 0).val * 4096 + (i 1).val) * 1024 + (i 2).val) % 1024 = _; omega

theorem md_apply (i : S4x1x6144.Idx) : val_main_v1 (F := Ideal) x1 i = at2 x1 (1 + (i 0).val) (i 2).val := by
  rw [val_main_v1_apply, val_main_v0_apply]
  exact at2_of x1 _ _ _ rfl rfl

/-- The normalisation factor of a row. -/
theorem inv_apply (i : S4x4096x1.Idx) : val_main_v16 (F := Ideal) x0 i = inv (at2 x0 ((i 0).val * 4096 + (i 1).val)) := by
  rw [val_main_v16_apply, val_main_v15_apply, val_main_v13_apply, val_main_v14_apply, val_main_v12_apply, val_main_v11_apply, val_main_v10_apply]
  refine factor 1024 _ _ Ideal.ofBits_zero_f32 _ (at2 x0 ((i 0).val * 4096 + (i 1).val)) fun j => ?_
  rw [val_main_v9_apply, x_apply]
  rfl

/-- The modulated normalised rows. -/
theorem h_apply (i : S4x4096x1024.Idx) :
    val_main_v27 (F := Ideal) x0 x1 x2 i = hid (at2 x0) (at2 x1) (at1 x2) ((i 0).val * 4096 + (i 1).val) (i 2).val := by
  have h1 : (i 1).val < 4096 := (i 1).isLt
  rw [val_main_v27_apply, val_main_v25_apply, val_main_v21_apply, val_main_v18_apply, val_main_v17_apply, val_main_v20_apply, val_main_v19_apply,
    val_main_v24_apply, val_main_v23_apply, val_main_v22_apply, val_main_v26_apply, val_main_v3_apply, val_main_v2_apply, inv_apply, x_apply, md_apply, md_apply,
    at1_of x2 _ (i 2).val rfl]
  unfold hid normed
  rw [← mul_assoc, show ((i 0).val * 4096 + (i 1).val) / 4096 = (i 0).val by omega]
  exact congrArg (fun k => _ + at2 x1 (1 + (i 0).val) k) (Nat.zero_add (i 2).val).symm

/-! ## The queries -/

theorem lowQ_apply (i : S4x4096x384.Idx) :
    val_main_v28 (F := Ideal) x0 x1 x2 x3 i = proj 1024 (hid (at2 x0) (at2 x1) (at1 x2) ((i 0).val * 4096 + (i 1).val)) (at2 x3) (i 2).val := by
  rw [val_main_v28_apply]
  unfold proj
  refine Finset.sum_congr rfl fun k _ => ?_
  rw [h_apply, at2_of x3 _ k.val (i 2).val rfl rfl]

theorem latQ_apply (i : S4x4096x384.Idx) :
    val_main_v41 (F := Ideal) x0 x1 x2 x3 x4 i = latQ x0 x1 x2 x3 x4 ((i 0).val * 4096 + (i 1).val) (i 2).val := by
  rw [val_main_v41_apply, val_main_v38_apply, val_main_v37_apply, val_main_v40_apply, val_main_v39_apply, val_main_v36_apply, val_main_v35_apply,
    val_main_v33_apply, val_main_v34_apply, val_main_v32_apply, val_main_v31_apply, val_main_v30_apply, lowQ_apply, at1_of x4 _ (i 2).val rfl]
  unfold latQ normN
  refine congrArg (fun r => _ * r * _) (factor 384 _ _ Ideal.ofBits_zero_f32 _ _ fun j => ?_)
  rw [val_main_v29_apply, lowQ_apply]
  rfl

theorem headQ_apply (i : S4x4096x16x96.Idx) :
    val_main_v43 (F := Ideal) x0 x1 x2 x3 x4 x5 i = headQ x0 x1 x2 x3 x4 x5 ((i 0).val * 4096 + (i 1).val) (i 2).val (i 3).val := by
  have h1 : (i 1).val < 4096 := (i 1).isLt
  have h2 : (i 2).val < 16 := (i 2).isLt
  have h3 : (i 3).val < 96 := (i 3).isLt
  rw [val_main_v43_apply, val_main_v42_apply]
  unfold headQ proj
  refine Finset.sum_congr rfl fun k _ => ?_
  rw [latQ_apply, at2_of x5 _ k.val ((i 2).val * 96 + (i 3).val) rfl
    (by show ((((i 0).val * 4096 + (i 1).val) * 16 + (i 2).val) * 96 + (i 3).val) % 1536 = _; omega)]
  refine congrArg (fun n => latQ x0 x1 x2 x3 x4 n k.val * _) ?_
  show ((((i 0).val * 4096 + (i 1).val) * 16 + (i 2).val) * 96 + (i 3).val) / 6291456 * 4096
    + ((((i 0).val * 4096 + (i 1).val) * 16 + (i 2).val) * 96 + (i 3).val) / 1536 % 4096 = _
  omega

theorem normQ_apply (i : S4x4096x16x96.Idx) :
    val_main_v56 (F := Ideal) x0 x1 x2 x3 x4 x5 x6 i
      = normN 96 (Ideal.ofBits .f32 0x42C00000#32) (headQ x0 x1 x2 x3 x4 x5 ((i 0).val * 4096 + (i 1).val) (i 2).val) (at1 x6) (i 3).val := by
  rw [val_main_v56_apply, val_main_v53_apply, val_main_v52_apply, val_main_v55_apply, val_main_v54_apply, val_main_v51_apply, val_main_v50_apply,
    val_main_v48_apply, val_main_v49_apply, val_main_v47_apply, val_main_v46_apply, val_main_v45_apply, headQ_apply, at1_of x6 _ (i 3).val rfl]
  unfold normN
  refine congrArg (fun r => _ * r * _) (factor 96 _ _ Ideal.ofBits_zero_f32 _ _ fun j => ?_)
  rw [val_main_v44_apply, headQ_apply]
  rfl

/-! ## The keys and values -/

theorem down_apply (i : S4x4096x288.Idx) : val_main_v57 (F := Ideal) x0 x1 x2 x7 i = down x0 x1 x2 x7 ((i 0).val * 4096 + (i 1).val) (i 2).val := by
  rw [val_main_v57_apply]
  unfold down proj
  refine Finset.sum_congr rfl fun k _ => ?_
  rw [h_apply, at2_of x7 _ k.val (i 2).val rfl rfl]

theorem latK_apply (i : S4x4096x256.Idx) :
    val_main_v72 (F := Ideal) x0 x1 x2 x7 x8 i = latK x0 x1 x2 x7 x8 ((i 0).val * 4096 + (i 1).val) (i 2).val := by
  rw [val_main_v72_apply, val_main_v69_apply, val_main_v68_apply, val_main_v71_apply, val_main_v70_apply, val_main_v67_apply, val_main_v66_apply,
    val_main_v64_apply, val_main_v65_apply, val_main_v63_apply, val_main_v62_apply, val_main_v61_apply, val_main_v58_apply, down_apply, at1_of x8 _ (i 2).val rfl]
  unfold latK normN
  refine congrArg (fun r => _ * r * _) (factor 256 _ _ Ideal.ofBits_zero_f32 _ _ fun j => ?_)
  rw [val_main_v60_apply, val_main_v58_apply, down_apply]
  rfl

theorem wide_apply (i : S4x4096x16x128.Idx) :
    val_main_v74 (F := Ideal) x0 x1 x2 x7 x8 x9 i
      = proj 256 (latK x0 x1 x2 x7 x8 ((i 0).val * 4096 + (i 1).val)) (at2 x9) ((i 2).val * 128 + (i 3).val) := by
  have h1 : (i 1).val < 4096 := (i 1).isLt
  have h2 : (i 2).val < 16 := (i 2).isLt
  have h3 : (i 3).val < 128 := (i 3).isLt
  rw [val_main_v74_apply, val_main_v73_apply]
  unfold proj
  refine Finset.sum_congr rfl fun k _ => ?_
  rw [latK_apply, at2_of x9 _ k.val ((i 2).val * 128 + (i 3).val) rfl
    (by show ((((i 0).val * 4096 + (i 1).val) * 16 + (i 2).val) * 128 + (i 3).val) % 2048 = _; omega)]
  refine congrArg (fun n => latK x0 x1 x2 x7 x8 n k.val * _) ?_
  show ((((i 0).val * 4096 + (i 1).val) * 16 + (i 2).val) * 128 + (i 3).val) / 8388608 * 4096
    + ((((i 0).val * 4096 + (i 1).val) * 16 + (i 2).val) * 128 + (i 3).val) / 2048 % 4096 = _
  omega

theorem headK_apply (i : S4x4096x16x96.Idx) :
    val_main_v79 (F := Ideal) x0 x1 x2 x7 x8 x9 i = headK x0 x1 x2 x7 x8 x9 ((i 0).val * 4096 + (i 1).val) (i 2).val (i 3).val := by
  unfold val_main_v79
  refine (join4 _ _ (by norm_num) _
    (fun a b h t => proj 256 (latK x0 x1 x2 x7 x8 (a * 4096 + b)) (at2 x9) (h * 128 + t)) (fun a b h t => down x0 x1 x2 x7 (a * 4096 + b) (256 + t))
    (fun i => ?_) (fun i => ?_) i).trans ?_
  · rw [val_main_v75_apply, wide_apply]
  · rw [val_main_v78_apply, val_main_v77_apply, val_main_v59_apply, down_apply]
  · rfl

theorem normK_apply (i : S4x4096x16x96.Idx) :
    val_main_v92 (F := Ideal) x0 x1 x2 x7 x8 x9 x10 i
      = normN 96 (Ideal.ofBits .f32 0x42C00000#32) (headK x0 x1 x2 x7 x8 x9 ((i 0).val * 4096 + (i 1).val) (i 2).val) (at1 x10) (i 3).val := by
  rw [val_main_v92_apply, val_main_v89_apply, val_main_v88_apply, val_main_v91_apply, val_main_v90_apply, val_main_v87_apply, val_main_v86_apply,
    val_main_v84_apply, val_main_v85_apply, val_main_v83_apply, val_main_v82_apply, val_main_v81_apply, headK_apply, at1_of x10 _ (i 3).val rfl]
  unfold normN
  refine congrArg (fun r => _ * r * _) (factor 96 _ _ Ideal.ofBits_zero_f32 _ _ fun j => ?_)
  rw [val_main_v80_apply, headK_apply]
  rfl

/-! ## The three results -/

/-- The turned heads. -/
theorem turnedQ_apply (i : S4x4096x16x96.Idx) :
    val_main_v128 (F := Ideal) x0 x1 x2 x3 x4 x5 x6 x11 x12 x13 x14 i
      = turned x11 x12 x13 x14 (headQ x0 x1 x2 x3 x4 x5 ((i 0).val * 4096 + (i 1).val) (i 2).val) x6 ((i 0).val * 4096 + (i 1).val) (i 3).val := by
  have h1 : (i 1).val < 4096 := (i 1).isLt
  unfold turned
  rw [show ((i 0).val * 4096 + (i 1).val) % 4096 = (i 1).val by omega]
  unfold val_main_v128 val_main_v127 val_main_v126 val_main_v111
  refine turn4 _ _ _ _ _ _ _ _ _ (fun b n h t => normN 96 (Ideal.ofBits .f32 0x42C00000#32) (headQ x0 x1 x2 x3 x4 x5 (b * 4096 + n) h) (at1 x6) t) (at2 x11) (at2 x12) (at2 x13) (at2 x14)
    (fun i => ?_) (fun i => ?_) (fun i => ?_) (fun i => ?_) (fun i => ?_) i
  · rw [val_main_v93_apply, normQ_apply]
  · rw [val_main_v105_apply, val_main_v102_apply, val_main_v104_apply, val_main_v97_apply, val_main_v98_apply, val_main_v95_apply, val_main_v95_apply, val_main_v94_apply, val_main_v94_apply, val_main_v101_apply, val_main_v103_apply, val_main_v99_apply, val_main_v100_apply, normQ_apply, normQ_apply,
      at2_of x11 _ (i 1).val (i 3).val rfl rfl, at2_of x12 _ (i 1).val (i 3).val rfl rfl]
    rfl
  · rw [val_main_v110_apply, val_main_v107_apply, val_main_v109_apply, val_main_v98_apply, val_main_v97_apply, val_main_v95_apply, val_main_v95_apply, val_main_v94_apply, val_main_v94_apply, val_main_v106_apply, val_main_v108_apply, val_main_v99_apply, val_main_v100_apply, normQ_apply, normQ_apply,
      at2_of x11 _ (i 1).val (i 3).val rfl rfl, at2_of x12 _ (i 1).val (i 3).val rfl rfl]
    rfl
  · rw [val_main_v120_apply, val_main_v117_apply, val_main_v119_apply, val_main_v112_apply, val_main_v113_apply, val_main_v96_apply, val_main_v96_apply, val_main_v94_apply, val_main_v94_apply, val_main_v116_apply, val_main_v118_apply, val_main_v114_apply, val_main_v115_apply, normQ_apply, normQ_apply,
      at2_of x13 _ (i 1).val (i 3).val rfl rfl, at2_of x14 _ (i 1).val (i 3).val rfl rfl]
    rfl
  · rw [val_main_v125_apply, val_main_v122_apply, val_main_v124_apply, val_main_v113_apply, val_main_v112_apply, val_main_v96_apply, val_main_v96_apply, val_main_v94_apply, val_main_v94_apply, val_main_v121_apply, val_main_v123_apply, val_main_v114_apply, val_main_v115_apply, normQ_apply, normQ_apply,
      at2_of x13 _ (i 1).val (i 3).val rfl rfl, at2_of x14 _ (i 1).val (i 3).val rfl rfl]
    rfl

/-- The turned heads. -/
theorem turnedK_apply (i : S4x4096x16x96.Idx) :
    val_main_v173 (F := Ideal) x0 x1 x2 x7 x8 x9 x10 x11 x12 x13 x14 i
      = turned x11 x12 x13 x14 (headK x0 x1 x2 x7 x8 x9 ((i 0).val * 4096 + (i 1).val) (i 2).val) x10 ((i 0).val * 4096 + (i 1).val) (i 3).val := by
  have h1 : (i 1).val < 4096 := (i 1).isLt
  unfold turned
  rw [show ((i 0).val * 4096 + (i 1).val) % 4096 = (i 1).val by omega]
  unfold val_main_v173 val_main_v172 val_main_v171 val_main_v156
  refine turn4 _ _ _ _ _ _ _ _ _ (fun b n h t => normN 96 (Ideal.ofBits .f32 0x42C00000#32) (headK x0 x1 x2 x7 x8 x9 (b * 4096 + n) h) (at1 x10) t) (at2 x11) (at2 x12) (at2 x13) (at2 x14)
    (fun i => ?_) (fun i => ?_) (fun i => ?_) (fun i => ?_) (fun i => ?_) i
  · rw [val_main_v138_apply, normK_apply]
  · rw [val_main_v150_apply, val_main_v147_apply, val_main_v149_apply, val_main_v142_apply, val_main_v143_apply, val_main_v140_apply, val_main_v140_apply, val_main_v139_apply, val_main_v139_apply, val_main_v146_apply, val_main_v148_apply, val_main_v144_apply, val_main_v145_apply, normK_apply, normK_apply,
      at2_of x11 _ (i 1).val (i 3).val rfl rfl, at2_of x12 _ (i 1).val (i 3).val rfl rfl]
    rfl
  · rw [val_main_v155_apply, val_main_v152_apply, val_main_v154_apply, val_main_v143_apply, val_main_v142_apply, val_main_v140_apply, val_main_v140_apply, val_main_v139_apply, val_main_v139_apply, val_main_v151_apply, val_main_v153_apply, val_main_v144_apply, val_main_v145_apply, normK_apply, normK_apply,
      at2_of x11 _ (i 1).val (i 3).val rfl rfl, at2_of x12 _ (i 1).val (i 3).val rfl rfl]
    rfl
  · rw [val_main_v165_apply, val_main_v162_apply, val_main_v164_apply, val_main_v157_apply, val_main_v158_apply, val_main_v141_apply, val_main_v141_apply, val_main_v139_apply, val_main_v139_apply, val_main_v161_apply, val_main_v163_apply, val_main_v159_apply, val_main_v160_apply, normK_apply, normK_apply,
      at2_of x13 _ (i 1).val (i 3).val rfl rfl, at2_of x14 _ (i 1).val (i 3).val rfl rfl]
    rfl
  · rw [val_main_v170_apply, val_main_v167_apply, val_main_v169_apply, val_main_v158_apply, val_main_v157_apply, val_main_v141_apply, val_main_v141_apply, val_main_v139_apply, val_main_v139_apply, val_main_v166_apply, val_main_v168_apply, val_main_v159_apply, val_main_v160_apply, normK_apply, normK_apply,
      at2_of x13 _ (i 1).val (i 3).val rfl rfl, at2_of x14 _ (i 1).val (i 3).val rfl rfl]
    rfl

/-- The reference's first result is the first whole array that the kernel leaves. -/
theorem q_eq : val_main_v137 (F := Ideal) x0 x1 x2 x3 x4 x5 x6 x11 x12 x13 x14 = wholeQ x0 x1 x2 x3 x4 x5 x6 x11 x12 x13 x14 := by
  funext i
  have h0 : (i 0).val < 2048 := (i 0).isLt
  have h1 : (i 1).val < 16384 := (i 1).isLt
  have hz (k : S_.Idx) : val_main_call0_v0 (F := Ideal) k = (0 : EReal) := by
    show (((0#32 : BitVec 32).toInt : ℝ) : EReal) = 0
    simp
  show val_main_v136 (F := Ideal) x0 x1 x2 x3 x4 x5 x6 x11 x12 x13 x14 i = _
  rw [val_main_v136_apply, val_main_v135_apply]
  unfold val_main_v134
  refine (pad4 _ _ _ _ hz (fun b n h t => Ideal.div (turned x11 x12 x13 x14 (headQ x0 x1 x2 x3 x4 x5 (b * 4096 + n) h) x6 (b * 4096 + n) t) width)
    (fun j => ?_) _).trans ?_
  · rw [val_main_v133_apply, turnedQ_apply, val_main_v132_apply, val_main_v131_apply, val_main_v129_apply, val_main_v130_apply]
    rfl
  · unfold wholeQ entryQ
    have e : ((i 1).val * 2048 + (i 0).val) / 8388608 * 4096 + ((i 1).val * 2048 + (i 0).val) / 2048 % 4096 = (i 1).val := by omega
    have eh : ((i 1).val * 2048 + (i 0).val) / 128 % 16 = (i 0).val / 128 := by omega
    have et : ((i 1).val * 2048 + (i 0).val) % 128 = (i 0).val % 128 := by omega
    show (if ((i 1).val * 2048 + (i 0).val) % 128 < 96 then Ideal.div (turned x11 x12 x13 x14 (headQ x0 x1 x2 x3 x4 x5
        (((i 1).val * 2048 + (i 0).val) / 8388608 * 4096 + ((i 1).val * 2048 + (i 0).val) / 2048 % 4096) (((i 1).val * 2048 + (i 0).val) / 128 % 16)) x6
        (((i 1).val * 2048 + (i 0).val) / 8388608 * 4096 + ((i 1).val * 2048 + (i 0).val) / 2048 % 4096) (((i 1).val * 2048 + (i 0).val) % 128)) width else 0) = _
    rw [e, eh, et]

/-- The reference's second result is the second whole array that the kernel leaves. -/
theorem k_eq : val_main_v176 (F := Ideal) x0 x1 x2 x7 x8 x9 x10 x11 x12 x13 x14 = wholeK x0 x1 x2 x7 x8 x9 x10 x11 x12 x13 x14 := by
  funext i
  have h0 : (i 0).val < 16384 := (i 0).isLt
  have h1 : (i 1).val < 2048 := (i 1).isLt
  have hz (k : S_.Idx) : val_main_call1_v0 (F := Ideal) k = (0 : EReal) := by
    show (((0#32 : BitVec 32).toInt : ℝ) : EReal) = 0
    simp
  show val_main_v175 (F := Ideal) x0 x1 x2 x7 x8 x9 x10 x11 x12 x13 x14 i = _
  rw [val_main_v175_apply]
  unfold val_main_v174
  refine (pad4 _ _ _ _ hz (fun b n h t => turned x11 x12 x13 x14 (headK x0 x1 x2 x7 x8 x9 (b * 4096 + n) h) x10 (b * 4096 + n) t)
    (fun j => turnedK_apply x0 x1 x2 x7 x8 x9 x10 x11 x12 x13 x14 j) _).trans ?_
  unfold wholeK entryK
  have e : ((i 0).val * 2048 + (i 1).val) / 8388608 * 4096 + ((i 0).val * 2048 + (i 1).val) / 2048 % 4096 = (i 0).val := by omega
  have eh : ((i 0).val * 2048 + (i 1).val) / 128 % 16 = (i 1).val / 128 := by omega
  have et : ((i 0).val * 2048 + (i 1).val) % 128 = (i 1).val % 128 := by omega
  show (if ((i 0).val * 2048 + (i 1).val) % 128 < 96 then turned x11 x12 x13 x14 (headK x0 x1 x2 x7 x8 x9
      (((i 0).val * 2048 + (i 1).val) / 8388608 * 4096 + ((i 0).val * 2048 + (i 1).val) / 2048 % 4096) (((i 0).val * 2048 + (i 1).val) / 128 % 16)) x10
      (((i 0).val * 2048 + (i 1).val) / 8388608 * 4096 + ((i 0).val * 2048 + (i 1).val) / 2048 % 4096) (((i 0).val * 2048 + (i 1).val) % 128) else 0) = _
  rw [e, eh, et]

/-- The reference's third result is the third whole array that the kernel leaves. -/
theorem v_eq : val_main_v179 (F := Ideal) x0 x1 x2 x7 x8 x9 = wholeV x0 x1 x2 x7 x8 x9 := by
  funext i
  have h0 : (i 0).val < 1024 := (i 0).isLt
  have h1 : (i 1).val < 16384 := (i 1).isLt
  show val_main_v178 (F := Ideal) x0 x1 x2 x7 x8 x9 i = _
  rw [val_main_v178_apply, val_main_v177_apply, val_main_v76_apply, wide_apply]
  unfold wholeV entryV
  have e : ((i 1).val * 1024 + (i 0).val) / 4194304 * 4096 + ((i 1).val * 1024 + (i 0).val) / 1024 % 4096 = (i 1).val := by omega
  have ec : ((i 1).val * 1024 + (i 0).val) / 64 % 16 * 128 + (64 + ((i 1).val * 1024 + (i 0).val) % 64) = (i 0).val / 64 * 128 + 64 + (i 0).val % 64 := by omega
  exact congrArg₂ (fun n c => proj 256 (latK x0 x1 x2 x7 x8 n) (at2 x9) c) e ec

end Cert.MlaRef

end
-- ==== Proof.Cache.lean ====
/- The expansion of cached latents as functions of its arguments over the extended reals: every head's keys from the latents
   and the shared part, normalised, each head in a slot of 128, and the values. -/
module

public import proofs.«01_k».proof.Proof.Mla
public import proofs.«01_k».proof.Proof.Shapes

@[expose] public section

noncomputable section

namespace Cert.Cache

open Cert.At Cert.Mla Idealize.SL.Sem Idealize.ShloMosaic.ValueIdx
open Idealize.ShloMosaic hiding ix0 ix1 ix2 ix3 ix4 ix5

section Whole

variable (x0 : (⟨3, ![4, 512, 256]⟩ : Shape).Idx → EReal) (x1 : (⟨3, ![4, 512, 32]⟩ : Shape).Idx → EReal)
  (x2 : (⟨2, ![256, 2048]⟩ : Shape).Idx → EReal) (x3 : (⟨1, ![96]⟩ : Shape).Idx → EReal)

/-- The cached latent of row `n`. -/
def latent (n : ℕ) : ℕ → EReal := at3 x0 (n / 512) (n % 512)

/-- The cached part of the keys of row `n` that all heads share. -/
def common (n : ℕ) : ℕ → EReal := at3 x1 (n / 512) (n % 512)

/-- Head `h` of the keys of row `n`. -/
def head (n h t : ℕ) : EReal :=
  if t < 64 then proj 256 (latent x0 n) (at2 x2) (h * 128 + t) else common x1 n (t - 64)

/-- Entry `c` of the keys of row `n`, every head in a slot of 128. -/
def entryK (n c : ℕ) : EReal :=
  if c % 128 < 96 then normN 96 (Ideal.ofBits .f32 0x42C00000#32) (head x0 x1 x2 n (c / 128)) (at1 x3) (c % 128) else 0

/-- Entry `c` of the values of row `n`. -/
def entryV (n c : ℕ) : EReal := proj 256 (latent x0 n) (at2 x2) (c / 64 * 128 + 64 + c % 64)

def wholeK : (⟨2, ![2048, 2048]⟩ : Shape).Idx → EReal := fun i => entryK x0 x1 x2 x3 (i 0).val (i 1).val
def wholeV : (⟨2, ![1024, 2048]⟩ : Shape).Idx → EReal := fun i => entryV x0 x2 (i 1).val (i 0).val

end Whole

/-- The first two axes joined into one. -/
theorem joined {L A W N : ℕ} (x : (⟨3, ![L, A, W]⟩ : Shape).Idx → EReal) (h : (⟨3, ![L, A, W]⟩ : Shape).ShapeCasts ⟨2, ![N, W]⟩) (hN : L * A = N)
    (hA : 0 < A) (F : ℕ → ℕ → ℕ → EReal) (hx : ∀ i, x i = F (i 0).val (i 1).val (i 2).val) (j : (⟨2, ![N, W]⟩ : Shape).Idx) :
    shapeCast ⟨2, ![N, W]⟩ x h j = F ((j 0).val / A) ((j 0).val % A) (j 1).val := by
  have h0 : (j 0).val < N := (j 0).isLt
  refine (shapeCast_apply x h j (ix3 (⟨(j 0).val / A, Nat.div_lt_of_lt_mul (by rw [mul_comm, hN]; exact h0)⟩ : Fin L) (⟨(j 0).val % A, Nat.mod_lt _ hA⟩ : Fin A) (j 1)) ?_).trans (hx _)
  rw [Shape.rowMajor_val_two, Shape.rowMajor_val_three]
  show ((j 0).val / A * A + (j 0).val % A) * W + (j 1).val = (j 0).val * W + (j 1).val
  rw [Nat.div_add_mod']

end Cert.Cache

end
-- ==== Proof.CacheBlock.lean ====
/- A point's two blocks as functions of its operands, read at one of its rows: the row's keys and values. -/
module

public import proofs.«01_k».proof.Proof.Cache
public import proofs.«01_k».proof.Proof.MlaBlock
public import proofs.«01_k».proof.Proof.Gen.Kernel7Ideal.Value

@[expose] public section

noncomputable section

namespace Cert.Cache

open Cert.At Cert.Ops Cert.Shapes Cert.Kernel7Ideal Cert.Kernel7Ideal.Gen Idealize.SL.Sem Idealize.ShloMosaic.ValueIdx
open Cert.Mla (proj normN invN gain eps slot_inv invN_congr proj_congr proj_zero whole_apply wukv heads)
open Idealize.ShloMosaic hiding ix0 ix1 ix2 ix3 ix4 ix5
open Idealize.ShloMosaic.TcCoe
open scoped BigOperators

/-! ## A head in its slot -/

section Slot

variable {M : ℕ} (hr : Shape.Reduces ⟨2, ![M, 128]⟩ [1] ⟨1, ![M]⟩) (hc : (⟨1, ![M]⟩ : Shape).ShapeCasts ⟨2, ![M, 1]⟩)
  (hb : (⟨2, ![M, 1]⟩ : Shape).Broadcasts ⟨2, ![M, 128]⟩) (hb' : (⟨2, ![1, 128]⟩ : Shape).Broadcasts ⟨2, ![M, 128]⟩)
  (x : FVec Ideal ⟨2, ![M, 128]⟩ .f32) (g : FVec Ideal ⟨2, ![1, 128]⟩ .f32)

/-- The rows of a slot normalised over their 96 channels and weighted by the gains. -/
def slotV : FVec Ideal ⟨2, ![M, 128]⟩ .f32 :=
  mulf (mulf x (broadcastTo ⟨2, ![M, 128]⟩ (rsqrt (addf (mulf (shapeCast ⟨2, ![M, 1]⟩
    (multiReduction .add [1] ⟨1, ![M]⟩ (mulf x x) 0x00000000#32 hr (.inl rfl) rfl) hc)
    (broadcast ⟨2, ![M, 1]⟩ (Named.named Cert.Kernel7Ideal.κ "per_channel" 0x3C2AAAAB#32))) (broadcast ⟨2, ![M, 1]⟩ (Scalar.ofBits .f32 0x358637BD#32)))) hb))
    (broadcastTo ⟨2, ![M, 128]⟩ g hb')

theorem slotV_apply (q : Fin M) (f w : ℕ → EReal) (hx : ∀ t : Fin 128, x (ix2 q t) = if t.val < 96 then f t else 0)
    (hg : ∀ t : Fin 128, g (ix2 (0 : Fin 1) t) = gain w t) (t : Fin 128) :
    slotV hr hc hb hb' x g (ix2 q t) = if t.val < 96 then normN 96 (Ideal.ofBits .f32 0x42C00000#32) f w t else 0 := by
  have e : (Named.named Cert.Kernel7Ideal.κ "per_channel" 0x3C2AAAAB#32 : Ideal .f32) = ((1 / 96 : ℝ) : EReal) :=
    IdealRules.named_const.ideal_named_scalar _ _ _ _ rfl
  have hi : Ideal.rsqrt (shapeCast ⟨2, ![M, 1]⟩ (multiReduction .add [1] ⟨1, ![M]⟩ (mulf x x) 0x00000000#32 hr (.inl rfl) rfl) hc (ix2 q (0 : Fin 1))
      * (Named.named Cert.Kernel7Ideal.κ "per_channel" 0x3C2AAAAB#32 : Ideal .f32) + eps) = invN 96 (Ideal.ofBits .f32 0x42C00000#32) f := by
    rw [e]
    refine (congrArg (fun s => Ideal.rsqrt (s * ((1 / 96 : ℝ) : EReal) + eps)) ((rowsum_apply (mulf x x) hr hc (.inl rfl) rfl q).trans ?_)).trans
      ((slot_inv (fun t => if t < 96 then f t else 0) fun u hu _ => if_neg (by omega)).trans (invN_congr _ fun u hu => if_pos hu))
    exact Finset.sum_congr rfl fun k _ => by show x (ix2 q k) * x (ix2 q k) = _; rw [hx k]
  unfold slotV
  show x (ix2 q t) * broadcastTo ⟨2, ![M, 128]⟩ _ hb (ix2 q t) * broadcastTo ⟨2, ![M, 128]⟩ _ hb' (ix2 q t) = _
  rw [spread_apply, broadcastTo_1b_ab_apply, hx t, hg t]
  refine (congrArg (fun r => _ * r * _) hi).trans ?_
  unfold normN gain
  split_ifs
  · rfl
  · rw [mul_zero]

end Slot

/-! ## The blocks -/

section Body

variable (x0 : Vec Ideal S512x256 .f32) (x1 : Vec Ideal S512x128 .f32) (x2 : Vec Ideal S256x3072 .bf16) (x3 : Vec Ideal S1x128 .f32)

/-- The keys' slots before their norm, without the shared part, and the values. -/
def rawB : FVec Ideal S512x3072 .f32 :=
  FloatOps.matmul (DotDims.plain 512 256 3072) none
    (truncf .bf16 (shapeCast S512x256 (View.ld x0 (Rect.unit (s := S512x256) ![0, 0] S512x256.size inb_S512x256_S512x256_0_0)) shapeCasts_S512x256_S512x256 : FVec Ideal S512x256 .f32) bitsLt_bf16_f32)
    (shapeCast S256x3072 (View.ld x2 (Rect.unit (s := S256x3072) ![0, 0] S256x3072.size inb_S256x3072_S256x3072_0_0)) shapeCasts_S256x3072_S256x3072 : FVec Ideal S256x3072 .bf16)
    (constant S512x3072 .f32 0x00000000#32)

/-- The part all heads of the keys share, in a slot. -/
def sharedB : FVec Ideal S512x128 .f32 :=
  shapeCast S512x128 (View.ld x1 (Rect.unit (s := S512x128) ![0, 0] S512x128.size inb_S512x128_S512x128_0_0)) shapeCasts_S512x128_S512x128

/-- The gains in a slot. -/
def gainB : FVec Ideal S1x128 .f32 :=
  shapeCast S1x128 (View.ld x3 (Rect.unit (s := S1x128) ![0, 0] S1x128.size inb_S1x128_S1x128_0_0)) shapeCasts_S1x128_S1x128

/-- A slot from its column `o` of the keys. -/
def headB (o : ℕ) (hsl : S512x3072.Slices ![0, o] S512x128) : FVec Ideal S512x128 .f32 :=
  slotV reduces_S512x128_S512 shapeCasts_S512_S512x1 broadcasts_S512x1_S512x128 broadcasts_S1x128_S512x128
    (addf (extractStridedSlice S512x128 ![0, o] (rawB x0 x2) hsl) (sharedB x1)) (gainB x3)

theorem sliceB (h : Fin 16) : S512x3072.Slices ![0, h.val * 128] S512x128 := ⟨rfl, fun a => match a with
  | ⟨0, _⟩ => by show 0 + 512 ≤ 512; omega
  | ⟨1, _⟩ => by have := h.isLt; show h.val * 128 + 128 ≤ 3072; omega⟩

theorem inbB (h : Fin 16) : ∀ a, (![0, h.val * 128] : Fin 2 → ℕ) a + S512x128.size a ≤ S512x2048.size a := fun a => match a with
  | ⟨0, _⟩ => by show 0 + 512 ≤ 512; omega
  | ⟨1, _⟩ => by have := h.isLt; show h.val * 128 + 128 ≤ 2048; omega

def pieceB (h : Fin 16) : View.Piece (Elt Ideal) S512x2048 .bf16 :=
  ⟨Rect.unit ![0, h.val * 128] S512x128.size (inbB h), (truncf .bf16 (headB x0 x1 x2 x3 (h.val * 128) (sliceB h)) bitsLt_bf16_f32 : FVec Ideal S512x128 .bf16)⟩

def keysB : FVec Ideal S512x2048 .bf16 := View.canon (heads.map (pieceB x0 x1 x2 x3))

def valuesB : FVec Ideal S1024x512 .bf16 :=
  truncf .bf16 (transpose S1024x512 [1, 0] (extractStridedSlice S512x1024 ![0, 2048] (rawB x0 x2) slices_S512x3072_o0_2048_S512x1024 : FVec Ideal S512x1024 .f32)
    transposes_S512x1024_p1_0_S1024x512) bitsLt_bf16_f32

/-- What a point leaves in the first result's block. -/
theorem out4_eq : out0_4 x0 x1 x2 x3 = keysB x0 x1 x2 x3 := rfl

/-- What a point leaves in the second result's block. -/
theorem out5_eq : out0_5 x0 x1 x2 x3 = valuesB x0 x2 := View.canon_unit_zero Cert.Sconv.hz _ _

end Body

/-! ## One row -/

section Row

variable (x0 : Vec Ideal S512x256 .f32) (x1 : Vec Ideal S512x128 .f32) (x2 : Vec Ideal S256x3072 .bf16) (x3 : Vec Ideal S1x128 .f32)
  (a0 : Vec Ideal S4x512x256 .f32) (a1 : Vec Ideal S4x512x32 .f32) (a2 : Vec Ideal S256x2048 .f32) (a3 : Vec Ideal S96 .f32)
  (q : Fin 512) (n : ℕ)
  (h0 : ∀ k : Fin 256, x0 (ix2 q k) = latent a0 n k) (h1 : ∀ t : Fin 128, x1 (ix2 q t) = if 64 ≤ t.val ∧ t.val < 64 + 32 then common a1 n (t.val - 64) else 0)
  (h2 : ∀ j, x2 j = wukv (at2 a2) (j 0).val (j 1).val) (h3 : ∀ t : Fin 128, x3 (ix2 (0 : Fin 1) t) = gain (at1 a3) t)

include h0 h2 in
theorem rawB_apply (r : Fin 3072) : rawB x0 x2 (ix2 q r) = proj 256 (latent a0 n) (wukv (at2 a2)) r := by
  refine (mm_apply _ _ q r).trans (Finset.sum_congr rfl fun k _ => congrArg₂ (· * ·) ?_ ?_)
  · exact (cast_self_apply _ _ _).trans ((whole_apply x0 _ _).trans (h0 k))
  · exact (cast_self_apply _ _ _).trans ((whole_apply x2 _ _).trans (h2 _))

include h0 h1 h2 h3 in
theorem headB_apply (h : ℕ) (hh : h < 16) (hsl : S512x3072.Slices ![0, h * 128] S512x128) (t : Fin 128) :
    headB x0 x1 x2 x3 (h * 128) hsl (ix2 q t) = entryK a0 a1 a2 a3 n (h * 128 + t.val) := by
  have ht : t.val < 128 := t.isLt
  have hx (t : Fin 128) : addf (extractStridedSlice S512x128 ![0, h * 128] (rawB x0 x2) hsl) (sharedB x1) (ix2 q t)
      = if t.val < 96 then head a0 a1 a2 n h t else 0 := by
    have ht : t.val < 128 := t.isLt
    have e : extractStridedSlice S512x128 ![0, h * 128] (rawB x0 x2) hsl (ix2 q t) = proj 256 (latent a0 n) (wukv (at2 a2)) (h * 128 + t.val) :=
      (extractStridedSlice_apply _ _ hsl (ix2 q t) (ix2 q (⟨h * 128 + t.val, by omega⟩ : Fin 3072)) fun a => match a with
        | ⟨0, _⟩ => (Nat.zero_add _).symm
        | ⟨1, _⟩ => rfl).trans (rawB_apply x0 x2 a0 a2 q n h0 h2 _)
    refine (congrArg₂ (· + ·) e ((cast_self_apply _ _ _).trans ((whole_apply x1 _ _).trans (h1 t)))).trans ?_
    unfold head
    by_cases c1 : t.val < 64
    · rw [if_neg (by omega), add_zero, if_pos (by omega), if_pos c1]
      refine proj_congr (fun _ _ => rfl) fun k => ?_
      unfold wukv
      rw [if_pos (by omega), if_pos (by omega)]
    · rw [proj_zero (fun k => by unfold wukv; rw [if_pos (by omega), if_neg (by omega)]), zero_add]
      by_cases c2 : t.val < 96
      · rw [if_pos ⟨by omega, c2⟩, if_pos c2, if_neg c1]
      · rw [if_neg (by omega), if_neg c2]
  unfold headB
  refine (slotV_apply _ _ _ _ _ _ q (head a0 a1 a2 n h) (at1 a3) hx (fun t => (cast_self_apply _ _ _).trans ((whole_apply x3 _ _).trans (h3 t))) t).trans ?_
  unfold entryK
  rw [show (h * 128 + t.val) / 128 = h by omega, show (h * 128 + t.val) % 128 = t.val by omega]

include h0 h1 h2 h3 in
theorem keysB_apply (r : Fin 2048) : keysB x0 x1 x2 x3 (ix2 q r) = entryK a0 a1 a2 a3 n r := by
  refine View.canon_eq_of_allAt _ _ _ (View.cover_of_tiledL (heads.map (pieceB x0 x1 x2 x3)) S512x128.size (by sl_kernel_rfl) (ix2 q r)) fun p hp x hx => ?_
  obtain ⟨h, -, rfl⟩ := List.mem_map.1 hp
  obtain ⟨u, t, rfl⟩ : ∃ (u : Fin 512) (t : Fin 128), x = ix2 u t := ⟨x 0, x 1, funext fun a => by fin_cases a <;> rfl⟩
  have e0 : 0 + 1 * u.val = q.val := congrArg (fun y : S512x2048.Idx => (y 0).val) hx
  have e1 : h.val * 128 + 1 * t.val = r.val := congrArg (fun y : S512x2048.Idx => (y 1).val) hx
  obtain rfl : u = q := Fin.ext (by omega)
  refine (headB_apply x0 x1 x2 x3 a0 a1 a2 a3 u n h0 h1 h2 h3 h.val h.isLt _ t).trans ?_
  rw [show h.val * 128 + t.val = r.val by omega]

include h0 h2 in
theorem valuesB_apply (r : Fin 1024) : valuesB x0 x2 (ix2 r q) = entryV a0 a2 n r := by
  have hr : r.val < 1024 := r.isLt
  refine (transpose_apply [1, 0] (extractStridedSlice S512x1024 ![0, 2048] (rawB x0 x2) slices_S512x3072_o0_2048_S512x1024) transposes_S512x1024_p1_0_S1024x512
    (ix2 r q) (ix2 q r) fun b => match b with
    | ⟨0, _⟩ => rfl
    | ⟨1, _⟩ => rfl).trans ((extractStridedSlice_apply _ _ slices_S512x3072_o0_2048_S512x1024 (ix2 q r) (ix2 q (⟨2048 + r.val, by omega⟩ : Fin 3072)) fun a => match a with
    | ⟨0, _⟩ => (Nat.zero_add _).symm
    | ⟨1, _⟩ => rfl).trans ((rawB_apply x0 x2 a0 a2 q n h0 h2 _).trans (proj_congr (fun _ _ => rfl) fun k => ?_)))
  show wukv _ k (2048 + r.val) = _
  unfold wukv
  rw [if_neg (by omega)]
  exact at2_congr _ rfl (by omega)

end Row

end Cert.Cache

end
-- ==== Proof.CacheArray.lean ====
/- The expansion of the cached latents: the arrays its grid finds, and the two whole arrays its run leaves as functions of the
   arguments. -/
module

public import proofs.«01_k».proof.Proof.CacheBlock
public import proofs.«01_k».proof.Proof.MlaHost

@[expose] public section

noncomputable section

namespace Cert.Cache

open Cert.At Cert.Shapes Cert.Kernel7Ideal Cert.Kernel7Ideal.Gen Cert.Kernel7Ideal.Value Idealize.SL.Sem
open Cert.Mla (wukv wukvV wukvV_apply padV padV_apply gain)
open Idealize.ShloMosaic.ValueIdx
open Idealize.ShloMosaic hiding ix0 ix1 ix2 ix3 ix4 ix5
open Idealize.ShloMosaic.TcCoe

variable (m : (ℓ : Loc nD τ sig) → Buf (Elt Ideal) ℓ) (ρ : Dev nD → PrngReg)

/-! ## The arrays the grid finds -/

/-- The latents, a row per position. -/
theorem V_main_v10 (c : Dev nD) : V m c main_v10 = (shapeCast S2048x256 (m ((c : Thread nD τ).loc main_arg0) : Vec Ideal S4x512x256 .f32) shapeCasts_S4x512x256_S2048x256 : Vec Ideal S2048x256 .f32) := by
  unfold V
  simp only [hostOps0, hostOps0_1, hostOps0_2, hostOps0_3, hostOps0_4, hostOps0_5, hostOps0_6, List.flatten_cons, List.flatten_nil, List.append_nil, List.cons_append, List.nil_append]
  after_results_simp
  rfl

/-- The shared part of the keys in its slot, a row per position. -/
theorem V_main_v12 (c : Dev nD) : V m c main_v12 = (pad S2048x128 ![0, 64] ![0, 32] ![0, 0] (shapeCast S2048x32 (m ((c : Thread nD τ).loc main_arg1) : Vec Ideal S4x512x32 .f32) shapeCasts_S4x512x32_S2048x32 : Vec Ideal S2048x32 .f32) padV pads_S2048x32_S2048x128_000_64320 h_S_ : Vec Ideal S2048x128 .f32) := by
  unfold V
  simp only [hostOps0, hostOps0_1, hostOps0_2, hostOps0_3, hostOps0_4, hostOps0_5, hostOps0_6, List.flatten_cons, List.flatten_nil, List.append_nil, List.cons_append, List.nil_append]
  after_results_simp
  rfl

/-- The weights: the keys' columns in slots, then the values'. -/
theorem V_main_v9 (c : Dev nD) : V m c main_v9 = (truncf .bf16 (wukvV (m ((c : Thread nD τ).loc main_arg2) : Vec Ideal S256x2048 .f32) : FVec Ideal S256x3072 .f32) bitsLt_bf16_f32 : FVec Ideal S256x3072 .bf16) := by
  unfold V
  simp only [hostOps0, hostOps0_1, hostOps0_2, hostOps0_3, hostOps0_4, hostOps0_5, hostOps0_6, List.flatten_cons, List.flatten_nil, List.append_nil, List.cons_append, List.nil_append]
  after_results_simp
  rfl

/-- The gains in a slot. -/
theorem V_main_v14 (c : Dev nD) : V m c main_v14 = (shapeCast S1x128 (pad S128 ![0] ![32] ![0] (m ((c : Thread nD τ).loc main_arg3) : Vec Ideal S96 .f32) padV pads_S96_S128_0320 h_S_ : Vec Ideal S128 .f32) shapeCasts_S128_S1x128 : Vec Ideal S1x128 .f32) := by
  unfold V
  simp only [hostOps0, hostOps0_1, hostOps0_2, hostOps0_3, hostOps0_4, hostOps0_5, hostOps0_6, List.flatten_cons, List.flatten_nil, List.append_nil, List.cons_append, List.nil_append]
  after_results_simp
  rfl

/-! ## Where each window's block lies -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)

theorem blk0 (c : Dev nD) (t : Fin cfg0.N) (x : S512x256.Idx) : (iblk m c 0 t : S512x256.Idx → EReal) x
    = latent (m ((c : Thread nD τ).loc main_arg0)) (t.val * 512 + (x 0).val) (x 1).val := by
  obtain ⟨e0, e1⟩ := idx0 t
  show V m c main_v10 (((cfg0.win 0).blk t).view.emb x) = _
  rw [V_main_v10]
  refine (joined (m ((c : Thread nD τ).loc main_arg0) : Vec Ideal S4x512x256 .f32) shapeCasts_S4x512x256_S2048x256 (by norm_num) (by norm_num)
    (at3 (m ((c : Thread nD τ).loc main_arg0) : Vec Ideal S4x512x256 .f32)) (fun i => at3_of _ i _ _ _ rfl rfl rfl) (((cfg0.win 0).blk t).view.emb x)).trans
    (congrArg₂ (latent (m ((c : Thread nD τ).loc main_arg0))) ?_ ?_)
  · show win0_0.index t (0 : Fin 2) * 512 + 1 * (x 0).val = _; rw [e0]; omega
  · show win0_0.index t (1 : Fin 2) * 256 + 1 * (x 1).val = _; rw [e1]; omega

theorem blk1 (c : Dev nD) (t : Fin cfg0.N) (x : S512x128.Idx) : (iblk m c 1 t : S512x128.Idx → EReal) x
    = (fun n k => if 64 ≤ k ∧ k < 64 + 32 then common (m ((c : Thread nD τ).loc main_arg1)) n (k - 64) else 0) (t.val * 512 + (x 0).val) (x 1).val := by
  obtain ⟨e0, e1⟩ := idx1 t
  show V m c main_v12 (((cfg0.win 1).blk t).view.emb x) = _
  rw [V_main_v12]
  refine (pad2 _ _ _ _ padV_apply (common (m ((c : Thread nD τ).loc main_arg1)))
    (joined (m ((c : Thread nD τ).loc main_arg1) : Vec Ideal S4x512x32 .f32) shapeCasts_S4x512x32_S2048x32 (by norm_num) (by norm_num)
      (at3 (m ((c : Thread nD τ).loc main_arg1) : Vec Ideal S4x512x32 .f32)) (fun i => at3_of _ i _ _ _ rfl rfl rfl)) (((cfg0.win 1).blk t).view.emb x)).trans
    (congrArg₂ (fun n k => if 64 ≤ k ∧ k < 64 + 32 then common (m ((c : Thread nD τ).loc main_arg1)) n (k - 64) else 0) ?_ ?_)
  · show win0_1.index t (0 : Fin 2) * 512 + 1 * (x 0).val = _; rw [e0]; omega
  · show win0_1.index t (1 : Fin 2) * 128 + 1 * (x 1).val = _; rw [e1]; omega

theorem blk2 (c : Dev nD) (t : Fin cfg0.N) (x : S256x3072.Idx) : (iblk m c 2 t : S256x3072.Idx → EReal) x
    = wukv (at2 (m ((c : Thread nD τ).loc main_arg2) : Vec Ideal S256x2048 .f32)) (x 0).val (x 1).val := by
  obtain ⟨e0, e1⟩ := idx2 t
  show V m c main_v9 (((cfg0.win 2).blk t).view.emb x) = _
  rw [V_main_v9]
  refine (wukvV_apply (m ((c : Thread nD τ).loc main_arg2) : Vec Ideal S256x2048 .f32) (((cfg0.win 2).blk t).view.emb x)).trans
    (congrArg₂ (wukv (at2 (m ((c : Thread nD τ).loc main_arg2) : Vec Ideal S256x2048 .f32))) ?_ ?_)
  · show win0_2.index t (0 : Fin 2) * 256 + 1 * (x 0).val = _; rw [e0]; omega
  · show win0_2.index t (1 : Fin 2) * 3072 + 1 * (x 1).val = _; rw [e1]; omega

theorem blk3 (c : Dev nD) (t : Fin cfg0.N) (x : S1x128.Idx) : (iblk m c 3 t : S1x128.Idx → EReal) x
    = gain (at1 (m ((c : Thread nD τ).loc main_arg3) : Vec Ideal S96 .f32)) (x 1).val := by
  obtain ⟨e0, e1⟩ := idx3 t
  show V m c main_v14 (((cfg0.win 3).blk t).view.emb x) = _
  rw [V_main_v14]
  refine (cast_row _ shapeCasts_S128_S1x128 (gain (at1 (m ((c : Thread nD τ).loc main_arg3) : Vec Ideal S96 .f32)))
    (pad1 _ _ _ _ padV_apply (at1 (m ((c : Thread nD τ).loc main_arg3) : Vec Ideal S96 .f32)) fun i => at1_of _ _ _ rfl) (((cfg0.win 3).blk t).view.emb x)).trans
    (congrArg (gain (at1 (m ((c : Thread nD τ).loc main_arg3) : Vec Ideal S96 .f32))) ?_)
  · show win0_3.index t (1 : Fin 2) * 128 + 1 * (x 1).val = _; rw [e1]; omega

/-! ## One point's blocks are its blocks of the whole -/

/-- The two results of the argument arrays as launched. -/
abbrev GK (c : Dev nD) : S2048x2048.Idx → EReal :=
  wholeK (m ((c : Thread nD τ).loc main_arg0)) (m ((c : Thread nD τ).loc main_arg1)) (m ((c : Thread nD τ).loc main_arg2)) (m ((c : Thread nD τ).loc main_arg3))
abbrev GV (c : Dev nD) : S1024x2048.Idx → EReal := wholeV (m ((c : Thread nD τ).loc main_arg0)) (m ((c : Thread nD τ).loc main_arg2))

theorem keysB_at (c : Dev nD) (t : Fin cfg0.N) (q : Fin 512) (r : Fin 2048) :
    keysB (iblk m c 0 t) (iblk m c 1 t) (iblk m c 2 t) (iblk m c 3 t) (ix2 q r)
      = entryK (m ((c : Thread nD τ).loc main_arg0)) (m ((c : Thread nD τ).loc main_arg1)) (m ((c : Thread nD τ).loc main_arg2)) (m ((c : Thread nD τ).loc main_arg3)) (t.val * 512 + q.val) r.val :=
  keysB_apply (iblk m c 0 t) (iblk m c 1 t) (iblk m c 2 t) (iblk m c 3 t) (m ((c : Thread nD τ).loc main_arg0)) (m ((c : Thread nD τ).loc main_arg1))
    (m ((c : Thread nD τ).loc main_arg2)) (m ((c : Thread nD τ).loc main_arg3)) q (t.val * 512 + q.val)
    (fun k => blk0 m c t (ix2 q k)) (fun k => blk1 m c t (ix2 q k)) (blk2 m c t) (fun k => blk3 m c t (ix2 (0 : Fin 1) k)) r

theorem valuesB_at (c : Dev nD) (t : Fin cfg0.N) (q : Fin 512) (r : Fin 1024) :
    valuesB (iblk m c 0 t) (iblk m c 2 t) (ix2 r q)
      = entryV (m ((c : Thread nD τ).loc main_arg0)) (m ((c : Thread nD τ).loc main_arg2)) (t.val * 512 + q.val) r.val :=
  valuesB_apply (iblk m c 0 t) (iblk m c 2 t) (m ((c : Thread nD τ).loc main_arg0)) (m ((c : Thread nD τ).loc main_arg2)) q (t.val * 512 + q.val)
    (fun k => blk0 m c t (ix2 q k)) (blk2 m c t) r

theorem emb4_val (t : Fin cfg0.N) (y : S512x2048.Idx) :
    (((cfg0.win 4).blk t).view.emb y (0 : Fin 2)).val = t.val * 512 + (y 0).val ∧ (((cfg0.win 4).blk t).view.emb y (1 : Fin 2)).val = (y 1).val := by
  obtain ⟨e0, e1⟩ := idx4 t
  constructor
  · show win0_4.index t (0 : Fin 2) * 512 + 1 * (y 0).val = _; rw [e0]; omega
  · show win0_4.index t (1 : Fin 2) * 2048 + 1 * (y 1).val = _; rw [e1]; omega

theorem flushed4_eq (c : Dev nD) (t : Fin cfg0.N) :
    (dats m 0 c).flushed 4 t = ((cfg0.win 4).blk t).view.read (Elt Ideal) (GK m c) := by
  rw [flushed4, out4_eq]
  funext y
  show keysB (iblk m c 0 t) (iblk m c 1 t) (iblk m c 2 t) (iblk m c 3 t) y = GK m c (((cfg0.win 4).blk t).view.emb y)
  obtain ⟨q, r, rfl⟩ : ∃ (q : Fin 512) (r : Fin 2048), y = ix2 q r := ⟨y 0, y 1, funext fun a => by fin_cases a <;> rfl⟩
  obtain ⟨e0, e1⟩ := emb4_val t (ix2 q r)
  have e0 : (((cfg0.win 4).blk t).view.emb (ix2 q r) (0 : Fin 2)).val = t.val * 512 + q.val := e0
  have e1 : (((cfg0.win 4).blk t).view.emb (ix2 q r) (1 : Fin 2)).val = r.val := e1
  rw [keysB_at]
  unfold GK wholeK
  rw [e0, e1]

theorem covered4 (j : S2048x2048.Idx) : ∃ t : Fin cfg0.N, (cfg0.win 4).flush t = true ∧ j ∈ ((cfg0.win 4).blk t).view.set := by
  have h : (j 0).val < 2048 := (j 0).isLt
  obtain ⟨t, ht⟩ : ∃ t : Fin cfg0.N, t.val = (j 0).val / 512 := ⟨⟨(j 0).val / 512, by show _ < 4; omega⟩, rfl⟩
  refine ⟨t, flush0_4 _, ?_⟩
  obtain ⟨y, hy⟩ : ∃ y : S512x2048.Idx, (y 0).val = (j 0).val % 512 ∧ (y 1).val = (j 1).val :=
    ⟨ix2 (⟨(j 0).val % 512, by omega⟩ : Fin 512) (j 1), rfl, rfl⟩
  obtain ⟨e0, e1⟩ := emb4_val t y
  have key : j = ((cfg0.win 4).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 4).blk t).view.emb_mem_set y

theorem final4 (c : Dev nD) : (dats m 0 c).arrAt 4 cfg0.N = GK m c :=
  (dats m 0 c).arrAt_eq_of_cover 4 (GK m c) (fun t _ => flushed4_eq m c t) covered4

theorem emb5_val (t : Fin cfg0.N) (y : S1024x512.Idx) :
    (((cfg0.win 5).blk t).view.emb y (0 : Fin 2)).val = (y 0).val ∧ (((cfg0.win 5).blk t).view.emb y (1 : Fin 2)).val = t.val * 512 + (y 1).val := by
  obtain ⟨e0, e1⟩ := idx5 t
  constructor
  · show win0_5.index t (0 : Fin 2) * 1024 + 1 * (y 0).val = _; rw [e0]; omega
  · show win0_5.index t (1 : Fin 2) * 512 + 1 * (y 1).val = _; rw [e1]; omega

theorem flushed5_eq (c : Dev nD) (t : Fin cfg0.N) :
    (dats m 0 c).flushed 5 t = ((cfg0.win 5).blk t).view.read (Elt Ideal) (GV m c) := by
  rw [flushed5, out5_eq]
  funext y
  show valuesB (iblk m c 0 t) (iblk m c 2 t) y = GV m c (((cfg0.win 5).blk t).view.emb y)
  obtain ⟨r, q, rfl⟩ : ∃ (r : Fin 1024) (q : Fin 512), y = ix2 r q := ⟨y 0, y 1, funext fun a => by fin_cases a <;> rfl⟩
  obtain ⟨e0, e1⟩ := emb5_val t (ix2 r q)
  have e0 : (((cfg0.win 5).blk t).view.emb (ix2 r q) (0 : Fin 2)).val = r.val := e0
  have e1 : (((cfg0.win 5).blk t).view.emb (ix2 r q) (1 : Fin 2)).val = t.val * 512 + q.val := e1
  rw [valuesB_at]
  unfold GV wholeV
  rw [e0, e1]

theorem covered5 (j : S1024x2048.Idx) : ∃ t : Fin cfg0.N, (cfg0.win 5).flush t = true ∧ j ∈ ((cfg0.win 5).blk t).view.set := by
  have h : (j 1).val < 2048 := (j 1).isLt
  obtain ⟨t, ht⟩ : ∃ t : Fin cfg0.N, t.val = (j 1).val / 512 := ⟨⟨(j 1).val / 512, by show _ < 4; omega⟩, rfl⟩
  refine ⟨t, flush0_5 _, ?_⟩
  obtain ⟨y, hy⟩ : ∃ y : S1024x512.Idx, (y 0).val = (j 0).val ∧ (y 1).val = (j 1).val % 512 :=
    ⟨ix2 (j 0) (⟨(j 1).val % 512, by omega⟩ : Fin 512), rfl, rfl⟩
  obtain ⟨e0, e1⟩ := emb5_val t y
  have key : j = ((cfg0.win 5).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 5).blk t).view.emb_mem_set y

theorem final5 (c : Dev nD) : (dats m 0 c).arrAt 5 cfg0.N = GV m c :=
  (dats m 0 c).arrAt_eq_of_cover 5 (GV m c) (fun t _ => flushed5_eq m c t) covered5

/-- The kernel's run: the results are the two functions of the arguments, which are left as launched. -/
theorem run : θ_run defs (onTc (τ := τ) (main (F := Ideal))) ⟨m, fun _ => 0, ρ⟩ fun r => ∀ c : Dev nD,
      r.2.mem ((c : Thread nD τ).loc main_v15_0) = GK m c
      ∧ r.2.mem ((c : Thread nD τ).loc main_v15_1) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩) (run_blocks m ρ)

end Cert.Cache

end
-- ==== Proof.CacheRef.lean ====
/- The reference of the expansion of the cached latents read at an index: its two results are the same functions of the
   arguments as the kernel's two whole arrays. -/
module

public import proofs.«01_k».proof.Proof.Cache
public import proofs.«01_k».proof.Proof.MlaRef
public import proofs.«01_k».proof.Proof.Gen.Reference7Ideal.Read

@[expose] public section

noncomputable section

namespace Cert.CacheRef

open Cert.At Cert.Cache Cert.Reference7Ideal Cert.Reference7Ideal.Gen Cert.Reference7Ideal.Read Idealize.SL.Sem Idealize.ShloMosaic.ValueIdx
open Cert.Mla (proj normN)
open Cert.MlaRef (join4 pad4 factor)
open Idealize.ShloMosaic hiding ix0 ix1 ix2 ix3 ix4 ix5 inv
open Idealize.ShloMosaic.TcCoe
open scoped BigOperators

variable (x0 : Vec Ideal S4x512x256 .f32) (x1 : Vec Ideal S4x512x32 .f32) (x2 : Vec Ideal S256x2048 .f32) (x3 : Vec Ideal S96 .f32)

/-- The latents times the weights, cut into heads. -/
theorem wide_apply (i : S4x512x16x128.Idx) :
    val_main_v1 (F := Ideal) x0 x2 i = proj 256 (latent x0 ((i 0).val * 512 + (i 1).val)) (at2 x2) ((i 2).val * 128 + (i 3).val) := by
  have h0 : (i 0).val < 4 := (i 0).isLt
  have h1 : (i 1).val < 512 := (i 1).isLt
  have h2 : (i 2).val < 16 := (i 2).isLt
  have h3 : (i 3).val < 128 := (i 3).isLt
  rw [val_main_v1_apply, val_main_v0_apply]
  unfold proj latent
  refine Finset.sum_congr rfl fun k _ => ?_
  rw [at2_of x2 _ k.val ((i 2).val * 128 + (i 3).val) rfl
    (by show ((((i 0).val * 512 + (i 1).val) * 16 + (i 2).val) * 128 + (i 3).val) % 2048 = _; omega),
    at3_of x0 _ (((i 0).val * 512 + (i 1).val) / 512) (((i 0).val * 512 + (i 1).val) % 512) k.val
      (by show ((((i 0).val * 512 + (i 1).val) * 16 + (i 2).val) * 128 + (i 3).val) / 1048576 = _; omega)
      (by show ((((i 0).val * 512 + (i 1).val) * 16 + (i 2).val) * 128 + (i 3).val) / 2048 % 512 = _; omega) rfl]

theorem head_apply (i : S4x512x16x96.Idx) :
    val_main_v6 (F := Ideal) x0 x1 x2 i = head x0 x1 x2 ((i 0).val * 512 + (i 1).val) (i 2).val (i 3).val := by
  unfold val_main_v6
  refine (join4 _ _ (by norm_num) _
    (fun a b h t => proj 256 (latent x0 (a * 512 + b)) (at2 x2) (h * 128 + t)) (fun a b h t => common x1 (a * 512 + b) t)
    (fun i => ?_) (fun i => ?_) i).trans ?_
  · rw [val_main_v2_apply, wide_apply]
  · have h1 : (i 1).val < 512 := (i 1).isLt
    rw [val_main_v5_apply, val_main_v4_apply]
    unfold common
    exact at3_of x1 _ _ _ _ (by show (i 0).val = _; omega) (by show (i 1).val = _; omega) rfl
  · rfl

theorem norm_apply (i : S4x512x16x96.Idx) :
    val_main_v19 (F := Ideal) x0 x1 x2 x3 i
      = normN 96 (Ideal.ofBits .f32 0x42C00000#32) (head x0 x1 x2 ((i 0).val * 512 + (i 1).val) (i 2).val) (at1 x3) (i 3).val := by
  rw [val_main_v19_apply, val_main_v16_apply, val_main_v15_apply, val_main_v18_apply, val_main_v17_apply, val_main_v14_apply, val_main_v13_apply,
    val_main_v11_apply, val_main_v12_apply, val_main_v10_apply, val_main_v9_apply, val_main_v8_apply, head_apply, at1_of x3 _ (i 3).val rfl]
  unfold normN
  refine congrArg (fun r => _ * r * _) (factor 96 _ _ Ideal.ofBits_zero_f32 _ _ fun j => ?_)
  rw [val_main_v7_apply, head_apply]
  rfl

/-- The reference's first result is the first whole array that the kernel leaves. -/
theorem k_eq : val_main_v22 (F := Ideal) x0 x1 x2 x3 = wholeK x0 x1 x2 x3 := by
  funext i
  have h0 : (i 0).val < 2048 := (i 0).isLt
  have h1 : (i 1).val < 2048 := (i 1).isLt
  have hz (k : S_.Idx) : val_main_call0_v0 (F := Ideal) k = (0 : EReal) := by
    show (((0#32 : BitVec 32).toInt : ℝ) : EReal) = 0
    simp
  show val_main_v21 (F := Ideal) x0 x1 x2 x3 i = _
  rw [val_main_v21_apply]
  unfold val_main_v20
  refine (pad4 _ _ _ _ hz (fun b n h t => normN 96 (Ideal.ofBits .f32 0x42C00000#32) (head x0 x1 x2 (b * 512 + n) h) (at1 x3) t)
    (fun j => norm_apply x0 x1 x2 x3 j) _).trans ?_
  unfold wholeK entryK
  have e : ((i 0).val * 2048 + (i 1).val) / 1048576 * 512 + ((i 0).val * 2048 + (i 1).val) / 2048 % 512 = (i 0).val := by omega
  have eh : ((i 0).val * 2048 + (i 1).val) / 128 % 16 = (i 1).val / 128 := by omega
  have et : ((i 0).val * 2048 + (i 1).val) % 128 = (i 1).val % 128 := by omega
  show (if ((i 0).val * 2048 + (i 1).val) % 128 < 96 then normN 96 (Ideal.ofBits .f32 0x42C00000#32) (head x0 x1 x2
      (((i 0).val * 2048 + (i 1).val) / 1048576 * 512 + ((i 0).val * 2048 + (i 1).val) / 2048 % 512) (((i 0).val * 2048 + (i 1).val) / 128 % 16)) (at1 x3)
      (((i 0).val * 2048 + (i 1).val) % 128) else 0) = _
  rw [e, eh, et]

/-- The reference's second result is the second whole array that the kernel leaves. -/
theorem v_eq : val_main_v25 (F := Ideal) x0 x2 = wholeV x0 x2 := by
  funext i
  have h0 : (i 0).val < 1024 := (i 0).isLt
  have h1 : (i 1).val < 2048 := (i 1).isLt
  show val_main_v24 (F := Ideal) x0 x2 i = _
  rw [val_main_v24_apply, val_main_v23_apply, val_main_v3_apply, wide_apply]
  unfold wholeV entryV
  have e : ((i 1).val * 1024 + (i 0).val) / 524288 * 512 + ((i 1).val * 1024 + (i 0).val) / 1024 % 512 = (i 1).val := by omega
  have ec : ((i 1).val * 1024 + (i 0).val) / 64 % 16 * 128 + (64 + ((i 1).val * 1024 + (i 0).val) % 64) = (i 0).val / 64 * 128 + 64 + (i 0).val % 64 := by omega
  exact congrArg₂ (fun n c => proj 256 (latent x0 n) (at2 x2) c) e ec

end Cert.CacheRef

end
-- ==== Proof.Mod.lean ====
/- The conditioning as a function of numbers: the rows that condition the layers, and each layer's shifts, scales and gates for
   each of them. -/
module

public import proofs.«01_k».proof.Proof.At
public import Idealize.ShloMosaic.PureOps.Ideal.Laws

@[expose] public section

noncomputable section

namespace Cert.Mod

open Cert.At Idealize.ShloMosaic
open scoped BigOperators

variable (x0 : (⟨2, ![4, 1024]⟩ : Shape).Idx → EReal) (x1 : (⟨1, ![1024]⟩ : Shape).Idx → EReal)
  (x2 : (⟨3, ![4, 1024, 6144]⟩ : Shape).Idx → EReal) (x3 : (⟨2, ![4, 6144]⟩ : Shape).Idx → EReal)

/-- The context's row, the four sample rows, and zeros behind them. -/
def cond (r k : ℕ) : EReal := if r < 1 then at1 x1 k else if r < 5 then at2 x0 (r - 1) k else 0

/-- The gate of an entry by itself. -/
def silu (x : EReal) : EReal := x * Ideal.logistic x

/-- Column `c` of layer `l` for row `r`. -/
def entry (l r c : ℕ) : EReal := (∑ k : Fin 1024, silu (cond x0 x1 r k) * at3 x2 l k c) + at2 x3 l c

/-- The result as a whole array. -/
def whole : (⟨3, ![4, 8, 6144]⟩ : Shape).Idx → EReal := fun i => entry x0 x1 x2 x3 (i 0).val (i 1).val (i 2).val

end Cert.Mod

end
-- ==== Proof.ModArray.lean ====
/- The conditioning: the whole array its grid leaves as a function of the arguments. Every point writes one layer's columns of one
   quarter, and the points' blocks cover the result. -/
module

public import proofs.«01_k».proof.Proof.Mod
public import proofs.«01_k».proof.Proof.Ops
public import proofs.«01_k».proof.Proof.MlaBlock
public import proofs.«01_k».proof.Proof.Gen.Kernel8Ideal.Value
public import Idealize.ShloMosaic.Lib.Routing.OpsSet

@[expose] public section

noncomputable section

namespace Cert.Mod

open Cert.At Cert.Ops Cert.Kernel8Ideal Cert.Kernel8Ideal.Gen Cert.Kernel8Ideal.Value Idealize.SL.Sem
open Cert.Mla (whole_apply)
open Idealize.ShloMosaic.ValueIdx
open Idealize.ShloMosaic hiding ix0 ix1 ix2 ix3 ix4 ix5
open Idealize.ShloMosaic.TcCoe
open Idealize.ShloMosaic.Routing (resultIdx?_eq_some scatter_set_hit scatter_set_miss)
open scoped BigOperators

/-! ## The rows that condition the layers, as the host sets them -/

section Rows

variable (x : S8x1024.Idx → EReal) (idx : IVec S1 32)

/-- The write of a vector as row `0`. -/
theorem set_row (u : S1024.Idx → EReal) (h : ∀ j, (idx j).toInt = 0) (i : S8x1024.Idx) :
    Host.scatter scatter_S8x1024_S1_S1024_0_0_0_0 (fun _ b => b) x idx u i = if (i 0).val < 1 then at1 u (i 1).val else x i := by
  have lands (k : S1024.Idx) : scatter_S8x1024_S1_S1024_0_0_0_0.resultIdx? k idx = some i ↔ 0 = (i 0).val ∧ (k 0).val = (i 1).val := by
    have s0 : scatter_S8x1024_S1_S1024_0_0_0_0.start k idx 0 = 0 := h _
    have s1 : scatter_S8x1024_S1_S1024_0_0_0_0.start k idx 1 = 0 := rfl
    have w0 : scatter_S8x1024_S1_S1024_0_0_0_0.window k 0 = 0 := rfl
    have w1 : scatter_S8x1024_S1_S1024_0_0_0_0.window k 1 = (k 0).val := rfl
    rw [resultIdx?_eq_some]
    refine ⟨fun q => ?_, fun q a => ?_⟩
    · have q0 := q 0
      have q1 := q 1
      rw [s0, w0] at q0
      rw [s1, w1] at q1
      omega
    · match a with
      | ⟨0, _⟩ => refine (congrArg₂ (fun a (b : ℕ) => a + (b : ℤ)) s0 w0).trans ?_; have := q.1; show _ = (((i 0).val : ℕ) : ℤ); omega
      | ⟨1, _⟩ => refine (congrArg₂ (fun a (b : ℕ) => a + (b : ℤ)) s1 w1).trans ?_; have := q.2; show _ = (((i 1).val : ℕ) : ℤ); omega
  split_ifs with c
  · exact scatter_set_hit _ _ _ _ _ _ (fun k hk => at1_of u k _ ((lands k).1 hk).2) (ix1 (⟨(i 1).val, (i 1).isLt⟩ : Fin 1024))
      ((lands _).2 ⟨by omega, rfl⟩)
  · exact scatter_set_miss _ _ _ _ _ fun k hk => c (by have := ((lands k).1 hk).1; omega)

/-- The write of a matrix of four rows from row `1`. -/
theorem set_rows (u : S4x1024.Idx → EReal) (h : ∀ j, (idx j).toInt = 1) (i : S8x1024.Idx) :
    Host.scatter scatter_S8x1024_S1_S4x1024_01_n_0_0 (fun _ b => b) x idx u i
      = if 1 ≤ (i 0).val ∧ (i 0).val < 5 then at2 u ((i 0).val - 1) (i 1).val else x i := by
  have lands (k : S4x1024.Idx) : scatter_S8x1024_S1_S4x1024_01_n_0_0.resultIdx? k idx = some i ↔ 1 + (k 0).val = (i 0).val ∧ (k 1).val = (i 1).val := by
    have s0 : scatter_S8x1024_S1_S4x1024_01_n_0_0.start k idx 0 = 1 := h _
    have s1 : scatter_S8x1024_S1_S4x1024_01_n_0_0.start k idx 1 = 0 := rfl
    have w0 : scatter_S8x1024_S1_S4x1024_01_n_0_0.window k 0 = (k 0).val := rfl
    have w1 : scatter_S8x1024_S1_S4x1024_01_n_0_0.window k 1 = (k 1).val := rfl
    rw [resultIdx?_eq_some]
    refine ⟨fun q => ?_, fun q a => ?_⟩
    · have q0 := q 0
      have q1 := q 1
      rw [s0, w0] at q0
      rw [s1, w1] at q1
      omega
    · match a with
      | ⟨0, _⟩ => refine (congrArg₂ (fun a (b : ℕ) => a + (b : ℤ)) s0 w0).trans ?_; have := q.1; show _ = (((i 0).val : ℕ) : ℤ); omega
      | ⟨1, _⟩ => refine (congrArg₂ (fun a (b : ℕ) => a + (b : ℤ)) s1 w1).trans ?_; have := q.2; show _ = (((i 1).val : ℕ) : ℤ); omega
  split_ifs with c
  · exact scatter_set_hit _ _ _ _ _ _ (fun k hk => at2_of u k _ _ (by have := ((lands k).1 hk).1; omega) ((lands k).1 hk).2)
      (ix2 (⟨(i 0).val - 1, by omega⟩ : Fin 4) (⟨(i 1).val, (i 1).isLt⟩ : Fin 1024)) ((lands _).2 ⟨by show 1 + ((i 0).val - 1) = _; omega, rfl⟩)
  · exact scatter_set_miss _ _ _ _ _ fun k hk => c (by
      have e := ((lands k).1 hk).1
      have : (k 0).val < 4 := (k 0).isLt
      omega)

end Rows

/-! ## The body as one function of the three blocks -/

section Body

variable (x0 : Vec Ideal S8x1024 .f32) (x1 : Vec Ideal S1x1024x1536 .f32) (x2 : Vec Ideal S1x1x1536 .f32)

/-- The gated rows. -/
def gatedB : FVec Ideal S8x1024 .bf16 :=
  truncf .bf16 (mulf (shapeCast S8x1024 (View.ld x0 r0_0) shapeCasts_S8x1024_S8x1024 : FVec Ideal S8x1024 .f32)
    (logistic (shapeCast S8x1024 (View.ld x0 r0_0) shapeCasts_S8x1024_S8x1024 : FVec Ideal S8x1024 .f32))) bitsLt_bf16_f32

/-- The block's product and its bias. -/
def sumB : FVec Ideal S8x1536 .f32 :=
  addf (FloatOps.matmul (DotDims.plain 8 1024 1536) none (gatedB x0)
      (truncf .bf16 (shapeCast S1024x1536 (View.ld x1 r0_1) shapeCasts_S1x1024x1536_S1024x1536 : FVec Ideal S1024x1536 .f32) bitsLt_bf16_f32)
      (constant S8x1536 .f32 0x00000000#32))
    (broadcastTo S8x1536 (shapeCast S1x1536 (View.ld x2 r0_2) shapeCasts_S1x1x1536_S1x1536 : FVec Ideal S1x1536 .f32) broadcasts_S1x1536_S8x1536)

theorem hz3 : (![0, 0, 0] : Fin 3 → ℕ) = fun _ => 0 := funext fun a => by fin_cases a <;> rfl

/-- What a point leaves in the result's block. -/
theorem out_eq : out0_3 x0 x1 x2 = shapeCast S1x8x1536 (sumB x0 x1 x2) shapeCasts_S8x1536_S1x8x1536 := View.canon_unit_zero hz3 _ _

/-- A load of a whole block of one matrix. -/
theorem whole3_apply {A B : ℕ} (x : (⟨3, ![1, A, B]⟩ : Shape).Idx → EReal)
    (inb : ∀ a, (![0, 0, 0] : Fin 3 → ℕ) a + (![1, A, B] : Fin 3 → ℕ) a ≤ (⟨3, ![1, A, B]⟩ : Shape).size a) (j : (⟨3, ![1, A, B]⟩ : Shape).Idx) :
    View.ld (Val := Elt Ideal) (e' := .f32) x (Rect.unit (s := ⟨3, ![1, A, B]⟩) ![0, 0, 0] ![1, A, B] inb) j = x j :=
  congrArg x (funext fun a => Fin.ext (match a with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))

theorem sumB_apply (f : ℕ → ℕ → EReal) (w : ℕ → ℕ → EReal) (b : ℕ → EReal) (h0 : ∀ i, x0 i = f (i 0).val (i 1).val)
    (h1 : ∀ i, x1 i = w (i 1).val (i 2).val) (h2 : ∀ i, x2 i = b (i 2).val) (r : Fin 8) (c : Fin 1536) :
    sumB x0 x1 x2 (ix2 r c) = (∑ k : Fin 1024, silu (f r k) * w k c) + b c := by
  have hx (k : Fin 1024) : shapeCast S8x1024 (View.ld x0 r0_0) shapeCasts_S8x1024_S8x1024 (ix2 r k) = f r k :=
    (cast_self_apply _ _ _).trans ((whole_apply x0 _ _).trans (h0 _))
  unfold sumB
  refine congrArg₂ (· + ·) ((mm_apply _ _ r c).trans (Finset.sum_congr rfl fun k _ => congrArg₂ (· * ·) ?_ ?_)) ?_
  · exact congrArg silu (hx k)
  · exact (shapeCast_1ab_ab_apply _ _ k c).trans ((whole3_apply x1 _ _).trans (h1 _))
  · refine (broadcastTo_apply _ _ (ix2 r c) (ix2 (0 : Fin 1) c) fun a => match a with
      | ⟨0, _⟩ => rfl
      | ⟨1, _⟩ => by show c.val = if (1536 : ℕ) = 1 then 0 else c.val; rw [if_neg (by decide)]).trans ?_
    exact (shapeCast_1ab_ab_apply _ _ (0 : Fin 1) c).trans ((whole3_apply x2 _ _).trans (h2 _))

end Body

/-! ## The arrays the grid finds, and where each window's block lies -/

variable (m : (ℓ : Loc nD τ sig) → Buf (Elt Ideal) ℓ) (ρ : Dev nD → PrngReg)

theorem V_main_v4 (c : Dev nD) (i : S8x1024.Idx) : (V m c main_v4 : S8x1024.Idx → EReal) i
    = cond (m ((c : Thread nD τ).loc main_arg0)) (m ((c : Thread nD τ).loc main_arg1)) (i 0).val (i 1).val := by
  have e : V m c main_v4 = (Host.scatter scatter_S8x1024_S1_S4x1024_01_n_0_0 (fun _ b => b)
      (Host.scatter scatter_S8x1024_S1_S1024_0_0_0_0 (fun _ b => b) (broadcastInDim S8x1024 ![] bcast_S_S8x1024 (constant S_ .f32 0x00000000#32 : FVec Ideal S_ .f32))
        (broadcastInDim S1 ![] bcast_S_S1 (constantI S_ 32 0#32)) (m ((c : Thread nD τ).loc main_arg1) : Vec Ideal S1024 .f32))
      (broadcastInDim S1 ![] bcast_S_S1 (constantI S_ 32 1#32)) (m ((c : Thread nD τ).loc main_arg0) : Vec Ideal S4x1024 .f32) : Vec Ideal S8x1024 .f32) := by
    show StableHlo.after hostOps0 _ (Proc.devRef .tc main_v4) = _
    after_results
  rw [e]
  refine (set_rows _ _ _ (fun j => by rfl) i).trans ?_
  rw [set_row _ _ _ (fun j => by rfl) i]
  unfold cond
  by_cases c1 : (i 0).val < 1
  · rw [if_neg (by omega), if_pos c1, if_pos c1]
  · rw [if_neg c1, if_neg c1]
    by_cases c2 : (i 0).val < 5
    · rw [if_pos ⟨by omega, c2⟩, if_pos c2]
    · rw [if_neg (by omega), if_neg c2]
      exact Ideal.ofBits_zero_f32

theorem V_main_v5 (c : Dev nD) : V m c main_v5 = shapeCast S4x1x6144 (m ((c : Thread nD τ).loc main_arg3) : Vec Ideal S4x6144 .f32) shapeCasts_S4x6144_S4x1x6144 := by
  show StableHlo.after hostOps0 _ (Proc.devRef .tc main_v5) = _
  after_results
  rfl

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val / 4 ∧ win0_1.index t (1 : Fin 3) = 0 ∧ win0_1.index t (2 : Fin 3) = t.val % 4 := (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 := (by decide +kernel : ∀ t : Fin grid0.N, _)
theorem idx3 : ∀ t : Fin cfg0.N, win0_3.index t (0 : Fin 3) = t.val / 4 ∧ win0_3.index t (1 : Fin 3) = 0 ∧ win0_3.index t (2 : Fin 3) = t.val % 4 := (by decide +kernel : ∀ t : Fin grid0.N, _)

theorem blk0 (c : Dev nD) (t : Fin cfg0.N) (x : S8x1024.Idx) : (iblk m c 0 t : S8x1024.Idx → EReal) x
    = cond (m ((c : Thread nD τ).loc main_arg0)) (m ((c : Thread nD τ).loc main_arg1)) (x 0).val (x 1).val := by
  obtain ⟨e0, e1⟩ := idx0 t
  show (V m c main_v4 : S8x1024.Idx → EReal) (((cfg0.win 0).blk t).view.emb x) = _
  refine (V_main_v4 m c (((cfg0.win 0).blk t).view.emb x)).trans
    (congrArg₂ (cond (m ((c : Thread nD τ).loc main_arg0)) (m ((c : Thread nD τ).loc main_arg1))) ?_ ?_)
  · show win0_0.index t (0 : Fin 2) * 8 + 1 * (x 0).val = _; rw [e0]; omega
  · show win0_0.index t (1 : Fin 2) * 1024 + 1 * (x 1).val = _; rw [e1]; omega

theorem blk1 (c : Dev nD) (t : Fin cfg0.N) (x : S1x1024x1536.Idx) : (iblk m c 1 t : S1x1024x1536.Idx → EReal) x
    = at3 (m ((c : Thread nD τ).loc main_arg2) : Vec Ideal S4x1024x6144 .f32) (t.val / 4) (x 1).val (t.val % 4 * 1536 + (x 2).val) := by
  obtain ⟨e0, e1, e2⟩ := idx1 t
  have hx : (x 0).val < 1 := (x 0).isLt
  show V m c main_arg2 (((cfg0.win 1).blk t).view.emb x) = _
  rw [V_main_arg2]
  refine at3_of (m ((c : Thread nD τ).loc main_arg2) : Vec Ideal S4x1024x6144 .f32) (((cfg0.win 1).blk t).view.emb x) _ _ _ ?_ ?_ ?_
  · show win0_1.index t (0 : Fin 3) * 1 + 1 * (x 0).val = _; rw [e0]; omega
  · show win0_1.index t (1 : Fin 3) * 1024 + 1 * (x 1).val = _; rw [e1]; omega
  · show win0_1.index t (2 : Fin 3) * 1536 + 1 * (x 2).val = _; rw [e2]; omega

theorem blk2 (c : Dev nD) (t : Fin cfg0.N) (x : S1x1x1536.Idx) : (iblk m c 2 t : S1x1x1536.Idx → EReal) x
    = at2 (m ((c : Thread nD τ).loc main_arg3) : Vec Ideal S4x6144 .f32) (t.val / 4) (t.val % 4 * 1536 + (x 2).val) := by
  obtain ⟨e0, e1, e2⟩ := idx2 t
  have h0 : (x 0).val < 1 := (x 0).isLt
  have h1 : (x 1).val < 1 := (x 1).isLt
  have h2 : (x 2).val < 1536 := (x 2).isLt
  have ht : t.val < 16 := t.isLt
  have p0 : (((cfg0.win 2).blk t).view.emb x (0 : Fin 3)).val = t.val / 4 := by
    show win0_2.index t (0 : Fin 3) * 1 + 1 * (x 0).val = _; rw [e0]; omega
  have p1 : (((cfg0.win 2).blk t).view.emb x (1 : Fin 3)).val = 0 := by
    show win0_2.index t (1 : Fin 3) * 1 + 1 * (x 1).val = _; rw [e1]; omega
  have p2 : (((cfg0.win 2).blk t).view.emb x (2 : Fin 3)).val = t.val % 4 * 1536 + (x 2).val := by
    show win0_2.index t (2 : Fin 3) * 1536 + 1 * (x 2).val = _; rw [e2]; omega
  show V m c main_v5 (((cfg0.win 2).blk t).view.emb x) = _
  rw [V_main_v5]
  refine (shapeCast_apply _ _ (((cfg0.win 2).blk t).view.emb x)
    (ix2 (⟨t.val / 4, by omega⟩ : Fin 4) (⟨t.val % 4 * 1536 + (x 2).val, by omega⟩ : Fin 6144)) ?_).trans (at2_of _ _ _ _ rfl rfl)
  refine (Shape.rowMajor_val_two _).trans (Eq.trans ?_ (Shape.rowMajor_val_three _).symm)
  show t.val / 4 * 6144 + (t.val % 4 * 1536 + (x 2).val)
    = ((((cfg0.win 2).blk t).view.emb x (0 : Fin 3)).val * 1 + (((cfg0.win 2).blk t).view.emb x (1 : Fin 3)).val) * 6144 + (((cfg0.win 2).blk t).view.emb x (2 : Fin 3)).val
  rw [p0, p1, p2]
  omega

/-! ## One point's block is its block of the whole -/

/-- The conditioning of the argument arrays as launched. -/
abbrev G (c : Dev nD) : S4x8x6144.Idx → EReal :=
  whole (m ((c : Thread nD τ).loc main_arg0)) (m ((c : Thread nD τ).loc main_arg1)) (m ((c : Thread nD τ).loc main_arg2)) (m ((c : Thread nD τ).loc main_arg3))

theorem emb_val (t : Fin cfg0.N) (y : S1x8x1536.Idx) :
    (((cfg0.win 3).blk t).view.emb y (0 : Fin 3)).val = t.val / 4 ∧ (((cfg0.win 3).blk t).view.emb y (1 : Fin 3)).val = (y 1).val
      ∧ (((cfg0.win 3).blk t).view.emb y (2 : Fin 3)).val = t.val % 4 * 1536 + (y 2).val := by
  obtain ⟨e0, e1, e2⟩ := idx3 t
  have hy : (y 0).val < 1 := (y 0).isLt
  refine ⟨?_, ?_, ?_⟩
  · show win0_3.index t (0 : Fin 3) * 1 + 1 * (y 0).val = _; rw [e0]; omega
  · show win0_3.index t (1 : Fin 3) * 8 + 1 * (y 1).val = _; rw [e1]; omega
  · show win0_3.index t (2 : Fin 3) * 1536 + 1 * (y 2).val = _; rw [e2]; omega

theorem flushed_eq (c : Dev nD) (t : Fin cfg0.N) :
    (dats m 0 c).flushed 3 t = ((cfg0.win 3).blk t).view.read (Elt Ideal) (G m c) := by
  rw [flushed3, out_eq]
  funext y
  show shapeCast S1x8x1536 (sumB (iblk m c 0 t) (iblk m c 1 t) (iblk m c 2 t)) shapeCasts_S8x1536_S1x8x1536 y = G m c (((cfg0.win 3).blk t).view.emb y)
  obtain ⟨r, q, rfl⟩ : ∃ (r : Fin 8) (q : Fin 1536), y = ix3 (0 : Fin 1) r q :=
    ⟨y 1, y 2, funext fun a => match a with
      | ⟨0, _⟩ => Subsingleton.elim (α := Fin 1) _ _
      | ⟨1, _⟩ => rfl
      | ⟨2, _⟩ => rfl⟩
  obtain ⟨e0, e1, e2⟩ := emb_val t (ix3 (0 : Fin 1) r q)
  have e1 : (((cfg0.win 3).blk t).view.emb (ix3 (0 : Fin 1) r q) (1 : Fin 3)).val = r.val := e1
  have e2 : (((cfg0.win 3).blk t).view.emb (ix3 (0 : Fin 1) r q) (2 : Fin 3)).val = t.val % 4 * 1536 + q.val := e2
  refine (shapeCast_ab_1ab_apply _ _ (0 : Fin 1) r q).trans ((sumB_apply _ _ _
    (cond (m ((c : Thread nD τ).loc main_arg0)) (m ((c : Thread nD τ).loc main_arg1)))
    (fun k q => at3 (m ((c : Thread nD τ).loc main_arg2) : Vec Ideal S4x1024x6144 .f32) (t.val / 4) k (t.val % 4 * 1536 + q))
    (fun q => at2 (m ((c : Thread nD τ).loc main_arg3) : Vec Ideal S4x6144 .f32) (t.val / 4) (t.val % 4 * 1536 + q))
    (blk0 m c t) (blk1 m c t) (blk2 m c t) r q).trans ?_)
  unfold G whole entry
  rw [e0, e1, e2]

theorem covered (j : S4x8x6144.Idx) : ∃ t : Fin cfg0.N, (cfg0.win 3).flush t = true ∧ j ∈ ((cfg0.win 3).blk t).view.set := by
  have h0 : (j 0).val < 4 := (j 0).isLt
  have h2 : (j 2).val < 6144 := (j 2).isLt
  obtain ⟨t, ht⟩ : ∃ t : Fin cfg0.N, t.val = (j 0).val * 4 + (j 2).val / 1536 := ⟨⟨(j 0).val * 4 + (j 2).val / 1536, by show _ < 16; omega⟩, rfl⟩
  refine ⟨t, flush0_3 _, ?_⟩
  obtain ⟨y, hy⟩ : ∃ y : S1x8x1536.Idx, (y 1).val = (j 1).val ∧ (y 2).val = (j 2).val % 1536 :=
    ⟨ix3 (0 : Fin 1) (j 1) (⟨(j 2).val % 1536, by omega⟩ : Fin 1536), rfl, rfl⟩
  obtain ⟨e0, e1, e2⟩ := emb_val t y
  have key : j = ((cfg0.win 3).blk t).view.emb y := by
    funext a; apply Fin.ext
    match a with
    | ⟨0, _⟩ => refine Eq.trans ?_ e0.symm; show (j 0).val = _; omega
    | ⟨1, _⟩ => refine Eq.trans ?_ e1.symm; show (j 1).val = _; omega
    | ⟨2, _⟩ => refine Eq.trans ?_ e2.symm; show (j 2).val = _; omega
  rw [key]
  exact ((cfg0.win 3).blk t).view.emb_mem_set y

/-- The result array after the run. -/
theorem final (c : Dev nD) : (dats m 0 c).arrAt 3 cfg0.N = G m c :=
  (dats m 0 c).arrAt_eq_of_cover 3 (G m c) (fun t _ => flushed_eq m c t) covered

/-- The kernel's run: the result is the conditioning of the arguments, which are left as launched. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Mod

end
-- ==== Proof.ModRef.lean ====
/- The reference of the conditioning read at an index: the same function of the arguments as the kernel's whole array. -/
module

public import proofs.«01_k».proof.Proof.Mod
public import proofs.«01_k».proof.Proof.Ops
public import proofs.«01_k».proof.Proof.Gen.Reference8Ideal.Read
public import Idealize.ShloMosaic.Lib.IdealHost

@[expose] public section

noncomputable section

namespace Cert.ModRef

open Cert.At Cert.Mod Cert.Reference8Ideal Cert.Reference8Ideal.Gen Cert.Reference8Ideal.Read Idealize.SL.Sem Idealize.ShloMosaic.ValueIdx
open Idealize.ShloMosaic hiding ix0 ix1 ix2 ix3 ix4 ix5
open Idealize.ShloMosaic.TcCoe
open scoped BigOperators

variable (x0 : Vec Ideal S4x1024 .f32) (x1 : Vec Ideal S1024 .f32) (x2 : Vec Ideal S4x1024x6144 .f32) (x3 : Vec Ideal S4x6144 .f32)

/-- A piece of a join of matrices one below the other, at a row of that piece. -/
theorem stacked {A B H : ℕ} (xs : List ((s : Shape) × (s.Idx → EReal))) (h : Shape.Concatenates (xs.map (·.1)) ⟨2, ![A, B]⟩ (0 : Fin 2))
    (j : (⟨2, ![A, B]⟩ : Shape).Idx) (k : ℕ) (hk : k < xs.length) (x : (⟨2, ![H, B]⟩ : Shape).Idx → EReal) (hxk : xs[k] = ⟨_, x⟩) (o : ℕ)
    (ho : (((xs.take k).map (·.1)).map fun s => if h : s.rank = (⟨2, ![A, B]⟩ : Shape).rank then s.size ((0 : Fin 2).cast h.symm) else 0).sum = o)
    (F : ℕ → ℕ → EReal) (hx : ∀ i, x i = F (i 0).val (i 1).val) (h1 : o ≤ (j 0).val) (h2 : (j 0).val < o + H) :
    concatenate ⟨2, ![A, B]⟩ (0 : Fin 2) xs h j = F ((j 0).val - o) (j 1).val := by
  refine (concatenate_apply_piece (t := ⟨2, ![A, B]⟩) (0 : Fin 2) xs h j k hk ⟨2, ![H, B]⟩ x hxk rfl o ho
    (ix2 (⟨(j 0).val - o, by omega⟩ : Fin H) (j 1)) (fun b hb => ?_) ?_).trans (hx _)
  · match b with
    | ⟨0, _⟩ => exact absurd rfl hb
    | ⟨1, _⟩ => rfl
  · show o + ((j 0).val - o) = (j 0).val; omega

/-- The rows that condition the layers. -/
theorem rows_apply (i : S8x1024.Idx) : val_main_v2 (F := Ideal) x0 x1 i = cond x0 x1 (i 0).val (i 1).val := by
  have h0 : (i 0).val < 8 := (i 0).isLt
  unfold val_main_v2 Cert.Mod.cond
  split_ifs with c1 c2
  · refine stacked _ _ i 0 (by simp) (val_main_v0 (F := Ideal) x1) rfl 0 rfl (fun _ k => at1 x1 k) (fun i => ?_) (by omega) (by omega)
    rw [val_main_v0_apply]
    exact at1_of x1 _ _ rfl
  · exact stacked _ _ i 1 (by simp) x0 rfl 1 (by simp) (at2 x0) (fun i => at2_of x0 i _ _ rfl rfl) (by omega) (by omega)
  · refine stacked _ _ i 2 (by simp) (val_main_v1 (F := Ideal)) rfl 5 (by simp) (fun _ _ => 0) (fun i => ?_) (by omega) (by omega)
    rw [val_main_v1_apply, val_main_cst_apply]
    exact Ideal.ofBits_zero_f32

theorem silu_apply (i : S8x1024.Idx) : val_main_v3 (F := Ideal) x0 x1 i = silu (cond x0 x1 (i 0).val (i 1).val) := by
  rw [val_main_v3_apply, val_main_call0_v5_apply, val_main_call0_v4_apply, val_main_call0_cst_0_apply, val_main_call0_v3_apply,
    val_main_call0_v2_apply, val_main_call0_cst_apply, val_main_call0_v1_apply, val_main_call0_v0_apply, rows_apply]
  generalize cond x0 x1 (i 0).val (i 1).val = a
  show a * Ideal.div (Ideal.ofBits .f32 0x3F800000#32) (Ideal.ofBits .f32 0x3F800000#32 + Ideal.exp (-a)) = _
  rw [Ideal.ofBits_one_f32]
  rfl

/-- The reference's result is the whole array that the kernel leaves. -/
theorem ref_eq : val_main_v8 (F := Ideal) x0 x1 x2 x3 = whole x0 x1 x2 x3 := by
  funext i
  rw [val_main_v8_apply, val_main_v5_apply, val_main_v4_apply, val_main_v7_apply, val_main_v6_apply]
  unfold whole entry
  refine congrArg₂ (· + ·) (Finset.sum_congr rfl fun k _ => congrArg₂ (· * ·) (silu_apply x0 x1 _) (at3_of x2 _ _ _ _ rfl rfl rfl)) (at2_of x3 _ _ _ rfl rfl)

end Cert.ModRef

end
-- ==== Proof.CtxArray.lean ====
/- The context stream's attention: one head of its body at an index, and the whole array its grid leaves. Every point takes one
   sequence with all its heads, whose keys are one chunk, so a head is the softmax attention without any fold. -/
module

public import proofs.«01_k».proof.Proof.At
public import proofs.«01_k».proof.Proof.AttnHead
public import proofs.«01_k».proof.Proof.Gen.Kernel9Ideal.Frame
public import Idealize.ShloMosaic.Lib.Pipeline.Value

@[expose] public section

noncomputable section

namespace Cert.Ctx

open Cert.At Cert.Ops Cert.Kernel9Ideal Cert.Kernel9Ideal.Gen Idealize.SL.Sem Idealize.ShloMosaic.ValueIdx
open Cert.Attn (attn peak colmax_apply colsum_apply weight_apply)
open Idealize.ShloMosaic hiding ix0 ix1 ix2 ix3 ix4 ix5
open Idealize.ShloMosaic.TcCoe
open scoped BigOperators

/-! ## One head -/

section Head

variable (q : Vec Ideal S128x256 .bf16) (k : Vec Ideal S256x128 .bf16) (v : Vec Ideal S64x256 .bf16)

/-- The scores: keys by queries. -/
def scoreB : FVec Ideal S256x256 .f32 :=
  matmul (φ₁ := .bf16) (φ₂ := .bf16) dot_S256x128_S128x256_S256x256_1_0_0_1_n_n none k q (constant S256x256 .f32 0x00000000#32)

/-- The weights below the greatest score of a query. -/
def wtB : FVec Ideal S256x256 .f32 :=
  exp2 (subf (scoreB q k) (broadcastTo S256x256
    (shapeCast S1x256 (multiReduction .maximumf [0] S256 (scoreB q k) 0xFF800000#32 reduces_S256x256_S256 (.inl rfl) rfl) shapeCasts_S256_S1x256 : FVec Ideal S1x256 .f32)
    broadcasts_S1x256_S256x256))

/-- One head's result, the head's components by queries. -/
def head : FVec Ideal S64x256 .f32 :=
  divf (matmul (φ₁ := .bf16) (φ₂ := .bf16) dot_S64x256_S256x256_S64x256_1_0_0_1_n_n none v (truncf .bf16 (wtB q k) bitsLt_bf16_f32 : FVec Ideal S256x256 .bf16) (constant S64x256 .f32 0x00000000#32))
    (broadcastTo S64x256
      (shapeCast S1x256 (multiReduction .add [0] S256 (wtB q k) 0x00000000#32 reduces_S256x256_S256 (.inl rfl) rfl) shapeCasts_S256_S1x256 : FVec Ideal S1x256 .f32)
      broadcasts_S1x256_S64x256)

/-- A query's scores over the keys. -/
def scores (i : Fin 256) (j : Fin 256) : EReal := ∑ c : Fin 128, k (ix2 j c) * q (ix2 c i)

theorem scoreB_apply (j i : Fin 256) : scoreB q k (ix2 j i) = scores q k i j := mm_apply k q j i

theorem wtB_apply (j i : Fin 256) : wtB q k (ix2 j i) = Ideal.exp2 (scores q k i j - peak (scores q k i)) := by
  refine (weight_apply _ _ _ j i).trans (congrArg Ideal.exp2 (congrArg₂ (· - ·) (scoreB_apply q k j i) ?_))
  exact (colmax_apply _ _ _ _ _ i).trans (congrArg peak (funext fun j => scoreB_apply q k j i))

/-- One head at a component and a query is the softmax attention of the query. -/
theorem head_apply (d : Fin 64) (i : Fin 256) : head q k v (ix2 d i) = attn (scores q k i) fun j => v (ix2 d j) := by
  unfold head attn
  refine congrArg₂ Ideal.div ((mm_apply v _ d i).trans (Finset.sum_congr rfl fun j _ => congrArg₂ (· * ·) rfl (wtB_apply q k j i))) ?_
  refine (broadcastTo_1b_ab_apply _ _ d i).trans ((colsum_apply _ _ _ _ _ i).trans (Finset.sum_congr rfl fun j _ => wtB_apply q k j i))

end Head

/-! ## The body's block at an index -/

theorem inbQ (h : Fin 16) : ∀ a : Fin 2, (![128 * h.val, 0] : Fin 2 → ℕ) a + S128x256.size a ≤ S2048x256.size a := by
  have := h.isLt
  intro a; fin_cases a
  · show 128 * h.val + 128 ≤ 2048; omega
  · show 0 + 256 ≤ 256; omega

theorem inbK (h : Fin 16) : ∀ a : Fin 2, (![0, 128 * h.val] : Fin 2 → ℕ) a + S256x128.size a ≤ S256x2048.size a := by
  have := h.isLt
  intro a; fin_cases a
  · show 0 + 256 ≤ 256; omega
  · show 128 * h.val + 128 ≤ 2048; omega

theorem inbV (h : Fin 16) : ∀ a : Fin 2, (![64 * h.val, 0] : Fin 2 → ℕ) a + S64x256.size a ≤ S1024x256.size a := by
  have := h.isLt
  intro a; fin_cases a
  · show 64 * h.val + 64 ≤ 1024; omega
  · show 0 + 256 ≤ 256; omega

/-- The sixteen heads in order. -/
abbrev heads : List (Fin 16) := [0, 1, 2, 3, 4, 5, 6, 7, 8, 9, 10, 11, 12, 13, 14, 15]

section Blocks

variable (x0 : Vec Ideal S2048x256 .bf16) (x1 : Vec Ideal S256x2048 .bf16) (x2 : Vec Ideal S1024x256 .bf16)

/-- Head `h` of the blocks. -/
def headOf (h : Fin 16) : FVec Ideal S64x256 .f32 :=
  head (View.ld x0 (Rect.unit (s := S2048x256) ![128 * h.val, 0] S128x256.size (inbQ h)))
    (View.ld x1 (Rect.unit (s := S256x2048) ![0, 128 * h.val] S256x128.size (inbK h)))
    (View.ld x2 (Rect.unit (s := S1024x256) ![64 * h.val, 0] S64x256.size (inbV h)))

/-- The heads as the pieces of a join. -/
abbrev pieces : List ((s : Shape) × (s.Idx → EReal)) := heads.map fun h => ⟨S64x256, headOf x0 x1 x2 h⟩

theorem pieces_get (h : Fin 16) (hl : h.val < (pieces x0 x1 x2).length) : (pieces x0 x1 x2)[h.val] = ⟨S64x256, headOf x0 x1 x2 h⟩ := by
  simp only [pieces, List.getElem_map]
  refine congrArg (fun h => (⟨S64x256, headOf x0 x1 x2 h⟩ : (s : Shape) × (s.Idx → EReal))) ?_
  exact (by decide : ∀ h : Fin 16, heads[h.val]'h.isLt = h) h

theorem pieces_shapes : (pieces x0 x1 x2).map (·.1) = List.replicate 16 S64x256 := rfl

theorem pieces_before (h : Fin 16) : (((pieces x0 x1 x2).take h.val).map (·.1)).map
    (fun s => if e : s.rank = S1024x256.rank then s.size ((0 : Fin 2).cast e.symm) else 0) = List.replicate h.val 64 := by
  rw [List.map_take, pieces_shapes, List.take_replicate, List.map_replicate, Nat.min_eq_left h.isLt.le]
  rfl

/-- What the body stores: the heads' components side by side, queries by components. -/
def body : FVec Ideal S256x1024 .bf16 :=
  truncf .bf16 (transpose S256x1024 [1, 0] (concatenate S1024x256 0 (pieces x0 x1 x2)
    concatenates_S64x256_S64x256_S64x256_S64x256_S64x256_S64x256_S64x256_S64x256_S64x256_S64x256_S64x256_S64x256_S64x256_S64x256_S64x256_S64x256_S1024x256_d0)
    transposes_S1024x256_p1_0_S256x1024 : FVec Ideal S256x1024 .f32) bitsLt_bf16_f32

set_option maxHeartbeats 4000000 in
theorem out_eq : out0_3 x0 x1 x2 = View.canon [⟨r0_48, body x0 x1 x2⟩] := by
  rfl

theorem body_apply (h : Fin 16) (i : Fin 256) (d : Fin 64) (e : Fin 1024) (he : e.val = h.val * 64 + d.val) :
    body x0 x1 x2 (ix2 i e) = headOf x0 x1 x2 h (ix2 d i) := by
  unfold body
  rw [ValueIdx.truncf_apply]
  refine (transpose_ix2_apply _ _ i e).trans ?_
  refine concatenate_apply_piece (t := S1024x256) (0 : Fin 2) (pieces x0 x1 x2) _ (ix2 e i) h.val h.isLt S64x256
    (headOf x0 x1 x2 h) (pieces_get x0 x1 x2 h _) rfl (64 * h.val)
    ((congrArg List.sum (pieces_before x0 x1 x2 h)).trans (by rw [List.sum_replicate, smul_eq_mul, Nat.mul_comm])) (ix2 d i) (fun b hb => ?_) ?_
  · match b with
    | ⟨0, _⟩ => exact absurd rfl hb
    | ⟨1, _⟩ => rfl
  · show 64 * h.val + d.val = e.val; omega

end Blocks

section Whole

variable (Q : Vec Ideal S2048x8192 .bf16) (K : Vec Ideal S8192x2048 .bf16) (V : Vec Ideal S1024x8192 .bf16)

/-- The score of query row `r` against the key at place `k` of its sequence, for head `h`. -/
def scoreAt (r h : ℕ) (k : Fin 256) : EReal :=
  ∑ c : Fin 128, at2 K (r / 256 * 256 + k.val) (h * 128 + c) * at2 Q (h * 128 + c) r

/-- The attention's whole result: row `r` is a query, column `col` is component `col % 64` of head `col / 64`. -/
def G (i : S8192x1024.Idx) : EReal :=
  attn (scoreAt Q K (i 0).val ((i 1).val / 64))
    (fun k => at2 V ((i 1).val / 64 * 64 + (i 1).val % 64) ((i 0).val / 256 * 256 + k.val))

end Whole

/-! ## Where each window's block lies -/

variable (m : (ℓ : Loc nD τ sig) → Buf (Elt Ideal) ℓ) (ρ : Dev nD → PrngReg)

theorem idx0 : ∀ t : Fin cfg0.N, win0_0.index t (0 : Fin 2) = 0 ∧ win0_0.index t (1 : Fin 2) = t.val := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)

theorem blk0 (c : Dev nD) (t : Fin cfg0.N) (x : S2048x256.Idx) : (iblk m c 0 t : S2048x256.Idx → EReal) x
    = at2 (m ((c : Thread nD τ).loc main_arg0) : Vec Ideal S2048x8192 .bf16) (x 0).val (t.val * 256 + (x 1).val) := by
  obtain ⟨e0, e1⟩ := idx0 t
  refine at2_of (m ((c : Thread nD τ).loc main_arg0) : Vec Ideal S2048x8192 .bf16) (((cfg0.win 0).blk t).view.emb x) _ _ ?_ ?_
  · show win0_0.index t (0 : Fin 2) * 2048 + 1 * (x 0).val = _; rw [e0]; omega
  · show win0_0.index t (1 : Fin 2) * 256 + 1 * (x 1).val = _; rw [e1]; omega

theorem blk1 (c : Dev nD) (t : Fin cfg0.N) (x : S256x2048.Idx) : (iblk m c 1 t : S256x2048.Idx → EReal) x
    = at2 (m ((c : Thread nD τ).loc main_arg1) : Vec Ideal S8192x2048 .bf16) (t.val * 256 + (x 0).val) (x 1).val := by
  obtain ⟨e0, e1⟩ := idx1 t
  refine at2_of (m ((c : Thread nD τ).loc main_arg1) : Vec Ideal S8192x2048 .bf16) (((cfg0.win 1).blk t).view.emb x) _ _ ?_ ?_
  · show win0_1.index t (0 : Fin 2) * 256 + 1 * (x 0).val = _; rw [e0]; omega
  · show win0_1.index t (1 : Fin 2) * 2048 + 1 * (x 1).val = _; rw [e1]; omega

theorem blk2 (c : Dev nD) (t : Fin cfg0.N) (x : S1024x256.Idx) : (iblk m c 2 t : S1024x256.Idx → EReal) x
    = at2 (m ((c : Thread nD τ).loc main_arg2) : Vec Ideal S1024x8192 .bf16) (x 0).val (t.val * 256 + (x 1).val) := by
  obtain ⟨e0, e1⟩ := idx2 t
  refine at2_of (m ((c : Thread nD τ).loc main_arg2) : Vec Ideal S1024x8192 .bf16) (((cfg0.win 2).blk t).view.emb x) _ _ ?_ ?_
  · show win0_2.index t (0 : Fin 2) * 1024 + 1 * (x 0).val = _; rw [e0]; omega
  · show win0_2.index t (1 : Fin 2) * 256 + 1 * (x 1).val = _; rw [e1]; omega

theorem emb3_val (t : Fin cfg0.N) (y : S256x1024.Idx) :
    (((cfg0.win 3).blk t).view.emb y (0 : Fin 2)).val = t.val * 256 + (y 0).val ∧ (((cfg0.win 3).blk t).view.emb y (1 : Fin 2)).val = (y 1).val := by
  obtain ⟨e0, e1⟩ := idx3 t
  constructor
  · show win0_3.index t (0 : Fin 2) * 256 + 1 * (y 0).val = _; rw [e0]; omega
  · show win0_3.index t (1 : Fin 2) * 1024 + 1 * (y 1).val = _; rw [e1]; omega

/-! ## One point's block is its block of `G` -/

/-- `G` of the argument arrays as launched. -/
abbrev whole (c : Dev nD) : S8192x1024.Idx → EReal :=
  G (m ((c : Thread nD τ).loc main_arg0)) (m ((c : Thread nD τ).loc main_arg1)) (m ((c : Thread nD τ).loc main_arg2))

theorem head_eq (c : Dev nD) (t : Fin cfg0.N) (h : Fin 16) (i : Fin 256) (d : Fin 64) (r : ℕ) (hr : r = t.val * 256 + i.val) :
    headOf (iblk m c 0 t : Vec Ideal S2048x256 .bf16) (iblk m c 1 t : Vec Ideal S256x2048 .bf16) (iblk m c 2 t : Vec Ideal S1024x256 .bf16) h (ix2 d i)
      = attn (scoreAt (m ((c : Thread nD τ).loc main_arg0)) (m ((c : Thread nD τ).loc main_arg1)) r h.val)
          (fun k => at2 (m ((c : Thread nD τ).loc main_arg2) : Vec Ideal S1024x8192 .bf16) (h.val * 64 + d.val) (r / 256 * 256 + k.val)) := by
  have hi := i.isLt
  have hrb : r / 256 = t.val := by omega
  unfold headOf
  rw [head_apply]
  refine congrArg₂ attn (funext fun k => ?_) (funext fun k => ?_)
  · unfold scores scoreAt
    rw [hrb]
    refine Finset.sum_congr rfl fun x _ => congrArg₂ (· * ·) ((blk1 m c t _).trans (at2_congr _ ?_ ?_)) ((blk0 m c t _).trans (at2_congr _ ?_ ?_))
    · show t.val * 256 + (0 + 1 * k.val) = _; omega
    · show 128 * h.val + 1 * x.val = _; omega
    · show 128 * h.val + 1 * x.val = _; omega
    · show t.val * 256 + (0 + 1 * i.val) = _; omega
  · rw [hrb]
    refine (blk2 m c t _).trans (at2_congr _ ?_ ?_)
    · show 64 * h.val + 1 * d.val = _; omega
    · show t.val * 256 + (0 + 1 * k.val) = _; omega

theorem hz : (![0, 0] : Fin 2 → ℕ) = fun _ => 0 := funext fun a => by fin_cases a <;> rfl

/-- What a point writes back is the body's block of the input windows' blocks. -/
theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

theorem flushed_eq (c : Dev nD) (t : Fin cfg0.N) :
    (dats m 0 c).flushed 3 t = ((cfg0.win 3).blk t).view.read (Elt Ideal) (whole m c) := by
  rw [flushed3, out_eq]
  have hc : ∀ (p : FVec Ideal S256x1024 .bf16), View.canon [(⟨r0_48, p⟩ : View.Piece (Elt Ideal) S256x1024 .bf16)] = p :=
    fun p => View.canon_unit_zero hz _ _
  rw [hc]
  funext y
  show body (iblk m c 0 t) (iblk m c 1 t) (iblk m c 2 t) y = whole m c (((cfg0.win 3).blk t).view.emb y)
  obtain ⟨i, e, rfl⟩ : ∃ (i : Fin 256) (e : Fin 1024), y = ix2 i e := ⟨y 0, y 1, funext fun a => by fin_cases a <;> rfl⟩
  obtain ⟨e0, e1⟩ := emb3_val t (ix2 i e)
  have e0 : (((cfg0.win 3).blk t).view.emb (ix2 i e) (0 : Fin 2)).val = t.val * 256 + i.val := e0
  have e1 : (((cfg0.win 3).blk t).view.emb (ix2 i e) (1 : Fin 2)).val = e.val := e1
  have he := e.isLt
  refine (body_apply _ _ _ ⟨e.val / 64, by omega⟩ i ⟨e.val % 64, by omega⟩ e (by show e.val = e.val / 64 * 64 + e.val % 64; omega)).trans ?_
  refine (head_eq m c t _ i _ _ rfl).trans ?_
  unfold whole G
  rw [e0, e1]

theorem covered (j : S8192x1024.Idx) : ∃ t : Fin cfg0.N, (cfg0.win 3).flush t = true ∧ j ∈ ((cfg0.win 3).blk t).view.set := by
  have h0 : (j 0).val < 8192 := (j 0).isLt
  obtain ⟨t, ht⟩ : ∃ t : Fin cfg0.N, t.val = (j 0).val / 256 := ⟨⟨(j 0).val / 256, by show _ < 32; omega⟩, rfl⟩
  refine ⟨t, flush0_3 _, ?_⟩
  obtain ⟨y, hy⟩ : ∃ y : S256x1024.Idx, (y 0).val = (j 0).val % 256 ∧ (y 1).val = (j 1).val :=
    ⟨ix2 (⟨(j 0).val % 256, by omega⟩ : Fin 256) (j 1), rfl, rfl⟩
  obtain ⟨e0, e1⟩ := emb3_val t y
  have key : j = ((cfg0.win 3).blk t).view.emb y := by
    funext a; apply Fin.ext
    match a with
    | ⟨0, _⟩ => refine Eq.trans ?_ e0.symm; show (j 0).val = _; omega
    | ⟨1, _⟩ => refine Eq.trans ?_ e1.symm; show (j 1).val = _; omega
  rw [key]
  exact ((cfg0.win 3).blk t).view.emb_mem_set y

/-- The result array after the run. -/
theorem final (c : Dev nD) : (dats m 0 c).arrAt 3 cfg0.N = whole m c :=
  (dats m 0 c).arrAt_eq_of_cover 3 (whole m c) (fun t _ => flushed_eq m c t) covered

/-- The kernel's run: the result is the attention of the arguments, which are left as launched. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Ctx

end
-- ==== Proof.CtxRef.lean ====
/- The reference of the context stream's attention read at an index: it is the same function of the three arguments as the
   kernel's whole array. -/
module

public import proofs.«01_k».proof.Proof.CtxArray
public import proofs.«01_k».proof.Proof.AttnRef
public import proofs.«01_k».proof.Proof.Gen.Reference9Ideal.Read

@[expose] public section

noncomputable section

namespace Cert.CtxRef

open Cert.At Cert.Ctx Cert.Reference9Ideal Cert.Reference9Ideal.Gen Cert.Reference9Ideal.Read Idealize.SL.Sem Idealize.ShloMosaic.ValueIdx
open Cert.Attn (attn peak weight_eq negInf_f32)
open Cert.AttnRef (ofBits_two)
open Idealize.ShloMosaic hiding ix0 ix1 ix2 ix3 ix4 ix5
open Idealize.ShloMosaic.TcCoe
open scoped BigOperators

variable (x0 : Vec Ideal S2048x8192 .bf16) (x1 : Vec Ideal S8192x2048 .bf16) (x2 : Vec Ideal S1024x8192 .bf16)

theorem q_apply (i : S16x128x32x256.Idx) : val_main_v0 (F := Ideal) x0 i
    = at2 x0 ((i 0).val * 128 + (i 1).val) ((i 2).val * 256 + (i 3).val) := by
  rw [val_main_v0_apply]
  have h2 : (i 2).val < 32 := (i 2).isLt
  have h3 : (i 3).val < 256 := (i 3).isLt
  refine at2_of x0 _ _ _ ?_ ?_
  · show ((((i 0).val * 128 + (i 1).val) * 32 + (i 2).val) * 256 + (i 3).val) / 8192 = _; omega
  · show ((((i 0).val * 128 + (i 1).val) * 32 + (i 2).val) * 256 + (i 3).val) % 8192 = _; omega

theorem k_apply (i : S32x256x16x128.Idx) : val_main_v1 (F := Ideal) x1 i
    = at2 x1 ((i 0).val * 256 + (i 1).val) ((i 2).val * 128 + (i 3).val) := by
  rw [val_main_v1_apply]
  have h2 : (i 2).val < 16 := (i 2).isLt
  have h3 : (i 3).val < 128 := (i 3).isLt
  refine at2_of x1 _ _ _ ?_ ?_
  · show ((((i 0).val * 256 + (i 1).val) * 16 + (i 2).val) * 128 + (i 3).val) / 2048 = _; omega
  · show ((((i 0).val * 256 + (i 1).val) * 16 + (i 2).val) * 128 + (i 3).val) % 2048 = _; omega

theorem v_apply (i : S16x64x32x256.Idx) : val_main_v2 (F := Ideal) x2 i
    = at2 x2 ((i 0).val * 64 + (i 1).val) ((i 2).val * 256 + (i 3).val) := by
  rw [val_main_v2_apply]
  have h2 : (i 2).val < 32 := (i 2).isLt
  have h3 : (i 3).val < 256 := (i 3).isLt
  refine at2_of x2 _ _ _ ?_ ?_
  · show ((((i 0).val * 64 + (i 1).val) * 32 + (i 2).val) * 256 + (i 3).val) / 8192 = _; omega
  · show ((((i 0).val * 64 + (i 1).val) * 32 + (i 2).val) * 256 + (i 3).val) % 8192 = _; omega

theorem ln2_apply (i : S_.Idx) : val_main_v4 (F := Ideal) i = ((Real.log 2 : ℝ) : EReal) := by
  rw [val_main_v4_apply, val_main_cst_apply]
  show Ideal.log (Ideal.ofBits .f32 0x40000000#32) = _
  rw [ofBits_two]
  show (if (2 : ℝ) ≤ 0 then (⊥ : EReal) else ((Real.log 2 : ℝ) : EReal)) = _
  rw [if_neg (by norm_num)]

theorem score_apply (i : S32x16x256x256.Idx) :
    val_main_v6 (F := Ideal) x0 x1 i = scoreAt x0 x1 ((i 0).val * 256 + (i 2).val) (i 1).val (i 3) * ((Real.log 2 : ℝ) : EReal) := by
  have h2 : (i 2).val < 256 := (i 2).isLt
  rw [val_main_v6_apply, val_main_v5_apply, ln2_apply, val_main_v3_apply]
  refine congrArg (· * _) (Finset.sum_congr rfl fun k _ => ?_)
  rw [q_apply, k_apply, mul_comm]
  have e : ((i 0).val * 256 + (i 2).val) / 256 = (i 0).val := by omega
  rw [e]

/-- The scores of one query of one head, times the natural logarithm of two. -/
abbrev scaled (b h q : ℕ) (k : Fin 256) : EReal := scoreAt x0 x1 (b * 256 + q) h k * ((Real.log 2 : ℝ) : EReal)

theorem top_apply (j : S32x16x256.Idx) :
    val_main_v7 (F := Ideal) x0 x1 j = peak (scaled x0 x1 (j 0).val (j 1).val (j 2).val) := by
  have hred : Shape.Reduces S32x16x256x256 [3] S32x16x256 := by decide
  unfold val_main_v7
  refine (Host.reduce_eq_fold_single (FloatOps.maximumf (F := Ideal) (φ := .f32)) _ _ _ hred _ j).trans ?_
  have e : (val_main_cst_0 (F := Ideal)) (Shape.Idx.first h_S_) = (⊥ : EReal) := negInf_f32
  rw [e]
  show Finset.univ.fold max ⊥ _ = Finset.univ.fold max ⊥ _
  refine congrArg (Finset.univ.fold max ⊥) (funext fun k => ?_)
  exact score_apply x0 x1 (hred.lift j k)

/-- A query's weight on a key. -/
theorem weight_apply (i : S32x16x256x256.Idx) :
    val_main_v11 (F := Ideal) x0 x1 i
      = Ideal.exp2 (scoreAt x0 x1 ((i 0).val * 256 + (i 2).val) (i 1).val (i 3) - peak (scoreAt x0 x1 ((i 0).val * 256 + (i 2).val) (i 1).val)) := by
  rw [val_main_v11_apply, val_main_v10_apply, val_main_v9_apply, val_main_v8_apply, top_apply, score_apply]
  exact weight_eq (scoreAt x0 x1 ((i 0).val * 256 + (i 2).val) (i 1).val) (i 3)

/-- The reference's result is the whole array that the kernel leaves. -/
theorem ref_eq : val_main_v20 (F := Ideal) x0 x1 x2 = G x0 x1 x2 := by
  funext i
  have h0 : (i 0).val < 8192 := (i 0).isLt
  have h1 : (i 1).val < 1024 := (i 1).isLt
  rw [val_main_v20_apply, val_main_v19_apply, val_main_v18_apply, val_main_v17_apply, val_main_v16_apply, val_main_v13_apply,
    val_main_v12_apply, val_main_v15_apply]
  have e : (val_main_cst_1 (F := Ideal)) (Shape.Idx.first h_S_) = (0 : EReal) := Ideal.ofBits_zero_f32
  rw [e, zero_add]
  simp only [val_main_v14_apply, weight_apply, v_apply]
  have er : ((i 0).val * 1024 + (i 1).val) / 262144 * 256 + ((i 0).val * 1024 + (i 1).val) / 1024 % 256 = (i 0).val := by omega
  have eb : ((i 0).val * 1024 + (i 1).val) / 262144 = (i 0).val / 256 := by omega
  have eh : ((i 0).val * 1024 + (i 1).val) / 64 % 16 = (i 1).val / 64 := by omega
  have ed : ((i 0).val * 1024 + (i 1).val) % 64 = (i 1).val % 64 := by omega
  unfold G attn
  show Ideal.div (∑ k : Fin 256, Ideal.exp2 (scoreAt x0 x1 (((i 0).val * 1024 + (i 1).val) / 262144 * 256 + ((i 0).val * 1024 + (i 1).val) / 1024 % 256) (((i 0).val * 1024 + (i 1).val) / 64 % 16) k
      - peak (scoreAt x0 x1 (((i 0).val * 1024 + (i 1).val) / 262144 * 256 + ((i 0).val * 1024 + (i 1).val) / 1024 % 256) (((i 0).val * 1024 + (i 1).val) / 64 % 16)))
        * at2 x2 (((i 0).val * 1024 + (i 1).val) / 64 % 16 * 64 + ((i 0).val * 1024 + (i 1).val) % 64) (((i 0).val * 1024 + (i 1).val) / 262144 * 256 + k.val))
    (∑ k : Fin 256, Ideal.exp2 (scoreAt x0 x1 (((i 0).val * 1024 + (i 1).val) / 262144 * 256 + ((i 0).val * 1024 + (i 1).val) / 1024 % 256) (((i 0).val * 1024 + (i 1).val) / 64 % 16) k
      - peak (scoreAt x0 x1 (((i 0).val * 1024 + (i 1).val) / 262144 * 256 + ((i 0).val * 1024 + (i 1).val) / 1024 % 256) (((i 0).val * 1024 + (i 1).val) / 64 % 16)))) = _
  rw [er, eb, eh, ed]
  exact congrArg (Ideal.div · _) (Finset.sum_congr rfl fun k _ => mul_comm _ _)

end Cert.CtxRef

end
-- ==== Proof.lean ====
/- The proof of the claim: the frames, that idealization preserves the kernel, and that over the extended reals the kernel and
   the reference give the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.AttnRef
public import proofs.«01_k».proof.Proof.Mlp2Array
public import proofs.«01_k».proof.Proof.Mlp2Ref
public import proofs.«01_k».proof.Proof.Mlp3Array
public import proofs.«01_k».proof.Proof.Mlp3Ref
public import proofs.«01_k».proof.Proof.SconvArray
public import proofs.«01_k».proof.Proof.SconvRef
public import proofs.«01_k».proof.Proof.HyenaArray
public import proofs.«01_k».proof.Proof.HyenaRef
public import proofs.«01_k».proof.Proof.MlaArray
public import proofs.«01_k».proof.Proof.MlaRef
public import proofs.«01_k».proof.Proof.CacheArray
public import proofs.«01_k».proof.Proof.CacheRef
public import proofs.«01_k».proof.Proof.ModArray
public import proofs.«01_k».proof.Proof.ModRef
public import proofs.«01_k».proof.Proof.CtxArray
public import proofs.«01_k».proof.Proof.CtxRef
public import Idealize.ShloMosaic.Adequacy
public import Idealize.ShloMosaic.Init

@[expose] public section

noncomputable section

namespace Cert.Proof

open Idealize.ShloMosaic Idealize.SL.Sem

/-- The attention: the kernel's result array is the reference's. -/
theorem attention : Cert.algebraic_KernelIdeal_ReferenceIdeal := by
  intro m ρ m' ρ' _ hm
  refine ⟨fun c => Cert.Attn.whole m c, Cert.Attn.run m ρ, ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4⟩ := hm c
  rw [Cert.ReferenceIdeal.Read.val_main_v24_eq, h0, h1, h2, h3, h4]
  exact Cert.AttnRef.ref_eq _ _ _ _ _

/-- The product and the feed-forward part after it: the kernel's result array is the reference's. -/
theorem product_feed_forward : Cert.algebraic_Kernel2Ideal_Reference2Ideal := by
  intro m ρ m' ρ' _ hm
  refine ⟨fun c => Cert.Mlp2.G m c, Cert.Mlp2.run m ρ, ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5, h6⟩ := hm c
  rw [Cert.Reference2Ideal.Read.val_main_v57_eq, h0, h1, h2, h3, h4, h5, h6]
  exact Cert.Mlp2Ref.ref_eq _ _ _ _ _ _ _

/-- The plain feed-forward part: the kernel's result array is the reference's. -/
theorem feed_forward : Cert.algebraic_Kernel3Ideal_Reference3Ideal := by
  intro m ρ m' ρ' _ hm
  refine ⟨fun c => Cert.Mlp3.G m c, Cert.Mlp3.run m ρ, ?_⟩
  refine (θ_run Cert.Reference3Ideal.defs _ _).mono (fun r h c => ⟨(h c).1.trans ?_, (h c).2⟩) (Cert.Reference3Ideal.Value.run (F := Ideal) m' ρ')
  obtain ⟨h0, h1, h2, h3, h4⟩ := hm c
  rw [Cert.Reference3Ideal.Read.val_main_v41_eq, h0, h1, h2, h3, h4]
  exact Cert.Mlp3Ref.ref_eq _ _ _ _ _

/-- The short convolution: the kernel's result array is the reference's. -/
theorem short_convolution : Cert.algebraic_Kernel4Ideal_Reference4Ideal := by
  intro m ρ m' ρ' _ hm
  refine ⟨fun c => Cert.Sconv.G m c, Cert.Sconv.run m ρ, ?_⟩
  refine (θ_run Cert.Reference4Ideal.defs _ _).mono (fun r h c => ⟨(h c).1.trans ?_, (h c).2⟩) (Cert.Reference4Ideal.Value.run (F := Ideal) m' ρ')
  obtain ⟨h0, h1, h2, h3, h4, h5, h6⟩ := hm c
  rw [Cert.Reference4Ideal.Read.val_main_v68_eq, h0, h1, h2, h3, h4, h5, h6]
  exact Cert.SconvRef.ref_eq _ _ _ _ _ _ _

/-- The gated input of the long convolution: the kernel's two result arrays are the reference's. -/
theorem long_convolution_input : Cert.algebraic_Kernel5Ideal_Reference5Ideal := by
  intro m ρ m' ρ' _ hm
  refine ⟨fun c => Cert.Hyena.G0 m c, fun c => Cert.Hyena.G1 m c, Cert.Hyena.run m ρ, ?_⟩
  refine (θ_run Cert.Reference5Ideal.defs _ _).mono (fun r h c => ⟨(h c).1.trans ?_, (h c).2.1.trans ?_, (h c).2.2⟩) (Cert.Reference5Ideal.Value.run (F := Ideal) m' ρ')
  · obtain ⟨h0, h1, h2, h3, h4, h5⟩ := hm c
    rw [Cert.Reference5Ideal.Read.val_main_v59_eq, h0, h1, h2, h3, h4, h5]
    exact Cert.HyenaRef.gate_eq _ _ _ _ _ _
  · obtain ⟨h0, h1, h2, h3, h4, h5⟩ := hm c
    rw [Cert.Reference5Ideal.Read.val_main_v62_eq, h0, h1, h2, h3, h4, h5]
    exact Cert.HyenaRef.input_eq _ _ _ _ _ _

/-- An argument's place in the memory of the projections' reference. -/
abbrev at6 (c : Dev Cert.Reference6Ideal.nD) (b : Ref Cert.Reference6Ideal.sig .tc) : Loc Cert.Reference6Ideal.nD Cert.Reference6Ideal.τ Cert.Reference6Ideal.sig :=
  (c.tc : Thread Cert.Reference6Ideal.nD Cert.Reference6Ideal.τ).loc b

/-- The projections around the attention: the kernel's three result arrays are the reference's. -/
theorem projections : Cert.algebraic_Kernel6Ideal_Reference6Ideal := by
  intro m ρ m' ρ' _ hm
  refine ⟨fun c => Cert.Mla.GQ m c, fun c => Cert.Mla.GK m c, fun c => Cert.Mla.GV m c, Cert.Mla.run m ρ, ?_⟩
  refine (θ_run Cert.Reference6Ideal.defs _ _).mono (fun r h c => ⟨(h c).1.trans ?_, (h c).2.1.trans ?_, (h c).2.2.1.trans ?_, (h c).2.2.2⟩)
    (Cert.Reference6Ideal.Value.run (F := Ideal) m' ρ')
  · obtain ⟨h0, h1, h2, h3, h4, h5, h6, h7, h8, h9, h10, h11, h12, h13, h14⟩ := hm c
    refine (Cert.Reference6Ideal.Read.val_main_v137_eq _).trans ?_
    show Cert.Reference6Ideal.Read.val_main_v137 (F := Ideal) (m' (at6 c Cert.Reference6Ideal.main_arg0)) (m' (at6 c Cert.Reference6Ideal.main_arg1)) (m' (at6 c Cert.Reference6Ideal.main_arg2)) (m' (at6 c Cert.Reference6Ideal.main_arg3)) (m' (at6 c Cert.Reference6Ideal.main_arg4)) (m' (at6 c Cert.Reference6Ideal.main_arg5)) (m' (at6 c Cert.Reference6Ideal.main_arg6)) (m' (at6 c Cert.Reference6Ideal.main_arg11)) (m' (at6 c Cert.Reference6Ideal.main_arg12)) (m' (at6 c Cert.Reference6Ideal.main_arg13)) (m' (at6 c Cert.Reference6Ideal.main_arg14)) = _
    rw [h0, h1, h2, h3, h4, h5, h6, h11, h12, h13, h14]
    exact Cert.MlaRef.q_eq _ _ _ _ _ _ _ _ _ _ _
  · obtain ⟨h0, h1, h2, h3, h4, h5, h6, h7, h8, h9, h10, h11, h12, h13, h14⟩ := hm c
    refine (Cert.Reference6Ideal.Read.val_main_v176_eq _).trans ?_
    show Cert.Reference6Ideal.Read.val_main_v176 (F := Ideal) (m' (at6 c Cert.Reference6Ideal.main_arg0)) (m' (at6 c Cert.Reference6Ideal.main_arg1)) (m' (at6 c Cert.Reference6Ideal.main_arg2)) (m' (at6 c Cert.Reference6Ideal.main_arg7)) (m' (at6 c Cert.Reference6Ideal.main_arg8)) (m' (at6 c Cert.Reference6Ideal.main_arg9)) (m' (at6 c Cert.Reference6Ideal.main_arg10)) (m' (at6 c Cert.Reference6Ideal.main_arg11)) (m' (at6 c Cert.Reference6Ideal.main_arg12)) (m' (at6 c Cert.Reference6Ideal.main_arg13)) (m' (at6 c Cert.Reference6Ideal.main_arg14)) = _
    rw [h0, h1, h2, h7, h8, h9, h10, h11, h12, h13, h14]
    exact Cert.MlaRef.k_eq _ _ _ _ _ _ _ _ _ _ _
  · obtain ⟨h0, h1, h2, h3, h4, h5, h6, h7, h8, h9, h10, h11, h12, h13, h14⟩ := hm c
    refine (Cert.Reference6Ideal.Read.val_main_v179_eq _).trans ?_
    show Cert.Reference6Ideal.Read.val_main_v179 (F := Ideal) (m' (at6 c Cert.Reference6Ideal.main_arg0)) (m' (at6 c Cert.Reference6Ideal.main_arg1)) (m' (at6 c Cert.Reference6Ideal.main_arg2)) (m' (at6 c Cert.Reference6Ideal.main_arg7)) (m' (at6 c Cert.Reference6Ideal.main_arg8)) (m' (at6 c Cert.Reference6Ideal.main_arg9)) = _
    rw [h0, h1, h2, h7, h8, h9]
    exact Cert.MlaRef.v_eq _ _ _ _ _ _

/-- An argument's place in the memory of the reference of the expansion. -/
abbrev at7 (c : Dev Cert.Reference7Ideal.nD) (b : Ref Cert.Reference7Ideal.sig .tc) : Loc Cert.Reference7Ideal.nD Cert.Reference7Ideal.τ Cert.Reference7Ideal.sig :=
  (c.tc : Thread Cert.Reference7Ideal.nD Cert.Reference7Ideal.τ).loc b

/-- The expansion of the cached latents: the kernel's two result arrays are the reference's. -/
theorem cache_expansion : Cert.algebraic_Kernel7Ideal_Reference7Ideal := by
  intro m ρ m' ρ' _ hm
  refine ⟨fun c => Cert.Cache.GK m c, fun c => Cert.Cache.GV m c, Cert.Cache.run m ρ, ?_⟩
  refine (θ_run Cert.Reference7Ideal.defs _ _).mono (fun r h c => ⟨(h c).1.trans ?_, (h c).2.1.trans ?_, (h c).2.2⟩) (Cert.Reference7Ideal.Value.run (F := Ideal) m' ρ')
  · obtain ⟨h0, h1, h2, h3⟩ := hm c
    refine (Cert.Reference7Ideal.Read.val_main_v22_eq _ _ _ _).trans ?_
    show Cert.Reference7Ideal.Read.val_main_v22 (F := Ideal) (m' (at7 c Cert.Reference7Ideal.main_arg0)) (m' (at7 c Cert.Reference7Ideal.main_arg1)) (m' (at7 c Cert.Reference7Ideal.main_arg2)) (m' (at7 c Cert.Reference7Ideal.main_arg3)) = _
    rw [h0, h1, h2, h3]
    exact Cert.CacheRef.k_eq _ _ _ _
  · obtain ⟨h0, h1, h2, h3⟩ := hm c
    refine (Cert.Reference7Ideal.Read.val_main_v25_eq _ _).trans ?_
    show Cert.Reference7Ideal.Read.val_main_v25 (F := Ideal) (m' (at7 c Cert.Reference7Ideal.main_arg0)) (m' (at7 c Cert.Reference7Ideal.main_arg2)) = _
    rw [h0, h2]
    exact Cert.CacheRef.v_eq _ _

/-- The conditioning: the kernel's result array is the reference's. -/
theorem conditioning : Cert.algebraic_Kernel8Ideal_Reference8Ideal := by
  intro m ρ m' ρ' _ hm
  refine ⟨fun c => Cert.Mod.G m c, Cert.Mod.run m ρ, ?_⟩
  refine (θ_run Cert.Reference8Ideal.defs _ _).mono (fun r h c => ⟨(h c).1.trans ?_, (h c).2⟩) (Cert.Reference8Ideal.Value.run (F := Ideal) m' ρ')
  obtain ⟨h0, h1, h2, h3⟩ := hm c
  rw [Cert.Reference8Ideal.Read.val_main_v8_eq, h0, h1, h2, h3]
  exact Cert.ModRef.ref_eq _ _ _ _

/-- The context stream's attention: the kernel's result array is the reference's. -/
theorem context_attention : Cert.algebraic_Kernel9Ideal_Reference9Ideal := by
  intro m ρ m' ρ' _ hm
  refine ⟨fun c => Cert.Ctx.whole m c, Cert.Ctx.run m ρ, ?_⟩
  refine (θ_run Cert.Reference9Ideal.defs _ _).mono (fun r h c => ⟨(h c).1.trans ?_, (h c).2⟩) (Cert.Reference9Ideal.Value.run (F := Ideal) m' ρ')
  obtain ⟨h0, h1, h2⟩ := hm c
  rw [Cert.Reference9Ideal.Read.val_main_v20_eq, h0, h1, h2]
  exact Cert.CtxRef.ref_eq _ _ _

/-- The reference of the attention leaves its arguments as launched, and declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the product and the feed-forward part leaves its arguments as launched, and declares no semaphore. -/
theorem reference2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the feed-forward part leaves its arguments as launched, and declares no semaphore. -/
theorem reference3_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the short convolution leaves its arguments as launched, and declares no semaphore. -/
theorem reference4_frame : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the gated input of the long convolution leaves its arguments as launched, and declares no semaphore. -/
theorem reference5_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The reference of the projections leaves its arguments as launched, and declares no semaphore. -/
theorem reference6_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The reference of the expansion of the cached latents leaves its arguments as launched, and declares no semaphore. -/
theorem reference7_frame : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The reference of the conditioning leaves its arguments as launched, and declares no semaphore. -/
theorem reference8_frame : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of the context stream's attention leaves its arguments as launched, and declares no semaphore. -/
theorem reference9_frame : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two rounded constants of the projections stand for their exact values. -/
theorem projections_constants : Cert.preserves_Kernel6_Kernel6Ideal :=
  ⟨IdealRules.named_const.statement Cert.Kernel6Ideal.κ "per_score" .f32 0x3E16C740#32 (((Real.sqrt 96)⁻¹ * (Real.log 2)⁻¹ : ℝ) : EReal) rfl,
    IdealRules.named_const.statement Cert.Kernel6Ideal.κ "per_channel" .f32 0x3C2AAAAB#32 ((1 / 96 : ℝ) : EReal) rfl⟩

/-- The rounded constant of the expansion stands for its exact value. -/
theorem cache_constant : Cert.preserves_Kernel7_Kernel7Ideal :=
  IdealRules.named_const.statement Cert.Kernel7Ideal.κ "per_channel" .f32 0x3C2AAAAB#32 ((1 / 96 : ℝ) : EReal) rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  fun m ρ _ => Cert.Kernel.Gen.frame m ρ, fun m ρ _ => Cert.KernelIdeal.Gen.frame m ρ, reference_frame,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  trivial, attention, trivial, product_feed_forward, trivial, feed_forward, trivial, short_convolution, trivial, long_convolution_input, projections_constants, projections,
  cache_constant, cache_expansion, trivial, conditioning, trivial, context_attention⟩

end Cert.Proof

end
